-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_steps_below_infinity [hPre_steps_below_infinity : Cert.Pre_steps_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_steps_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_steps_below_infinity [hPre_steps_below_infinity : Cert.Pre_steps_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_steps_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_steps_below_infinity [hKernelIdeal : Cert.KernelIdeal.Facts] [hPre_steps_below_infinity : Cert.Pre_steps_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_steps_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_steps_below_infinity [hReferenceIdeal : Cert.ReferenceIdeal.Facts] [hPre_steps_below_infinity : Cert.Pre_steps_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_steps_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_steps_below_infinity [hKernelIdeal : Cert.KernelIdeal.Facts] [hReferenceIdeal : Cert.ReferenceIdeal.Facts] [hPre_steps_below_infinity : Cert.Pre_steps_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_steps_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v7)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v7) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v22) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v13) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v8_0)) (v1 : (c : Dev Cert.Kernel19Ideal.nD) → Buf (Elt Ideal) ((c.tc : Thread Cert.Kernel19Ideal.nD Cert.Kernel19Ideal.τ).loc Cert.Kernel19Ideal.main_v8_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v8_0) = v0 c
          ∧ r.2.mem ((c.tc : Thread Cert.Kernel19Ideal.nD Cert.Kernel19Ideal.τ).loc Cert.Kernel19Ideal.main_v8_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v30) = v0 c
          ∧ r.2.mem ((c.tc : Thread Cert.Reference19Ideal.nD Cert.Reference19Ideal.τ).loc Cert.Reference19Ideal.main_v31) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_steps_below_infinity : Cert.Pre_steps_below_infinity.Facts),
    quiescent_Kernel (hKernel := hKernel)
    ∧ quiescent_KernelIdeal (hKernelIdeal := hKernelIdeal)
    ∧ quiescent_KernelIdeal_pre_steps_below_infinity (hKernelIdeal := hKernelIdeal) (hPre_steps_below_infinity := hPre_steps_below_infinity)
    ∧ quiescent_ReferenceIdeal (hReferenceIdeal := hReferenceIdeal)
    ∧ quiescent_ReferenceIdeal_pre_steps_below_infinity (hReferenceIdeal := hReferenceIdeal) (hPre_steps_below_infinity := hPre_steps_below_infinity)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_steps_below_infinity (hKernelIdeal := hKernelIdeal) (hReferenceIdeal := hReferenceIdeal) (hPre_steps_below_infinity := hPre_steps_below_infinity)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_steps_below_infinity.lean ====
abbrev S2x8192x3072 : Shape := ⟨3, ![2, 8192, 3072]⟩
abbrev S2x8192x32 : Shape := ⟨3, ![2, 8192, 32]⟩
abbrev S2x8192x2048 : Shape := ⟨3, ![2, 8192, 2048]⟩
abbrev S32 : Shape := ⟨1, ![32]⟩
abbrev S2048 : Shape := ⟨1, ![2048]⟩
abbrev S1x1x32 : Shape := ⟨3, ![1, 1, 32]⟩
abbrev S_ : Shape := ⟨0, ![]⟩

class Facts : Prop where
  bcast_S32_S1x1x32_2 : S32.BroadcastsInDim S1x1x32 (![2] : Fin 1 → Fin S1x1x32.rank)
  bcast_S1x1x32_S2x8192x32_0_1_2 : S1x1x32.BroadcastsInDim S2x8192x32 (![0, 1, 2] : Fin 3 → Fin S2x8192x32.rank)
  bcast_S_S2x8192x32 : S_.BroadcastsInDim S2x8192x32 (![] : Fin 0 → Fin S2x8192x32.rank)

variable [Facts]

def fn {F : FTy → Type} [FloatOps F] (main_arg0 : FVec F S2x8192x3072 .f32) (main_arg1 : FVec F S2x8192x32 .f32) (main_arg2 : FVec F S2x8192x2048 .f32) (main_arg3 : FVec F S32 .f32) (main_arg4 : FVec F S32 .f32) (main_arg5 : FVec F S32 .f32) (main_arg6 : FVec F S2048 .f32) : IVec S2x8192x32 1 :=
  let main_v0 : FVec F S1x1x32 .f32 := broadcastInDim S1x1x32 ![2] bcast_S32_S1x1x32_2 main_arg3
  let main_v1 : FVec F S2x8192x32 .f32 := broadcastInDim S2x8192x32 ![0, 1, 2] bcast_S1x1x32_S2x8192x32_0_1_2 main_v0
  let main_v2 : FVec F S2x8192x32 .f32 := addf main_arg1 main_v1
  let main_cst : FVec F S_ .f32 := constant S_ .f32 0x7F800000#32
  let main_v3 : FVec F S2x8192x32 .f32 := broadcastInDim S2x8192x32 ![] bcast_S_S2x8192x32 main_cst
  let main_v4 : IVec S2x8192x32 1 := cmpf .olt main_v2 main_v3
  main_v4
-- ==== Kernel.lean ====
abbrev S2x8192x3072 : Shape := ⟨3, ![2, 8192, 3072]⟩
abbrev S2x8192x32 : Shape := ⟨3, ![2, 8192, 32]⟩
abbrev S2x8192x2048 : Shape := ⟨3, ![2, 8192, 2048]⟩
abbrev S32 : Shape := ⟨1, ![32]⟩
abbrev S2048 : Shape := ⟨1, ![2048]⟩
abbrev S16384x32 : Shape := ⟨2, ![16384, 32]⟩
abbrev S_ : Shape := ⟨0, ![]⟩
abbrev S16384x256 : Shape := ⟨2, ![16384, 256]⟩
abbrev S16384x3072 : Shape := ⟨2, ![16384, 3072]⟩
abbrev S16384x2048 : Shape := ⟨2, ![16384, 2048]⟩
abbrev S1x32 : Shape := ⟨2, ![1, 32]⟩
abbrev S32x64 : Shape := ⟨2, ![32, 64]⟩
abbrev S1x2048 : Shape := ⟨2, ![1, 2048]⟩
abbrev S32x1x1 : Shape := ⟨3, ![32, 1, 1]⟩
abbrev S1x32x1 : Shape := ⟨3, ![1, 32, 1]⟩
abbrev S32x32x1 : Shape := ⟨3, ![32, 32, 1]⟩
abbrev S32x32x128 : Shape := ⟨3, ![32, 32, 128]⟩
abbrev S32x4096 : Shape := ⟨2, ![32, 4096]⟩
abbrev S96x4096 : Shape := ⟨2, ![96, 4096]⟩
abbrev S32x32x64 : Shape := ⟨3, ![32, 32, 64]⟩
abbrev S32x2048 : Shape := ⟨2, ![32, 2048]⟩
abbrev S96x2048 : Shape := ⟨2, ![96, 2048]⟩
abbrev S2x32x64x128 : Shape := ⟨4, ![2, 32, 64, 128]⟩
abbrev S128x3072 : Shape := ⟨2, ![128, 3072]⟩
abbrev S128x128 : Shape := ⟨2, ![128, 128]⟩
abbrev S128x2048 : Shape := ⟨2, ![128, 2048]⟩
abbrev S1x32x64x128 : Shape := ⟨4, ![1, 32, 64, 128]⟩
abbrev S128x4096 : Shape := ⟨2, ![128, 4096]⟩
abbrev S32x64x128 : Shape := ⟨3, ![32, 64, 128]⟩
abbrev S128x32 : Shape := ⟨2, ![128, 32]⟩
abbrev S128x96 : Shape := ⟨2, ![128, 96]⟩
abbrev S32x128 : Shape := ⟨2, ![32, 128]⟩
abbrev S128x512 : Shape := ⟨2, ![128, 512]⟩
abbrev S1x128 : Shape := ⟨2, ![1, 128]⟩
abbrev S1x512 : Shape := ⟨2, ![1, 512]⟩
abbrev S128x256 : Shape := ⟨2, ![128, 256]⟩
abbrev S128x64 : Shape := ⟨2, ![128, 64]⟩
abbrev S1x4x64x128 : Shape := ⟨4, ![1, 4, 64, 128]⟩
abbrev S4x64x128 : Shape := ⟨3, ![4, 64, 128]⟩
abbrev S256x128 : Shape := ⟨2, ![256, 128]⟩
abbrev S1x256 : Shape := ⟨2, ![1, 256]⟩
abbrev S64x128 : Shape := ⟨2, ![64, 128]⟩
abbrev S128 : Shape := ⟨1, ![128]⟩
abbrev S128x1 : Shape := ⟨2, ![128, 1]⟩

abbrev nBuf : Space → Nat
  | .hbm => 40
  | .vmem => 21
  | .smem => 0
  | _ => 0

abbrev bufTy : (tb : Table) → Fin (tcTables nBuf tb) → BufTy
  | .hbm, ⟨0, _⟩ => ⟨S2x8192x3072, .f32⟩
  | .hbm, ⟨1, _⟩ => ⟨S2x8192x32, .f32⟩
  | .hbm, ⟨2, _⟩ => ⟨S2x8192x2048, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S2048, .f32⟩
  | .hbm, ⟨7, _⟩ => ⟨S16384x32, .f32⟩
  | .hbm, ⟨8, _⟩ => ⟨S_, .i32⟩
  | .hbm, ⟨9, _⟩ => ⟨S_, .f32⟩
  | .hbm, ⟨10, _⟩ => ⟨S16384x256, .f32⟩
  | .hbm, ⟨11, _⟩ => ⟨S16384x3072, .f32⟩
  | .hbm, ⟨12, _⟩ => ⟨S16384x2048, .f32⟩
  | .hbm, ⟨13, _⟩ => ⟨S32, .i32⟩
  | .hbm, ⟨14, _⟩ => ⟨S1x32, .f32⟩
  | .hbm, ⟨15, _⟩ => ⟨S1x32, .f32⟩
  | .hbm, ⟨16, _⟩ => ⟨S32x64, .f32⟩
  | .hbm, ⟨17, _⟩ => ⟨S2048, .f32⟩
  | .hbm, ⟨18, _⟩ => ⟨S1x2048, .f32⟩
  | .hbm, ⟨19, _⟩ => ⟨S1x2048, .f32⟩
  | .hbm, ⟨20, _⟩ => ⟨S32x1x1, .i32⟩
  | .hbm, ⟨21, _⟩ => ⟨S1x32x1, .i32⟩
  | .hbm, ⟨22, _⟩ => ⟨S32x32x1, .i32⟩
  | .hbm, ⟨23, _⟩ => ⟨S32x32x1, .i32⟩
  | .hbm, ⟨24, _⟩ => ⟨S32x32x1, .i1⟩
  | .hbm, ⟨25, _⟩ => ⟨S32x32x128, .i1⟩
  | .hbm, ⟨26, _⟩ => ⟨S32x4096, .i1⟩
  | .hbm, ⟨27, _⟩ => ⟨S96x4096, .i1⟩
  | .hbm, ⟨28, _⟩ => ⟨S96x4096, .bf16⟩
  | .hbm, ⟨29, _⟩ => ⟨S32x1x1, .i32⟩
  | .hbm, ⟨30, _⟩ => ⟨S1x32x1, .i32⟩
  | .hbm, ⟨31, _⟩ => ⟨S32x32x1, .i32⟩
  | .hbm, ⟨32, _⟩ => ⟨S32x32x1, .i32⟩
  | .hbm, ⟨33, _⟩ => ⟨S32x32x1, .i1⟩
  | .hbm, ⟨34, _⟩ => ⟨S32x32x64, .i1⟩
  | .hbm, ⟨35, _⟩ => ⟨S32x2048, .i1⟩
  | .hbm, ⟨36, _⟩ => ⟨S96x2048, .i1⟩
  | .hbm, ⟨37, _⟩ => ⟨S96x2048, .bf16⟩
  | .hbm, ⟨38, _⟩ => ⟨S16384x2048, .bf16⟩
  | .hbm, ⟨39, _⟩ => ⟨S2x32x64x128, .f32⟩
  | .local _ .vmem, ⟨0, _⟩ => ⟨S128x3072, .f32⟩
  | .local _ .vmem, ⟨1, _⟩ => ⟨S128x3072, .f32⟩
  | .local _ .vmem, ⟨2, _⟩ => ⟨S128x128, .f32⟩
  | .local _ .vmem, ⟨3, _⟩ => ⟨S128x128, .f32⟩
  | .local _ .vmem, ⟨4, _⟩ => ⟨S128x2048, .f32⟩
  | .local _ .vmem, ⟨5, _⟩ => ⟨S128x2048, .f32⟩
  | .local _ .vmem, ⟨6, _⟩ => ⟨S1x32, .f32⟩
  | .local _ .vmem, ⟨7, _⟩ => ⟨S1x32, .f32⟩
  | .local _ .vmem, ⟨8, _⟩ => ⟨S1x2048, .f32⟩
  | .local _ .vmem, ⟨9, _⟩ => ⟨S1x2048, .f32⟩
  | .local _ .vmem, ⟨10, _⟩ => ⟨S96x4096, .bf16⟩
  | .local _ .vmem, ⟨11, _⟩ => ⟨S96x2048, .bf16⟩
  | .local _ .vmem, ⟨12, _⟩ => ⟨S128x2048, .bf16⟩
  | .local _ .vmem, ⟨13, _⟩ => ⟨S128x2048, .bf16⟩
  | .local _ .vmem, ⟨14, _⟩ => ⟨S1x32x64x128, .f32⟩
  | .local _ .vmem, ⟨15, _⟩ => ⟨S1x32x64x128, .f32⟩
  | .local _ .vmem, ⟨16, _⟩ => ⟨S128x2048, .f32⟩
  | .local _ .vmem, ⟨17, _⟩ => ⟨S128x4096, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | _, _ => ⟨S2x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29_0 : Ref sig .tc := ⟨.hbm, 38, rfl⟩
abbrev main_v29_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S96x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S96x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S2x8192x3072 : Shape := ⟨3, ![2, 8192, 3072]⟩
abbrev S2x8192x32 : Shape := ⟨3, ![2, 8192, 32]⟩
abbrev S2x8192x2048 : Shape := ⟨3, ![2, 8192, 2048]⟩
abbrev S32 : Shape := ⟨1, ![32]⟩
abbrev S2048 : Shape := ⟨1, ![2048]⟩
abbrev S2x8192x512 : Shape := ⟨3, ![2, 8192, 512]⟩
abbrev S1x1x32 : Shape := ⟨3, ![1, 1, 32]⟩
abbrev S_ : Shape := ⟨0, ![]⟩
abbrev S2x8192x32x64 : Shape := ⟨4, ![2, 8192, 32, 64]⟩
abbrev S2x8192x4x128 : Shape := ⟨4, ![2, 8192, 4, 128]⟩
abbrev S2x32x64x128 : Shape := ⟨4, ![2, 32, 64, 128]⟩
abbrev S2x64x128x4x8x64 : Shape := ⟨6, ![2, 64, 128, 4, 8, 64]⟩
abbrev S2x64x128x4x8 : Shape := ⟨5, ![2, 64, 128, 4, 8]⟩
abbrev S2x64x128x4x128 : Shape := ⟨5, ![2, 64, 128, 4, 128]⟩
abbrev S4x8 : Shape := ⟨2, ![4, 8]⟩
abbrev S1x1x1x4x8 : Shape := ⟨5, ![1, 1, 1, 4, 8]⟩
abbrev S2x64x128x1x4x8 : Shape := ⟨6, ![2, 64, 128, 1, 4, 8]⟩
abbrev S2x64x1x128x4x8 : Shape := ⟨6, ![2, 64, 1, 128, 4, 8]⟩
abbrev S2x64x128x128x4x8 : Shape := ⟨6, ![2, 64, 128, 128, 4, 8]⟩
abbrev S128x128 : Shape := ⟨2, ![128, 128]⟩
abbrev S128x128x1x1 : Shape := ⟨4, ![128, 128, 1, 1]⟩
abbrev S2x64x4x128x128 : Shape := ⟨5, ![2, 64, 4, 128, 128]⟩
abbrev S2x64x128x128x4 : Shape := ⟨5, ![2, 64, 128, 128, 4]⟩
abbrev S2x64x128x128x4x1 : Shape := ⟨6, ![2, 64, 128, 128, 4, 1]⟩
abbrev S2x64x4x8x64x128 : Shape := ⟨6, ![2, 64, 4, 8, 64, 128]⟩
abbrev S2x64x1x4x8 : Shape := ⟨5, ![2, 64, 1, 4, 8]⟩
abbrev S2x64x128x4x8x1 : Shape := ⟨6, ![2, 64, 128, 4, 8, 1]⟩
abbrev S2x64x4x8 : Shape := ⟨4, ![2, 64, 4, 8]⟩
abbrev S2x4x8x64x128 : Shape := ⟨5, ![2, 4, 8, 64, 128]⟩
abbrev S64x2x4x8x64x128 : Shape := ⟨6, ![64, 2, 4, 8, 64, 128]⟩
abbrev S64x2x4x8 : Shape := ⟨4, ![64, 2, 4, 8]⟩
abbrev S1x2x4x8x64x128 : Shape := ⟨6, ![1, 2, 4, 8, 64, 128]⟩
abbrev S1x2x4x8 : Shape := ⟨4, ![1, 2, 4, 8]⟩
abbrev S2x4x8 : Shape := ⟨3, ![2, 4, 8]⟩
abbrev S2x4x8x1x1 : Shape := ⟨5, ![2, 4, 8, 1, 1]⟩
abbrev S32x1 : Shape := ⟨2, ![32, 1]⟩
abbrev S1x1x32x1 : Shape := ⟨4, ![1, 1, 32, 1]⟩
abbrev S2x8192x4x512 : Shape := ⟨4, ![2, 8192, 4, 512]⟩
abbrev S4x512 : Shape := ⟨2, ![4, 512]⟩
abbrev S2x8192x4 : Shape := ⟨3, ![2, 8192, 4]⟩
abbrev S2x8192x4x1 : Shape := ⟨4, ![2, 8192, 4, 1]⟩
abbrev S1x1x4x512 : Shape := ⟨4, ![1, 1, 4, 512]⟩
abbrev S16384x2048 : Shape := ⟨2, ![16384, 2048]⟩

abbrev nBuf : Space → Nat
  | .hbm => 174
  | .vmem => 0
  | .smem => 0
  | _ => 0

abbrev hbmTy0_0 (i : Nat) : BufTy := match i % 128 with
  | 0 => ⟨S2x8192x3072, .f32⟩
  | 1 => ⟨S2x8192x32, .f32⟩
  | 2 => ⟨S2x8192x2048, .f32⟩
  | 3 => ⟨S32, .f32⟩
  | 4 => ⟨S32, .f32⟩
  | 5 => ⟨S32, .f32⟩
  | 6 => ⟨S2048, .f32⟩
  | 7 => ⟨S2x8192x2048, .f32⟩
  | 8 => ⟨S2x8192x512, .f32⟩
  | 9 => ⟨S2x8192x512, .f32⟩
  | 10 => ⟨S1x1x32, .f32⟩
  | 11 => ⟨S2x8192x32, .f32⟩
  | 12 => ⟨S2x8192x32, .f32⟩
  | 13 => ⟨S_, .f32⟩
  | 14 => ⟨S2x8192x32, .f32⟩
  | 15 => ⟨S2x8192x32, .f32⟩
  | 16 => ⟨S2x8192x32, .f32⟩
  | 17 => ⟨S2x8192x32, .f32⟩
  | 18 => ⟨S2x8192x32, .i1⟩
  | 19 => ⟨S2x8192x32, .f32⟩
  | 20 => ⟨S2x8192x32, .f32⟩
  | 21 => ⟨S2x8192x32, .f32⟩
  | 22 => ⟨S2x8192x32, .f32⟩
  | 23 => ⟨S2x8192x32, .f32⟩
  | 24 => ⟨S2x8192x32, .f32⟩
  | 25 => ⟨S2x8192x32, .f32⟩
  | 26 => ⟨S2x8192x32, .f32⟩
  | 27 => ⟨S32, .f32⟩
  | 28 => ⟨S32, .f32⟩
  | 29 => ⟨S2x8192x32x64, .f32⟩
  | 30 => ⟨S2x8192x4x128, .f32⟩
  | 31 => ⟨S2x8192x4x128, .f32⟩
  | 32 => ⟨S_, .f32⟩
  | 33 => ⟨S2x32x64x128, .f32⟩
  | 34 => ⟨S2x64x128x4x8x64, .f32⟩
  | 35 => ⟨S2x64x128x4x8, .f32⟩
  | 36 => ⟨S2x64x128x4x128, .f32⟩
  | 37 => ⟨S2x64x128x4x128, .f32⟩
  | 38 => ⟨S4x8, .f32⟩
  | 39 => ⟨S1x1x1x4x8, .f32⟩
  | 40 => ⟨S2x64x128x4x8, .f32⟩
  | 41 => ⟨S2x64x128x4x8, .f32⟩
  | 42 => ⟨S_, .f32⟩
  | 43 => ⟨S_, .f32⟩
  | 44 => ⟨S2x64x128x4x8, .f32⟩
  | 45 => ⟨S2x64x128x1x4x8, .f32⟩
  | 46 => ⟨S2x64x1x128x4x8, .f32⟩
  | 47 => ⟨S2x64x128x128x4x8, .f32⟩
  | 48 => ⟨S2x64x128x128x4x8, .f32⟩
  | 49 => ⟨S2x64x128x128x4x8, .f32⟩
  | 50 => ⟨S_, .i1⟩
  | 51 => ⟨S128x128, .i1⟩
  | 52 => ⟨S128x128, .i32⟩
  | 53 => ⟨S_, .i32⟩
  | 54 => ⟨S128x128, .i32⟩
  | 55 => ⟨S128x128, .i32⟩
  | 56 => ⟨S128x128, .i32⟩
  | 57 => ⟨S128x128, .i1⟩
  | 58 => ⟨S_, .i1⟩
  | 59 => ⟨S128x128, .i1⟩
  | 60 => ⟨S128x128, .i1⟩
  | 61 => ⟨S128x128x1x1, .i1⟩
  | 62 => ⟨S_, .f32⟩
  | 63 => ⟨S_, .f32⟩
  | 64 => ⟨S2x64x128x128x4x8, .i1⟩
  | 65 => ⟨S2x64x128x128x4x8, .f32⟩
  | 66 => ⟨S2x64x128x128x4x8, .f32⟩
  | 67 => ⟨S2x64x128x128x4x8, .f32⟩
  | 68 => ⟨S2x64x4x128x128, .f32⟩
  | 69 => ⟨S2x64x128x128x4, .f32⟩
  | 70 => ⟨S2x64x128x128x4x1, .f32⟩
  | 71 => ⟨S2x64x128x128x4x8, .f32⟩
  | 72 => ⟨S2x64x128x128x4x8, .f32⟩
  | 73 => ⟨S2x64x1x128x4x8, .f32⟩
  | 74 => ⟨S2x64x128x128x4x8, .f32⟩
  | 75 => ⟨S2x64x128x128x4x8, .f32⟩
  | 76 => ⟨S2x64x4x8x64x128, .f32⟩
  | 77 => ⟨S2x64x128x4x8x64, .f32⟩
  | 78 => ⟨S2x64x1x4x8, .f32⟩
  | 79 => ⟨S2x64x128x4x8, .f32⟩
  | 80 => ⟨S2x64x128x4x8, .f32⟩
  | 81 => ⟨S2x64x128x4x8, .f32⟩
  | 82 => ⟨S2x64x128x4x8, .f32⟩
  | 83 => ⟨S2x64x128x4x8x1, .f32⟩
  | 84 => ⟨S2x64x128x4x8x64, .f32⟩
  | 85 => ⟨S2x64x128x4x8x64, .f32⟩
  | 86 => ⟨S2x64x4x8x64x128, .f32⟩
  | 87 => ⟨S2x64x1x4x8, .f32⟩
  | 88 => ⟨S2x64x4x8, .f32⟩
  | 89 => ⟨S2x64x4x8, .f32⟩
  | 90 => ⟨S2x4x8x64x128, .f32⟩
  | 91 => ⟨S64x2x4x8x64x128, .f32⟩
  | 92 => ⟨S64x2x4x8, .f32⟩
  | 93 => ⟨S_, .f32⟩
  | 94 => ⟨S64x2x4x8x64x128, .f32⟩
  | 95 => ⟨S_, .i32⟩
  | 96 => ⟨S64x2x4x8x64x128, .f32⟩
  | 97 => ⟨S64x2x4x8, .f32⟩
  | 98 => ⟨S_, .i32⟩
  | 99 => ⟨S2x4x8x64x128, .f32⟩
  | 100 => ⟨S64x2x4x8x64x128, .f32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S_, .i32⟩
  | 108 => ⟨S1x2x4x8x64x128, .f32⟩
  | 109 => ⟨S2x4x8x64x128, .f32⟩
  | 110 => ⟨S_, .i32⟩
  | 111 => ⟨S_, .i32⟩
  | 112 => ⟨S_, .i32⟩
  | 113 => ⟨S1x2x4x8, .f32⟩
  | 114 => ⟨S2x4x8, .f32⟩
  | 115 => ⟨S2x4x8x1x1, .f32⟩
  | 116 => ⟨S2x4x8x64x128, .f32⟩
  | 117 => ⟨S2x4x8x64x128, .f32⟩
  | 118 => ⟨S2x4x8x64x128, .f32⟩
  | 119 => ⟨S1x2x4x8x64x128, .f32⟩
  | 120 => ⟨S_, .i32⟩
  | 121 => ⟨S_, .i32⟩
  | 122 => ⟨S_, .i32⟩
  | 123 => ⟨S_, .i32⟩
  | 124 => ⟨S_, .i32⟩
  | 125 => ⟨S64x2x4x8x64x128, .f32⟩
  | 126 => ⟨S_, .i32⟩
  | 127 => ⟨S_, .i32⟩
  | _ => ⟨S2x8192x3072, .f32⟩

abbrev hbmTy0_1 (i : Nat) : BufTy := match i % 128 with
  | 0 => ⟨S2x64x4x8x64x128, .f32⟩
  | 1 => ⟨S2x64x4x8x64x128, .f32⟩
  | 2 => ⟨S2x64x128x4x8x64, .f32⟩
  | 3 => ⟨S2x64x128x4x8, .f32⟩
  | 4 => ⟨S2x64x128x4x8x1, .f32⟩
  | 5 => ⟨S2x64x128x4x8x64, .f32⟩
  | 6 => ⟨S2x64x128x4x8x64, .f32⟩
  | 7 => ⟨S2x64x128x4x8x64, .f32⟩
  | 8 => ⟨S2x8192x32x64, .f32⟩
  | 9 => ⟨S2x32x64x128, .f32⟩
  | 10 => ⟨S32x1, .f32⟩
  | 11 => ⟨S1x1x32x1, .f32⟩
  | 12 => ⟨S2x8192x32x64, .f32⟩
  | 13 => ⟨S2x8192x32x64, .f32⟩
  | 14 => ⟨S2x8192x32x64, .f32⟩
  | 15 => ⟨S2x8192x2048, .f32⟩
  | 16 => ⟨S2x8192x2048, .f32⟩
  | 17 => ⟨S2x8192x2048, .f32⟩
  | 18 => ⟨S_, .f32⟩
  | 19 => ⟨S2x8192x2048, .f32⟩
  | 20 => ⟨S2x8192x2048, .f32⟩
  | 21 => ⟨S_, .f32⟩
  | 22 => ⟨S2x8192x2048, .f32⟩
  | 23 => ⟨S2x8192x2048, .f32⟩
  | 24 => ⟨S2x8192x2048, .f32⟩
  | 25 => ⟨S2x8192x2048, .f32⟩
  | 26 => ⟨S2x8192x4x512, .f32⟩
  | 27 => ⟨S4x512, .f32⟩
  | 28 => ⟨S2x8192x4x512, .f32⟩
  | 29 => ⟨S_, .f32⟩
  | 30 => ⟨S2x8192x4, .f32⟩
  | 31 => ⟨S2x8192x4x1, .f32⟩
  | 32 => ⟨S_, .f32⟩
  | 33 => ⟨S2x8192x4x1, .f32⟩
  | 34 => ⟨S2x8192x4x1, .f32⟩
  | 35 => ⟨S_, .f32⟩
  | 36 => ⟨S2x8192x4x1, .f32⟩
  | 37 => ⟨S2x8192x4x1, .f32⟩
  | 38 => ⟨S2x8192x4x1, .f32⟩
  | 39 => ⟨S2x8192x4x512, .f32⟩
  | 40 => ⟨S2x8192x4x512, .f32⟩
  | 41 => ⟨S1x1x4x512, .f32⟩
  | 42 => ⟨S2x8192x4x512, .f32⟩
  | 43 => ⟨S2x8192x4x512, .f32⟩
  | 44 => ⟨S16384x2048, .f32⟩
  | 45 => ⟨S16384x2048, .bf16⟩
  | _ => ⟨S2x8192x3072, .f32⟩

abbrev hbmTy (i : Nat) : BufTy := match i / 128 with
  | 0 => hbmTy0_0 i
  | 1 => hbmTy0_1 i
  | _ => ⟨S2x8192x3072, .f32⟩

abbrev bufTy : (tb : Table) → Fin (tcTables nBuf tb) → BufTy
  | .hbm, ⟨i, _⟩ => hbmTy i
  | _, _ => ⟨S2x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_call1_call0_cst : Ref sig .tc := ⟨.hbm, 42, rfl⟩
abbrev main_call1_call0_v0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c : Ref sig .tc := ⟨.hbm, 50, rfl⟩
abbrev main_v27 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_0 : Ref sig .tc := ⟨.hbm, 58, rfl⟩
abbrev main_call2_v5 : Ref sig .tc := ⟨.hbm, 59, rfl⟩
abbrev main_v28 : Ref sig .tc := ⟨.hbm, 60, rfl⟩
abbrev main_v29 : Ref sig .tc := ⟨.hbm, 61, rfl⟩
abbrev main_cst_0 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_1 : Ref sig .tc := ⟨.hbm, 93, rfl⟩
abbrev main_v57 : Ref sig .tc := ⟨.hbm, 94, rfl⟩
abbrev main_c_2 : Ref sig .tc := ⟨.hbm, 95, rfl⟩
abbrev main_v58_0 : Ref sig .tc := ⟨.hbm, 96, rfl⟩
abbrev main_v58_1 : Ref sig .tc := ⟨.hbm, 97, rfl⟩
abbrev main_v58_2 : Ref sig .tc := ⟨.hbm, 98, rfl⟩
abbrev main_v58_3 : Ref sig .tc := ⟨.hbm, 99, rfl⟩
abbrev main_v58_4 : Ref sig .tc := ⟨.hbm, 100, rfl⟩
abbrev main_while0c_c_10 : Ref sig .tc := ⟨.hbm, 101, rfl⟩
abbrev main_while0c_v94 : Ref sig .tc := ⟨.hbm, 102, rfl⟩
abbrev main_while0b_call4_c : Ref sig .tc := ⟨.hbm, 103, rfl⟩
abbrev main_while0b_call4_c_0 : Ref sig .tc := ⟨.hbm, 104, rfl⟩
abbrev main_while0b_call4_c_1 : Ref sig .tc := ⟨.hbm, 105, rfl⟩
abbrev main_while0b_call4_c_2 : Ref sig .tc := ⟨.hbm, 106, rfl⟩
abbrev main_while0b_call4_c_3 : Ref sig .tc := ⟨.hbm, 107, rfl⟩
abbrev main_while0b_call4_v0 : Ref sig .tc := ⟨.hbm, 108, rfl⟩
abbrev main_while0b_v94 : Ref sig .tc := ⟨.hbm, 109, rfl⟩
abbrev main_while0b_call5_c : Ref sig .tc := ⟨.hbm, 110, rfl⟩
abbrev main_while0b_call5_c_0 : Ref sig .tc := ⟨.hbm, 111, rfl⟩
abbrev main_while0b_call5_c_1 : Ref sig .tc := ⟨.hbm, 112, rfl⟩
abbrev main_while0b_call5_v0 : Ref sig .tc := ⟨.hbm, 113, rfl⟩
abbrev main_while0b_v95 : Ref sig .tc := ⟨.hbm, 114, rfl⟩
abbrev main_while0b_v96 : Ref sig .tc := ⟨.hbm, 115, rfl⟩
abbrev main_while0b_v97 : Ref sig .tc := ⟨.hbm, 116, rfl⟩
abbrev main_while0b_v98 : Ref sig .tc := ⟨.hbm, 117, rfl⟩
abbrev main_while0b_v99 : Ref sig .tc := ⟨.hbm, 118, rfl⟩
abbrev main_while0b_call6_v0 : Ref sig .tc := ⟨.hbm, 119, rfl⟩
abbrev main_while0b_call6_c : Ref sig .tc := ⟨.hbm, 120, rfl⟩
abbrev main_while0b_call6_c_0 : Ref sig .tc := ⟨.hbm, 121, rfl⟩
abbrev main_while0b_call6_c_1 : Ref sig .tc := ⟨.hbm, 122, rfl⟩
abbrev main_while0b_call6_c_2 : Ref sig .tc := ⟨.hbm, 123, rfl⟩
abbrev main_while0b_call6_c_3 : Ref sig .tc := ⟨.hbm, 124, rfl⟩
abbrev main_while0b_v100 : Ref sig .tc := ⟨.hbm, 125, rfl⟩
abbrev main_while0b_c_10 : Ref sig .tc := ⟨.hbm, 126, rfl⟩
abbrev main_while0b_v101 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_call7_v0 : Ref sig .tc := ⟨.hbm, 144, rfl⟩
abbrev main_call7_v1 : Ref sig .tc := ⟨.hbm, 145, rfl⟩
abbrev main_call7_cst : Ref sig .tc := ⟨.hbm, 146, rfl⟩
abbrev main_call7_v2 : Ref sig .tc := ⟨.hbm, 147, rfl⟩
abbrev main_call7_v3 : Ref sig .tc := ⟨.hbm, 148, rfl⟩
abbrev main_call7_cst_0 : Ref sig .tc := ⟨.hbm, 149, rfl⟩
abbrev main_call7_v4 : Ref sig .tc := ⟨.hbm, 150, rfl⟩
abbrev main_call7_v5 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_cst_3 : Ref sig .tc := ⟨.hbm, 157, rfl⟩
abbrev main_v80 : Ref sig .tc := ⟨.hbm, 158, rfl⟩
abbrev main_v81 : Ref sig .tc := ⟨.hbm, 159, rfl⟩
abbrev main_cst_4 : Ref sig .tc := ⟨.hbm, 160, rfl⟩
abbrev main_v82 : Ref sig .tc := ⟨.hbm, 161, rfl⟩
abbrev main_v83 : Ref sig .tc := ⟨.hbm, 162, rfl⟩
abbrev main_cst_5 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S2x8192x1024 : Shape := ⟨3, ![2, 8192, 1024]⟩
abbrev S1024x5632 : Shape := ⟨2, ![1024, 5632]⟩
abbrev S3x2816 : Shape := ⟨2, ![3, 2816]⟩
abbrev S2816 : Shape := ⟨1, ![2816]⟩
abbrev S16384x1024 : Shape := ⟨2, ![16384, 1024]⟩
abbrev S1x2816 : Shape := ⟨2, ![1, 2816]⟩
abbrev S16384x2816 : Shape := ⟨2, ![16384, 2816]⟩
abbrev S512x1024 : Shape := ⟨2, ![512, 1024]⟩
abbrev S1024x1408 : Shape := ⟨2, ![1024, 1408]⟩
abbrev S3x1408 : Shape := ⟨2, ![3, 1408]⟩
abbrev S1x1408 : Shape := ⟨2, ![1, 1408]⟩
abbrev S512x1408 : Shape := ⟨2, ![512, 1408]⟩
abbrev S520x1408 : Shape := ⟨2, ![520, 1408]⟩
abbrev S8x1408 : Shape := ⟨2, ![8, 1408]⟩

abbrev nBuf : Space → Nat
  | .hbm => 9
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S1024x5632, .f32⟩
  | .hbm, ⟨2, _⟩ => ⟨S3x2816, .f32⟩
  | .hbm, ⟨3, _⟩ => ⟨S2816, .f32⟩
  | .hbm, ⟨4, _⟩ => ⟨S16384x1024, .f32⟩
  | .hbm, ⟨5, _⟩ => ⟨S16384x1024, .bf16⟩
  | .hbm, ⟨6, _⟩ => ⟨S1024x5632, .bf16⟩
  | .hbm, ⟨7, _⟩ => ⟨S1x2816, .f32⟩
  | .hbm, ⟨8, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S3x1408, .f32⟩
  | .local _ .vmem, ⟨7, _⟩ => ⟨S3x1408, .f32⟩
  | .local _ .vmem, ⟨8, _⟩ => ⟨S1x1408, .f32⟩
  | .local _ .vmem, ⟨9, _⟩ => ⟨S1x1408, .f32⟩
  | .local _ .vmem, ⟨10, _⟩ => ⟨S512x1408, .bf16⟩
  | .local _ .vmem, ⟨11, _⟩ => ⟨S512x1408, .bf16⟩
  | .local _ .vmem, ⟨12, _⟩ => ⟨S520x1408, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S2x8192x1024 : Shape := ⟨3, ![2, 8192, 1024]⟩
abbrev S1024x5632 : Shape := ⟨2, ![1024, 5632]⟩
abbrev S3x2816 : Shape := ⟨2, ![3, 2816]⟩
abbrev S2816 : Shape := ⟨1, ![2816]⟩
abbrev S2x8192x5632 : Shape := ⟨3, ![2, 8192, 5632]⟩
abbrev S2x8192x2816 : Shape := ⟨3, ![2, 8192, 2816]⟩
abbrev S_ : Shape := ⟨0, ![]⟩
abbrev S2x2x2816 : Shape := ⟨3, ![2, 2, 2816]⟩
abbrev S2x8194x2816 : Shape := ⟨3, ![2, 8194, 2816]⟩
abbrev S1x2816 : Shape := ⟨2, ![1, 2816]⟩
abbrev S1x1x2816 : Shape := ⟨3, ![1, 1, 2816]⟩
abbrev S16384x2816 : Shape := ⟨2, ![16384, 2816]⟩

abbrev nBuf : Space → Nat
  | .hbm => 45
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x5632, .f32⟩
  | .hbm, ⟨2, _⟩ => ⟨S3x2816, .f32⟩
  | .hbm, ⟨3, _⟩ => ⟨S2816, .f32⟩
  | .hbm, ⟨4, _⟩ => ⟨S2x8192x5632, .f32⟩
  | .hbm, ⟨5, _⟩ => ⟨S2x8192x2816, .f32⟩
  | .hbm, ⟨6, _⟩ => ⟨S2x8192x2816, .f32⟩
  | .hbm, ⟨7, _⟩ => ⟨S_, .f32⟩
  | .hbm, ⟨8, _⟩ => ⟨S2x2x2816, .f32⟩
  | .hbm, ⟨9, _⟩ => ⟨S2x8194x2816, .f32⟩
  | .hbm, ⟨10, _⟩ => ⟨S1x2816, .f32⟩
  | .hbm, ⟨11, _⟩ => ⟨S2816, .f32⟩
  | .hbm, ⟨12, _⟩ => ⟨S2x8192x2816, .f32⟩
  | .hbm, ⟨13, _⟩ => ⟨S1x1x2816, .f32⟩
  | .hbm, ⟨14, _⟩ => ⟨S2x8192x2816, .f32⟩
  | .hbm, ⟨15, _⟩ => ⟨S2x8192x2816, .f32⟩
  | .hbm, ⟨16, _⟩ => ⟨S1x1x2816, .f32⟩
  | .hbm, ⟨17, _⟩ => ⟨S2x8192x2816, .f32⟩
  | .hbm, ⟨18, _⟩ => ⟨S2x8192x2816, .f32⟩
  | .hbm, ⟨19, _⟩ => ⟨S1x2816, .f32⟩
  | .hbm, ⟨20, _⟩ => ⟨S2816, .f32⟩
  | .hbm, ⟨21, _⟩ => ⟨S2x8192x2816, .f32⟩
  | .hbm, ⟨22, _⟩ => ⟨S1x1x2816, .f32⟩
  | .hbm, ⟨23, _⟩ => ⟨S2x8192x2816, .f32⟩
  | .hbm, ⟨24, _⟩ => ⟨S2x8192x2816, .f32⟩
  | .hbm, ⟨25, _⟩ => ⟨S2x8192x2816, .f32⟩
  | .hbm, ⟨26, _⟩ => ⟨S1x2816, .f32⟩
  | .hbm, ⟨27, _⟩ => ⟨S2816, .f32⟩
  | .hbm, ⟨28, _⟩ => ⟨S2x8192x2816, .f32⟩
  | .hbm, ⟨29, _⟩ => ⟨S1x1x2816, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S2x8192x2816, .f32⟩
  | .hbm, ⟨34, _⟩ => ⟨S2x8192x2816, .f32⟩
  | .hbm, ⟨35, _⟩ => ⟨S_, .f32⟩
  | .hbm, ⟨36, _⟩ => ⟨S2x8192x2816, .f32⟩
  | .hbm, ⟨37, _⟩ => ⟨S2x8192x2816, .f32⟩
  | .hbm, ⟨38, _⟩ => ⟨S_, .f32⟩
  | .hbm, ⟨39, _⟩ => ⟨S2x8192x2816, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S16384x2816, .f32⟩
  | .hbm, ⟨44, _⟩ => ⟨S16384x2816, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel3.lean ====
abbrev S2x8192x2816 : Shape := ⟨3, ![2, 8192, 2816]⟩
abbrev S2816x1024 : Shape := ⟨2, ![2816, 1024]⟩
abbrev S2x8192x1024 : Shape := ⟨3, ![2, 8192, 1024]⟩
abbrev S2x1024 : Shape := ⟨2, ![2, 1024]⟩
abbrev S16384x2816 : Shape := ⟨2, ![16384, 2816]⟩
abbrev S16384x1024 : Shape := ⟨2, ![16384, 1024]⟩
abbrev S2x1x1024 : Shape := ⟨3, ![2, 1, 1024]⟩
abbrev S1024x2816 : Shape := ⟨2, ![1024, 2816]⟩
abbrev S2816x512 : Shape := ⟨2, ![2816, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 10
  | .vmem => 10
  | .smem => 0
  | _ => 0

abbrev bufTy : (tb : Table) → Fin (tcTables nBuf tb) → BufTy
  | .hbm, ⟨0, _⟩ => ⟨S2x8192x2816, .f32⟩
  | .hbm, ⟨1, _⟩ => ⟨S2816x1024, .f32⟩
  | .hbm, ⟨2, _⟩ => ⟨S2x8192x1024, .f32⟩
  | .hbm, ⟨3, _⟩ => ⟨S2x1024, .f32⟩
  | .hbm, ⟨4, _⟩ => ⟨S16384x2816, .f32⟩
  | .hbm, ⟨5, _⟩ => ⟨S16384x2816, .bf16⟩
  | .hbm, ⟨6, _⟩ => ⟨S2816x1024, .bf16⟩
  | .hbm, ⟨7, _⟩ => ⟨S16384x1024, .f32⟩
  | .hbm, ⟨8, _⟩ => ⟨S2x1x1024, .f32⟩
  | .hbm, ⟨9, _⟩ => ⟨S16384x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S2x8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S2x8192x2816 : Shape := ⟨3, ![2, 8192, 2816]⟩
abbrev S2816x1024 : Shape := ⟨2, ![2816, 1024]⟩
abbrev S2x8192x1024 : Shape := ⟨3, ![2, 8192, 1024]⟩
abbrev S2x1024 : Shape := ⟨2, ![2, 1024]⟩
abbrev S2x1x1024 : Shape := ⟨3, ![2, 1, 1024]⟩
abbrev S16384x1024 : Shape := ⟨2, ![16384, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x8192x2816, .f32⟩
  | .hbm, ⟨1, _⟩ => ⟨S2816x1024, .f32⟩
  | .hbm, ⟨2, _⟩ => ⟨S2x8192x1024, .f32⟩
  | .hbm, ⟨3, _⟩ => ⟨S2x1024, .f32⟩
  | .hbm, ⟨4, _⟩ => ⟨S2x1x1024, .f32⟩
  | .hbm, ⟨5, _⟩ => ⟨S2x8192x1024, .f32⟩
  | .hbm, ⟨6, _⟩ => ⟨S2x8192x1024, .f32⟩
  | .hbm, ⟨7, _⟩ => ⟨S2x8192x1024, .f32⟩
  | .hbm, ⟨8, _⟩ => ⟨S2x8192x1024, .f32⟩
  | .hbm, ⟨9, _⟩ => ⟨S16384x1024, .f32⟩
  | _, _ => ⟨S2x8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x8192x2048 : Shape := ⟨3, ![2, 8192, 2048]⟩
abbrev S1024x1024 : Shape := ⟨2, ![1024, 1024]⟩
abbrev S2048x1024 : Shape := ⟨2, ![2048, 1024]⟩
abbrev S16384x1024 : Shape := ⟨2, ![16384, 1024]⟩
abbrev S16384x2048 : Shape := ⟨2, ![16384, 2048]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 13
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x8192x2048, .f32⟩
  | .hbm, ⟨2, _⟩ => ⟨S1024x1024, .f32⟩
  | .hbm, ⟨3, _⟩ => ⟨S2048x1024, .f32⟩
  | .hbm, ⟨4, _⟩ => ⟨S2x8192x2048, .f32⟩
  | .hbm, ⟨5, _⟩ => ⟨S16384x1024, .f32⟩
  | .hbm, ⟨6, _⟩ => ⟨S16384x1024, .bf16⟩
  | .hbm, ⟨7, _⟩ => ⟨S16384x2048, .f32⟩
  | .hbm, ⟨8, _⟩ => ⟨S16384x2048, .bf16⟩
  | .hbm, ⟨9, _⟩ => ⟨S1024x1024, .bf16⟩
  | .hbm, ⟨10, _⟩ => ⟨S2048x1024, .bf16⟩
  | .hbm, ⟨11, _⟩ => ⟨S16384x2048, .f32⟩
  | .hbm, ⟨12, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x512, .bf16⟩
  | .local _ .vmem, ⟨5, _⟩ => ⟨S1024x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S2x8192x1024 : Shape := ⟨3, ![2, 8192, 1024]⟩
abbrev S2x8192x2048 : Shape := ⟨3, ![2, 8192, 2048]⟩
abbrev S1024x1024 : Shape := ⟨2, ![1024, 1024]⟩
abbrev S2048x1024 : Shape := ⟨2, ![2048, 1024]⟩
abbrev S16384x1024 : Shape := ⟨2, ![16384, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x2048, .f32⟩
  | .hbm, ⟨2, _⟩ => ⟨S1024x1024, .f32⟩
  | .hbm, ⟨3, _⟩ => ⟨S2048x1024, .f32⟩
  | .hbm, ⟨4, _⟩ => ⟨S2x8192x2048, .f32⟩
  | .hbm, ⟨5, _⟩ => ⟨S2x8192x1024, .f32⟩
  | .hbm, ⟨6, _⟩ => ⟨S2x8192x1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S16384x1024, .f32⟩
  | .hbm, ⟨13, _⟩ => ⟨S16384x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel5.lean ====
abbrev S2x8192x1024 : Shape := ⟨3, ![2, 8192, 1024]⟩
abbrev S1024x3072 : Shape := ⟨2, ![1024, 3072]⟩
abbrev S4x3072 : Shape := ⟨2, ![4, 3072]⟩
abbrev S3072 : Shape := ⟨1, ![3072]⟩
abbrev S16384x1024 : Shape := ⟨2, ![16384, 1024]⟩
abbrev S1x3072 : Shape := ⟨2, ![1, 3072]⟩
abbrev S16384x3072 : Shape := ⟨2, ![16384, 3072]⟩
abbrev S512x1024 : Shape := ⟨2, ![512, 1024]⟩
abbrev S1024x1024 : Shape := ⟨2, ![1024, 1024]⟩
abbrev S4x1024 : Shape := ⟨2, ![4, 1024]⟩
abbrev S1x1024 : Shape := ⟨2, ![1, 1024]⟩
abbrev S520x1024 : Shape := ⟨2, ![520, 1024]⟩
abbrev S8x1024 : Shape := ⟨2, ![8, 1024]⟩

abbrev nBuf : Space → Nat
  | .hbm => 9
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S1024x3072, .f32⟩
  | .hbm, ⟨2, _⟩ => ⟨S4x3072, .f32⟩
  | .hbm, ⟨3, _⟩ => ⟨S3072, .f32⟩
  | .hbm, ⟨4, _⟩ => ⟨S16384x1024, .f32⟩
  | .hbm, ⟨5, _⟩ => ⟨S16384x1024, .bf16⟩
  | .hbm, ⟨6, _⟩ => ⟨S1024x3072, .bf16⟩
  | .hbm, ⟨7, _⟩ => ⟨S1x3072, .f32⟩
  | .hbm, ⟨8, _⟩ => ⟨S16384x3072, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4x1024, .f32⟩
  | .local _ .vmem, ⟨5, _⟩ => ⟨S4x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S520x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S2x8192x1024 : Shape := ⟨3, ![2, 8192, 1024]⟩
abbrev S1024x3072 : Shape := ⟨2, ![1024, 3072]⟩
abbrev S4x3072 : Shape := ⟨2, ![4, 3072]⟩
abbrev S3072 : Shape := ⟨1, ![3072]⟩
abbrev S2x8192x3072 : Shape := ⟨3, ![2, 8192, 3072]⟩
abbrev S_ : Shape := ⟨0, ![]⟩
abbrev S2x3x3072 : Shape := ⟨3, ![2, 3, 3072]⟩
abbrev S2x8195x3072 : Shape := ⟨3, ![2, 8195, 3072]⟩
abbrev S1x3072 : Shape := ⟨2, ![1, 3072]⟩
abbrev S1x1x3072 : Shape := ⟨3, ![1, 1, 3072]⟩
abbrev S16384x3072 : Shape := ⟨2, ![16384, 3072]⟩

abbrev nBuf : Space → Nat
  | .hbm => 48
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x3072, .f32⟩
  | .hbm, ⟨2, _⟩ => ⟨S4x3072, .f32⟩
  | .hbm, ⟨3, _⟩ => ⟨S3072, .f32⟩
  | .hbm, ⟨4, _⟩ => ⟨S2x8192x3072, .f32⟩
  | .hbm, ⟨5, _⟩ => ⟨S_, .f32⟩
  | .hbm, ⟨6, _⟩ => ⟨S2x3x3072, .f32⟩
  | .hbm, ⟨7, _⟩ => ⟨S2x8195x3072, .f32⟩
  | .hbm, ⟨8, _⟩ => ⟨S1x3072, .f32⟩
  | .hbm, ⟨9, _⟩ => ⟨S3072, .f32⟩
  | .hbm, ⟨10, _⟩ => ⟨S2x8192x3072, .f32⟩
  | .hbm, ⟨11, _⟩ => ⟨S1x1x3072, .f32⟩
  | .hbm, ⟨12, _⟩ => ⟨S2x8192x3072, .f32⟩
  | .hbm, ⟨13, _⟩ => ⟨S2x8192x3072, .f32⟩
  | .hbm, ⟨14, _⟩ => ⟨S1x1x3072, .f32⟩
  | .hbm, ⟨15, _⟩ => ⟨S2x8192x3072, .f32⟩
  | .hbm, ⟨16, _⟩ => ⟨S2x8192x3072, .f32⟩
  | .hbm, ⟨17, _⟩ => ⟨S1x3072, .f32⟩
  | .hbm, ⟨18, _⟩ => ⟨S3072, .f32⟩
  | .hbm, ⟨19, _⟩ => ⟨S2x8192x3072, .f32⟩
  | .hbm, ⟨20, _⟩ => ⟨S1x1x3072, .f32⟩
  | .hbm, ⟨21, _⟩ => ⟨S2x8192x3072, .f32⟩
  | .hbm, ⟨22, _⟩ => ⟨S2x8192x3072, .f32⟩
  | .hbm, ⟨23, _⟩ => ⟨S2x8192x3072, .f32⟩
  | .hbm, ⟨24, _⟩ => ⟨S1x3072, .f32⟩
  | .hbm, ⟨25, _⟩ => ⟨S3072, .f32⟩
  | .hbm, ⟨26, _⟩ => ⟨S2x8192x3072, .f32⟩
  | .hbm, ⟨27, _⟩ => ⟨S1x1x3072, .f32⟩
  | .hbm, ⟨28, _⟩ => ⟨S2x8192x3072, .f32⟩
  | .hbm, ⟨29, _⟩ => ⟨S2x8192x3072, .f32⟩
  | .hbm, ⟨30, _⟩ => ⟨S2x8192x3072, .f32⟩
  | .hbm, ⟨31, _⟩ => ⟨S1x3072, .f32⟩
  | .hbm, ⟨32, _⟩ => ⟨S3072, .f32⟩
  | .hbm, ⟨33, _⟩ => ⟨S2x8192x3072, .f32⟩
  | .hbm, ⟨34, _⟩ => ⟨S1x1x3072, .f32⟩
  | .hbm, ⟨35, _⟩ => ⟨S2x8192x3072, .f32⟩
  | .hbm, ⟨36, _⟩ => ⟨S2x8192x3072, .f32⟩
  | .hbm, ⟨37, _⟩ => ⟨S2x8192x3072, .f32⟩
  | .hbm, ⟨38, _⟩ => ⟨S2x8192x3072, .f32⟩
  | .hbm, ⟨39, _⟩ => ⟨S2x8192x3072, .f32⟩
  | .hbm, ⟨40, _⟩ => ⟨S_, .f32⟩
  | .hbm, ⟨41, _⟩ => ⟨S2x8192x3072, .f32⟩
  | .hbm, ⟨42, _⟩ => ⟨S2x8192x3072, .f32⟩
  | .hbm, ⟨43, _⟩ => ⟨S_, .f32⟩
  | .hbm, ⟨44, _⟩ => ⟨S2x8192x3072, .f32⟩
  | .hbm, ⟨45, _⟩ => ⟨S2x8192x3072, .f32⟩
  | .hbm, ⟨46, _⟩ => ⟨S2x8192x3072, .f32⟩
  | .hbm, ⟨47, _⟩ => ⟨S16384x3072, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel6.lean ====
abbrev S2x8192x1024 : Shape := ⟨3, ![2, 8192, 1024]⟩
abbrev S1024x2048 : Shape := ⟨2, ![1024, 2048]⟩
abbrev S16384x1024 : Shape := ⟨2, ![16384, 1024]⟩
abbrev S16384x2048 : Shape := ⟨2, ![16384, 2048]⟩
abbrev S1024x1024 : Shape := ⟨2, ![1024, 1024]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S1024x2048, .f32⟩
  | .hbm, ⟨2, _⟩ => ⟨S16384x1024, .f32⟩
  | .hbm, ⟨3, _⟩ => ⟨S16384x1024, .bf16⟩
  | .hbm, ⟨4, _⟩ => ⟨S1024x2048, .bf16⟩
  | .hbm, ⟨5, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2x8192x1024 : Shape := ⟨3, ![2, 8192, 1024]⟩
abbrev S1024x2048 : Shape := ⟨2, ![1024, 2048]⟩
abbrev S2x8192x2048 : Shape := ⟨3, ![2, 8192, 2048]⟩
abbrev S16384x2048 : Shape := ⟨2, ![16384, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x2048, .f32⟩
  | .hbm, ⟨2, _⟩ => ⟨S2x8192x2048, .f32⟩
  | .hbm, ⟨3, _⟩ => ⟨S16384x2048, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S2x8192x1024 : Shape := ⟨3, ![2, 8192, 1024]⟩
abbrev S1024x2048 : Shape := ⟨2, ![1024, 2048]⟩
abbrev S16384x1024 : Shape := ⟨2, ![16384, 1024]⟩
abbrev S16384x2048 : Shape := ⟨2, ![16384, 2048]⟩
abbrev S1024x1024 : Shape := ⟨2, ![1024, 1024]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S1024x2048, .f32⟩
  | .hbm, ⟨2, _⟩ => ⟨S16384x1024, .f32⟩
  | .hbm, ⟨3, _⟩ => ⟨S16384x1024, .bf16⟩
  | .hbm, ⟨4, _⟩ => ⟨S1024x2048, .bf16⟩
  | .hbm, ⟨5, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2x8192x1024 : Shape := ⟨3, ![2, 8192, 1024]⟩
abbrev S1024x2048 : Shape := ⟨2, ![1024, 2048]⟩
abbrev S2x8192x2048 : Shape := ⟨3, ![2, 8192, 2048]⟩
abbrev S_ : Shape := ⟨0, ![]⟩
abbrev S16384x2048 : Shape := ⟨2, ![16384, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x2048, .f32⟩
  | .hbm, ⟨2, _⟩ => ⟨S2x8192x2048, .f32⟩
  | .hbm, ⟨3, _⟩ => ⟨S2x8192x2048, .f32⟩
  | .hbm, ⟨4, _⟩ => ⟨S2x8192x2048, .f32⟩
  | .hbm, ⟨5, _⟩ => ⟨S_, .f32⟩
  | .hbm, ⟨6, _⟩ => ⟨S2x8192x2048, .f32⟩
  | .hbm, ⟨7, _⟩ => ⟨S2x8192x2048, .f32⟩
  | .hbm, ⟨8, _⟩ => ⟨S_, .f32⟩
  | .hbm, ⟨9, _⟩ => ⟨S2x8192x2048, .f32⟩
  | .hbm, ⟨10, _⟩ => ⟨S2x8192x2048, .f32⟩
  | .hbm, ⟨11, _⟩ => ⟨S16384x2048, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel8.lean ====
abbrev S2x8192x1024 : Shape := ⟨3, ![2, 8192, 1024]⟩
abbrev S1024x1024 : Shape := ⟨2, ![1024, 1024]⟩
abbrev S2x1024 : Shape := ⟨2, ![2, 1024]⟩
abbrev S16384x1024 : Shape := ⟨2, ![16384, 1024]⟩
abbrev S2x1x1024 : Shape := ⟨3, ![2, 1, 1024]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 10
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S1024x1024, .f32⟩
  | .hbm, ⟨2, _⟩ => ⟨S2x8192x1024, .f32⟩
  | .hbm, ⟨3, _⟩ => ⟨S2x1024, .f32⟩
  | .hbm, ⟨4, _⟩ => ⟨S16384x1024, .f32⟩
  | .hbm, ⟨5, _⟩ => ⟨S16384x1024, .bf16⟩
  | .hbm, ⟨6, _⟩ => ⟨S1024x1024, .bf16⟩
  | .hbm, ⟨7, _⟩ => ⟨S16384x1024, .f32⟩
  | .hbm, ⟨8, _⟩ => ⟨S2x1x1024, .f32⟩
  | .hbm, ⟨9, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S2x8192x1024 : Shape := ⟨3, ![2, 8192, 1024]⟩
abbrev S1024x1024 : Shape := ⟨2, ![1024, 1024]⟩
abbrev S2x1024 : Shape := ⟨2, ![2, 1024]⟩
abbrev S2x1x1024 : Shape := ⟨3, ![2, 1, 1024]⟩
abbrev S16384x1024 : Shape := ⟨2, ![16384, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x1024, .f32⟩
  | .hbm, ⟨2, _⟩ => ⟨S2x8192x1024, .f32⟩
  | .hbm, ⟨3, _⟩ => ⟨S2x1024, .f32⟩
  | .hbm, ⟨4, _⟩ => ⟨S2x1x1024, .f32⟩
  | .hbm, ⟨5, _⟩ => ⟨S2x8192x1024, .f32⟩
  | .hbm, ⟨6, _⟩ => ⟨S2x8192x1024, .f32⟩
  | .hbm, ⟨7, _⟩ => ⟨S2x8192x1024, .f32⟩
  | .hbm, ⟨8, _⟩ => ⟨S2x8192x1024, .f32⟩
  | .hbm, ⟨9, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel9.lean ====
abbrev S2x8192x1024 : Shape := ⟨3, ![2, 8192, 1024]⟩
abbrev S1024x512 : Shape := ⟨2, ![1024, 512]⟩
abbrev S16384x1024 : Shape := ⟨2, ![16384, 1024]⟩
abbrev S512x1024 : Shape := ⟨2, ![512, 1024]⟩
abbrev S2x512x8192 : Shape := ⟨3, ![2, 512, 8192]⟩
abbrev S1024x1024 : Shape := ⟨2, ![1024, 1024]⟩
abbrev S1x512x1024 : Shape := ⟨3, ![1, 512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S1024x512, .f32⟩
  | .hbm, ⟨2, _⟩ => ⟨S16384x1024, .f32⟩
  | .hbm, ⟨3, _⟩ => ⟨S16384x1024, .bf16⟩
  | .hbm, ⟨4, _⟩ => ⟨S512x1024, .f32⟩
  | .hbm, ⟨5, _⟩ => ⟨S512x1024, .bf16⟩
  | .hbm, ⟨6, _⟩ => ⟨S2x512x8192, .f32⟩
  | .local _ .vmem, ⟨0, _⟩ => ⟨S512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2x8192x1024 : Shape := ⟨3, ![2, 8192, 1024]⟩
abbrev S1024x512 : Shape := ⟨2, ![1024, 512]⟩
abbrev S2x8192x512 : Shape := ⟨3, ![2, 8192, 512]⟩
abbrev S2x512x8192 : Shape := ⟨3, ![2, 512, 8192]⟩

abbrev nBuf : Space → Nat
  | .hbm => 4
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x512, .f32⟩
  | .hbm, ⟨2, _⟩ => ⟨S2x8192x512, .f32⟩
  | .hbm, ⟨3, _⟩ => ⟨S2x512x8192, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel10.lean ====
abbrev S2x8192x1024 : Shape := ⟨3, ![2, 8192, 1024]⟩
abbrev S1024x1024 : Shape := ⟨2, ![1024, 1024]⟩
abbrev S2x2x1024x8192 : Shape := ⟨4, ![2, 2, 1024, 8192]⟩
abbrev S16384x1024 : Shape := ⟨2, ![16384, 1024]⟩
abbrev S512x1024 : Shape := ⟨2, ![512, 1024]⟩
abbrev S1x1x512x1024 : Shape := ⟨4, ![1, 1, 512, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S1024x1024, .f32⟩
  | .hbm, ⟨2, _⟩ => ⟨S2x2x1024x8192, .f32⟩
  | .hbm, ⟨3, _⟩ => ⟨S16384x1024, .f32⟩
  | .hbm, ⟨4, _⟩ => ⟨S16384x1024, .bf16⟩
  | .hbm, ⟨5, _⟩ => ⟨S1024x1024, .f32⟩
  | .hbm, ⟨6, _⟩ => ⟨S1024x1024, .bf16⟩
  | .hbm, ⟨7, _⟩ => ⟨S2x2x1024x8192, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x512x1024, .f32⟩
  | .local _ .vmem, ⟨5, _⟩ => ⟨S1x1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![c1_i32_10.toNat, v16.toNat, arg1.toNat, v26.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2x8192x1024 : Shape := ⟨3, ![2, 8192, 1024]⟩
abbrev S1024x1024 : Shape := ⟨2, ![1024, 1024]⟩
abbrev S2x2x1024x8192 : Shape := ⟨4, ![2, 2, 1024, 8192]⟩
abbrev S1x2x1024x8192 : Shape := ⟨4, ![1, 2, 1024, 8192]⟩
abbrev S2x1024x8192 : Shape := ⟨3, ![2, 1024, 8192]⟩

abbrev nBuf : Space → Nat
  | .hbm => 10
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x1024, .f32⟩
  | .hbm, ⟨2, _⟩ => ⟨S2x2x1024x8192, .f32⟩
  | .hbm, ⟨3, _⟩ => ⟨S1x2x1024x8192, .f32⟩
  | .hbm, ⟨4, _⟩ => ⟨S2x1024x8192, .f32⟩
  | .hbm, ⟨5, _⟩ => ⟨S2x8192x1024, .f32⟩
  | .hbm, ⟨6, _⟩ => ⟨S2x1024x8192, .f32⟩
  | .hbm, ⟨7, _⟩ => ⟨S1x2x1024x8192, .f32⟩
  | .hbm, ⟨8, _⟩ => ⟨S1x2x1024x8192, .f32⟩
  | .hbm, ⟨9, _⟩ => ⟨S2x2x1024x8192, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S2x8192x1024 : Shape := ⟨3, ![2, 8192, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S2x8192x1024 : Shape := ⟨3, ![2, 8192, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x8192x1024, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S_, .f32⟩
  | .hbm, ⟨7, _⟩ => ⟨S2x8192x1, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S2x8192x1, .f32⟩
  | .hbm, ⟨13, _⟩ => ⟨S2x8192x1024, .f32⟩
  | .hbm, ⟨14, _⟩ => ⟨S2x8192x1024, .f32⟩
  | .hbm, ⟨15, _⟩ => ⟨S1x1x1024, .f32⟩
  | .hbm, ⟨16, _⟩ => ⟨S2x8192x1024, .f32⟩
  | .hbm, ⟨17, _⟩ => ⟨S2x8192x1024, .f32⟩
  | .hbm, ⟨18, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel12.lean ====
abbrev S2x8192x4x64 : Shape := ⟨4, ![2, 8192, 4, 64]⟩
abbrev S32x64 : Shape := ⟨2, ![32, 64]⟩
abbrev S2048x128 : Shape := ⟨2, ![2048, 128]⟩
abbrev S128x64 : Shape := ⟨2, ![128, 64]⟩
abbrev S2x256x32x4x64 : Shape := ⟨5, ![2, 256, 32, 4, 64]⟩
abbrev S2x4x256x32x64 : Shape := ⟨5, ![2, 4, 256, 32, 64]⟩
abbrev S2048x2048 : Shape := ⟨2, ![2048, 2048]⟩
abbrev S2048 : Shape := ⟨1, ![2048]⟩
abbrev S1x2048 : Shape := ⟨2, ![1, 2048]⟩
abbrev S2048x64 : Shape := ⟨2, ![2048, 64]⟩
abbrev S512x2048 : Shape := ⟨2, ![512, 2048]⟩
abbrev S512x64 : Shape := ⟨2, ![512, 64]⟩
abbrev S512x128 : Shape := ⟨2, ![512, 128]⟩

abbrev nBuf : Space → Nat
  | .hbm => 12
  | .vmem => 7
  | .smem => 0
  | _ => 0

abbrev bufTy : (tb : Table) → Fin (tcTables nBuf tb) → BufTy
  | .hbm, ⟨0, _⟩ => ⟨S2x8192x4x64, .f32⟩
  | .hbm, ⟨1, _⟩ => ⟨S32x64, .f32⟩
  | .hbm, ⟨2, _⟩ => ⟨S2048x128, .f32⟩
  | .hbm, ⟨3, _⟩ => ⟨S128x64, .f32⟩
  | .hbm, ⟨4, _⟩ => ⟨S2x256x32x4x64, .f32⟩
  | .hbm, ⟨5, _⟩ => ⟨S2x4x256x32x64, .f32⟩
  | .hbm, ⟨6, _⟩ => ⟨S2048x2048, .f32⟩
  | .hbm, ⟨7, _⟩ => ⟨S2048, .f32⟩
  | .hbm, ⟨8, _⟩ => ⟨S2048x128, .bf16⟩
  | .hbm, ⟨9, _⟩ => ⟨S128x64, .bf16⟩
  | .hbm, ⟨10, _⟩ => ⟨S1x2048, .f32⟩
  | .hbm, ⟨11, _⟩ => ⟨S2048x64, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .bf16⟩
  | .local _ .vmem, ⟨4, _⟩ => ⟨S128x64, .bf16⟩
  | .local _ .vmem, ⟨5, _⟩ => ⟨S512x64, .f32⟩
  | .local _ .vmem, ⟨6, _⟩ => ⟨S512x64, .f32⟩
  | _, _ => ⟨S2x8192x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S2x8192x4x64 : Shape := ⟨4, ![2, 8192, 4, 64]⟩
abbrev S32x64 : Shape := ⟨2, ![32, 64]⟩
abbrev S2048x128 : Shape := ⟨2, ![2048, 128]⟩
abbrev S128x64 : Shape := ⟨2, ![128, 64]⟩
abbrev S2x256x32x4x64 : Shape := ⟨5, ![2, 256, 32, 4, 64]⟩
abbrev S1x1x32x1x64 : Shape := ⟨5, ![1, 1, 32, 1, 64]⟩
abbrev S2x256x4x32x64 : Shape := ⟨5, ![2, 256, 4, 32, 64]⟩
abbrev S2x256x4x2048 : Shape := ⟨4, ![2, 256, 4, 2048]⟩
abbrev S2x256x4x128 : Shape := ⟨4, ![2, 256, 4, 128]⟩
abbrev S_ : Shape := ⟨0, ![]⟩
abbrev S2x256x4x64 : Shape := ⟨4, ![2, 256, 4, 64]⟩
abbrev S2x4x256x64 : Shape := ⟨4, ![2, 4, 256, 64]⟩
abbrev S2048x64 : Shape := ⟨2, ![2048, 64]⟩

abbrev nBuf : Space → Nat
  | .hbm => 23
  | .vmem => 0
  | .smem => 0
  | _ => 0

abbrev bufTy : (tb : Table) → Fin (tcTables nBuf tb) → BufTy
  | .hbm, ⟨0, _⟩ => ⟨S2x8192x4x64, .f32⟩
  | .hbm, ⟨1, _⟩ => ⟨S32x64, .f32⟩
  | .hbm, ⟨2, _⟩ => ⟨S2048x128, .f32⟩
  | .hbm, ⟨3, _⟩ => ⟨S128x64, .f32⟩
  | .hbm, ⟨4, _⟩ => ⟨S2x256x32x4x64, .f32⟩
  | .hbm, ⟨5, _⟩ => ⟨S1x1x32x1x64, .f32⟩
  | .hbm, ⟨6, _⟩ => ⟨S2x256x32x4x64, .f32⟩
  | .hbm, ⟨7, _⟩ => ⟨S2x256x32x4x64, .f32⟩
  | .hbm, ⟨8, _⟩ => ⟨S2x256x4x32x64, .f32⟩
  | .hbm, ⟨9, _⟩ => ⟨S2x256x4x2048, .f32⟩
  | .hbm, ⟨10, _⟩ => ⟨S2x256x4x128, .f32⟩
  | .hbm, ⟨11, _⟩ => ⟨S2x256x4x128, .f32⟩
  | .hbm, ⟨12, _⟩ => ⟨S2x256x4x128, .f32⟩
  | .hbm, ⟨13, _⟩ => ⟨S_, .f32⟩
  | .hbm, ⟨14, _⟩ => ⟨S2x256x4x128, .f32⟩
  | .hbm, ⟨15, _⟩ => ⟨S2x256x4x128, .f32⟩
  | .hbm, ⟨16, _⟩ => ⟨S_, .f32⟩
  | .hbm, ⟨17, _⟩ => ⟨S2x256x4x128, .f32⟩
  | .hbm, ⟨18, _⟩ => ⟨S2x256x4x128, .f32⟩
  | .hbm, ⟨19, _⟩ => ⟨S2x256x4x128, .f32⟩
  | .hbm, ⟨20, _⟩ => ⟨S2x256x4x64, .f32⟩
  | .hbm, ⟨21, _⟩ => ⟨S2x4x256x64, .f32⟩
  | .hbm, ⟨22, _⟩ => ⟨S2048x64, .f32⟩
  | _, _ => ⟨S2x8192x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Kernel13.lean ====
abbrev S2x8192x1024 : Shape := ⟨3, ![2, 8192, 1024]⟩
abbrev S1024 : Shape := ⟨1, ![1024]⟩
abbrev S2x1024 : Shape := ⟨2, ![2, 1024]⟩
abbrev S16384x1024 : Shape := ⟨2, ![16384, 1024]⟩
abbrev S2x1x1024 : Shape := ⟨3, ![2, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S16384x1024, .f32⟩
  | .hbm, ⟨5, _⟩ => ⟨S2x1x1024, .f32⟩
  | .hbm, ⟨6, _⟩ => ⟨S2x1x1024, .f32⟩
  | .hbm, ⟨7, _⟩ => ⟨S1x1024, .f32⟩
  | .hbm, ⟨8, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .bf16⟩
  | .local _ .vmem, ⟨8, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S2x8192x1024 : Shape := ⟨3, ![2, 8192, 1024]⟩
abbrev S1024 : Shape := ⟨1, ![1024]⟩
abbrev S2x1024 : Shape := ⟨2, ![2, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S16384x1024 : Shape := ⟨2, ![16384, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S2x1x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x8192x1024, .f32⟩
  | .hbm, ⟨25, _⟩ => ⟨S2x8192x1024, .f32⟩
  | .hbm, ⟨26, _⟩ => ⟨S2x1x1024, .f32⟩
  | .hbm, ⟨27, _⟩ => ⟨S2x8192x1024, .f32⟩
  | .hbm, ⟨28, _⟩ => ⟨S2x8192x1024, .f32⟩
  | .hbm, ⟨29, _⟩ => ⟨S16384x1024, .f32⟩
  | .hbm, ⟨30, _⟩ => ⟨S16384x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel14.lean ====
abbrev S2x8192x1024 : Shape := ⟨3, ![2, 8192, 1024]⟩
abbrev S1024x3072 : Shape := ⟨2, ![1024, 3072]⟩
abbrev S2x8x1024 : Shape := ⟨3, ![2, 8, 1024]⟩
abbrev S16x1024 : Shape := ⟨2, ![16, 1024]⟩
abbrev S16x3072 : Shape := ⟨2, ![16, 3072]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S1024x3072, .f32⟩
  | .hbm, ⟨2, _⟩ => ⟨S2x8192x1024, .bf16⟩
  | .hbm, ⟨3, _⟩ => ⟨S2x8x1024, .bf16⟩
  | .hbm, ⟨4, _⟩ => ⟨S16x1024, .bf16⟩
  | .hbm, ⟨5, _⟩ => ⟨S1024x3072, .bf16⟩
  | .hbm, ⟨6, _⟩ => ⟨S16x3072, .f32⟩
  | .local _ .vmem, ⟨0, _⟩ => ⟨S16x1024, .bf16⟩
  | .local _ .vmem, ⟨1, _⟩ => ⟨S1024x1024, .bf16⟩
  | .local _ .vmem, ⟨2, _⟩ => ⟨S1024x1024, .bf16⟩
  | .local _ .vmem, ⟨3, _⟩ => ⟨S16x1024, .f32⟩
  | .local _ .vmem, ⟨4, _⟩ => ⟨S16x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S2x8192x1024 : Shape := ⟨3, ![2, 8192, 1024]⟩
abbrev S1024x3072 : Shape := ⟨2, ![1024, 3072]⟩
abbrev S2x8192x3072 : Shape := ⟨3, ![2, 8192, 3072]⟩
abbrev S2x8x3072 : Shape := ⟨3, ![2, 8, 3072]⟩
abbrev S16x3072 : Shape := ⟨2, ![16, 3072]⟩

abbrev nBuf : Space → Nat
  | .hbm => 5
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x3072, .f32⟩
  | .hbm, ⟨2, _⟩ => ⟨S2x8192x3072, .f32⟩
  | .hbm, ⟨3, _⟩ => ⟨S2x8x3072, .f32⟩
  | .hbm, ⟨4, _⟩ => ⟨S16x3072, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S2x8192x1024 : Shape := ⟨3, ![2, 8192, 1024]⟩
abbrev S1024x5632 : Shape := ⟨2, ![1024, 5632]⟩
abbrev S2x8x1024 : Shape := ⟨3, ![2, 8, 1024]⟩
abbrev S16x1024 : Shape := ⟨2, ![16, 1024]⟩
abbrev S1024x2816 : Shape := ⟨2, ![1024, 2816]⟩
abbrev S16x2816 : Shape := ⟨2, ![16, 2816]⟩
abbrev S1024x1408 : Shape := ⟨2, ![1024, 1408]⟩
abbrev S16x1408 : Shape := ⟨2, ![16, 1408]⟩

abbrev nBuf : Space → Nat
  | .hbm => 8
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S1024x5632, .f32⟩
  | .hbm, ⟨2, _⟩ => ⟨S2x8192x1024, .bf16⟩
  | .hbm, ⟨3, _⟩ => ⟨S2x8x1024, .bf16⟩
  | .hbm, ⟨4, _⟩ => ⟨S16x1024, .bf16⟩
  | .hbm, ⟨5, _⟩ => ⟨S1024x5632, .bf16⟩
  | .hbm, ⟨6, _⟩ => ⟨S1024x2816, .bf16⟩
  | .hbm, ⟨7, _⟩ => ⟨S16x2816, .f32⟩
  | .local _ .vmem, ⟨0, _⟩ => ⟨S16x1024, .bf16⟩
  | .local _ .vmem, ⟨1, _⟩ => ⟨S1024x1408, .bf16⟩
  | .local _ .vmem, ⟨2, _⟩ => ⟨S1024x1408, .bf16⟩
  | .local _ .vmem, ⟨3, _⟩ => ⟨S16x1408, .f32⟩
  | .local _ .vmem, ⟨4, _⟩ => ⟨S16x1408, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S2x8192x1024 : Shape := ⟨3, ![2, 8192, 1024]⟩
abbrev S1024x5632 : Shape := ⟨2, ![1024, 5632]⟩
abbrev S2x8192x5632 : Shape := ⟨3, ![2, 8192, 5632]⟩
abbrev S2x8192x2816 : Shape := ⟨3, ![2, 8192, 2816]⟩
abbrev S2x8x2816 : Shape := ⟨3, ![2, 8, 2816]⟩
abbrev S16x2816 : Shape := ⟨2, ![16, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x5632, .f32⟩
  | .hbm, ⟨2, _⟩ => ⟨S2x8192x5632, .f32⟩
  | .hbm, ⟨3, _⟩ => ⟨S2x8192x2816, .f32⟩
  | .hbm, ⟨4, _⟩ => ⟨S2x8192x2816, .f32⟩
  | .hbm, ⟨5, _⟩ => ⟨S2x8x2816, .f32⟩
  | .hbm, ⟨6, _⟩ => ⟨S16x2816, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel16.lean ====
abbrev S128x1x1024 : Shape := ⟨3, ![128, 1, 1024]⟩
abbrev S1024 : Shape := ⟨1, ![1024]⟩
abbrev S128x1024 : Shape := ⟨2, ![128, 1024]⟩
abbrev S1x1024 : Shape := ⟨2, ![1, 1024]⟩
abbrev S128 : Shape := ⟨1, ![128]⟩
abbrev S128x1 : Shape := ⟨2, ![128, 1]⟩

abbrev nBuf : Space → Nat
  | .hbm => 5
  | .vmem => 3
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S128x1024, .f32⟩
  | .hbm, ⟨3, _⟩ => ⟨S1x1024, .f32⟩
  | .hbm, ⟨4, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference16Ideal.lean ====
abbrev S128x1x1024 : Shape := ⟨3, ![128, 1, 1024]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1024 : Shape := ⟨2, ![128, 1024]⟩

abbrev nBuf : Space → Nat
  | .hbm => 19
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S128x1x1024, .f32⟩
  | .hbm, ⟨3, _⟩ => ⟨S_, .f32⟩
  | .hbm, ⟨4, _⟩ => ⟨S128x1, .f32⟩
  | .hbm, ⟨5, _⟩ => ⟨S128x1x1, .f32⟩
  | .hbm, ⟨6, _⟩ => ⟨S_, .f32⟩
  | .hbm, ⟨7, _⟩ => ⟨S128x1x1, .f32⟩
  | .hbm, ⟨8, _⟩ => ⟨S128x1x1, .f32⟩
  | .hbm, ⟨9, _⟩ => ⟨S_, .f32⟩
  | .hbm, ⟨10, _⟩ => ⟨S128x1x1, .f32⟩
  | .hbm, ⟨11, _⟩ => ⟨S128x1x1, .f32⟩
  | .hbm, ⟨12, _⟩ => ⟨S128x1x1, .f32⟩
  | .hbm, ⟨13, _⟩ => ⟨S128x1x1024, .f32⟩
  | .hbm, ⟨14, _⟩ => ⟨S128x1x1024, .f32⟩
  | .hbm, ⟨15, _⟩ => ⟨S1x1x1024, .f32⟩
  | .hbm, ⟨16, _⟩ => ⟨S128x1x1024, .f32⟩
  | .hbm, ⟨17, _⟩ => ⟨S128x1x1024, .f32⟩
  | .hbm, ⟨18, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel17.lean ====
abbrev S128x1x1024 : Shape := ⟨3, ![128, 1, 1024]⟩
abbrev S1024x1536 : Shape := ⟨2, ![1024, 1536]⟩
abbrev S128x1024 : Shape := ⟨2, ![128, 1024]⟩
abbrev S128x1536 : Shape := ⟨2, ![128, 1536]⟩
abbrev S1024x512 : Shape := ⟨2, ![1024, 512]⟩
abbrev S128x512 : Shape := ⟨2, ![128, 512]⟩

abbrev nBuf : Space → Nat
  | .hbm => 6
  | .vmem => 5
  | .smem => 0
  | _ => 0

abbrev bufTy : (tb : Table) → Fin (tcTables nBuf tb) → BufTy
  | .hbm, ⟨0, _⟩ => ⟨S128x1x1024, .f32⟩
  | .hbm, ⟨1, _⟩ => ⟨S1024x1536, .f32⟩
  | .hbm, ⟨2, _⟩ => ⟨S128x1024, .f32⟩
  | .hbm, ⟨3, _⟩ => ⟨S128x1024, .bf16⟩
  | .hbm, ⟨4, _⟩ => ⟨S1024x1536, .bf16⟩
  | .hbm, ⟨5, _⟩ => ⟨S128x1536, .f32⟩
  | .local _ .vmem, ⟨0, _⟩ => ⟨S128x1024, .bf16⟩
  | .local _ .vmem, ⟨1, _⟩ => ⟨S1024x512, .bf16⟩
  | .local _ .vmem, ⟨2, _⟩ => ⟨S1024x512, .bf16⟩
  | .local _ .vmem, ⟨3, _⟩ => ⟨S128x512, .f32⟩
  | .local _ .vmem, ⟨4, _⟩ => ⟨S128x512, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S128x1x1024 : Shape := ⟨3, ![128, 1, 1024]⟩
abbrev S1024x1536 : Shape := ⟨2, ![1024, 1536]⟩
abbrev S128x1x1536 : Shape := ⟨3, ![128, 1, 1536]⟩
abbrev S128x1536 : Shape := ⟨2, ![128, 1536]⟩

abbrev nBuf : Space → Nat
  | .hbm => 4
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024x1536, .f32⟩
  | .hbm, ⟨2, _⟩ => ⟨S128x1x1536, .f32⟩
  | .hbm, ⟨3, _⟩ => ⟨S128x1536, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel18.lean ====
abbrev S128x1x1024 : Shape := ⟨3, ![128, 1, 1024]⟩
abbrev S1024x3072 : Shape := ⟨2, ![1024, 3072]⟩
abbrev S128x1024 : Shape := ⟨2, ![128, 1024]⟩
abbrev S128x3072 : Shape := ⟨2, ![128, 3072]⟩
abbrev S1024x512 : Shape := ⟨2, ![1024, 512]⟩
abbrev S128x512 : Shape := ⟨2, ![128, 512]⟩

abbrev nBuf : Space → Nat
  | .hbm => 6
  | .vmem => 5
  | .smem => 0
  | _ => 0

abbrev bufTy : (tb : Table) → Fin (tcTables nBuf tb) → BufTy
  | .hbm, ⟨0, _⟩ => ⟨S128x1x1024, .f32⟩
  | .hbm, ⟨1, _⟩ => ⟨S1024x3072, .f32⟩
  | .hbm, ⟨2, _⟩ => ⟨S128x1024, .f32⟩
  | .hbm, ⟨3, _⟩ => ⟨S128x1024, .bf16⟩
  | .hbm, ⟨4, _⟩ => ⟨S1024x3072, .bf16⟩
  | .hbm, ⟨5, _⟩ => ⟨S128x3072, .f32⟩
  | .local _ .vmem, ⟨0, _⟩ => ⟨S128x1024, .bf16⟩
  | .local _ .vmem, ⟨1, _⟩ => ⟨S1024x512, .bf16⟩
  | .local _ .vmem, ⟨2, _⟩ => ⟨S1024x512, .bf16⟩
  | .local _ .vmem, ⟨3, _⟩ => ⟨S128x512, .f32⟩
  | .local _ .vmem, ⟨4, _⟩ => ⟨S128x512, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S128x1x1024 : Shape := ⟨3, ![128, 1, 1024]⟩
abbrev S1024x3072 : Shape := ⟨2, ![1024, 3072]⟩
abbrev S128x1x3072 : Shape := ⟨3, ![128, 1, 3072]⟩
abbrev S128x3072 : Shape := ⟨2, ![128, 3072]⟩

abbrev nBuf : Space → Nat
  | .hbm => 4
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024x3072, .f32⟩
  | .hbm, ⟨2, _⟩ => ⟨S128x1x3072, .f32⟩
  | .hbm, ⟨3, _⟩ => ⟨S128x3072, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel19.lean ====
abbrev S128x1x1024 : Shape := ⟨3, ![128, 1, 1024]⟩
abbrev S1024x5632 : Shape := ⟨2, ![1024, 5632]⟩
abbrev S128x2x2816 : Shape := ⟨3, ![128, 2, 2816]⟩
abbrev S3x2816 : Shape := ⟨2, ![3, 2816]⟩
abbrev S2816 : Shape := ⟨1, ![2816]⟩
abbrev S128x1024 : Shape := ⟨2, ![128, 1024]⟩
abbrev S128x1x2816 : Shape := ⟨3, ![128, 1, 2816]⟩
abbrev S128x2816 : Shape := ⟨2, ![128, 2816]⟩
abbrev S1x2816 : Shape := ⟨2, ![1, 2816]⟩
abbrev S1024x1408 : Shape := ⟨2, ![1024, 1408]⟩
abbrev S128x1408 : Shape := ⟨2, ![128, 1408]⟩
abbrev S3x1408 : Shape := ⟨2, ![3, 1408]⟩
abbrev S1x1408 : Shape := ⟨2, ![1, 1408]⟩

abbrev nBuf : Space → Nat
  | .hbm => 15
  | .vmem => 17
  | .smem => 0
  | _ => 0

abbrev bufTy : (tb : Table) → Fin (tcTables nBuf tb) → BufTy
  | .hbm, ⟨0, _⟩ => ⟨S128x1x1024, .f32⟩
  | .hbm, ⟨1, _⟩ => ⟨S1024x5632, .f32⟩
  | .hbm, ⟨2, _⟩ => ⟨S128x2x2816, .f32⟩
  | .hbm, ⟨3, _⟩ => ⟨S3x2816, .f32⟩
  | .hbm, ⟨4, _⟩ => ⟨S2816, .f32⟩
  | .hbm, ⟨5, _⟩ => ⟨S128x1024, .f32⟩
  | .hbm, ⟨6, _⟩ => ⟨S128x1024, .bf16⟩
  | .hbm, ⟨7, _⟩ => ⟨S1024x5632, .bf16⟩
  | .hbm, ⟨8, _⟩ => ⟨S128x1x2816, .f32⟩
  | .hbm, ⟨9, _⟩ => ⟨S128x2816, .f32⟩
  | .hbm, ⟨10, _⟩ => ⟨S128x1x2816, .f32⟩
  | .hbm, ⟨11, _⟩ => ⟨S128x2816, .f32⟩
  | .hbm, ⟨12, _⟩ => ⟨S1x2816, .f32⟩
  | .hbm, ⟨13, _⟩ => ⟨S128x2816, .bf16⟩
  | .hbm, ⟨14, _⟩ => ⟨S128x2816, .f32⟩
  | .local _ .vmem, ⟨0, _⟩ => ⟨S128x1024, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S3x1408, .f32⟩
  | .local _ .vmem, ⟨10, _⟩ => ⟨S3x1408, .f32⟩
  | .local _ .vmem, ⟨11, _⟩ => ⟨S1x1408, .f32⟩
  | .local _ .vmem, ⟨12, _⟩ => ⟨S1x1408, .f32⟩
  | .local _ .vmem, ⟨13, _⟩ => ⟨S128x1408, .bf16⟩
  | .local _ .vmem, ⟨14, _⟩ => ⟨S128x1408, .bf16⟩
  | .local _ .vmem, ⟨15, _⟩ => ⟨S128x1408, .f32⟩
  | .local _ .vmem, ⟨16, _⟩ => ⟨S128x1408, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S128x1x1024 : Shape := ⟨3, ![128, 1, 1024]⟩
abbrev S1024x5632 : Shape := ⟨2, ![1024, 5632]⟩
abbrev S128x2x2816 : Shape := ⟨3, ![128, 2, 2816]⟩
abbrev S3x2816 : Shape := ⟨2, ![3, 2816]⟩
abbrev S2816 : Shape := ⟨1, ![2816]⟩
abbrev S128x1x5632 : Shape := ⟨3, ![128, 1, 5632]⟩
abbrev S128x1x2816 : Shape := ⟨3, ![128, 1, 2816]⟩
abbrev S128x3x2816 : Shape := ⟨3, ![128, 3, 2816]⟩
abbrev S1x2816 : Shape := ⟨2, ![1, 2816]⟩
abbrev S1x1x2816 : Shape := ⟨3, ![1, 1, 2816]⟩
abbrev S_ : Shape := ⟨0, ![]⟩
abbrev S128x2816 : Shape := ⟨2, ![128, 2816]⟩

abbrev nBuf : Space → Nat
  | .hbm => 45
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024x5632, .f32⟩
  | .hbm, ⟨2, _⟩ => ⟨S128x2x2816, .f32⟩
  | .hbm, ⟨3, _⟩ => ⟨S3x2816, .f32⟩
  | .hbm, ⟨4, _⟩ => ⟨S2816, .f32⟩
  | .hbm, ⟨5, _⟩ => ⟨S128x1x5632, .f32⟩
  | .hbm, ⟨6, _⟩ => ⟨S128x1x2816, .f32⟩
  | .hbm, ⟨7, _⟩ => ⟨S128x1x2816, .f32⟩
  | .hbm, ⟨8, _⟩ => ⟨S128x3x2816, .f32⟩
  | .hbm, ⟨9, _⟩ => ⟨S1x2816, .f32⟩
  | .hbm, ⟨10, _⟩ => ⟨S2816, .f32⟩
  | .hbm, ⟨11, _⟩ => ⟨S128x1x2816, .f32⟩
  | .hbm, ⟨12, _⟩ => ⟨S1x1x2816, .f32⟩
  | .hbm, ⟨13, _⟩ => ⟨S128x1x2816, .f32⟩
  | .hbm, ⟨14, _⟩ => ⟨S128x1x2816, .f32⟩
  | .hbm, ⟨15, _⟩ => ⟨S1x1x2816, .f32⟩
  | .hbm, ⟨16, _⟩ => ⟨S128x1x2816, .f32⟩
  | .hbm, ⟨17, _⟩ => ⟨S128x1x2816, .f32⟩
  | .hbm, ⟨18, _⟩ => ⟨S1x2816, .f32⟩
  | .hbm, ⟨19, _⟩ => ⟨S2816, .f32⟩
  | .hbm, ⟨20, _⟩ => ⟨S128x1x2816, .f32⟩
  | .hbm, ⟨21, _⟩ => ⟨S1x1x2816, .f32⟩
  | .hbm, ⟨22, _⟩ => ⟨S128x1x2816, .f32⟩
  | .hbm, ⟨23, _⟩ => ⟨S128x1x2816, .f32⟩
  | .hbm, ⟨24, _⟩ => ⟨S128x1x2816, .f32⟩
  | .hbm, ⟨25, _⟩ => ⟨S1x2816, .f32⟩
  | .hbm, ⟨26, _⟩ => ⟨S2816, .f32⟩
  | .hbm, ⟨27, _⟩ => ⟨S128x1x2816, .f32⟩
  | .hbm, ⟨28, _⟩ => ⟨S1x1x2816, .f32⟩
  | .hbm, ⟨29, _⟩ => ⟨S128x1x2816, .f32⟩
  | .hbm, ⟨30, _⟩ => ⟨S128x1x2816, .f32⟩
  | .hbm, ⟨31, _⟩ => ⟨S128x1x2816, .f32⟩
  | .hbm, ⟨32, _⟩ => ⟨S128x1x2816, .f32⟩
  | .hbm, ⟨33, _⟩ => ⟨S128x1x2816, .f32⟩
  | .hbm, ⟨34, _⟩ => ⟨S_, .f32⟩
  | .hbm, ⟨35, _⟩ => ⟨S128x1x2816, .f32⟩
  | .hbm, ⟨36, _⟩ => ⟨S128x1x2816, .f32⟩
  | .hbm, ⟨37, _⟩ => ⟨S_, .f32⟩
  | .hbm, ⟨38, _⟩ => ⟨S128x1x2816, .f32⟩
  | .hbm, ⟨39, _⟩ => ⟨S128x1x2816, .f32⟩
  | .hbm, ⟨40, _⟩ => ⟨S128x1x2816, .f32⟩
  | .hbm, ⟨41, _⟩ => ⟨S128x1x2816, .f32⟩
  | .hbm, ⟨42, _⟩ => ⟨S128x2816, .f32⟩
  | .hbm, ⟨43, _⟩ => ⟨S128x2816, .bf16⟩
  | .hbm, ⟨44, _⟩ => ⟨S128x2816, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel20.lean ====
abbrev S2x8192x1024 : Shape := ⟨3, ![2, 8192, 1024]⟩
abbrev S1024x256 : Shape := ⟨2, ![1024, 256]⟩
abbrev S16384x1024 : Shape := ⟨2, ![16384, 1024]⟩
abbrev S16384x256 : Shape := ⟨2, ![16384, 256]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S1024x256, .f32⟩
  | .hbm, ⟨2, _⟩ => ⟨S16384x1024, .f32⟩
  | .hbm, ⟨3, _⟩ => ⟨S16384x1024, .bf16⟩
  | .hbm, ⟨4, _⟩ => ⟨S1024x256, .bf16⟩
  | .hbm, ⟨5, _⟩ => ⟨S16384x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .f32⟩
  | .local _ .vmem, ⟨4, _⟩ => ⟨S1024x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S2x8192x1024 : Shape := ⟨3, ![2, 8192, 1024]⟩
abbrev S1024x256 : Shape := ⟨2, ![1024, 256]⟩
abbrev S2x8192x256 : Shape := ⟨3, ![2, 8192, 256]⟩
abbrev S16384x256 : Shape := ⟨2, ![16384, 256]⟩

abbrev nBuf : Space → Nat
  | .hbm => 4
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x256, .f32⟩
  | .hbm, ⟨2, _⟩ => ⟨S2x8192x256, .f32⟩
  | .hbm, ⟨3, _⟩ => ⟨S16384x256, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Quad.lean ====
/-
  One quad of the scan kernel's body: the four heads `4q … 4q+3` of one chunk. Each vector the body forms for a quad
  is a definition here, of the quad's number and of the arrays it is formed from, and is read at an index.
-/
module

public import proofs.«01_k».proof.Proof.Gen.KernelIdeal.Value
public import Idealize.ShloMosaic.Lib.Pointwise

@[expose] public section

set_option maxRecDepth 16384
noncomputable section

namespace Cert.KernelIdeal.Scan
open Cert.KernelIdeal Cert.KernelIdeal.Gen Idealize.ShloMosaic Idealize.ShloMosaic.TcCoe Idealize.SL.Sem

variable {F : FTy → Type} [FloatOps F] [Named F]

/-- A head's row lies within the transposed array. -/
theorem rowSlice (q : Fin 8) (i : Fin 4) : S32x128.Slices ![4 * q.val + i.val, 0] S1x128 := by
  revert q i; decide +kernel

/-- Rows `4q … 4q+3` of a transposed [32, 128] array side by side: one row of 512. -/
def rowQ (v : FVec F S32x128 .f32) (q : Fin 8) : FVec F S1x512 .f32 :=
  concatenate S1x512 1
    [⟨S1x128, extractStridedSlice S1x128 ![4 * q.val + 0, 0] v (rowSlice q 0)⟩,
     ⟨S1x128, extractStridedSlice S1x128 ![4 * q.val + 1, 0] v (rowSlice q 1)⟩,
     ⟨S1x128, extractStridedSlice S1x128 ![4 * q.val + 2, 0] v (rowSlice q 2)⟩,
     ⟨S1x128, extractStridedSlice S1x128 ![4 * q.val + 3, 0] v (rowSlice q 3)⟩]
    concatenates_S1x128_S1x128_S1x128_S1x128_S1x512_d1

/-- The scores of one group: `C` against `B`, a [128, 128] product over the state axis. -/
def cbQ (bg cg : FVec F S128x128 .bf16) : FVec F S128x128 .f32 :=
  matmul dot_S128x128_S128x128_S128x128_1_1_0_0_n_n none cg bg (constant S128x128 .f32 0x00000000#32)

/-- The weights of a quad: scores, masked decay and time step, for four heads side by side. -/
def wQ (bg cg : FVec F S128x128 .bf16) (tri : IVec S128x128 1) (col : FVec F S128x512 .f32) (row dtrow : FVec F S1x512 .f32) :
    FVec F S128x512 .bf16 :=
  truncf .bf16
    (mulf
      (mulf
        (concatenate S128x512 1 [⟨S128x128, cbQ bg cg⟩, ⟨S128x128, cbQ bg cg⟩, ⟨S128x128, cbQ bg cg⟩, ⟨S128x128, cbQ bg cg⟩]
          concatenates_S128x128_S128x128_S128x128_S128x128_S128x512_d1)
        (exp (select
          (concatenate S128x512 1 [⟨S128x128, tri⟩, ⟨S128x128, tri⟩, ⟨S128x128, tri⟩, ⟨S128x128, tri⟩]
            concatenates_S128x128_S128x128_S128x128_S128x128_S128x512_d1)
          (subf col (broadcastTo S128x512 row broadcasts_S1x512_S128x512))
          (broadcast S128x512 (Named.named κ "mask" 0xF149F2CA#32 : F .f32)))))
      (broadcastTo S128x512 dtrow broadcasts_S1x512_S128x512))
    bitsLt_bf16_f32

/-- The four heads' [64, 128] states as one [256, 128] array. -/
def hQ (hp : FVec F S1x4x64x128 .f32) : FVec F S256x128 .f32 :=
  shapeCast S256x128 (shapeCast S4x64x128 hp shapeCasts_S1x4x64x128_S4x64x128) shapeCasts_S4x64x128_S256x128

/-- The within-chunk term of one head: its weights against its inputs. -/
def ydQ (w : FVec F S128x512 .bf16) (xb : FVec F S128x256 .bf16) {o p : Nat} (ho : S128x512.Slices ![0, o] S128x128)
    (hp : S128x256.Slices ![0, p] S128x64) : FVec F S128x64 .f32 :=
  matmul dot_S128x128_S128x64_S128x64_1_0_0_1_n_n none (extractStridedSlice S128x128 ![0, o] w ho)
    (extractStridedSlice S128x64 ![0, p] xb hp) (constant S128x64 .f32 0x00000000#32)

/-- A quad's output before the skip and the gate: within the chunk, plus what the earlier state gives. -/
def yQ (cg : FVec F S128x128 .bf16) (w : FVec F S128x512 .bf16) (xq : FVec F S128x256 .f32) (hp : FVec F S1x4x64x128 .f32)
    (colp : FVec F S128x256 .f32) : FVec F S128x256 .f32 :=
  shapeCast S128x256
    (addf
      (concatenate S128x256 1
        [⟨S128x64, ydQ w (truncf .bf16 xq bitsLt_bf16_f32) slices_S128x512_o0_0_S128x128 slices_S128x256_o0_0_S128x64⟩,
         ⟨S128x64, ydQ w (truncf .bf16 xq bitsLt_bf16_f32) slices_S128x512_o0_128_S128x128 slices_S128x256_o0_64_S128x64⟩,
         ⟨S128x64, ydQ w (truncf .bf16 xq bitsLt_bf16_f32) slices_S128x512_o0_256_S128x128 slices_S128x256_o0_128_S128x64⟩,
         ⟨S128x64, ydQ w (truncf .bf16 xq bitsLt_bf16_f32) slices_S128x512_o0_384_S128x128 slices_S128x256_o0_192_S128x64⟩]
        concatenates_S128x64_S128x64_S128x64_S128x64_S128x256_d1)
      (mulf
        (matmul dot_S128x128_S256x128_S128x256_1_1_0_0_n_n none cg (truncf .bf16 (hQ hp) bitsLt_bf16_f32)
          (constant S128x256 .f32 0x00000000#32))
        (exp colp)))
    shapeCasts_S128x256_S128x256

/-- One head's chunk decay, spread over its [64, 128] state. -/
def cdQ (e : FVec F S1x512 .f32) {o : Nat} (ho : S1x512.Slices ![0, o] S1x128) : FVec F S64x128 .f32 :=
  broadcastTo S64x128 (shapeCast S1x128 (extractStridedSlice S1x128 ![0, o] e ho) shapeCasts_S1x128_S1x128)
    broadcasts_S1x128_S64x128

/-- A quad's state after the chunk: the earlier state decayed, plus the chunk's own contribution. -/
def stQ (bg : FVec F S128x128 .bf16) (col : FVec F S128x512 .f32) (xq : FVec F S128x256 .f32) (hp : FVec F S1x4x64x128 .f32)
    (colp dtp : FVec F S128x256 .f32) : FVec F S1x4x64x128 .f32 :=
  shapeCast S1x4x64x128
    (shapeCast S4x64x128
      (addf
        (mulf (hQ hp)
          (concatenate S256x128 0
            [⟨S64x128, cdQ (exp (extractStridedSlice S1x512 ![127, 0] col slices_S128x512_o127_0_S1x512)) slices_S1x512_o0_0_S1x128⟩,
             ⟨S64x128, cdQ (exp (extractStridedSlice S1x512 ![127, 0] col slices_S128x512_o127_0_S1x512)) slices_S1x512_o0_128_S1x128⟩,
             ⟨S64x128, cdQ (exp (extractStridedSlice S1x512 ![127, 0] col slices_S128x512_o127_0_S1x512)) slices_S1x512_o0_256_S1x128⟩,
             ⟨S64x128, cdQ (exp (extractStridedSlice S1x512 ![127, 0] col slices_S128x512_o127_0_S1x512)) slices_S1x512_o0_384_S1x128⟩]
            concatenates_S64x128_S64x128_S64x128_S64x128_S256x128_d0))
        (matmul dot_S128x256_S128x128_S256x128_0_0_1_1_n_n none
          (truncf .bf16
            (mulf
              (mulf
                (exp (subf (broadcastTo S128x256 (extractStridedSlice S1x256 ![127, 0] colp slices_S128x256_o127_0_S1x256)
                  broadcasts_S1x256_S128x256) colp))
                dtp)
              xq)
            bitsLt_bf16_f32)
          bg (constant S256x128 .f32 0x00000000#32)))
      shapeCasts_S256x128_S4x64x128)
    shapeCasts_S4x64x128_S1x4x64x128

end Cert.KernelIdeal.Scan
end
-- ==== Proof.Body.lean ====
/-
  What the scan kernel's body leaves at one grid point: the arrays the body forms from its input blocks, and the
  two outputs as the stores of the eight quads and of the four groups.
-/
module

public import proofs.«01_k».proof.Proof.Quad

@[expose] public section

set_option maxRecDepth 16384
noncomputable section

namespace Cert.KernelIdeal.Scan
open Cert.KernelIdeal Cert.KernelIdeal.Gen Idealize.ShloMosaic Idealize.ShloMosaic.TcCoe Idealize.SL.Sem

variable {F : FTy → Type} [FloatOps F] [Named F]

/-- The group of quad `q`: two quads share a group. -/
def gOf (q : Fin 8) : Fin 4 := ⟨q.val / 2, by omega⟩

/-- A group's input maps lie within the block. -/
theorem bSlice (g : Fin 4) : S128x3072.Slices ![0, 2048 + 128 * g.val] S128x128 := by revert g; decide +kernel
/-- A group's output maps lie within the block. -/
theorem cSlice (g : Fin 4) : S128x3072.Slices ![0, 2560 + 128 * g.val] S128x128 := by revert g; decide +kernel

/-- Group `g`'s `B` rows of the block. -/
def bG (x0 : Vec F S128x3072 .f32) (g : Fin 4) : FVec F S128x128 .bf16 :=
  truncf .bf16 (extractStridedSlice S128x128 ![0, 2048 + 128 * g.val] (k0_pay4 x0) (bSlice g)) bitsLt_bf16_f32
/-- Group `g`'s `C` rows of the block. -/
def cG (x0 : Vec F S128x3072 .f32) (g : Fin 4) : FVec F S128x128 .bf16 :=
  truncf .bf16 (extractStridedSlice S128x128 ![0, 2560 + 128 * g.val] (k0_pay4 x0) (cSlice g)) bitsLt_bf16_f32

/-- The time steps of the block's rows, per head. -/
def dtW (x1 : Vec F S128x128 .f32) (x3 : Vec F S1x32 .f32) : FVec F S128x32 .f32 :=
  k0_pay14 (View.ld x1 (Rect.unit ![0, 0] S128x32.size inb_S128x128_S128x32_0_0)) x3
/-- The running log decay within the chunk, per head. -/
def acW (x1 : Vec F S128x128 .f32) (x3 x4 : Vec F S1x32 .f32) : FVec F S128x32 .f32 := k0_pay17 (dtW x1 x3) (k0_pay15 x4)
/-- The running log decay with each head's column repeated 128 times. -/
def colhW (x1 : Vec F S128x128 .f32) (x3 x4 : Vec F S1x32 .f32) (x7 : Vec F S96x4096 .bf16) : FVec F S128x4096 .f32 :=
  k0_pay20 (dtW x1 x3) (k0_pay15 x4) x7
/-- The running log decay with each head's column repeated 64 times. -/
def colpW (x1 : Vec F S128x128 .f32) (x3 x4 : Vec F S1x32 .f32) (x8 : Vec F S96x2048 .bf16) : FVec F S128x2048 .f32 :=
  k0_pay22 (k0_pay21 (dtW x1 x3) (k0_pay15 x4) x8)
/-- The time steps with each head's column repeated 64 times. -/
def dtpW (x1 : Vec F S128x128 .f32) (x3 : Vec F S1x32 .f32) (x8 : Vec F S96x2048 .bf16) : FVec F S128x2048 .f32 :=
  k0_pay23 (k0_pay19 (dtW x1 x3)) x8

/-- A quad's lanes lie within their buffer. -/
theorem inb512 (q : Fin 8) : ∀ a, (![0, 512 * q.val] : Fin 2 → Nat) a + S128x512.size a ≤ S128x4096.size a := by
  revert q; decide +kernel
/-- A quad's columns lie within their buffer. -/
theorem inb256 (q : Fin 8) : ∀ a, (![0, 256 * q.val] : Fin 2 → Nat) a + S128x256.size a ≤ S128x2048.size a := by
  revert q; decide +kernel
/-- A quad's heads lie within the state. -/
theorem inb4 (q : Fin 8) : ∀ a, (![0, 4 * q.val, 0, 0] : Fin 4 → Nat) a + S1x4x64x128.size a ≤ S1x32x64x128.size a := by
  revert q; decide +kernel
/-- A group's columns lie within the result. -/
theorem inbG (g : Fin 4) : ∀ a, (![0, 512 * g.val] : Fin 2 → Nat) a + S128x512.size a ≤ S128x2048.size a := by
  revert g; decide +kernel

/-- Quad `q`'s 512 columns of a [128, 4096] array. -/
def p512 (v : Vec F S128x4096 .f32) (q : Fin 8) : Vec F S128x512 .f32 := View.ld v (Rect.unit ![0, 512 * q.val] S128x512.size (inb512 q))
/-- Quad `q`'s 256 columns of a [128, 2048] array. -/
def p256 (v : Vec F S128x2048 .f32) (q : Fin 8) : Vec F S128x256 .f32 := View.ld v (Rect.unit ![0, 256 * q.val] S128x256.size (inb256 q))
/-- Quad `q`'s four heads of the state. -/
def p4 (v : Vec F S1x32x64x128 .f32) (q : Fin 8) : Vec F S1x4x64x128 .f32 :=
  View.ld v (Rect.unit ![0, 4 * q.val, 0, 0] S1x4x64x128.size (inb4 q))

section
variable (x0 : Vec F S128x3072 .f32) (x1 : Vec F S128x128 .f32) (x3 x4 : Vec F S1x32 .f32) (x7 : Vec F S96x4096 .bf16) (x8 : Vec F S96x2048 .bf16)
  (h : FVec F S1x32x64x128 .f32)

/-- Quad `q`'s state after the block, from the state `h` before it. -/
def quadSt (q : Fin 8) : FVec F S1x4x64x128 .f32 :=
  stQ (bG x0 (gOf q)) (p512 (colhW x1 x3 x4 x7) q) (p256 (k0_pay5 x0) q) (p4 h q) (p256 (colpW x1 x3 x4 x8) q) (p256 (dtpW x1 x3 x8) q)
/-- Quad `q`'s output before the skip and the gate. -/
def quadY (q : Fin 8) : FVec F S128x256 .f32 :=
  yQ (cG x0 (gOf q))
    (wQ (bG x0 (gOf q)) (cG x0 (gOf q)) k0_pay16 (p512 (colhW x1 x3 x4 x7) q) (rowQ (k0_pay24 (acW x1 x3 x4)) q) (rowQ (k0_pay25 (dtW x1 x3)) q))
    (p256 (k0_pay5 x0) q) (p4 h q) (p256 (colpW x1 x3 x4 x8) q)

/-- The store of quad `q`'s state. -/
def stPiece (q : Fin 8) : View.Piece (Elt F) S1x32x64x128 .f32 :=
  ⟨Rect.unit ![0, 4 * q.val, 0, 0] S1x4x64x128.size (inb4 q), quadSt x0 x1 x3 x4 x7 x8 h q⟩
/-- The store of quad `q`'s output. -/
def yPiece (q : Fin 8) : View.Piece (Elt F) S128x2048 .f32 :=
  ⟨Rect.unit ![0, 256 * q.val] S128x256.size (inb256 q), quadY x0 x1 x3 x4 x7 x8 h q⟩
/-- The eight stores of the state, the last one first. -/
def stPieces : List (View.Piece (Elt F) S1x32x64x128 .f32) :=
  [stPiece x0 x1 x3 x4 x7 x8 h 7, stPiece x0 x1 x3 x4 x7 x8 h 6, stPiece x0 x1 x3 x4 x7 x8 h 5, stPiece x0 x1 x3 x4 x7 x8 h 4,
   stPiece x0 x1 x3 x4 x7 x8 h 3, stPiece x0 x1 x3 x4 x7 x8 h 2, stPiece x0 x1 x3 x4 x7 x8 h 1, stPiece x0 x1 x3 x4 x7 x8 h 0]
/-- The eight stores of the output, the last one first. -/
def yPieces : List (View.Piece (Elt F) S128x2048 .f32) :=
  [yPiece x0 x1 x3 x4 x7 x8 h 7, yPiece x0 x1 x3 x4 x7 x8 h 6, yPiece x0 x1 x3 x4 x7 x8 h 5, yPiece x0 x1 x3 x4 x7 x8 h 4,
   yPiece x0 x1 x3 x4 x7 x8 h 3, yPiece x0 x1 x3 x4 x7 x8 h 2, yPiece x0 x1 x3 x4 x7 x8 h 1, yPiece x0 x1 x3 x4 x7 x8 h 0]
end

end Cert.KernelIdeal.Scan
end
-- ==== Proof.QuadAt.lean ====
/-
  The vectors of one quad, read at an index over the extended reals.
-/
module

public import proofs.«01_k».proof.Proof.Quad

@[expose] public section

set_option maxRecDepth 16384
noncomputable section

namespace Cert.KernelIdeal.Scan
open Cert.KernelIdeal Cert.KernelIdeal.Gen Idealize.ShloMosaic Idealize.ShloMosaic.TcCoe Idealize.SL.Sem

/-- Lane `s` of part `i` of a row of four parts of 128. -/
def at512 (i : Fin 4) (s : Fin 128) : Fin 512 := ⟨128 * i.val + s.val, by omega⟩
/-- Lane `p` of part `i` of a row of four parts of 64. -/
def at256 (i : Fin 4) (p : Fin 64) : Fin 256 := ⟨64 * i.val + p.val, by omega⟩

/-- A quad's row, head by head. -/
theorem rowQ_apply (v : FVec Ideal S32x128 .f32) (q : Fin 8) (i : Fin 4) (s : Fin 128) :
    rowQ v q (ix2 0 (at512 i s)) = v (ix2 (⟨4 * q.val + i.val, by omega⟩ : Fin 32) s) := by
  have e1 : 256 + s.val - 128 - 128 = s.val := by omega
  have e2 : 384 + s.val - 128 - 128 - 128 = s.val := by omega
  fin_cases i <;> pointwise [rowQ, at512]
  · simp [e1, show ¬ 256 + s.val < 128 by omega, show ¬ 256 + s.val - 128 < 128 by omega]
  · simp [e2, show ¬ 384 + s.val < 128 by omega, show ¬ 384 + s.val - 128 < 128 by omega, show ¬ 384 + s.val - 128 - 128 < 128 by omega]

/-- The products of output maps and input maps. -/
theorem cbQ_apply (bg cg : FVec Ideal S128x128 .bf16) (l s : Fin 128) :
    cbQ bg cg (ix2 l s) = ∑ n : Fin 128, cg (ix2 l n) * bg (ix2 s n) := by
  pointwise [cbQ]

/-- A quad's weights. -/
theorem wQ_apply (bg cg : FVec Ideal S128x128 .bf16) (tri : IVec S128x128 1) (col : FVec Ideal S128x512 .f32)
    (row dtrow : FVec Ideal S1x512 .f32) (l : Fin 128) (i : Fin 4) (s : Fin 128) :
    wQ bg cg tri col row dtrow (ix2 l (at512 i s))
      = cbQ bg cg (ix2 l s)
        * Ideal.exp (Scalar.select (tri (ix2 l s)) (col (ix2 l (at512 i s)) - row (ix2 0 (at512 i s))) ⊥)
        * dtrow (ix2 0 (at512 i s)) := by
  have hm : (Named.named κ "mask" 0xF149F2CA#32 : Ideal .f32) = (⊥ : EReal) := IdealRules.named_const.ideal_named_scalar _ _ _ _ rfl
  have e1 : 256 + s.val - 128 - 128 = s.val := by omega
  have e2 : 384 + s.val - 128 - 128 - 128 = s.val := by omega
  fin_cases i <;> pointwise [wQ, at512, hm]
  · simp [e1, show ¬ 256 + s.val < 128 by omega, show ¬ 256 + s.val - 128 < 128 by omega]
  · simp [e2, show ¬ 384 + s.val < 128 by omega, show ¬ 384 + s.val - 128 < 128 by omega, show ¬ 384 + s.val - 128 - 128 < 128 by omega]

/-- A quad's state as a matrix. -/
theorem hQ_apply (hp : FVec Ideal S1x4x64x128 .f32) (i : Fin 4) (p : Fin 64) (n : Fin 128) :
    hQ hp (ix2 (at256 i p) n) = hp (ix4 0 i p n) := by
  fin_cases i <;> pointwise [hQ, at256]
  all_goals
    refine congrArg hp ?_
    congr 1
    all_goals first | rfl | (apply Fin.ext; simp; omega) | (apply Fin.ext; simp)

/-- A head's product of weights and inputs. -/
theorem ydQ_apply (w : FVec Ideal S128x512 .bf16) (xb : FVec Ideal S128x256 .bf16) {o p : Nat} (ho : S128x512.Slices ![0, o] S128x128)
    (hp : S128x256.Slices ![0, p] S128x64) (h1 : o + 128 ≤ 512) (h2 : p + 64 ≤ 256) (l : Fin 128) (k : Fin 64) :
    ydQ w xb ho hp (ix2 l k) = ∑ s : Fin 128, w (ix2 l ⟨o + s.val, by omega⟩) * xb (ix2 s ⟨p + k.val, by omega⟩) := by
  pointwise [ydQ]

/-- A quad's output. -/
theorem yQ_apply (cg : FVec Ideal S128x128 .bf16) (w : FVec Ideal S128x512 .bf16) (xq : FVec Ideal S128x256 .f32)
    (hp : FVec Ideal S1x4x64x128 .f32) (colp : FVec Ideal S128x256 .f32) (l : Fin 128) (i : Fin 4) (p : Fin 64) :
    yQ cg w xq hp colp (ix2 l (at256 i p))
      = (∑ s : Fin 128, w (ix2 l (at512 i s)) * xq (ix2 s (at256 i p)))
        + (∑ n : Fin 128, cg (ix2 l n) * hp (ix4 0 i p n)) * Ideal.exp (colp (ix2 l (at256 i p))) := by
  simp only [← hQ_apply hp]
  have e1 : 128 + p.val - 64 - 64 = p.val := by omega
  have e2 : 192 + p.val - 64 - 64 - 64 = p.val := by omega
  fin_cases i <;> pointwise [yQ, ydQ, at256, at512]
  · simp [e1, show ¬ 128 + p.val < 64 by omega, show ¬ 128 + p.val - 64 < 64 by omega]
  · simp [e2, show ¬ 192 + p.val < 64 by omega, show ¬ 192 + p.val - 64 < 64 by omega, show ¬ 192 + p.val - 64 - 64 < 64 by omega]

/-- A quad's next state. -/
theorem stQ_apply (bg : FVec Ideal S128x128 .bf16) (col : FVec Ideal S128x512 .f32) (xq : FVec Ideal S128x256 .f32)
    (hp : FVec Ideal S1x4x64x128 .f32) (colp dtp : FVec Ideal S128x256 .f32) (i : Fin 4) (p : Fin 64) (n : Fin 128) :
    stQ bg col xq hp colp dtp (ix4 0 i p n)
      = hp (ix4 0 i p n) * Ideal.exp (col (ix2 127 (at512 i n)))
        + ∑ l : Fin 128, (Ideal.exp (colp (ix2 127 (at256 i p)) - colp (ix2 l (at256 i p))) * dtp (ix2 l (at256 i p))
            * xq (ix2 l (at256 i p))) * bg (ix2 l n) := by
  rw [← hQ_apply hp]
  fin_cases i <;> pointwise [stQ, cdQ, at256, at512]
  · simp [show ¬ 128 + p.val < 64 by omega, show ¬ 128 + p.val - 64 < 64 by omega, show 128 + p.val - 64 - 64 < 64 by omega]
  · simp [show ¬ 192 + p.val < 64 by omega, show ¬ 192 + p.val - 64 < 64 by omega, show ¬ 192 + p.val - 64 - 64 < 64 by omega]

end Cert.KernelIdeal.Scan
end
-- ==== Proof.Chunk.lean ====
/-
  One chunk of the scan on numbers: the mathematics both programs compute, in plain sums over the extended reals.
-/
module

public import proofs.«01_k».proof.Proof.Gen.KernelIdeal.Value

@[expose] public section

set_option maxRecDepth 16384
noncomputable section

namespace Cert.Scan
open Idealize.ShloMosaic Idealize.ShloMosaic.TcCoe Idealize.SL.Sem

/-- The numbers of one chunk of 128 positions: the heads' inputs, the groups' `B` and `C` rows, the time steps, and each
    head's decay rate. -/
structure Blk where
  /-- The input at a position, a head and a channel. -/
  x : Fin 128 → Fin 32 → Fin 64 → EReal
  /-- The input projection at a position, a group and a state coordinate. -/
  B : Fin 128 → Fin 4 → Fin 128 → EReal
  /-- The output projection at a position, a group and a state coordinate. -/
  C : Fin 128 → Fin 4 → Fin 128 → EReal
  /-- The time step at a position and a head. -/
  dt : Fin 128 → Fin 32 → EReal
  /-- The decay rate of a head. -/
  A : Fin 32 → EReal

/-- The group of head `h`: eight heads share a group. -/
def grp (h : Fin 32) : Fin 4 := ⟨h.val / 8, by omega⟩

namespace Blk
variable (k : Blk)

/-- The running log decay of head `h` up to position `l`. -/
def acum (l : Fin 128) (h : Fin 32) : EReal := ∑ s : Fin 128, if s.val ≤ l.val then k.dt s h * k.A h else 0

/-- The score of position `s` for position `l` in group `g`. -/
def score (g : Fin 4) (l s : Fin 128) : EReal := ∑ n : Fin 128, k.C l g n * k.B s g n

/-- The weight of position `s` for position `l` in head `h`. -/
def wgt (l s : Fin 128) (h : Fin 32) : EReal :=
  k.score (grp h) l s * Ideal.exp (if s.val ≤ l.val then k.acum l h - k.acum s h else ⊥) * k.dt s h

/-- The output of a position from its own chunk and from the state `H` before the chunk. -/
def out (H : Fin 32 → Fin 64 → Fin 128 → EReal) (l : Fin 128) (h : Fin 32) (p : Fin 64) : EReal :=
  (∑ s : Fin 128, k.wgt l s h * k.x s h p) + (∑ n : Fin 128, k.C l (grp h) n * H h p n) * Ideal.exp (k.acum l h)

/-- The state after the chunk, from the state `H` before it. -/
def next (H : Fin 32 → Fin 64 → Fin 128 → EReal) (h : Fin 32) (p : Fin 64) (n : Fin 128) : EReal :=
  H h p n * Ideal.exp (k.acum 127 h)
    + ∑ l : Fin 128, (Ideal.exp (k.acum 127 h - k.acum l h) * k.dt l h * k.x l h p) * k.B l (grp h) n

end Blk

/-- A number below `+∞` minus itself, kept three times over, adds back up to the number: the three parts of a split. -/
theorem split_sum (a : EReal) (ha : a ≠ ⊤) : a + (a - a) + ((a - a) - (a - a)) = a := by
  induction a with
  | bot => simp
  | top => exact absurd rfl ha
  | coe r => rw [← EReal.coe_sub, ← EReal.coe_sub, ← EReal.coe_add, ← EReal.coe_add]; congr 1; ring

/-- A sum over 96 rows that keeps the rows congruent to `h` modulo 32 has three terms. -/
theorem onehot_sum (v : Fin 96 → EReal) (h : Fin 32) :
    (∑ r : Fin 96, v r * (if r.val % 32 = h.val then 1 else 0)) = v ⟨h.val, by omega⟩ + v ⟨32 + h.val, by omega⟩ + v ⟨64 + h.val, by omega⟩ := by
  rw [← (finProdFinEquiv (m := 3) (n := 32)).sum_comp, Fintype.sum_prod_type, Fin.sum_univ_three]
  have key : ∀ r : Fin 3, (∑ y : Fin 32, v (finProdFinEquiv (r, y)) * (if (finProdFinEquiv (r, y)).val % 32 = h.val then 1 else 0)) = v ⟨32 * r.val + h.val, by omega⟩ := by
    intro r
    rw [Finset.sum_eq_single h]
    · rw [if_pos (by simp only [finProdFinEquiv_apply_val]; omega), mul_one]
      congr 1; apply Fin.ext; simp only [finProdFinEquiv_apply_val]; omega
    · intro y _ hy
      have : ¬ (finProdFinEquiv (r, y)).val % 32 = h.val := by
        simp only [finProdFinEquiv_apply_val]
        intro e; apply hy; apply Fin.ext; omega
      rw [if_neg this, mul_zero]
    · intro hh; exact absurd (Finset.mem_univ _) hh
  rw [key 0, key 1, key 2]
  congr 2
  · congr 2; simp

/-- The softplus both programs spell: `max(x, 0) + log(1 + exp(-|x|))`. -/
def softp (x : EReal) : EReal := max x 0 + Ideal.log1p (Ideal.exp (0 - max x (-x)))

/-- An exponential is not negative. -/
theorem exp_nonneg (x : EReal) : 0 ≤ Ideal.exp x := by
  induction x with
  | bot => simp
  | top => simp
  | coe r => rw [Ideal.exp_coe]; exact_mod_cast (Real.exp_pos r).le

/-- The softplus of minus infinity is zero. -/
theorem softp_bot : softp ⊥ = 0 := by
  have h1 : Ideal.log 1 = 0 := by rw [← EReal.coe_one, Ideal.log_coe]; simp
  simp [softp, Ideal.log1p, h1]

/-- The softplus of a real is a real that is not negative. -/
theorem softp_coe (r : ℝ) : ∃ q : ℝ, 0 ≤ q ∧ softp (r : EReal) = (q : EReal) := by
  refine ⟨max r 0 + Real.log (1 + Real.exp (0 - max r (-r))), ?_, ?_⟩
  · have h1 : 0 ≤ max r 0 := le_max_right _ _
    have h2 : 0 ≤ Real.log (1 + Real.exp (0 - max r (-r))) := Real.log_nonneg (by have := Real.exp_pos (0 - max r (-r)); linarith)
    linarith
  · have hm : ∀ a b : ℝ, max (a : EReal) (b : EReal) = ((max a b : ℝ) : EReal) := fun a b => (EReal.coe_strictMono.monotone.map_max (a := a) (b := b)).symm
    have hp : ¬ (1 + Real.exp (0 - max r (-r)) ≤ 0) := by have := Real.exp_pos (0 - max r (-r)); linarith
    rw [softp, Ideal.log1p, ← EReal.coe_neg, hm, ← EReal.coe_zero, hm, ← EReal.coe_sub, Ideal.exp_coe, ← EReal.coe_one, ← EReal.coe_add, Ideal.log_coe, if_neg hp, EReal.coe_add]

/-- The softplus of a number below `+∞` is a number that is not negative. -/
theorem softp_real (x : EReal) (hx : x ≠ ⊤) : ∃ q : ℝ, 0 ≤ q ∧ softp x = (q : EReal) := by
  induction x with
  | bot => exact ⟨0, le_refl _, by rw [softp_bot]; rfl⟩
  | top => exact absurd rfl hx
  | coe r => exact softp_coe r

namespace Blk
variable (k : Blk)

/-- A chunk whose time steps are numbers that are not negative, and whose decay rates are not positive. -/
def Tame : Prop := (∀ l h, ∃ q : ℝ, 0 ≤ q ∧ k.dt l h = (q : EReal)) ∧ ∀ h, k.A h ≤ 0

/-- A tame block's steps are not infinite. -/
theorem Tame.dt_ne_top {k : Blk} (hk : k.Tame) (l : Fin 128) (h : Fin 32) : k.dt l h ≠ ⊤ := by
  obtain ⟨q, _, e⟩ := hk.1 l h
  rw [e]; exact EReal.coe_ne_top q

/-- A tame block's rates are at most zero. -/
theorem Tame.rate_nonpos {k : Blk} (hk : k.Tame) (l : Fin 128) (h : Fin 32) : k.dt l h * k.A h ≤ 0 := by
  obtain ⟨q, hq, e⟩ := hk.1 l h
  rw [e]
  exact mul_nonpos_of_nonneg_of_nonpos (by exact_mod_cast hq) (hk.2 h)

/-- A tame block's accumulated decays are at most zero. -/
theorem Tame.acum_nonpos {k : Blk} (hk : k.Tame) (l : Fin 128) (h : Fin 32) : k.acum l h ≤ 0 :=
  Finset.sum_nonpos fun s _ => by split_ifs with c; exacts [hk.rate_nonpos s h, le_refl _]

/-- What is at most zero is not infinite. -/
theorem ne_top_of_nonpos {a : EReal} (h : a ≤ 0) : a ≠ ⊤ := fun e => by rw [e] at h; exact absurd h (by simp)

end Blk

end Cert.Scan
end
-- ==== Proof.BlockAt.lean ====
/-
  The arrays the body forms, read at an index over the extended reals: each is one of the chunk's numbers.
-/
module

public import proofs.«01_k».proof.Proof.Body
public import proofs.«01_k».proof.Proof.QuadAt
public import proofs.«01_k».proof.Proof.Chunk
public import Idealize.ShloMosaic.Lib.WordCmp

@[expose] public section

set_option maxRecDepth 16384
noncomputable section

namespace Cert.KernelIdeal.Scan
open Cert.KernelIdeal Cert.KernelIdeal.Gen Idealize.ShloMosaic Idealize.ShloMosaic.TcCoe Idealize.SL.Sem

open Cert.Scan

/-- Column `128h + s` of a row with 128 lanes per head. -/
def c128 (h : Fin 32) (s : Fin 128) : Fin 4096 := ⟨128 * h.val + s.val, by omega⟩
/-- Column `64h + p` of a row with 64 lanes per head. -/
def c64 (h : Fin 32) (p : Fin 64) : Fin 2048 := ⟨64 * h.val + p.val, by omega⟩
/-- Column `2048 + 128g + n`: group `g`'s `B` lanes. -/
def cB (g : Fin 4) (n : Fin 128) : Fin 3072 := ⟨2048 + 128 * g.val + n.val, by omega⟩
/-- Column `2560 + 128g + n`: group `g`'s `C` lanes. -/
def cC (g : Fin 4) (n : Fin 128) : Fin 3072 := ⟨2560 + 128 * g.val + n.val, by omega⟩

/-- The chunk's numbers, read from the block's windows. -/
def blkW (x0 : Vec Ideal S128x3072 .f32) (x1 : Vec Ideal S128x128 .f32) (x3 x4 : Vec Ideal S1x32 .f32) : Blk where
  x l h p := x0 (ix2 l ⟨64 * h.val + p.val, by omega⟩)
  B l g n := x0 (ix2 l (cB g n))
  C l g n := x0 (ix2 l (cC g n))
  dt l h := dtW x1 x3 (ix2 l h)
  A h := 0 - Ideal.exp (x4 (ix2 0 h))

section
variable (x0 : Vec Ideal S128x3072 .f32) (x1 : Vec Ideal S128x128 .f32) (x3 x4 : Vec Ideal S1x32 .f32)
  (x7 : Vec Ideal S96x4096 .bf16) (x8 : Vec Ideal S96x2048 .bf16)

/-- The block's inputs, head by head. -/
theorem x_apply (l : Fin 128) (h : Fin 32) (p : Fin 64) : k0_pay5 x0 (ix2 l (c64 h p)) = (blkW x0 x1 x3 x4).x l h p := by
  show k0_pay5 x0 (ix2 l (c64 h p)) = x0 (ix2 l ⟨64 * h.val + p.val, by omega⟩)
  pointwise [k0_pay5, k0_pay4, c64]

/-- The block's input maps of a group. -/
theorem bG_apply (g : Fin 4) (l n : Fin 128) : bG x0 g (ix2 l n) = (blkW x0 x1 x3 x4).B l g n := by
  show bG x0 g (ix2 l n) = x0 (ix2 l (cB g n))
  pointwise [bG, k0_pay4, cB]

/-- The block's output maps of a group. -/
theorem cG_apply (g : Fin 4) (l n : Fin 128) : cG x0 g (ix2 l n) = (blkW x0 x1 x3 x4).C l g n := by
  show cG x0 g (ix2 l n) = x0 (ix2 l (cC g n))
  pointwise [cG, k0_pay4, cC]

/-- The causal mask's bit: a step reads the steps up to itself. -/
theorem tri_bit (l s : Fin 128) : k0_pay16 (ix2 l s) = if s.val ≤ l.val then 1#1 else 0#1 := by
  pointwise [k0_pay16]
  rw [WordCmp.cmpi_sge_ofNat (by have := l.isLt; norm_num; omega) (by have := s.isLt; norm_num; omega)]
  split_ifs with h <;> simp [h]

/-- A selection by the causal mask. -/
theorem tri_select (l s : Fin 128) (a b : EReal) : Scalar.select (k0_pay16 (ix2 l s)) a b = if s.val ≤ l.val then a else b := by
  rw [tri_bit]; split_ifs <;> rfl

/-- The causal mask as a number, one or zero. -/
theorem tri_num (l s : Fin 128) :
    (FloatOps.sitofp .f32 (BitVec.setWidth 32 (k0_pay16 (ix2 l s))) : Ideal .f32) = if s.val ≤ l.val then (1 : EReal) else 0 := by
  rw [tri_bit]
  split_ifs
  · show (((BitVec.setWidth 32 1#1).toInt : ℝ) : EReal) = 1
    rw [show (BitVec.setWidth 32 1#1).toInt = 1 by decide]; simp
  · show (((BitVec.setWidth 32 0#1).toInt : ℝ) : EReal) = 0
    rw [show (BitVec.setWidth 32 0#1).toInt = 0 by decide]; simp

/-- The transposed decays. -/
theorem acT_apply (v : FVec Ideal S128x32 .f32) (h : Fin 32) (l : Fin 128) : k0_pay24 v (ix2 h l) = v (ix2 l h) := by
  pointwise [k0_pay24]
/-- The transposed steps. -/
theorem dtT_apply (v : FVec Ideal S128x32 .f32) (h : Fin 32) (l : Fin 128) : k0_pay25 v (ix2 h l) = v (ix2 l h) := by
  pointwise [k0_pay25]

/-- The block's steps: the softplus of the raw step plus its bias. -/
theorem dtW_apply (l : Fin 128) (h : Fin 32) :
    dtW x1 x3 (ix2 l h) = softp (x1 (ix2 l ⟨h.val, by omega⟩) + x3 (ix2 0 h)) := by
  pointwise [dtW, k0_pay14]
  rfl

/-- Steps below infinity make the block tame. -/
theorem blkW_tame (ht : ∀ (l : Fin 128) (h : Fin 32), x1 (ix2 l (⟨h.val, by omega⟩ : Fin 128)) + x3 (ix2 0 h) ≠ (⊤ : EReal)) :
    (blkW x0 x1 x3 x4).Tame :=
  ⟨fun l h => by
    obtain ⟨q, hq, e⟩ := softp_real _ (ht l h)
    exact ⟨q, hq, (dtW_apply x1 x3 l h).trans e⟩, fun h => by
    show 0 - Ideal.exp (x4 (ix2 0 h)) ≤ 0
    rw [zero_sub, EReal.neg_le_zero]
    exact exp_nonneg _⟩

/-- The block's accumulated decays: three products with the mask add up to one running sum. -/
theorem acW_apply (hk : (blkW x0 x1 x3 x4).Tame) (l : Fin 128) (h : Fin 32) :
    acW x1 x3 x4 (ix2 l h) = (blkW x0 x1 x3 x4).acum l h := by
  have e : ∀ s : Fin 128, dtW x1 x3 (ix2 s h) * (0 - Ideal.exp (x4 (ix2 0 h))) = (blkW x0 x1 x3 x4).dt s h * (blkW x0 x1 x3 x4).A h := fun _ => rfl
  pointwise [acW, k0_pay17, k0_pay15]
  simp only [tri_num, e]
  rw [← Finset.sum_add_distrib, ← Finset.sum_add_distrib]
  refine Finset.sum_congr rfl fun s _ => ?_
  split_ifs
  · rw [one_mul, one_mul, one_mul]
    exact split_sum _ (Blk.ne_top_of_nonpos (hk.rate_nonpos s h))
  · simp

/-- The three parts of a number, side by side. -/
theorem parts_apply (dt : FVec Ideal S128x32 .f32) (l : Fin 128) (h : Fin 32) :
    k0_pay19 dt (ix2 l (⟨h.val, by omega⟩ : Fin 96)) + k0_pay19 dt (ix2 l (⟨32 + h.val, by omega⟩ : Fin 96))
      + k0_pay19 dt (ix2 l (⟨64 + h.val, by omega⟩ : Fin 96))
      = (dt (ix2 l h) + (dt (ix2 l h) - dt (ix2 l h)) + ((dt (ix2 l h) - dt (ix2 l h)) - (dt (ix2 l h) - dt (ix2 l h))) : EReal) := by
  have e1 : 64 + h.val - 32 - 32 = h.val := by omega
  pointwise [k0_pay19]
  simp [e1, show ¬ 64 + h.val < 32 by omega, show ¬ 64 + h.val - 32 < 32 by omega]

/-- The parts of the accumulated decays are the parts of an array of that shape. -/
theorem acParts (dt : FVec Ideal S128x32 .f32) (a : FVec Ideal S1x32 .f32) : k0_pay18 dt a = k0_pay19 (k0_pay17 dt a) := rfl

/-- A one-hot expansion of the three split parts of a column gives the column back. -/
theorem expand_apply {N : Nat} (v : FVec Ideal S128x32 .f32) (x : Fin 96 → Fin N → EReal) (d : Fin N → Fin 32)
    (hx : ∀ r j, x r j = if r.val % 32 = (d j).val then 1 else 0) (l : Fin 128) (j : Fin N) (hv : v (ix2 l (d j)) ≠ (⊤ : EReal)) :
    (∑ r : Fin 96, k0_pay19 v (ix2 l r) * x r j) = v (ix2 l (d j)) := by
  simp only [hx]
  exact (onehot_sum (fun r => k0_pay19 v (ix2 l r)) (d j)).trans ((parts_apply v l (d j)).trans (split_sum _ hv))

variable (hx7 : ∀ (r : Fin 96) (j : Fin 4096), x7 (ix2 r j) = if r.val % 32 = j.val / 128 then (1 : EReal) else 0)
  (hx8 : ∀ (r : Fin 96) (j : Fin 2048), x8 (ix2 r j) = if r.val % 32 = j.val / 64 then (1 : EReal) else 0)

include hx7 in
/-- The accumulated decays, spread over a head's lanes. -/
theorem colhW_apply (hk : (blkW x0 x1 x3 x4).Tame) (l : Fin 128) (h : Fin 32) (s : Fin 128) :
    colhW x1 x3 x4 x7 (ix2 l (c128 h s)) = (blkW x0 x1 x3 x4).acum l h := by
  have hd : (⟨(c128 h s).val / 128, by have := (c128 h s).isLt; omega⟩ : Fin 32) = h := by apply Fin.ext; simp only [c128]; omega
  have := expand_apply (acW x1 x3 x4) (fun r j => x7 (ix2 r j)) (fun j => ⟨j.val / 128, by omega⟩) hx7 l (c128 h s)
    (by rw [hd, acW_apply x0 x1 x3 x4 hk]; exact Blk.ne_top_of_nonpos (hk.acum_nonpos l h))
  rw [hd, acW_apply x0 x1 x3 x4 hk] at this
  rw [← this]
  pointwise [colhW, k0_pay20, acParts, acW]

include hx8 in
/-- The accumulated decays, spread over a head's columns. -/
theorem colpW_apply (hk : (blkW x0 x1 x3 x4).Tame) (l : Fin 128) (h : Fin 32) (p : Fin 64) :
    colpW x1 x3 x4 x8 (ix2 l (c64 h p)) = (blkW x0 x1 x3 x4).acum l h := by
  have hd : (⟨(c64 h p).val / 64, by have := (c64 h p).isLt; omega⟩ : Fin 32) = h := by apply Fin.ext; simp only [c64]; omega
  have := expand_apply (acW x1 x3 x4) (fun r j => x8 (ix2 r j)) (fun j => ⟨j.val / 64, by omega⟩) hx8 l (c64 h p)
    (by rw [hd, acW_apply x0 x1 x3 x4 hk]; exact Blk.ne_top_of_nonpos (hk.acum_nonpos l h))
  rw [hd, acW_apply x0 x1 x3 x4 hk] at this
  rw [← this]
  pointwise [colpW, k0_pay22, k0_pay21, acParts, acW]

include hx8 in
/-- The steps, spread over a head's columns. -/
theorem dtpW_apply (hk : (blkW x0 x1 x3 x4).Tame) (l : Fin 128) (h : Fin 32) (p : Fin 64) :
    dtpW x1 x3 x8 (ix2 l (c64 h p)) = (blkW x0 x1 x3 x4).dt l h := by
  have hd : (⟨(c64 h p).val / 64, by have := (c64 h p).isLt; omega⟩ : Fin 32) = h := by apply Fin.ext; simp only [c64]; omega
  have := expand_apply (dtW x1 x3) (fun r j => x8 (ix2 r j)) (fun j => ⟨j.val / 64, by omega⟩) hx8 l (c64 h p)
    (by rw [hd]; exact hk.dt_ne_top l h)
  rw [hd] at this
  refine Eq.trans ?_ this
  pointwise [dtpW, k0_pay23]
end

end Cert.KernelIdeal.Scan
end
-- ==== Proof.QuadPay.lean ====
/-
  What the body stores for each quad is that quad's vector: the stored expression of every quad is the same function of
  the quad's own columns.
-/
module

public import proofs.«01_k».proof.Proof.Quad

@[expose] public section

set_option maxRecDepth 16384
noncomputable section

namespace Cert.KernelIdeal.Scan
open Cert.KernelIdeal Cert.KernelIdeal.Gen Idealize.ShloMosaic Idealize.ShloMosaic.TcCoe Idealize.SL.Sem

variable {F : FTy → Type} [FloatOps F] [Named F]

section
variable (bg cg : FVec F S128x128 .bf16) (tri : IVec S128x128 1) (ac dt : FVec F S128x32 .f32) (acst dtt : FVec F S32x128 .f32)
  (col : FVec F S128x512 .f32) (xq colp dtp : FVec F S128x256 .f32) (hp : FVec F S1x4x64x128 .f32)

/-- The state quad 0 stores. -/
theorem st_quad0 : k0_pay35 (k0_pay34 bg col xq hp colp dtp) = stQ bg col xq hp colp dtp := rfl
/-- The state quad 1 stores. -/
theorem st_quad1 : k0_pay39 bg col xq hp colp dtp = stQ bg col xq hp colp dtp := rfl
/-- The state quad 2 stores. -/
theorem st_quad2 : k0_pay44 bg col xq (k0_pay41 hp) colp dtp = stQ bg col xq hp colp dtp := rfl
/-- The state quad 3 stores. -/
theorem st_quad3 : k0_pay51 bg col (k0_pay48 hp) (k0_pay50 xq colp dtp) = stQ bg col xq hp colp dtp := rfl
/-- The state quad 4 stores. -/
theorem st_quad4 : k0_pay62 (k0_pay55 hp) (k0_pay57 bg xq colp dtp) (k0_pay58 col) (k0_pay59 col) (k0_pay60 col) (k0_pay61 col) = stQ bg col xq hp colp dtp := rfl
/-- The state quad 5 stores. -/
theorem st_quad5 : k0_pay73 (k0_pay72 bg col xq hp colp dtp) = stQ bg col xq hp colp dtp := rfl
/-- The state quad 6 stores. -/
theorem st_quad6 : k0_pay77 bg col xq (k0_pay75 hp) colp dtp = stQ bg col xq hp colp dtp := rfl
/-- The state quad 7 stores. -/
theorem st_quad7 : k0_pay83 bg col xq (k0_pay80 hp) colp (k0_pay82 colp) dtp = stQ bg col xq hp colp dtp := rfl
/-- The output quad 0 stores. -/
theorem y_quad0 : k0_pay33 cg (k0_pay27 bg cg dt tri ac col) (k0_pay28 xq) (k0_pay29 bg cg dt tri ac col xq) (k0_pay30 bg cg dt tri ac col xq) (k0_pay31 bg cg dt tri ac col) hp colp = yQ cg (wQ bg cg tri col (rowQ (k0_pay24 ac) 0) (rowQ (k0_pay25 dt) 0)) xq hp colp := rfl
/-- The output quad 1 stores. -/
theorem y_quad1 : k0_pay38 cg (k0_pay36 bg cg acst dtt (k0_pay26 tri) col xq) hp colp = yQ cg (wQ bg cg tri col (rowQ acst 1) (rowQ dtt 1)) xq hp colp := rfl
/-- The output quad 2 stores. -/
theorem y_quad2 : k0_pay43 (k0_pay42 cg acst dtt (k0_pay26 tri) (k0_pay40 bg cg) col xq hp colp) = yQ cg (wQ bg cg tri col (rowQ acst 2) (rowQ dtt 2)) xq hp colp := rfl
/-- The output quad 3 stores. -/
theorem y_quad3 : k0_pay49 cg (k0_pay26 tri) (k0_pay45 bg cg) (k0_pay46 dtt) (k0_pay47 acst col) (Named.named κ "mask" 0xF149F2CA#32 : F .f32) xq hp colp = yQ cg (wQ bg cg tri col (rowQ acst 3) (rowQ dtt 3)) xq hp colp := rfl
/-- The output quad 4 stores. -/
theorem y_quad4 : k0_pay56 cg (k0_pay52 bg cg acst dtt (k0_pay26 tri) col) (k0_pay53 xq) (k0_pay54 bg cg acst dtt (k0_pay26 tri) col) hp colp = yQ cg (wQ bg cg tri col (rowQ acst 4) (rowQ dtt 4)) xq hp colp := rfl
/-- The output quad 5 stores. -/
theorem y_quad5 : k0_pay71 cg (k0_pay65 bg cg acst dtt (k0_pay26 tri) col xq) (k0_pay66 bg cg acst dtt (k0_pay26 tri) col xq) (k0_pay67 bg cg acst dtt (k0_pay26 tri) col xq) (k0_pay68 bg cg acst dtt (k0_pay26 tri) col) (k0_pay69 xq) hp colp = yQ cg (wQ bg cg tri col (rowQ acst 5) (rowQ dtt 5)) xq hp colp := rfl
/-- The output quad 6 stores. -/
theorem y_quad6 : k0_pay76 cg (k0_pay74 bg cg acst dtt (k0_pay26 tri) col xq) (k0_pay75 hp) colp = yQ cg (wQ bg cg tri col (rowQ acst 6) (rowQ dtt 6)) xq hp colp := rfl
/-- The output quad 7 stores. -/
theorem y_quad7 : k0_pay81 cg dtt (k0_pay26 tri) (k0_pay78 bg cg) col (k0_pay79 acst) xq hp colp = yQ cg (wQ bg cg tri col (rowQ acst 7) (rowQ dtt 7)) xq hp colp := rfl
end

/-- A group's columns lie within the result's block. -/
theorem gSlice (g : Fin 4) : S128x2048.Slices ![0, 512 * g.val] S128x512 := by revert g; decide +kernel

/-- Group `g`'s 512 columns, divided by the root of their mean square and scaled. -/
def normG (v : FVec F S128x2048 .f32) (ng : FVec F S1x512 .f32) (g : Fin 4) : FVec F S128x512 .bf16 :=
  truncf .bf16
    (mulf
      (mulf (extractStridedSlice S128x512 ![0, 512 * g.val] v (gSlice g))
        (broadcastTo S128x512
          (rsqrt (addf
            (divf
              (shapeCast S128x1
                (multiReduction .add [1] S128
                  (mulf (extractStridedSlice S128x512 ![0, 512 * g.val] v (gSlice g)) (extractStridedSlice S128x512 ![0, 512 * g.val] v (gSlice g)))
                  0x00000000#32 reduces_S128x512_S128 (.inl rfl) rfl)
                shapeCasts_S128_S128x1)
              (broadcast S128x1 (Scalar.ofBits .f32 0x44000000#32)))
            (broadcast S128x1 (Scalar.ofBits .f32 0x358637BD#32))))
          broadcasts_S128x1_S128x512))
      (broadcastTo S128x512 (shapeCast S1x512 ng shapeCasts_S1x512_S1x512) broadcasts_S1x512_S128x512))
    bitsLt_bf16_f32

section
variable (y x z : FVec F S128x2048 .f32) (dk : FVec F S1x2048 .f32) (ng : FVec F S1x512 .f32)
/-- What group 0 stores. -/
theorem norm_group0 : k0_pay87 (k0_pay85 y dk x z) (k0_pay86 y dk x z) ng = normG (k0_pay84 y dk x z) ng 0 := rfl
/-- What group 1 stores. -/
theorem norm_group1 : k0_pay88 y ng = normG y ng 1 := rfl
/-- What group 2 stores. -/
theorem norm_group2 : k0_pay1 (k0_pay89 y) (k0_pay90 y) ng = normG y ng 2 := rfl
/-- What group 3 stores. -/
theorem norm_group3 : k0_pay2 y ng = normG y ng 3 := rfl
end

end Cert.KernelIdeal.Scan
end
-- ==== Proof.Outs.lean ====
/-
  What the two outputs hold after one grid point, as the stores of the quads and the groups: at a first chunk, where the
  state starts from zero, and at a later one.
-/
module

public import proofs.«01_k».proof.Proof.Body
public import proofs.«01_k».proof.Proof.QuadPay
public import Idealize.ShloMosaic.Lib.Pipeline.ReadBack

@[expose] public section

set_option maxRecDepth 16384
noncomputable section

namespace Cert.KernelIdeal.Scan
open Cert.KernelIdeal Cert.KernelIdeal.Gen Idealize.ShloMosaic Idealize.ShloMosaic.TcCoe Idealize.SL.Sem

variable {F : FTy → Type} [FloatOps F] [Named F]

section
variable (x0 : Vec F S128x3072 .f32) (x1 : Vec F S128x128 .f32) (x2 : Vec F S128x2048 .f32) (x3 x4 : Vec F S1x32 .f32) (x5 x6 : Vec F S1x2048 .f32)
  (x7 : Vec F S96x4096 .bf16) (x8 : Vec F S96x2048 .bf16) (h : FVec F S1x32x64x128 .f32)

/-- The gated output of the block: the quads' outputs with the skip term, times the gate. -/
def gatedW : FVec F S128x2048 .f32 := k0_pay84 (View.canon (yPieces x0 x1 x3 x4 x7 x8 h)) x5 (k0_pay5 x0) x2
/-- Group `g`'s 512 columns of the norm's scale. -/
def ngG (x6 : Vec F S1x2048 .f32) (g : Fin 4) : Vec F S1x512 .f32 :=
  View.ld x6 (Rect.unit ![0, 512 * g.val] S1x512.size (by revert g; decide +kernel))
/-- The store of group `g`. -/
def gPiece (g : Fin 4) : View.Piece (Elt F) S128x2048 .bf16 :=
  ⟨Rect.unit ![0, 512 * g.val] S128x512.size (inbG g), normG (gatedW x0 x1 x2 x3 x4 x5 x7 x8 h) (ngG x6 g) g⟩
/-- The four stores of the groups, the last one first. -/
def gPieces : List (View.Piece (Elt F) S128x2048 .bf16) :=
  [gPiece x0 x1 x2 x3 x4 x5 x6 x7 x8 h 3, gPiece x0 x1 x2 x3 x4 x5 x6 x7 x8 h 2, gPiece x0 x1 x2 x3 x4 x5 x6 x7 x8 h 1, gPiece x0 x1 x2 x3 x4 x5 x6 x7 x8 h 0]
/-- The store of the whole state at a first chunk: zero. -/
def zPiece : View.Piece (Elt F) S1x32x64x128 .f32 := ⟨Rect.unit ![0, 0, 0, 0] S1x32x64x128.size inb_S1x32x64x128_S1x32x64x128_0_0_0_0, k0_pay3⟩
end

section
variable (x0 : Vec F S128x3072 .f32)
/-- Group 0: its `B` rows. -/
theorem b_quad0 : k0_pay6 x0 = bG x0 0 := rfl
/-- Group 0: its `C` rows. -/
theorem c_quad0 : k0_pay10 x0 = cG x0 0 := rfl
/-- Group 1: its `B` rows. -/
theorem b_quad1 : k0_pay7 x0 = bG x0 1 := rfl
/-- Group 1: its `C` rows. -/
theorem c_quad1 : k0_pay11 x0 = cG x0 1 := rfl
/-- Group 2: its `B` rows. -/
theorem b_quad2 : k0_pay8 x0 = bG x0 2 := rfl
/-- Group 2: its `C` rows. -/
theorem c_quad2 : k0_pay12 x0 = cG x0 2 := rfl
/-- Group 3: its `B` rows. -/
theorem b_quad3 : k0_pay9 x0 = bG x0 3 := rfl
/-- Group 3: its `C` rows. -/
theorem c_quad3 : k0_pay13 x0 = cG x0 3 := rfl
end

set_option maxHeartbeats 800000 in
/-- The state after a later chunk. -/
theorem out_B_10 (c : Dev nD) (i : grid0.Coords) (arg2 : Memref sig .tc .vmem S128x3072 .f32) (harg2 : arg2.IsWhole) (arg3 : Memref sig .tc .vmem S128x128 .f32) (harg3 : arg3.IsWhole) (arg4 : Memref sig .tc .vmem S128x2048 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S96x4096 .bf16) (harg9 : arg9.IsWhole) (arg10 : Memref sig .tc .vmem S96x2048 .bf16) (harg10 : arg10.IsWhole) (arg11 : Memref sig .tc .vmem S128x2048 .bf16) (harg11 : arg11.IsWhole) (arg12 : Memref sig .tc .vmem S1x32x64x128 .f32) (harg12 : arg12.IsWhole) (arg13 : Memref sig .tc .vmem S128x2048 .f32) (harg13 : arg13.IsWhole) (arg14 : Memref sig .tc .vmem S128x4096 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (hc0 : ¬cond0_0 i)
    (x0 : Vec F S128x3072 .f32) (x1 : Vec F S128x128 .f32) (x2 : Vec F S128x2048 .f32) (x3 : Vec F S1x32 .f32) (x4 : Vec F S1x32 .f32) (x5 : Vec F S1x2048 .f32) (x6 : Vec F S1x2048 .f32) (x7 : Vec F S96x4096 .bf16) (x8 : Vec F S96x2048 .bf16) (xo10 : Vec F S1x32x64x128 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo10 = View.canon (stPieces x0 x1 x3 x4 x7 x8 xo10) := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo10)]
  unfold kernelRun0_B
  dsimp only
  sl_unfold_words
  have z2 : ∀ a : Fin 2, (![0, 0] : Fin 2 → Nat) a = 0 := by decide
  have r13 := fun Z r => View.readCov_fill (Val := Elt F) arg13.view (off := ![0, 0]) inb_S128x2048_S128x2048_0_0 Z [] r z2
  have r14 := fun Z r => View.readCov_fill (Val := Elt F) arg14.view (off := ![0, 0]) inb_S128x4096_S128x4096_0_0 Z [] r z2
  have r15 := fun Z r => View.readCov_fill (Val := Elt F) arg15.view (off := ![0, 0]) inb_S128x2048_S128x2048_0_0 Z [] r z2
  have r16 := fun Z r => View.readCov_fill (Val := Elt F) arg16.view (off := ![0, 0]) inb_S128x2048_S128x2048_0_0 Z [] r z2
  have l0 := View.ld_unit_lit (Val := Elt F) (S := S128x3072) (off := ![0, 0]) inb_S128x3072_S128x3072_0_0 x0 z2
  have l2 := View.ld_unit_lit (Val := Elt F) (S := S128x2048) (off := ![0, 0]) inb_S128x2048_S128x2048_0_0 x2 z2
  have l3 := View.ld_unit_lit (Val := Elt F) (S := S1x32) (off := ![0, 0]) inb_S1x32_S1x32_0_0 x3 z2
  have l4 := View.ld_unit_lit (Val := Elt F) (S := S1x32) (off := ![0, 0]) inb_S1x32_S1x32_0_0 x4 z2
  have l5 := View.ld_unit_lit (Val := Elt F) (S := S1x2048) (off := ![0, 0]) inb_S1x2048_S1x2048_0_0 x5 z2
  have l7 := View.ld_unit_lit (Val := Elt F) (S := S96x4096) (off := ![0, 0]) inb_S96x4096_S96x4096_0_0 x7 z2
  have l8 := View.ld_unit_lit (Val := Elt F) (S := S96x2048) (off := ![0, 0]) inb_S96x2048_S96x2048_0_0 x8 z2
  have l9 := fun (Z : Vec F S128x2048 .f32) => View.ld_unit_lit (Val := Elt F) (S := S128x2048) (off := ![0, 0]) inb_S128x2048_S128x2048_0_0 Z z2
  simp only [View.readAt_eq_ld, harg2.read_unread, harg3.read_unread, harg4.read_unread, harg5.read_unread, harg6.read_unread, harg7.read_unread, harg8.read_unread, harg9.read_unread, harg10.read_unread, harg12.read_unread, r13, r14, r15, r16, l0, l2, l3, l4, l5, l7, l8, l9, st_quad0, st_quad1, st_quad2, st_quad3, st_quad4, st_quad5, st_quad6, st_quad7, y_quad0, y_quad1, y_quad2, y_quad3, y_quad4, y_quad5, y_quad6, y_quad7, norm_group0, norm_group1, norm_group2, norm_group3]
  rfl
set_option maxHeartbeats 800000 in
/-- The output block of a later chunk. -/
theorem out_B_9 (c : Dev nD) (i : grid0.Coords) (arg2 : Memref sig .tc .vmem S128x3072 .f32) (harg2 : arg2.IsWhole) (arg3 : Memref sig .tc .vmem S128x128 .f32) (harg3 : arg3.IsWhole) (arg4 : Memref sig .tc .vmem S128x2048 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S96x4096 .bf16) (harg9 : arg9.IsWhole) (arg10 : Memref sig .tc .vmem S96x2048 .bf16) (harg10 : arg10.IsWhole) (arg11 : Memref sig .tc .vmem S128x2048 .bf16) (harg11 : arg11.IsWhole) (arg12 : Memref sig .tc .vmem S1x32x64x128 .f32) (harg12 : arg12.IsWhole) (arg13 : Memref sig .tc .vmem S128x2048 .f32) (harg13 : arg13.IsWhole) (arg14 : Memref sig .tc .vmem S128x4096 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (hc0 : ¬cond0_0 i)
    (x0 : Vec F S128x3072 .f32) (x1 : Vec F S128x128 .f32) (x2 : Vec F S128x2048 .f32) (x3 : Vec F S1x32 .f32) (x4 : Vec F S1x32 .f32) (x5 : Vec F S1x2048 .f32) (x6 : Vec F S1x2048 .f32) (x7 : Vec F S96x4096 .bf16) (x8 : Vec F S96x2048 .bf16) (xo10 : Vec F S1x32x64x128 .f32) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo10 = View.canon (gPieces x0 x1 x2 x3 x4 x5 x6 x7 x8 xo10) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo10)]
  unfold kernelRun0_B
  dsimp only
  sl_unfold_words
  have z2 : ∀ a : Fin 2, (![0, 0] : Fin 2 → Nat) a = 0 := by decide
  have r13 := fun Z r => View.readCov_fill (Val := Elt F) arg13.view (off := ![0, 0]) inb_S128x2048_S128x2048_0_0 Z [] r z2
  have r14 := fun Z r => View.readCov_fill (Val := Elt F) arg14.view (off := ![0, 0]) inb_S128x4096_S128x4096_0_0 Z [] r z2
  have r15 := fun Z r => View.readCov_fill (Val := Elt F) arg15.view (off := ![0, 0]) inb_S128x2048_S128x2048_0_0 Z [] r z2
  have r16 := fun Z r => View.readCov_fill (Val := Elt F) arg16.view (off := ![0, 0]) inb_S128x2048_S128x2048_0_0 Z [] r z2
  have l0 := View.ld_unit_lit (Val := Elt F) (S := S128x3072) (off := ![0, 0]) inb_S128x3072_S128x3072_0_0 x0 z2
  have l2 := View.ld_unit_lit (Val := Elt F) (S := S128x2048) (off := ![0, 0]) inb_S128x2048_S128x2048_0_0 x2 z2
  have l3 := View.ld_unit_lit (Val := Elt F) (S := S1x32) (off := ![0, 0]) inb_S1x32_S1x32_0_0 x3 z2
  have l4 := View.ld_unit_lit (Val := Elt F) (S := S1x32) (off := ![0, 0]) inb_S1x32_S1x32_0_0 x4 z2
  have l5 := View.ld_unit_lit (Val := Elt F) (S := S1x2048) (off := ![0, 0]) inb_S1x2048_S1x2048_0_0 x5 z2
  have l7 := View.ld_unit_lit (Val := Elt F) (S := S96x4096) (off := ![0, 0]) inb_S96x4096_S96x4096_0_0 x7 z2
  have l8 := View.ld_unit_lit (Val := Elt F) (S := S96x2048) (off := ![0, 0]) inb_S96x2048_S96x2048_0_0 x8 z2
  have l9 := fun (Z : Vec F S128x2048 .f32) => View.ld_unit_lit (Val := Elt F) (S := S128x2048) (off := ![0, 0]) inb_S128x2048_S128x2048_0_0 Z z2
  have r17 := fun L => (View.readCov_eq_canon' (Val := Elt F) arg17.view L (Rect.unit ![0, 0] S128x2048.size inb_S128x2048_S128x2048_0_0).toLoadRect).trans
    (View.ld_unit_lit (Val := Elt F) (S := S128x2048) (off := ![0, 0]) inb_S128x2048_S128x2048_0_0 (View.canon L) z2)
  simp only [View.readAt_eq_ld, harg2.read_unread, harg3.read_unread, harg4.read_unread, harg5.read_unread, harg6.read_unread, harg7.read_unread, harg8.read_unread, harg9.read_unread, harg10.read_unread, harg12.read_unread, r13, r14, r15, r16, r17, l0, l2, l3, l4, l5, l7, l8, l9, st_quad0, st_quad1, st_quad2, st_quad3, st_quad4, st_quad5, st_quad6, st_quad7, y_quad0, y_quad1, y_quad2, y_quad3, y_quad4, y_quad5, y_quad6, y_quad7, norm_group0, norm_group1, norm_group2, norm_group3, b_quad0, c_quad0, b_quad1, c_quad1, b_quad2, c_quad2, b_quad3, c_quad3]
  unfold gPieces gPiece gatedW yPieces yPiece quadY p512 p256 p4 ngG colhW colpW acW dtW
  rfl
set_option maxHeartbeats 800000 in
/-- The state after a first chunk. -/
theorem out_A_10 (c : Dev nD) (i : grid0.Coords) (arg2 : Memref sig .tc .vmem S128x3072 .f32) (harg2 : arg2.IsWhole) (arg3 : Memref sig .tc .vmem S128x128 .f32) (harg3 : arg3.IsWhole) (arg4 : Memref sig .tc .vmem S128x2048 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S96x4096 .bf16) (harg9 : arg9.IsWhole) (arg10 : Memref sig .tc .vmem S96x2048 .bf16) (harg10 : arg10.IsWhole) (arg11 : Memref sig .tc .vmem S128x2048 .bf16) (harg11 : arg11.IsWhole) (arg12 : Memref sig .tc .vmem S1x32x64x128 .f32) (harg12 : arg12.IsWhole) (arg13 : Memref sig .tc .vmem S128x2048 .f32) (harg13 : arg13.IsWhole) (arg14 : Memref sig .tc .vmem S128x4096 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (hc0 : cond0_0 i)
    (x0 : Vec F S128x3072 .f32) (x1 : Vec F S128x128 .f32) (x2 : Vec F S128x2048 .f32) (x3 : Vec F S1x32 .f32) (x4 : Vec F S1x32 .f32) (x5 : Vec F S1x2048 .f32) (x6 : Vec F S1x2048 .f32) (x7 : Vec F S96x4096 .bf16) (x8 : Vec F S96x2048 .bf16) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = View.canon (stPieces x0 x1 x3 x4 x7 x8 k0_pay3 ++ [zPiece]) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  have z2 : ∀ a : Fin 2, (![0, 0] : Fin 2 → Nat) a = 0 := by decide
  have r13 := fun Z r => View.readCov_fill (Val := Elt F) arg13.view (off := ![0, 0]) inb_S128x2048_S128x2048_0_0 Z [] r z2
  have r14 := fun Z r => View.readCov_fill (Val := Elt F) arg14.view (off := ![0, 0]) inb_S128x4096_S128x4096_0_0 Z [] r z2
  have r15 := fun Z r => View.readCov_fill (Val := Elt F) arg15.view (off := ![0, 0]) inb_S128x2048_S128x2048_0_0 Z [] r z2
  have r16 := fun Z r => View.readCov_fill (Val := Elt F) arg16.view (off := ![0, 0]) inb_S128x2048_S128x2048_0_0 Z [] r z2
  have l0 := View.ld_unit_lit (Val := Elt F) (S := S128x3072) (off := ![0, 0]) inb_S128x3072_S128x3072_0_0 x0 z2
  have l2 := View.ld_unit_lit (Val := Elt F) (S := S128x2048) (off := ![0, 0]) inb_S128x2048_S128x2048_0_0 x2 z2
  have l3 := View.ld_unit_lit (Val := Elt F) (S := S1x32) (off := ![0, 0]) inb_S1x32_S1x32_0_0 x3 z2
  have l4 := View.ld_unit_lit (Val := Elt F) (S := S1x32) (off := ![0, 0]) inb_S1x32_S1x32_0_0 x4 z2
  have l5 := View.ld_unit_lit (Val := Elt F) (S := S1x2048) (off := ![0, 0]) inb_S1x2048_S1x2048_0_0 x5 z2
  have l7 := View.ld_unit_lit (Val := Elt F) (S := S96x4096) (off := ![0, 0]) inb_S96x4096_S96x4096_0_0 x7 z2
  have l8 := View.ld_unit_lit (Val := Elt F) (S := S96x2048) (off := ![0, 0]) inb_S96x2048_S96x2048_0_0 x8 z2
  have l9 := fun (Z : Vec F S128x2048 .f32) => View.ld_unit_lit (Val := Elt F) (S := S128x2048) (off := ![0, 0]) inb_S128x2048_S128x2048_0_0 Z z2
  have z4 : ∀ a : Fin 4, (![0, 0, 0, 0] : Fin 4 → Nat) a = 0 := by decide
  have r12 := fun Z r => View.readCov_fill (Val := Elt F) arg12.view (off := ![0, 0, 0, 0]) inb_S1x32x64x128_S1x32x64x128_0_0_0_0 Z [] r z4
  have s01 := fun w L => View.readCov_skip (Val := Elt F) arg12.view (Rect.unit (s := S1x32x64x128) ![0, 0, 0, 0] S1x4x64x128.size inb_S1x32x64x128_S1x4x64x128_0_0_0_0) w L
    (Rect.unit (s := S1x32x64x128) ![0, 4, 0, 0] S1x4x64x128.size inb_S1x32x64x128_S1x4x64x128_0_4_0_0).toLoadRect (by decide +kernel)
  have s02 := fun w L => View.readCov_skip (Val := Elt F) arg12.view (Rect.unit (s := S1x32x64x128) ![0, 0, 0, 0] S1x4x64x128.size inb_S1x32x64x128_S1x4x64x128_0_0_0_0) w L
    (Rect.unit (s := S1x32x64x128) ![0, 8, 0, 0] S1x4x64x128.size inb_S1x32x64x128_S1x4x64x128_0_8_0_0).toLoadRect (by decide +kernel)
  have s12 := fun w L => View.readCov_skip (Val := Elt F) arg12.view (Rect.unit (s := S1x32x64x128) ![0, 4, 0, 0] S1x4x64x128.size inb_S1x32x64x128_S1x4x64x128_0_4_0_0) w L
    (Rect.unit (s := S1x32x64x128) ![0, 8, 0, 0] S1x4x64x128.size inb_S1x32x64x128_S1x4x64x128_0_8_0_0).toLoadRect (by decide +kernel)
  have s03 := fun w L => View.readCov_skip (Val := Elt F) arg12.view (Rect.unit (s := S1x32x64x128) ![0, 0, 0, 0] S1x4x64x128.size inb_S1x32x64x128_S1x4x64x128_0_0_0_0) w L
    (Rect.unit (s := S1x32x64x128) ![0, 12, 0, 0] S1x4x64x128.size inb_S1x32x64x128_S1x4x64x128_0_12_0_0).toLoadRect (by decide +kernel)
  have s13 := fun w L => View.readCov_skip (Val := Elt F) arg12.view (Rect.unit (s := S1x32x64x128) ![0, 4, 0, 0] S1x4x64x128.size inb_S1x32x64x128_S1x4x64x128_0_4_0_0) w L
    (Rect.unit (s := S1x32x64x128) ![0, 12, 0, 0] S1x4x64x128.size inb_S1x32x64x128_S1x4x64x128_0_12_0_0).toLoadRect (by decide +kernel)
  have s23 := fun w L => View.readCov_skip (Val := Elt F) arg12.view (Rect.unit (s := S1x32x64x128) ![0, 8, 0, 0] S1x4x64x128.size inb_S1x32x64x128_S1x4x64x128_0_8_0_0) w L
    (Rect.unit (s := S1x32x64x128) ![0, 12, 0, 0] S1x4x64x128.size inb_S1x32x64x128_S1x4x64x128_0_12_0_0).toLoadRect (by decide +kernel)
  have s04 := fun w L => View.readCov_skip (Val := Elt F) arg12.view (Rect.unit (s := S1x32x64x128) ![0, 0, 0, 0] S1x4x64x128.size inb_S1x32x64x128_S1x4x64x128_0_0_0_0) w L
    (Rect.unit (s := S1x32x64x128) ![0, 16, 0, 0] S1x4x64x128.size inb_S1x32x64x128_S1x4x64x128_0_16_0_0).toLoadRect (by decide +kernel)
  have s14 := fun w L => View.readCov_skip (Val := Elt F) arg12.view (Rect.unit (s := S1x32x64x128) ![0, 4, 0, 0] S1x4x64x128.size inb_S1x32x64x128_S1x4x64x128_0_4_0_0) w L
    (Rect.unit (s := S1x32x64x128) ![0, 16, 0, 0] S1x4x64x128.size inb_S1x32x64x128_S1x4x64x128_0_16_0_0).toLoadRect (by decide +kernel)
  have s24 := fun w L => View.readCov_skip (Val := Elt F) arg12.view (Rect.unit (s := S1x32x64x128) ![0, 8, 0, 0] S1x4x64x128.size inb_S1x32x64x128_S1x4x64x128_0_8_0_0) w L
    (Rect.unit (s := S1x32x64x128) ![0, 16, 0, 0] S1x4x64x128.size inb_S1x32x64x128_S1x4x64x128_0_16_0_0).toLoadRect (by decide +kernel)
  have s34 := fun w L => View.readCov_skip (Val := Elt F) arg12.view (Rect.unit (s := S1x32x64x128) ![0, 12, 0, 0] S1x4x64x128.size inb_S1x32x64x128_S1x4x64x128_0_12_0_0) w L
    (Rect.unit (s := S1x32x64x128) ![0, 16, 0, 0] S1x4x64x128.size inb_S1x32x64x128_S1x4x64x128_0_16_0_0).toLoadRect (by decide +kernel)
  have s05 := fun w L => View.readCov_skip (Val := Elt F) arg12.view (Rect.unit (s := S1x32x64x128) ![0, 0, 0, 0] S1x4x64x128.size inb_S1x32x64x128_S1x4x64x128_0_0_0_0) w L
    (Rect.unit (s := S1x32x64x128) ![0, 20, 0, 0] S1x4x64x128.size inb_S1x32x64x128_S1x4x64x128_0_20_0_0).toLoadRect (by decide +kernel)
  have s15 := fun w L => View.readCov_skip (Val := Elt F) arg12.view (Rect.unit (s := S1x32x64x128) ![0, 4, 0, 0] S1x4x64x128.size inb_S1x32x64x128_S1x4x64x128_0_4_0_0) w L
    (Rect.unit (s := S1x32x64x128) ![0, 20, 0, 0] S1x4x64x128.size inb_S1x32x64x128_S1x4x64x128_0_20_0_0).toLoadRect (by decide +kernel)
  have s25 := fun w L => View.readCov_skip (Val := Elt F) arg12.view (Rect.unit (s := S1x32x64x128) ![0, 8, 0, 0] S1x4x64x128.size inb_S1x32x64x128_S1x4x64x128_0_8_0_0) w L
    (Rect.unit (s := S1x32x64x128) ![0, 20, 0, 0] S1x4x64x128.size inb_S1x32x64x128_S1x4x64x128_0_20_0_0).toLoadRect (by decide +kernel)
  have s35 := fun w L => View.readCov_skip (Val := Elt F) arg12.view (Rect.unit (s := S1x32x64x128) ![0, 12, 0, 0] S1x4x64x128.size inb_S1x32x64x128_S1x4x64x128_0_12_0_0) w L
    (Rect.unit (s := S1x32x64x128) ![0, 20, 0, 0] S1x4x64x128.size inb_S1x32x64x128_S1x4x64x128_0_20_0_0).toLoadRect (by decide +kernel)
  have s45 := fun w L => View.readCov_skip (Val := Elt F) arg12.view (Rect.unit (s := S1x32x64x128) ![0, 16, 0, 0] S1x4x64x128.size inb_S1x32x64x128_S1x4x64x128_0_16_0_0) w L
    (Rect.unit (s := S1x32x64x128) ![0, 20, 0, 0] S1x4x64x128.size inb_S1x32x64x128_S1x4x64x128_0_20_0_0).toLoadRect (by decide +kernel)
  have s06 := fun w L => View.readCov_skip (Val := Elt F) arg12.view (Rect.unit (s := S1x32x64x128) ![0, 0, 0, 0] S1x4x64x128.size inb_S1x32x64x128_S1x4x64x128_0_0_0_0) w L
    (Rect.unit (s := S1x32x64x128) ![0, 24, 0, 0] S1x4x64x128.size inb_S1x32x64x128_S1x4x64x128_0_24_0_0).toLoadRect (by decide +kernel)
  have s16 := fun w L => View.readCov_skip (Val := Elt F) arg12.view (Rect.unit (s := S1x32x64x128) ![0, 4, 0, 0] S1x4x64x128.size inb_S1x32x64x128_S1x4x64x128_0_4_0_0) w L
    (Rect.unit (s := S1x32x64x128) ![0, 24, 0, 0] S1x4x64x128.size inb_S1x32x64x128_S1x4x64x128_0_24_0_0).toLoadRect (by decide +kernel)
  have s26 := fun w L => View.readCov_skip (Val := Elt F) arg12.view (Rect.unit (s := S1x32x64x128) ![0, 8, 0, 0] S1x4x64x128.size inb_S1x32x64x128_S1x4x64x128_0_8_0_0) w L
    (Rect.unit (s := S1x32x64x128) ![0, 24, 0, 0] S1x4x64x128.size inb_S1x32x64x128_S1x4x64x128_0_24_0_0).toLoadRect (by decide +kernel)
  have s36 := fun w L => View.readCov_skip (Val := Elt F) arg12.view (Rect.unit (s := S1x32x64x128) ![0, 12, 0, 0] S1x4x64x128.size inb_S1x32x64x128_S1x4x64x128_0_12_0_0) w L
    (Rect.unit (s := S1x32x64x128) ![0, 24, 0, 0] S1x4x64x128.size inb_S1x32x64x128_S1x4x64x128_0_24_0_0).toLoadRect (by decide +kernel)
  have s46 := fun w L => View.readCov_skip (Val := Elt F) arg12.view (Rect.unit (s := S1x32x64x128) ![0, 16, 0, 0] S1x4x64x128.size inb_S1x32x64x128_S1x4x64x128_0_16_0_0) w L
    (Rect.unit (s := S1x32x64x128) ![0, 24, 0, 0] S1x4x64x128.size inb_S1x32x64x128_S1x4x64x128_0_24_0_0).toLoadRect (by decide +kernel)
  have s56 := fun w L => View.readCov_skip (Val := Elt F) arg12.view (Rect.unit (s := S1x32x64x128) ![0, 20, 0, 0] S1x4x64x128.size inb_S1x32x64x128_S1x4x64x128_0_20_0_0) w L
    (Rect.unit (s := S1x32x64x128) ![0, 24, 0, 0] S1x4x64x128.size inb_S1x32x64x128_S1x4x64x128_0_24_0_0).toLoadRect (by decide +kernel)
  have s07 := fun w L => View.readCov_skip (Val := Elt F) arg12.view (Rect.unit (s := S1x32x64x128) ![0, 0, 0, 0] S1x4x64x128.size inb_S1x32x64x128_S1x4x64x128_0_0_0_0) w L
    (Rect.unit (s := S1x32x64x128) ![0, 28, 0, 0] S1x4x64x128.size inb_S1x32x64x128_S1x4x64x128_0_28_0_0).toLoadRect (by decide +kernel)
  have s17 := fun w L => View.readCov_skip (Val := Elt F) arg12.view (Rect.unit (s := S1x32x64x128) ![0, 4, 0, 0] S1x4x64x128.size inb_S1x32x64x128_S1x4x64x128_0_4_0_0) w L
    (Rect.unit (s := S1x32x64x128) ![0, 28, 0, 0] S1x4x64x128.size inb_S1x32x64x128_S1x4x64x128_0_28_0_0).toLoadRect (by decide +kernel)
  have s27 := fun w L => View.readCov_skip (Val := Elt F) arg12.view (Rect.unit (s := S1x32x64x128) ![0, 8, 0, 0] S1x4x64x128.size inb_S1x32x64x128_S1x4x64x128_0_8_0_0) w L
    (Rect.unit (s := S1x32x64x128) ![0, 28, 0, 0] S1x4x64x128.size inb_S1x32x64x128_S1x4x64x128_0_28_0_0).toLoadRect (by decide +kernel)
  have s37 := fun w L => View.readCov_skip (Val := Elt F) arg12.view (Rect.unit (s := S1x32x64x128) ![0, 12, 0, 0] S1x4x64x128.size inb_S1x32x64x128_S1x4x64x128_0_12_0_0) w L
    (Rect.unit (s := S1x32x64x128) ![0, 28, 0, 0] S1x4x64x128.size inb_S1x32x64x128_S1x4x64x128_0_28_0_0).toLoadRect (by decide +kernel)
  have s47 := fun w L => View.readCov_skip (Val := Elt F) arg12.view (Rect.unit (s := S1x32x64x128) ![0, 16, 0, 0] S1x4x64x128.size inb_S1x32x64x128_S1x4x64x128_0_16_0_0) w L
    (Rect.unit (s := S1x32x64x128) ![0, 28, 0, 0] S1x4x64x128.size inb_S1x32x64x128_S1x4x64x128_0_28_0_0).toLoadRect (by decide +kernel)
  have s57 := fun w L => View.readCov_skip (Val := Elt F) arg12.view (Rect.unit (s := S1x32x64x128) ![0, 20, 0, 0] S1x4x64x128.size inb_S1x32x64x128_S1x4x64x128_0_20_0_0) w L
    (Rect.unit (s := S1x32x64x128) ![0, 28, 0, 0] S1x4x64x128.size inb_S1x32x64x128_S1x4x64x128_0_28_0_0).toLoadRect (by decide +kernel)
  have s67 := fun w L => View.readCov_skip (Val := Elt F) arg12.view (Rect.unit (s := S1x32x64x128) ![0, 24, 0, 0] S1x4x64x128.size inb_S1x32x64x128_S1x4x64x128_0_24_0_0) w L
    (Rect.unit (s := S1x32x64x128) ![0, 28, 0, 0] S1x4x64x128.size inb_S1x32x64x128_S1x4x64x128_0_28_0_0).toLoadRect (by decide +kernel)
  simp only [View.readAt_eq_ld, harg2.read_unread, harg3.read_unread, harg4.read_unread, harg5.read_unread, harg6.read_unread, harg7.read_unread, harg8.read_unread, harg9.read_unread, harg10.read_unread, r12, s01, s02, s12, s03, s13, s23, s04, s14, s24, s34, s05, s15, s25, s35, s45, s06, s16, s26, s36, s46, s56, s07, s17, s27, s37, s47, s57, s67, r13, r14, r15, r16, l0, l2, l3, l4, l5, l7, l8, l9, st_quad0, st_quad1, st_quad2, st_quad3, st_quad4, st_quad5, st_quad6, st_quad7, y_quad0, y_quad1, y_quad2, y_quad3, y_quad4, y_quad5, y_quad6, y_quad7, norm_group0, norm_group1, norm_group2, norm_group3]
  rfl
set_option maxHeartbeats 800000 in
/-- The output block of a first chunk. -/
theorem out_A_9 (c : Dev nD) (i : grid0.Coords) (arg2 : Memref sig .tc .vmem S128x3072 .f32) (harg2 : arg2.IsWhole) (arg3 : Memref sig .tc .vmem S128x128 .f32) (harg3 : arg3.IsWhole) (arg4 : Memref sig .tc .vmem S128x2048 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S96x4096 .bf16) (harg9 : arg9.IsWhole) (arg10 : Memref sig .tc .vmem S96x2048 .bf16) (harg10 : arg10.IsWhole) (arg11 : Memref sig .tc .vmem S128x2048 .bf16) (harg11 : arg11.IsWhole) (arg12 : Memref sig .tc .vmem S1x32x64x128 .f32) (harg12 : arg12.IsWhole) (arg13 : Memref sig .tc .vmem S128x2048 .f32) (harg13 : arg13.IsWhole) (arg14 : Memref sig .tc .vmem S128x4096 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (hc0 : cond0_0 i)
    (x0 : Vec F S128x3072 .f32) (x1 : Vec F S128x128 .f32) (x2 : Vec F S128x2048 .f32) (x3 : Vec F S1x32 .f32) (x4 : Vec F S1x32 .f32) (x5 : Vec F S1x2048 .f32) (x6 : Vec F S1x2048 .f32) (x7 : Vec F S96x4096 .bf16) (x8 : Vec F S96x2048 .bf16) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = View.canon (gPieces x0 x1 x2 x3 x4 x5 x6 x7 x8 k0_pay3) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  have z2 : ∀ a : Fin 2, (![0, 0] : Fin 2 → Nat) a = 0 := by decide
  have r13 := fun Z r => View.readCov_fill (Val := Elt F) arg13.view (off := ![0, 0]) inb_S128x2048_S128x2048_0_0 Z [] r z2
  have r14 := fun Z r => View.readCov_fill (Val := Elt F) arg14.view (off := ![0, 0]) inb_S128x4096_S128x4096_0_0 Z [] r z2
  have r15 := fun Z r => View.readCov_fill (Val := Elt F) arg15.view (off := ![0, 0]) inb_S128x2048_S128x2048_0_0 Z [] r z2
  have r16 := fun Z r => View.readCov_fill (Val := Elt F) arg16.view (off := ![0, 0]) inb_S128x2048_S128x2048_0_0 Z [] r z2
  have l0 := View.ld_unit_lit (Val := Elt F) (S := S128x3072) (off := ![0, 0]) inb_S128x3072_S128x3072_0_0 x0 z2
  have l2 := View.ld_unit_lit (Val := Elt F) (S := S128x2048) (off := ![0, 0]) inb_S128x2048_S128x2048_0_0 x2 z2
  have l3 := View.ld_unit_lit (Val := Elt F) (S := S1x32) (off := ![0, 0]) inb_S1x32_S1x32_0_0 x3 z2
  have l4 := View.ld_unit_lit (Val := Elt F) (S := S1x32) (off := ![0, 0]) inb_S1x32_S1x32_0_0 x4 z2
  have l5 := View.ld_unit_lit (Val := Elt F) (S := S1x2048) (off := ![0, 0]) inb_S1x2048_S1x2048_0_0 x5 z2
  have l7 := View.ld_unit_lit (Val := Elt F) (S := S96x4096) (off := ![0, 0]) inb_S96x4096_S96x4096_0_0 x7 z2
  have l8 := View.ld_unit_lit (Val := Elt F) (S := S96x2048) (off := ![0, 0]) inb_S96x2048_S96x2048_0_0 x8 z2
  have l9 := fun (Z : Vec F S128x2048 .f32) => View.ld_unit_lit (Val := Elt F) (S := S128x2048) (off := ![0, 0]) inb_S128x2048_S128x2048_0_0 Z z2
  have r17 := fun L => (View.readCov_eq_canon' (Val := Elt F) arg17.view L (Rect.unit ![0, 0] S128x2048.size inb_S128x2048_S128x2048_0_0).toLoadRect).trans
    (View.ld_unit_lit (Val := Elt F) (S := S128x2048) (off := ![0, 0]) inb_S128x2048_S128x2048_0_0 (View.canon L) z2)
  have z4 : ∀ a : Fin 4, (![0, 0, 0, 0] : Fin 4 → Nat) a = 0 := by decide
  have r12 := fun Z r => View.readCov_fill (Val := Elt F) arg12.view (off := ![0, 0, 0, 0]) inb_S1x32x64x128_S1x32x64x128_0_0_0_0 Z [] r z4
  have s01 := fun w L => View.readCov_skip (Val := Elt F) arg12.view (Rect.unit (s := S1x32x64x128) ![0, 0, 0, 0] S1x4x64x128.size inb_S1x32x64x128_S1x4x64x128_0_0_0_0) w L
    (Rect.unit (s := S1x32x64x128) ![0, 4, 0, 0] S1x4x64x128.size inb_S1x32x64x128_S1x4x64x128_0_4_0_0).toLoadRect (by decide +kernel)
  have s02 := fun w L => View.readCov_skip (Val := Elt F) arg12.view (Rect.unit (s := S1x32x64x128) ![0, 0, 0, 0] S1x4x64x128.size inb_S1x32x64x128_S1x4x64x128_0_0_0_0) w L
    (Rect.unit (s := S1x32x64x128) ![0, 8, 0, 0] S1x4x64x128.size inb_S1x32x64x128_S1x4x64x128_0_8_0_0).toLoadRect (by decide +kernel)
  have s12 := fun w L => View.readCov_skip (Val := Elt F) arg12.view (Rect.unit (s := S1x32x64x128) ![0, 4, 0, 0] S1x4x64x128.size inb_S1x32x64x128_S1x4x64x128_0_4_0_0) w L
    (Rect.unit (s := S1x32x64x128) ![0, 8, 0, 0] S1x4x64x128.size inb_S1x32x64x128_S1x4x64x128_0_8_0_0).toLoadRect (by decide +kernel)
  have s03 := fun w L => View.readCov_skip (Val := Elt F) arg12.view (Rect.unit (s := S1x32x64x128) ![0, 0, 0, 0] S1x4x64x128.size inb_S1x32x64x128_S1x4x64x128_0_0_0_0) w L
    (Rect.unit (s := S1x32x64x128) ![0, 12, 0, 0] S1x4x64x128.size inb_S1x32x64x128_S1x4x64x128_0_12_0_0).toLoadRect (by decide +kernel)
  have s13 := fun w L => View.readCov_skip (Val := Elt F) arg12.view (Rect.unit (s := S1x32x64x128) ![0, 4, 0, 0] S1x4x64x128.size inb_S1x32x64x128_S1x4x64x128_0_4_0_0) w L
    (Rect.unit (s := S1x32x64x128) ![0, 12, 0, 0] S1x4x64x128.size inb_S1x32x64x128_S1x4x64x128_0_12_0_0).toLoadRect (by decide +kernel)
  have s23 := fun w L => View.readCov_skip (Val := Elt F) arg12.view (Rect.unit (s := S1x32x64x128) ![0, 8, 0, 0] S1x4x64x128.size inb_S1x32x64x128_S1x4x64x128_0_8_0_0) w L
    (Rect.unit (s := S1x32x64x128) ![0, 12, 0, 0] S1x4x64x128.size inb_S1x32x64x128_S1x4x64x128_0_12_0_0).toLoadRect (by decide +kernel)
  have s04 := fun w L => View.readCov_skip (Val := Elt F) arg12.view (Rect.unit (s := S1x32x64x128) ![0, 0, 0, 0] S1x4x64x128.size inb_S1x32x64x128_S1x4x64x128_0_0_0_0) w L
    (Rect.unit (s := S1x32x64x128) ![0, 16, 0, 0] S1x4x64x128.size inb_S1x32x64x128_S1x4x64x128_0_16_0_0).toLoadRect (by decide +kernel)
  have s14 := fun w L => View.readCov_skip (Val := Elt F) arg12.view (Rect.unit (s := S1x32x64x128) ![0, 4, 0, 0] S1x4x64x128.size inb_S1x32x64x128_S1x4x64x128_0_4_0_0) w L
    (Rect.unit (s := S1x32x64x128) ![0, 16, 0, 0] S1x4x64x128.size inb_S1x32x64x128_S1x4x64x128_0_16_0_0).toLoadRect (by decide +kernel)
  have s24 := fun w L => View.readCov_skip (Val := Elt F) arg12.view (Rect.unit (s := S1x32x64x128) ![0, 8, 0, 0] S1x4x64x128.size inb_S1x32x64x128_S1x4x64x128_0_8_0_0) w L
    (Rect.unit (s := S1x32x64x128) ![0, 16, 0, 0] S1x4x64x128.size inb_S1x32x64x128_S1x4x64x128_0_16_0_0).toLoadRect (by decide +kernel)
  have s34 := fun w L => View.readCov_skip (Val := Elt F) arg12.view (Rect.unit (s := S1x32x64x128) ![0, 12, 0, 0] S1x4x64x128.size inb_S1x32x64x128_S1x4x64x128_0_12_0_0) w L
    (Rect.unit (s := S1x32x64x128) ![0, 16, 0, 0] S1x4x64x128.size inb_S1x32x64x128_S1x4x64x128_0_16_0_0).toLoadRect (by decide +kernel)
  have s05 := fun w L => View.readCov_skip (Val := Elt F) arg12.view (Rect.unit (s := S1x32x64x128) ![0, 0, 0, 0] S1x4x64x128.size inb_S1x32x64x128_S1x4x64x128_0_0_0_0) w L
    (Rect.unit (s := S1x32x64x128) ![0, 20, 0, 0] S1x4x64x128.size inb_S1x32x64x128_S1x4x64x128_0_20_0_0).toLoadRect (by decide +kernel)
  have s15 := fun w L => View.readCov_skip (Val := Elt F) arg12.view (Rect.unit (s := S1x32x64x128) ![0, 4, 0, 0] S1x4x64x128.size inb_S1x32x64x128_S1x4x64x128_0_4_0_0) w L
    (Rect.unit (s := S1x32x64x128) ![0, 20, 0, 0] S1x4x64x128.size inb_S1x32x64x128_S1x4x64x128_0_20_0_0).toLoadRect (by decide +kernel)
  have s25 := fun w L => View.readCov_skip (Val := Elt F) arg12.view (Rect.unit (s := S1x32x64x128) ![0, 8, 0, 0] S1x4x64x128.size inb_S1x32x64x128_S1x4x64x128_0_8_0_0) w L
    (Rect.unit (s := S1x32x64x128) ![0, 20, 0, 0] S1x4x64x128.size inb_S1x32x64x128_S1x4x64x128_0_20_0_0).toLoadRect (by decide +kernel)
  have s35 := fun w L => View.readCov_skip (Val := Elt F) arg12.view (Rect.unit (s := S1x32x64x128) ![0, 12, 0, 0] S1x4x64x128.size inb_S1x32x64x128_S1x4x64x128_0_12_0_0) w L
    (Rect.unit (s := S1x32x64x128) ![0, 20, 0, 0] S1x4x64x128.size inb_S1x32x64x128_S1x4x64x128_0_20_0_0).toLoadRect (by decide +kernel)
  have s45 := fun w L => View.readCov_skip (Val := Elt F) arg12.view (Rect.unit (s := S1x32x64x128) ![0, 16, 0, 0] S1x4x64x128.size inb_S1x32x64x128_S1x4x64x128_0_16_0_0) w L
    (Rect.unit (s := S1x32x64x128) ![0, 20, 0, 0] S1x4x64x128.size inb_S1x32x64x128_S1x4x64x128_0_20_0_0).toLoadRect (by decide +kernel)
  have s06 := fun w L => View.readCov_skip (Val := Elt F) arg12.view (Rect.unit (s := S1x32x64x128) ![0, 0, 0, 0] S1x4x64x128.size inb_S1x32x64x128_S1x4x64x128_0_0_0_0) w L
    (Rect.unit (s := S1x32x64x128) ![0, 24, 0, 0] S1x4x64x128.size inb_S1x32x64x128_S1x4x64x128_0_24_0_0).toLoadRect (by decide +kernel)
  have s16 := fun w L => View.readCov_skip (Val := Elt F) arg12.view (Rect.unit (s := S1x32x64x128) ![0, 4, 0, 0] S1x4x64x128.size inb_S1x32x64x128_S1x4x64x128_0_4_0_0) w L
    (Rect.unit (s := S1x32x64x128) ![0, 24, 0, 0] S1x4x64x128.size inb_S1x32x64x128_S1x4x64x128_0_24_0_0).toLoadRect (by decide +kernel)
  have s26 := fun w L => View.readCov_skip (Val := Elt F) arg12.view (Rect.unit (s := S1x32x64x128) ![0, 8, 0, 0] S1x4x64x128.size inb_S1x32x64x128_S1x4x64x128_0_8_0_0) w L
    (Rect.unit (s := S1x32x64x128) ![0, 24, 0, 0] S1x4x64x128.size inb_S1x32x64x128_S1x4x64x128_0_24_0_0).toLoadRect (by decide +kernel)
  have s36 := fun w L => View.readCov_skip (Val := Elt F) arg12.view (Rect.unit (s := S1x32x64x128) ![0, 12, 0, 0] S1x4x64x128.size inb_S1x32x64x128_S1x4x64x128_0_12_0_0) w L
    (Rect.unit (s := S1x32x64x128) ![0, 24, 0, 0] S1x4x64x128.size inb_S1x32x64x128_S1x4x64x128_0_24_0_0).toLoadRect (by decide +kernel)
  have s46 := fun w L => View.readCov_skip (Val := Elt F) arg12.view (Rect.unit (s := S1x32x64x128) ![0, 16, 0, 0] S1x4x64x128.size inb_S1x32x64x128_S1x4x64x128_0_16_0_0) w L
    (Rect.unit (s := S1x32x64x128) ![0, 24, 0, 0] S1x4x64x128.size inb_S1x32x64x128_S1x4x64x128_0_24_0_0).toLoadRect (by decide +kernel)
  have s56 := fun w L => View.readCov_skip (Val := Elt F) arg12.view (Rect.unit (s := S1x32x64x128) ![0, 20, 0, 0] S1x4x64x128.size inb_S1x32x64x128_S1x4x64x128_0_20_0_0) w L
    (Rect.unit (s := S1x32x64x128) ![0, 24, 0, 0] S1x4x64x128.size inb_S1x32x64x128_S1x4x64x128_0_24_0_0).toLoadRect (by decide +kernel)
  have s07 := fun w L => View.readCov_skip (Val := Elt F) arg12.view (Rect.unit (s := S1x32x64x128) ![0, 0, 0, 0] S1x4x64x128.size inb_S1x32x64x128_S1x4x64x128_0_0_0_0) w L
    (Rect.unit (s := S1x32x64x128) ![0, 28, 0, 0] S1x4x64x128.size inb_S1x32x64x128_S1x4x64x128_0_28_0_0).toLoadRect (by decide +kernel)
  have s17 := fun w L => View.readCov_skip (Val := Elt F) arg12.view (Rect.unit (s := S1x32x64x128) ![0, 4, 0, 0] S1x4x64x128.size inb_S1x32x64x128_S1x4x64x128_0_4_0_0) w L
    (Rect.unit (s := S1x32x64x128) ![0, 28, 0, 0] S1x4x64x128.size inb_S1x32x64x128_S1x4x64x128_0_28_0_0).toLoadRect (by decide +kernel)
  have s27 := fun w L => View.readCov_skip (Val := Elt F) arg12.view (Rect.unit (s := S1x32x64x128) ![0, 8, 0, 0] S1x4x64x128.size inb_S1x32x64x128_S1x4x64x128_0_8_0_0) w L
    (Rect.unit (s := S1x32x64x128) ![0, 28, 0, 0] S1x4x64x128.size inb_S1x32x64x128_S1x4x64x128_0_28_0_0).toLoadRect (by decide +kernel)
  have s37 := fun w L => View.readCov_skip (Val := Elt F) arg12.view (Rect.unit (s := S1x32x64x128) ![0, 12, 0, 0] S1x4x64x128.size inb_S1x32x64x128_S1x4x64x128_0_12_0_0) w L
    (Rect.unit (s := S1x32x64x128) ![0, 28, 0, 0] S1x4x64x128.size inb_S1x32x64x128_S1x4x64x128_0_28_0_0).toLoadRect (by decide +kernel)
  have s47 := fun w L => View.readCov_skip (Val := Elt F) arg12.view (Rect.unit (s := S1x32x64x128) ![0, 16, 0, 0] S1x4x64x128.size inb_S1x32x64x128_S1x4x64x128_0_16_0_0) w L
    (Rect.unit (s := S1x32x64x128) ![0, 28, 0, 0] S1x4x64x128.size inb_S1x32x64x128_S1x4x64x128_0_28_0_0).toLoadRect (by decide +kernel)
  have s57 := fun w L => View.readCov_skip (Val := Elt F) arg12.view (Rect.unit (s := S1x32x64x128) ![0, 20, 0, 0] S1x4x64x128.size inb_S1x32x64x128_S1x4x64x128_0_20_0_0) w L
    (Rect.unit (s := S1x32x64x128) ![0, 28, 0, 0] S1x4x64x128.size inb_S1x32x64x128_S1x4x64x128_0_28_0_0).toLoadRect (by decide +kernel)
  have s67 := fun w L => View.readCov_skip (Val := Elt F) arg12.view (Rect.unit (s := S1x32x64x128) ![0, 24, 0, 0] S1x4x64x128.size inb_S1x32x64x128_S1x4x64x128_0_24_0_0) w L
    (Rect.unit (s := S1x32x64x128) ![0, 28, 0, 0] S1x4x64x128.size inb_S1x32x64x128_S1x4x64x128_0_28_0_0).toLoadRect (by decide +kernel)
  simp only [View.readAt_eq_ld, harg2.read_unread, harg3.read_unread, harg4.read_unread, harg5.read_unread, harg6.read_unread, harg7.read_unread, harg8.read_unread, harg9.read_unread, harg10.read_unread, r12, s01, s02, s12, s03, s13, s23, s04, s14, s24, s34, s05, s15, s25, s35, s45, s06, s16, s26, s36, s46, s56, s07, s17, s27, s37, s47, s57, s67, r13, r14, r15, r16, r17, l0, l2, l3, l4, l5, l7, l8, l9, st_quad0, st_quad1, st_quad2, st_quad3, st_quad4, st_quad5, st_quad6, st_quad7, y_quad0, y_quad1, y_quad2, y_quad3, y_quad4, y_quad5, y_quad6, y_quad7, norm_group0, norm_group1, norm_group2, norm_group3, b_quad0, c_quad0, b_quad1, c_quad1, b_quad2, c_quad2, b_quad3, c_quad3]
  unfold gPieces gPiece gatedW yPieces yPiece quadY p512 p256 p4 ngG colhW colpW acW dtW
  rfl

end Cert.KernelIdeal.Scan
end
-- ==== Proof.Layer.lean ====
/-
  The layer on numbers: the state carried chunk by chunk over each sequence, the outputs of every position from it, the gate
  and the norm over the groups of columns. Both programs are read as this.
-/
module

public import proofs.«01_k».proof.Proof.Chunk

@[expose] public section

set_option maxRecDepth 16384
noncomputable section

namespace Cert.Scan
open Idealize.ShloMosaic Idealize.ShloMosaic.TcCoe Idealize.SL.Sem

/-- The head of a column. -/
def hOf (j : Fin 2048) : Fin 32 := ⟨j.val / 64, by omega⟩
/-- The channel of a column. -/
def pOf (j : Fin 2048) : Fin 64 := ⟨j.val % 64, by omega⟩

/-- A column of group `g`. -/
def c512 (g : Fin 4) (s : Fin 512) : Fin 2048 := ⟨512 * g.val + s.val, by omega⟩
/-- The group of a column. -/
def gColumn (j : Fin 2048) : Fin 4 := ⟨j.val / 512, by omega⟩

/-- A gated value over its group's root mean square, times the column's scale. -/
def rmsAt (v : Fin 2048 → EReal) (ng : Fin 2048 → EReal) (j : Fin 2048) : EReal :=
  v j * Ideal.rsqrt (Ideal.div (∑ t : Fin 512, v (c512 (gColumn j) t) * v (c512 (gColumn j) t)) (Ideal.ofBits .f32 0x44000000#32)
    + Ideal.ofBits .f32 0x358637BD#32) * ng j

/-- The layer's arguments, as numbers. -/
structure Args where
  /-- The convolved projection: the heads' inputs, then `B`, then `C`. -/
  xbc : Fin 2 → Fin 8192 → Fin 3072 → EReal
  /-- The raw time steps. -/
  dt : Fin 2 → Fin 8192 → Fin 32 → EReal
  /-- The gate. -/
  z : Fin 2 → Fin 8192 → Fin 2048 → EReal
  /-- The bias of the time steps. -/
  bias : Fin 32 → EReal
  /-- The logarithm of the decay rates. -/
  aLog : Fin 32 → EReal
  /-- The skip's weight. -/
  skip : Fin 32 → EReal
  /-- The norm's scale. -/
  scale : Fin 2048 → EReal

/-- Position `l` of chunk `k`. -/
def pos (k : Fin 64) (l : Fin 128) : Fin 8192 := ⟨128 * k.val + l.val, by omega⟩
/-- The chunk of a position. -/
def chunkOf (r : Fin 8192) : Fin 64 := ⟨r.val / 128, by omega⟩
/-- A position's place in its chunk. -/
def inChunk (r : Fin 8192) : Fin 128 := ⟨r.val % 128, by omega⟩

/-- A position is its chunk's and its place in the chunk's. -/
theorem pos_split (r : Fin 8192) : pos (chunkOf r) (inChunk r) = r := Fin.ext (by simp only [pos, chunkOf, inChunk]; omega)

namespace Args
variable (a : Args)

/-- Chunk `k` of sequence `b`. -/
def blk (b : Fin 2) (k : Fin 64) : Blk where
  x l h p := a.xbc b (pos k l) ⟨64 * h.val + p.val, by omega⟩
  B l g n := a.xbc b (pos k l) ⟨2048 + 128 * g.val + n.val, by omega⟩
  C l g n := a.xbc b (pos k l) ⟨2560 + 128 * g.val + n.val, by omega⟩
  dt l h := softp (a.dt b (pos k l) h + a.bias h)
  A h := 0 - Ideal.exp (a.aLog h)

/-- The state before chunk `k`: zero before the first. -/
def state (b : Fin 2) : ℕ → Fin 32 → Fin 64 → Fin 128 → EReal
  | 0 => fun _ _ _ => 0
  | k + 1 => (a.blk b ⟨k % 64, Nat.mod_lt _ (by decide)⟩).next (state b k)

/-- The output with the skip, times the gate. -/
def gated (b : Fin 2) (r : Fin 8192) (j : Fin 2048) : EReal :=
  ((a.blk b (chunkOf r)).out (a.state b (chunkOf r).val) (inChunk r) (hOf j) (pOf j)
      + a.skip (hOf j) * (a.blk b (chunkOf r)).x (inChunk r) (hOf j) (pOf j))
    * (a.z b r j * Ideal.logistic (a.z b r j))

/-- The result at a position and a column. -/
def result (b : Fin 2) (r : Fin 8192) (j : Fin 2048) : EReal := rmsAt (a.gated b r) a.scale j

end Args
end Cert.Scan
end
-- ==== Proof.OutsAt.lean ====
/-
  The two outputs of one grid point, read at an index over the extended reals: the state is the chunk's next state, and the
  output is the chunk's output with the skip, the gate and the group norm.
-/
module

public import proofs.«01_k».proof.Proof.BlockAt
public import proofs.«01_k».proof.Proof.Outs
public import proofs.«01_k».proof.Proof.Layer
public import Idealize.ShloMosaic.Lib.Pipeline.ValueKit.Tiles

@[expose] public section

set_option maxRecDepth 16384
noncomputable section

namespace Cert.KernelIdeal.Scan
open Cert.KernelIdeal Cert.KernelIdeal.Gen Idealize.ShloMosaic Idealize.ShloMosaic.TcCoe Idealize.SL.Sem

open Cert.Scan

/-- Head `4q + i`. -/
def hd (q : Fin 8) (i : Fin 4) : Fin 32 := ⟨4 * q.val + i.val, by omega⟩

/-- The group of a head of a quad. -/
theorem grp_hd (q : Fin 8) (i : Fin 4) : grp (hd q i) = gOf q := by
  apply Fin.ext; simp only [grp, hd, gOf]; omega

/-- A quad's part of an array with a head's lanes. -/
theorem p512_apply (v : Vec Ideal S128x4096 .f32) (q : Fin 8) (l : Fin 128) (i : Fin 4) (s : Fin 128) :
    p512 v q (ix2 l (at512 i s)) = v (ix2 l (c128 (hd q i) s)) :=
  View.ld_unit_apply_of v _ _ _ _ _ fun a => by
    fin_cases a
    · simp
    · simp [at512, c128, hd]; omega

/-- A quad's part of an array with a head's columns. -/
theorem p256_apply (v : Vec Ideal S128x2048 .f32) (q : Fin 8) (l : Fin 128) (i : Fin 4) (p : Fin 64) :
    p256 v q (ix2 l (at256 i p)) = v (ix2 l (c64 (hd q i) p)) :=
  View.ld_unit_apply_of v _ _ _ _ _ fun a => by
    fin_cases a
    · simp
    · simp [at256, c64, hd]; omega

/-- A quad's part of the state. -/
theorem p4_apply (v : Vec Ideal S1x32x64x128 .f32) (q : Fin 8) (i : Fin 4) (p : Fin 64) (n : Fin 128) :
    p4 v q (ix4 0 i p n) = v (ix4 0 (hd q i) p n) :=
  View.ld_unit_apply_of v _ _ _ _ _ fun a => by
    fin_cases a <;> simp [hd]

section
variable (x0 : Vec Ideal S128x3072 .f32) (x1 : Vec Ideal S128x128 .f32) (x2 : Vec Ideal S128x2048 .f32) (x3 x4 : Vec Ideal S1x32 .f32)
  (x5 x6 : Vec Ideal S1x2048 .f32) (x7 : Vec Ideal S96x4096 .bf16) (x8 : Vec Ideal S96x2048 .bf16) (h : FVec Ideal S1x32x64x128 .f32)
  (hx7 : ∀ (r : Fin 96) (j : Fin 4096), x7 (ix2 r j) = if r.val % 32 = j.val / 128 then (1 : EReal) else 0)
  (hx8 : ∀ (r : Fin 96) (j : Fin 2048), x8 (ix2 r j) = if r.val % 32 = j.val / 64 then (1 : EReal) else 0)
  (hk : (blkW x0 x1 x3 x4).Tame)

/-- The state before the block, per head, channel and state coordinate. -/
def stateIn : Fin 32 → Fin 64 → Fin 128 → EReal := fun hh p n => h (ix4 0 hh p n)

include hx7 hx8 hk in
/-- A quad's next state is the layer's. -/
theorem quadSt_apply (q : Fin 8) (i : Fin 4) (p : Fin 64) (n : Fin 128) :
    quadSt x0 x1 x3 x4 x7 x8 h q (ix4 0 i p n) = (blkW x0 x1 x3 x4).next (stateIn h) (hd q i) p n := by
  rw [quadSt, stQ_apply]
  simp only [p512_apply, p256_apply, p4_apply, colhW_apply x0 x1 x3 x4 x7 hx7 hk, colpW_apply x0 x1 x3 x4 x8 hx8 hk,
    dtpW_apply x0 x1 x3 x4 x8 hx8 hk, x_apply x0 x1 x3 x4, bG_apply x0 x1 x3 x4, ← grp_hd q i]
  rfl

/-- A quad's decays as a row. -/
theorem acRow_apply (hk : (blkW x0 x1 x3 x4).Tame) (q : Fin 8) (i : Fin 4) (s : Fin 128) :
    rowQ (k0_pay24 (acW x1 x3 x4)) q (ix2 0 (at512 i s)) = (blkW x0 x1 x3 x4).acum s (hd q i) := by
  rw [rowQ_apply, acT_apply, acW_apply x0 x1 x3 x4 hk]; rfl

/-- A quad's steps as a row. -/
theorem dtRow_apply (q : Fin 8) (i : Fin 4) (s : Fin 128) :
    rowQ (k0_pay25 (dtW x1 x3)) q (ix2 0 (at512 i s)) = (blkW x0 x1 x3 x4).dt s (hd q i) := by
  rw [rowQ_apply, dtT_apply]; rfl

include hx7 hx8 hk in
/-- A quad's output is the layer's. -/
theorem quadY_apply (q : Fin 8) (l : Fin 128) (i : Fin 4) (p : Fin 64) :
    quadY x0 x1 x3 x4 x7 x8 h q (ix2 l (at256 i p)) = (blkW x0 x1 x3 x4).out (stateIn h) l (hd q i) p := by
  rw [quadY, yQ_apply]
  simp only [wQ_apply, cbQ_apply, tri_select, acRow_apply x0 x1 x3 x4 hk, dtRow_apply x0 x1 x3 x4, p512_apply, p256_apply, p4_apply, colhW_apply x0 x1 x3 x4 x7 hx7 hk, colpW_apply x0 x1 x3 x4 x8 hx8 hk,
    x_apply x0 x1 x3 x4, bG_apply x0 x1 x3 x4, cG_apply x0 x1 x3 x4, ← grp_hd q i]
  rfl

include hx7 hx8 hk in
/-- A stored piece of the state. -/
theorem stPiece_apply (q : Fin 8) (x : S1x4x64x128.Idx) :
    quadSt x0 x1 x3 x4 x7 x8 h q x
      = (fun y : S1x32x64x128.Idx => (blkW x0 x1 x3 x4).next (stateIn h) (y 1) (y 2) (y 3))
          ((Rect.unit (s := S1x32x64x128) ![0, 4 * q.val, 0, 0] S1x4x64x128.size (inb4 q)).emb x) := by
  obtain ⟨a, i, p, n, rfl⟩ : ∃ (a : Fin 1) (i : Fin 4) (p : Fin 64) (n : Fin 128), x = ix4 a i p n := ⟨_, _, _, _, eq_ix4 x⟩
  obtain rfl : a = 0 := Subsingleton.elim _ _
  rw [quadSt_apply x0 x1 x3 x4 x7 x8 h hx7 hx8 hk]
  have e1 : hd q i = (Rect.unit (s := S1x32x64x128) ![0, 4 * q.val, 0, 0] S1x4x64x128.size (inb4 q)).emb (ix4 0 i p n) 1 :=
    Fin.ext (by show 4 * q.val + i.val = 4 * q.val + 1 * i.val; omega)
  have e2 : p = (Rect.unit (s := S1x32x64x128) ![0, 4 * q.val, 0, 0] S1x4x64x128.size (inb4 q)).emb (ix4 0 i p n) 2 :=
    Fin.ext (by show p.val = 0 + 1 * p.val; omega)
  have e3 : n = (Rect.unit (s := S1x32x64x128) ![0, 4 * q.val, 0, 0] S1x4x64x128.size (inb4 q)).emb (ix4 0 i p n) 3 :=
    Fin.ext (by show n.val = 0 + 1 * n.val; omega)
  exact congr (congr (congrArg _ e1) e2) e3

/-- Which quad, and which of its heads, head `hh` is. -/
theorem hd_surj (hh : Fin 32) : ∃ (q : Fin 8) (i : Fin 4), hh = hd q i :=
  ⟨⟨hh.val / 4, by omega⟩, ⟨hh.val % 4, by omega⟩, Fin.ext (by simp only [hd]; omega)⟩

/-- Each quad's piece of the state is among those stored. -/
theorem stPieces_mem (q : Fin 8) : stPiece x0 x1 x3 x4 x7 x8 h q ∈ stPieces x0 x1 x3 x4 x7 x8 h := by
  fin_cases q <;> simp [stPieces]
/-- Each quad's piece of the output is among those stored. -/
theorem yPieces_mem (q : Fin 8) : yPiece x0 x1 x3 x4 x7 x8 h q ∈ yPieces x0 x1 x3 x4 x7 x8 h := by
  fin_cases q <;> simp [yPieces]
/-- Each group's piece of the result is among those stored. -/
theorem gPieces_mem (g : Fin 4) : gPiece x0 x1 x2 x3 x4 x5 x6 x7 x8 h g ∈ gPieces x0 x1 x2 x3 x4 x5 x6 x7 x8 h := by
  fin_cases g <;> simp [gPieces]

/-- A stored piece of the state is some quad's. -/
theorem mem_stPieces {q : View.Piece (Elt Ideal) S1x32x64x128 .f32} (hq : q ∈ stPieces x0 x1 x3 x4 x7 x8 h) : ∃ r, q = stPiece x0 x1 x3 x4 x7 x8 h r := by
  simp only [stPieces, List.mem_cons, List.not_mem_nil, or_false] at hq
  rcases hq with e | e | e | e | e | e | e | e <;> exact ⟨_, e⟩
/-- A stored piece of the output is some quad's. -/
theorem mem_yPieces {q : View.Piece (Elt Ideal) S128x2048 .f32} (hq : q ∈ yPieces x0 x1 x3 x4 x7 x8 h) : ∃ r, q = yPiece x0 x1 x3 x4 x7 x8 h r := by
  simp only [yPieces, List.mem_cons, List.not_mem_nil, or_false] at hq
  rcases hq with e | e | e | e | e | e | e | e <;> exact ⟨_, e⟩
/-- A stored piece of the result is some group's. -/
theorem mem_gPieces {q : View.Piece (Elt Ideal) S128x2048 .bf16} (hq : q ∈ gPieces x0 x1 x2 x3 x4 x5 x6 x7 x8 h) :
    ∃ r, q = gPiece x0 x1 x2 x3 x4 x5 x6 x7 x8 h r := by
  simp only [gPieces, List.mem_cons, List.not_mem_nil, or_false] at hq
  rcases hq with e | e | e | e <;> exact ⟨_, e⟩

/-- Every place of the state lies in a quad's piece. -/
theorem st_covers (hh : Fin 32) (p : Fin 64) (n : Fin 128) :
    ∃ q ∈ stPieces x0 x1 x3 x4 x7 x8 h, (ix4 0 hh p n : S1x32x64x128.Idx) ∈ q.1.set := by
  obtain ⟨q, i, rfl⟩ := hd_surj hh
  refine ⟨_, stPieces_mem x0 x1 x3 x4 x7 x8 h q, ?_⟩
  show _ ∈ (Rect.unit (s := S1x32x64x128) ![0, 4 * q.val, 0, 0] S1x4x64x128.size (inb4 q)).set
  rw [Rect.mem_set_unit]
  intro a; fin_cases a <;> simp [hd]

include hx7 hx8 hk in
/-- The state at a later chunk is the chunk's next state. -/
theorem state_apply (hh : Fin 32) (p : Fin 64) (n : Fin 128) :
    View.canon (stPieces x0 x1 x3 x4 x7 x8 h) (ix4 0 hh p n) = (blkW x0 x1 x3 x4).next (stateIn h) hh p n :=
  View.canon_apply_of_pieces (fun y : S1x32x64x128.Idx => (blkW x0 x1 x3 x4).next (stateIn h) (y 1) (y 2) (y 3)) _
    (fun q hq x => by
      obtain ⟨r, rfl⟩ := mem_stPieces x0 x1 x3 x4 x7 x8 h hq
      exact stPiece_apply x0 x1 x3 x4 x7 x8 h hx7 hx8 hk r x) _ (st_covers x0 x1 x3 x4 x7 x8 h hh p n)

include hx7 hx8 hk in
/-- The same at a first chunk, where the store of zero lies beneath. -/
theorem state_apply_first (hh : Fin 32) (p : Fin 64) (n : Fin 128) :
    View.canon (stPieces x0 x1 x3 x4 x7 x8 h ++ [zPiece]) (ix4 0 hh p n) = (blkW x0 x1 x3 x4).next (stateIn h) hh p n :=
  View.canon_append_of_pieces (fun y : S1x32x64x128.Idx => (blkW x0 x1 x3 x4).next (stateIn h) (y 1) (y 2) (y 3)) _ _
    (fun q hq x => by
      obtain ⟨r, rfl⟩ := mem_stPieces x0 x1 x3 x4 x7 x8 h hq
      exact stPiece_apply x0 x1 x3 x4 x7 x8 h hx7 hx8 hk r x) _ (st_covers x0 x1 x3 x4 x7 x8 h hh p n)

/-- The head and the channel of a column of 64 lanes per head. -/
theorem c64_surj (j : Fin 2048) : ∃ hh p, j = c64 hh p :=
  ⟨⟨j.val / 64, by omega⟩, ⟨j.val % 64, by omega⟩, Fin.ext (by simp only [c64]; omega)⟩

include hx7 hx8 hk in
/-- A stored piece of the output. -/
theorem yPiece_apply (q : Fin 8) (x : S128x256.Idx) :
    quadY x0 x1 x3 x4 x7 x8 h q x
      = (fun y : S128x2048.Idx => (blkW x0 x1 x3 x4).out (stateIn h) (y 0) (hOf (y 1)) (pOf (y 1)))
          ((Rect.unit (s := S128x2048) ![0, 256 * q.val] S128x256.size (inb256 q)).emb x) := by
  obtain ⟨l, j, rfl⟩ : ∃ (l : Fin 128) (j : Fin 256), x = ix2 l j := ⟨_, _, eq_ix2 x⟩
  obtain ⟨i, p, rfl⟩ : ∃ (i : Fin 4) (p : Fin 64), j = at256 i p :=
    ⟨⟨j.val / 64, by omega⟩, ⟨j.val % 64, by omega⟩, Fin.ext (by simp only [at256]; omega)⟩
  rw [quadY_apply x0 x1 x3 x4 x7 x8 h hx7 hx8 hk]
  have e0 : l = (Rect.unit (s := S128x2048) ![0, 256 * q.val] S128x256.size (inb256 q)).emb (ix2 l (at256 i p)) 0 :=
    Fin.ext (by show l.val = 0 + 1 * l.val; omega)
  have e1 : (Rect.unit (s := S128x2048) ![0, 256 * q.val] S128x256.size (inb256 q)).emb (ix2 l (at256 i p)) 1 = c64 (hd q i) p :=
    Fin.ext (by show 256 * q.val + 1 * (64 * i.val + p.val) = 64 * (4 * q.val + i.val) + p.val; omega)
  have e2 : hd q i = hOf (c64 (hd q i) p) := Fin.ext (by simp only [hOf, c64]; omega)
  have e3 : p = pOf (c64 (hd q i) p) := Fin.ext (by simp only [pOf, c64]; omega)
  refine congr (congr (congrArg _ e0) (e2.trans (congrArg hOf e1.symm))) (e3.trans (congrArg pOf e1.symm))

include hx7 hx8 hk in
/-- The output before the skip and the gate, at a position and a column. -/
theorem y_apply (l : Fin 128) (j : Fin 2048) :
    View.canon (yPieces x0 x1 x3 x4 x7 x8 h) (ix2 l j) = (blkW x0 x1 x3 x4).out (stateIn h) l (hOf j) (pOf j) :=
  View.canon_apply_of_pieces (fun y : S128x2048.Idx => (blkW x0 x1 x3 x4).out (stateIn h) (y 0) (hOf (y 1)) (pOf (y 1))) _
    (fun q hq x => by
      obtain ⟨r, rfl⟩ := mem_yPieces x0 x1 x3 x4 x7 x8 h hq
      exact yPiece_apply x0 x1 x3 x4 x7 x8 h hx7 hx8 hk r x) _
    ⟨_, yPieces_mem x0 x1 x3 x4 x7 x8 h ⟨j.val / 256, by omega⟩, by
      show _ ∈ (Rect.unit (s := S128x2048) ![0, 256 * (j.val / 256)] S128x256.size (inb256 ⟨j.val / 256, by omega⟩)).set
      rw [Rect.mem_set_unit]
      intro a; fin_cases a
      · simp
      · simp; omega⟩

include hx7 hx8 hk in
/-- The gated output, at a position and a column. -/
theorem gated_apply (l : Fin 128) (j : Fin 2048) :
    gatedW x0 x1 x2 x3 x4 x5 x7 x8 h (ix2 l j)
      = ((blkW x0 x1 x3 x4).out (stateIn h) l (hOf j) (pOf j) + x5 (ix2 0 j) * (blkW x0 x1 x3 x4).x l (hOf j) (pOf j))
        * (x2 (ix2 l j) * Ideal.logistic (x2 (ix2 l j))) := by
  have e : j = c64 (hOf j) (pOf j) := Fin.ext (by simp only [hOf, pOf, c64]; omega)
  rw [← y_apply x0 x1 x3 x4 x7 x8 h hx7 hx8 hk l j, ← x_apply x0 x1 x3 x4 l (hOf j) (pOf j), ← e]
  pointwise [gatedW, k0_pay84]

/-- Group `g`'s norm, at a position and one of its columns. -/
theorem normG_apply (v : FVec Ideal S128x2048 .f32) (ng : FVec Ideal S1x512 .f32) (g : Fin 4) (l : Fin 128) (s : Fin 512) :
    normG v ng g (ix2 l s)
      = v (ix2 l (c512 g s)) * Ideal.rsqrt (Ideal.div (∑ t : Fin 512, v (ix2 l (c512 g t)) * v (ix2 l (c512 g t))) (Ideal.ofBits .f32 0x44000000#32) + Ideal.ofBits .f32 0x358637BD#32)
        * ng (ix2 0 s) := by
  pointwise [normG, c512]

/-- A stored piece of the result. -/
theorem gPiece_apply (g : Fin 4) (x : S128x512.Idx) :
    (gPiece x0 x1 x2 x3 x4 x5 x6 x7 x8 h g).2 x
      = (fun y : S128x2048.Idx => rmsAt (fun j => gatedW x0 x1 x2 x3 x4 x5 x7 x8 h (ix2 (y 0) j)) (fun j => x6 (ix2 0 j)) (y 1))
          ((gPiece x0 x1 x2 x3 x4 x5 x6 x7 x8 h g).1.emb x) := by
  obtain ⟨l, s, rfl⟩ : ∃ (l : Fin 128) (s : Fin 512), x = ix2 l s := ⟨_, _, eq_ix2 x⟩
  show normG (gatedW x0 x1 x2 x3 x4 x5 x7 x8 h) (ngG x6 g) g (ix2 l s)
    = (fun y : S128x2048.Idx => rmsAt (fun j => gatedW x0 x1 x2 x3 x4 x5 x7 x8 h (ix2 (y 0) j)) (fun j => x6 (ix2 0 j)) (y 1))
        ((Rect.unit (s := S128x2048) ![0, 512 * g.val] S128x512.size (inbG g)).emb (ix2 l s))
  have e0 : (Rect.unit (s := S128x2048) ![0, 512 * g.val] S128x512.size (inbG g)).emb (ix2 l s) 0 = l :=
    Fin.ext (by show 0 + 1 * l.val = l.val; omega)
  have e1 : (Rect.unit (s := S128x2048) ![0, 512 * g.val] S128x512.size (inbG g)).emb (ix2 l s) 1 = c512 g s :=
    Fin.ext (by show 512 * g.val + 1 * s.val = 512 * g.val + s.val; omega)
  have e2 : gColumn (c512 g s) = g := Fin.ext (by simp only [gColumn, c512]; omega)
  have e3 : ngG x6 g (ix2 0 s) = x6 (ix2 0 (c512 g s)) :=
    View.ld_unit_apply_of _ _ _ _ _ _ (fun a => by fin_cases a <;> rfl)
  beta_reduce
  rw [normG_apply, e0, e1, e3, rmsAt, e2]

/-- A point's block of the result, at a position and a column. -/
theorem g_apply (l : Fin 128) (j : Fin 2048) :
    View.canon (gPieces x0 x1 x2 x3 x4 x5 x6 x7 x8 h) (ix2 l j)
      = rmsAt (fun j => gatedW x0 x1 x2 x3 x4 x5 x7 x8 h (ix2 l j)) (fun j => x6 (ix2 0 j)) j :=
  View.canon_apply_of_pieces (fun y : S128x2048.Idx => rmsAt (fun j => gatedW x0 x1 x2 x3 x4 x5 x7 x8 h (ix2 (y 0) j)) (fun j => x6 (ix2 0 j)) (y 1)) _
    (fun q hq x => by
      obtain ⟨r, rfl⟩ := mem_gPieces x0 x1 x2 x3 x4 x5 x6 x7 x8 h hq
      exact gPiece_apply x0 x1 x2 x3 x4 x5 x6 x7 x8 h r x) _
    ⟨_, gPieces_mem x0 x1 x2 x3 x4 x5 x6 x7 x8 h (gColumn j), by
      show _ ∈ (Rect.unit (s := S128x2048) ![0, 512 * (gColumn j).val] S128x512.size (inbG (gColumn j))).set
      rw [Rect.mem_set_unit]
      intro a; fin_cases a
      · simp
      · simp [gColumn]; omega⟩
end

end Cert.KernelIdeal.Scan
end
-- ==== Proof.PointsAt.lean ====
module

public import proofs.«01_k».proof.Proof.OutsAt
public import proofs.«01_k».proof.Proof.Gen.KernelIdeal.Value
public import Idealize.ShloMosaic.Lib.Claim
public import Idealize.ShloMosaic.Lib.KernelVsHost
public import Idealize.ShloMosaic.Lib.Pipeline.ValueKit

@[expose] public section

set_option maxHeartbeats 400000

noncomputable section

namespace Cert.KernelIdeal.Scan

open Cert.KernelIdeal Cert.KernelIdeal.Gen Cert.Scan Idealize.ShloMosaic Idealize.ShloMosaic.TcCoe Idealize.SL.Sem

variable (m : (ℓ : Loc nD τ sig) → Buf (Elt Ideal) ℓ) (c : Dev nD)

/-- Where each window's block lies, at each of the 128 points. -/
theorem places : ∀ t : Fin cfg0.N, win0_0.index t = ![t.val, 0] ∧ win0_1.index t = ![t.val, 1] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val / 64, 0, 0, 0] := by
  decide +kernel

/-- The batch row of a row of the flattened arrays. -/
def bOf (r : Fin 16384) : Fin 2 := ⟨r.val / 8192, by omega⟩
/-- The position of a row of the flattened arrays. -/
def lOf (r : Fin 16384) : Fin 8192 := ⟨r.val % 8192, by omega⟩

/-- The steps padded to the right half of 256 lanes, read at one of the 32 heads. -/
theorem padded_dt (X : Vec Ideal S2x8192x32 .f32) (z : Vec Ideal S_ .f32) (r : Fin 16384) (h : Fin 32) :
    pad S16384x256 ![0, 128] ![0, 96] ![0, 0] (shapeCast S16384x32 X shapeCasts_S2x8192x32_S16384x32) z
      pads_S16384x32_S16384x256_000_128960 h_S_ (ix2 r ⟨128 + h.val, by omega⟩) = X (ix3 (bOf r) (lOf r) h) := by
  rw [pad_apply_of_inside _ _ _ _ _ _ _ _ (ix2 r h) (by intro a; fin_cases a <;> simp)]
  pointwise [bOf, lOf]

/-- The padded steps hold the argument in their second lanes. -/
theorem V_dt (r : Fin 16384) (h : Fin 32) : V m c main_v1 (ix2 r ⟨128 + h.val, by omega⟩) = m ((c : Thread nD τ).loc main_arg1) (ix3 (bOf r) (lOf r) h) := by
  simp only [V, hostOps0, hostOps0_1, hostOps0_2, List.flatten_cons, List.flatten_nil, List.append_nil, List.cons_append, List.nil_append]
  entry_read
  exact padded_dt _ _ r h

/-- The flattened inputs. -/
theorem V_xbc (r : Fin 16384) (j : Fin 3072) : V m c main_v2 (ix2 r j) = m ((c : Thread nD τ).loc main_arg0) (ix3 (bOf r) (lOf r) j) := by
  simp only [V, hostOps0, hostOps0_1, hostOps0_2, List.flatten_cons, List.flatten_nil, List.append_nil, List.cons_append, List.nil_append]
  entry_read
  pointwise [bOf, lOf]
/-- The skip weights, repeated over a head's columns. -/
theorem V_ds (j : Fin 2048) : V m c main_v9 (ix2 0 j) = m ((c : Thread nD τ).loc main_arg5) (ix1 (hOf j)) := by
  simp only [V, hostOps0, hostOps0_1, hostOps0_2, List.flatten_cons, List.flatten_nil, List.append_nil, List.cons_append, List.nil_append]
  entry_read
  pointwise [hOf]

/-- The one-hot of 128 lanes a head, stacked three times, from the buffer of its one copy. -/
theorem stacked_eh (σ : Valuation τ sig (Elt Ideal)) : StableHlo.after (List.drop 16 hostOps0_2) σ (Proc.devRef .tc main_v19)
    = (uitofp (F := Ideal) .bf16 (concatenate S96x4096 0 [⟨S32x4096, (σ (Proc.devRef .tc main_v17) : Vec Ideal S32x4096 .i1)⟩, ⟨S32x4096, (σ (Proc.devRef .tc main_v17) : Vec Ideal S32x4096 .i1)⟩, ⟨S32x4096, (σ (Proc.devRef .tc main_v17) : Vec Ideal S32x4096 .i1)⟩] concatenates_S32x4096_S32x4096_S32x4096_S96x4096_d0) : Vec Ideal S96x4096 .bf16) := by
  simp only [hostOps0_2, List.drop_succ_cons, List.drop_zero, StableHlo.after_cons, StableHlo.after_nil]
  after_results_simp
  rfl

/-- One copy of the one-hot of 128 lanes a head: 1 on head `b`'s lanes. -/
theorem one_eh (σ : Valuation τ sig (Elt Ideal)) (b : Fin 32) (j : Fin 4096) : StableHlo.after (List.take 16 hostOps0_2) σ (Proc.devRef .tc main_v17) (ix2 b j)
    = if b.val = j.val / 128 then 1#1 else 0#1 := by
  simp only [hostOps0_2, List.take_succ_cons, List.take_zero, StableHlo.after_cons, StableHlo.after_nil]
  after_results_simp
  pointwise
  rw [WordCmp.cmpi_eq_ofNat (by omega) (by omega)]
  split_ifs with hb
  · rw [decide_eq_true hb]; rfl
  · rw [decide_eq_false hb]; rfl

/-- Three copies stacked, as numbers, read in copy `a`. -/
theorem three_eh (X : Vec Ideal S32x4096 .i1) (a : Fin 3) (b : Fin 32) (j : Fin 4096) :
    (uitofp (F := Ideal) .bf16 (concatenate S96x4096 0 [⟨S32x4096, X⟩, ⟨S32x4096, X⟩, ⟨S32x4096, X⟩] concatenates_S32x4096_S32x4096_S32x4096_S96x4096_d0) : Vec Ideal S96x4096 .bf16)
      (ix2 ⟨32 * a.val + b.val, by omega⟩ j) = (((X (ix2 b j) : BitVec 1).toNat : ℝ) : EReal) := by
  fin_cases a <;> pointwise <;> simp [show ¬ 32 + b.val < 32 by omega, show ¬ 64 + b.val < 32 by omega, show ¬ 64 + b.val - 32 < 32 by omega, show 64 + b.val - 32 - 32 = b.val by omega, show 32 + b.val - 32 = b.val by omega] <;> rfl

/-- The one-hot matrix of 128 lanes a head: 1 where the row's head is the column's. -/
theorem V_eh (r : Fin 96) (j : Fin 4096) : V m c main_v19 (ix2 r j) = (if r.val % 32 = j.val / 128 then 1 else 0 : EReal) := by
  obtain ⟨a, b, rfl⟩ : ∃ (a : Fin 3) (b : Fin 32), r = ⟨32 * a.val + b.val, by omega⟩ :=
    ⟨⟨r.val / 32, by omega⟩, ⟨r.val % 32, by omega⟩, Fin.ext (by show r.val = 32 * (r.val / 32) + r.val % 32; omega)⟩
  show StableHlo.after (List.drop 16 hostOps0_2) (StableHlo.after (List.take 16 hostOps0_2) (StableHlo.after hostOps0_1 (StableHlo.after hostOps0 (fun b => m (c, b))))) (Proc.devRef .tc main_v19) _ = _
  have h := one_eh (StableHlo.after hostOps0_1 (StableHlo.after hostOps0 (fun b => m (c, b)))) b j
  rw [stacked_eh]
  refine (three_eh _ a b j).trans ?_
  rw [h]
  have e : (32 * a.val + b.val) % 32 = b.val := by omega
  simp only [e]
  split_ifs <;> simp

/-- The one-hot of 64 lanes a head, stacked three times, from the buffer of its one copy. -/
theorem stacked_ep (σ : Valuation τ sig (Elt Ideal)) : StableHlo.after (List.drop 25 hostOps0_2) σ (Proc.devRef .tc main_v28)
    = (uitofp (F := Ideal) .bf16 (concatenate S96x2048 0 [⟨S32x2048, (σ (Proc.devRef .tc main_v26) : Vec Ideal S32x2048 .i1)⟩, ⟨S32x2048, (σ (Proc.devRef .tc main_v26) : Vec Ideal S32x2048 .i1)⟩, ⟨S32x2048, (σ (Proc.devRef .tc main_v26) : Vec Ideal S32x2048 .i1)⟩] concatenates_S32x2048_S32x2048_S32x2048_S96x2048_d0) : Vec Ideal S96x2048 .bf16) := by
  simp only [hostOps0_2, List.drop_succ_cons, List.drop_zero, StableHlo.after_cons, StableHlo.after_nil]
  after_results_simp
  rfl

/-- One copy of the one-hot of 64 lanes a head: 1 on head `b`'s lanes. -/
theorem one_ep (σ : Valuation τ sig (Elt Ideal)) (b : Fin 32) (j : Fin 2048) : StableHlo.after (List.take 25 hostOps0_2) σ (Proc.devRef .tc main_v26) (ix2 b j)
    = if b.val = j.val / 64 then 1#1 else 0#1 := by
  simp only [hostOps0_2, List.take_succ_cons, List.take_zero, StableHlo.after_cons, StableHlo.after_nil]
  after_results_simp
  pointwise
  rw [WordCmp.cmpi_eq_ofNat (by omega) (by omega)]
  split_ifs with hb
  · rw [decide_eq_true hb]; rfl
  · rw [decide_eq_false hb]; rfl

/-- Three copies stacked, as numbers, read in copy `a`. -/
theorem three_ep (X : Vec Ideal S32x2048 .i1) (a : Fin 3) (b : Fin 32) (j : Fin 2048) :
    (uitofp (F := Ideal) .bf16 (concatenate S96x2048 0 [⟨S32x2048, X⟩, ⟨S32x2048, X⟩, ⟨S32x2048, X⟩] concatenates_S32x2048_S32x2048_S32x2048_S96x2048_d0) : Vec Ideal S96x2048 .bf16)
      (ix2 ⟨32 * a.val + b.val, by omega⟩ j) = (((X (ix2 b j) : BitVec 1).toNat : ℝ) : EReal) := by
  fin_cases a <;> pointwise <;> simp [show ¬ 32 + b.val < 32 by omega, show ¬ 64 + b.val < 32 by omega, show ¬ 64 + b.val - 32 < 32 by omega, show 64 + b.val - 32 - 32 = b.val by omega, show 32 + b.val - 32 = b.val by omega] <;> rfl

/-- The one-hot matrix of 64 lanes a head: 1 where the row's head is the column's. -/
theorem V_ep (r : Fin 96) (j : Fin 2048) : V m c main_v28 (ix2 r j) = (if r.val % 32 = j.val / 64 then 1 else 0 : EReal) := by
  obtain ⟨a, b, rfl⟩ : ∃ (a : Fin 3) (b : Fin 32), r = ⟨32 * a.val + b.val, by omega⟩ :=
    ⟨⟨r.val / 32, by omega⟩, ⟨r.val % 32, by omega⟩, Fin.ext (by show r.val = 32 * (r.val / 32) + r.val % 32; omega)⟩
  show StableHlo.after (List.drop 25 hostOps0_2) (StableHlo.after (List.take 25 hostOps0_2) (StableHlo.after hostOps0_1 (StableHlo.after hostOps0 (fun b => m (c, b))))) (Proc.devRef .tc main_v28) _ = _
  have h := one_ep (StableHlo.after hostOps0_1 (StableHlo.after hostOps0 (fun b => m (c, b)))) b j
  rw [stacked_ep]
  refine (three_ep _ a b j).trans ?_
  rw [h]
  have e : (32 * a.val + b.val) % 32 = b.val := by omega
  simp only [e]
  split_ifs <;> simp

/-- The flattened gate. -/
theorem V_z (r : Fin 16384) (j : Fin 2048) : V m c main_v3 (ix2 r j) = m ((c : Thread nD τ).loc main_arg2) (ix3 (bOf r) (lOf r) j) := by
  simp only [V, hostOps0, hostOps0_1, hostOps0_2, List.flatten_cons, List.flatten_nil, List.append_nil, List.cons_append, List.nil_append]
  entry_read
  pointwise [bOf, lOf]
/-- The steps' bias as a row. -/
theorem V_db (h : Fin 32) : V m c main_v5 (ix2 0 h) = m ((c : Thread nD τ).loc main_arg3) (ix1 h) := by
  simp only [V, hostOps0, hostOps0_1, hostOps0_2, List.flatten_cons, List.flatten_nil, List.append_nil, List.cons_append, List.nil_append]
  entry_read
  pointwise
/-- The rates' logarithms as a row. -/
theorem V_al (h : Fin 32) : V m c main_v6 (ix2 0 h) = m ((c : Thread nD τ).loc main_arg4) (ix1 h) := by
  simp only [V, hostOps0, hostOps0_1, hostOps0_2, List.flatten_cons, List.flatten_nil, List.append_nil, List.cons_append, List.nil_append]
  entry_read
  pointwise
/-- The norm's scale as a row. -/
theorem V_ng (j : Fin 2048) : V m c main_v10 (ix2 0 j) = m ((c : Thread nD τ).loc main_arg6) (ix1 j) := by
  simp only [V, hostOps0, hostOps0_1, hostOps0_2, List.flatten_cons, List.flatten_nil, List.append_nil, List.cons_append, List.nil_append]
  entry_read
  pointwise
end Cert.KernelIdeal.Scan
-- ==== Proof.Carry.lean ====
/-
  The kernel's arrays after the run: each point's blocks as parts of the arguments, the state carried from point to point,
  and the two results as the layer's numbers.
-/
module

public import proofs.«01_k».proof.Proof.PointsAt
public import proofs.«01_k».proof.Proof.Layer

@[expose] public section

set_option maxRecDepth 16384
set_option maxHeartbeats 400000
noncomputable section

namespace Cert.KernelIdeal.Scan

open Cert.KernelIdeal Cert.KernelIdeal.Gen Cert.Scan Idealize.ShloMosaic Idealize.ShloMosaic.TcCoe Idealize.SL.Sem

variable (m : (ℓ : Loc nD τ sig) → Buf (Elt Ideal) ℓ) (c : Dev nD)

/-- The kernel's arguments, as numbers. -/
def argsK : Args where
  xbc b r j := m ((c : Thread nD τ).loc main_arg0) (ix3 b r j)
  dt b r h := m ((c : Thread nD τ).loc main_arg1) (ix3 b r h)
  z b r j := m ((c : Thread nD τ).loc main_arg2) (ix3 b r j)
  bias h := m ((c : Thread nD τ).loc main_arg3) (ix1 h)
  aLog h := m ((c : Thread nD τ).loc main_arg4) (ix1 h)
  skip h := m ((c : Thread nD τ).loc main_arg5) (ix1 h)
  scale j := m ((c : Thread nD τ).loc main_arg6) (ix1 j)

/-- The sequence of a point. -/
def bAt (t : Fin cfg0.N) : Fin 2 := ⟨t.val / 64, by have : t.val < 128 := t.isLt; omega⟩
/-- The chunk of a point. -/
def kAt (t : Fin cfg0.N) : Fin 64 := ⟨t.val % 64, by omega⟩
/-- A point's row of the flattened arrays. -/
def rowAt (t : Fin cfg0.N) (l : Fin 128) : Fin 16384 := ⟨t.val * 128 + l.val, by have : t.val < 128 := t.isLt; omega⟩

/-- The sequence of a point's row. -/
theorem bOf_rowAt (t : Fin cfg0.N) (l : Fin 128) : bOf (rowAt t l) = bAt t := Fin.ext (by simp only [bOf, rowAt, bAt]; omega)
/-- The position of a point's row. -/
theorem lOf_rowAt (t : Fin cfg0.N) (l : Fin 128) : lOf (rowAt t l) = pos (kAt t) l := Fin.ext (by simp only [lOf, rowAt, pos, kAt]; omega)

/-- A point's block of the projection. -/
theorem b0 (t : Fin cfg0.N) (l : Fin 128) (j : Fin 3072) : iblk m c 0 t (ix2 l j) = (argsK m c).xbc (bAt t) (pos (kAt t) l) j := by
  obtain ⟨p0, p1, p2, p3, p4, p5, p6, p7, p8, p9, p10⟩ := places t
  rw [← bOf_rowAt t l, ← lOf_rowAt t l]
  refine Eq.trans ?_ (V_xbc m c (rowAt t l) j)
  unfold iblk
  rw [View.read_apply]
  show V m c main_v2 _ = V m c main_v2 _
  congr 1
  funext a
  apply Fin.ext
  match a with
  | ⟨0, _⟩ => show win0_0.index t 0 * 128 + 1 * l.val = t.val * 128 + l.val; rw [p0]; simp
  | ⟨1, _⟩ => show win0_0.index t 1 * 3072 + 1 * j.val = j.val; rw [p0]; simp
/-- A point's block of the steps. -/
theorem b1 (t : Fin cfg0.N) (l : Fin 128) (h : Fin 32) : iblk m c 1 t (ix2 l ⟨h.val, by omega⟩) = (argsK m c).dt (bAt t) (pos (kAt t) l) h := by
  obtain ⟨p0, p1, p2, p3, p4, p5, p6, p7, p8, p9, p10⟩ := places t
  rw [← bOf_rowAt t l, ← lOf_rowAt t l]
  refine Eq.trans ?_ (V_dt m c (rowAt t l) h)
  unfold iblk
  rw [View.read_apply]
  show V m c main_v1 _ = V m c main_v1 _
  congr 1
  funext a
  apply Fin.ext
  match a with
  | ⟨0, _⟩ => show win0_1.index t 0 * 128 + 1 * l.val = t.val * 128 + l.val; rw [p1]; simp
  | ⟨1, _⟩ => show win0_1.index t 1 * 128 + 1 * h.val = 128 + h.val; rw [p1]; simp
/-- A point's block of the gate. -/
theorem b2 (t : Fin cfg0.N) (l : Fin 128) (j : Fin 2048) : iblk m c 2 t (ix2 l j) = (argsK m c).z (bAt t) (pos (kAt t) l) j := by
  obtain ⟨p0, p1, p2, p3, p4, p5, p6, p7, p8, p9, p10⟩ := places t
  rw [← bOf_rowAt t l, ← lOf_rowAt t l]
  refine Eq.trans ?_ (V_z m c (rowAt t l) j)
  unfold iblk
  rw [View.read_apply]
  show V m c main_v3 _ = V m c main_v3 _
  congr 1
  funext a
  apply Fin.ext
  match a with
  | ⟨0, _⟩ => show win0_2.index t 0 * 128 + 1 * l.val = t.val * 128 + l.val; rw [p2]; simp
  | ⟨1, _⟩ => show win0_2.index t 1 * 2048 + 1 * j.val = j.val; rw [p2]; simp
/-- A point's block of window 3: the whole row. -/
theorem b3 (t : Fin cfg0.N) (j : Fin 32) : iblk m c 3 t (ix2 0 j) = (argsK m c).bias j := by
  obtain ⟨p0, p1, p2, p3, p4, p5, p6, p7, p8, p9, p10⟩ := places t
  refine Eq.trans ?_ (V_db m c j)
  unfold iblk
  rw [View.read_apply]
  show V m c main_v5 _ = V m c main_v5 _
  congr 1
  funext a
  apply Fin.ext
  match a with
  | ⟨0, _⟩ => show win0_3.index t 0 * 1 + 1 * 0 = 0; rw [p3]; simp
  | ⟨1, _⟩ => show win0_3.index t 1 * 32 + 1 * j.val = j.val; rw [p3]; simp
/-- A point's block of window 4: the whole row. -/
theorem b4 (t : Fin cfg0.N) (j : Fin 32) : iblk m c 4 t (ix2 0 j) = (argsK m c).aLog j := by
  obtain ⟨p0, p1, p2, p3, p4, p5, p6, p7, p8, p9, p10⟩ := places t
  refine Eq.trans ?_ (V_al m c j)
  unfold iblk
  rw [View.read_apply]
  show V m c main_v6 _ = V m c main_v6 _
  congr 1
  funext a
  apply Fin.ext
  match a with
  | ⟨0, _⟩ => show win0_4.index t 0 * 1 + 1 * 0 = 0; rw [p4]; simp
  | ⟨1, _⟩ => show win0_4.index t 1 * 32 + 1 * j.val = j.val; rw [p4]; simp
/-- A point's block of window 5: the whole row. -/
theorem b5 (t : Fin cfg0.N) (j : Fin 2048) : iblk m c 5 t (ix2 0 j) = (argsK m c).skip (hOf j) := by
  obtain ⟨p0, p1, p2, p3, p4, p5, p6, p7, p8, p9, p10⟩ := places t
  refine Eq.trans ?_ (V_ds m c j)
  unfold iblk
  rw [View.read_apply]
  show V m c main_v9 _ = V m c main_v9 _
  congr 1
  funext a
  apply Fin.ext
  match a with
  | ⟨0, _⟩ => show win0_5.index t 0 * 1 + 1 * 0 = 0; rw [p5]; simp
  | ⟨1, _⟩ => show win0_5.index t 1 * 2048 + 1 * j.val = j.val; rw [p5]; simp
/-- A point's block of window 6: the whole row. -/
theorem b6 (t : Fin cfg0.N) (j : Fin 2048) : iblk m c 6 t (ix2 0 j) = (argsK m c).scale j := by
  obtain ⟨p0, p1, p2, p3, p4, p5, p6, p7, p8, p9, p10⟩ := places t
  refine Eq.trans ?_ (V_ng m c j)
  unfold iblk
  rw [View.read_apply]
  show V m c main_v10 _ = V m c main_v10 _
  congr 1
  funext a
  apply Fin.ext
  match a with
  | ⟨0, _⟩ => show win0_6.index t 0 * 1 + 1 * 0 = 0; rw [p6]; simp
  | ⟨1, _⟩ => show win0_6.index t 1 * 2048 + 1 * j.val = j.val; rw [p6]; simp
/-- A point's block of window 7: the whole one-hot matrix. -/
theorem b7 (t : Fin cfg0.N) (r : Fin 96) (j : Fin 4096) : iblk m c 7 t (ix2 r j) = (if r.val % 32 = j.val / 128 then 1 else 0 : EReal) := by
  obtain ⟨p0, p1, p2, p3, p4, p5, p6, p7, p8, p9, p10⟩ := places t
  refine Eq.trans ?_ (V_eh m c r j)
  unfold iblk
  rw [View.read_apply]
  show V m c main_v19 _ = V m c main_v19 _
  congr 1
  funext a
  apply Fin.ext
  match a with
  | ⟨0, _⟩ => show win0_7.index t 0 * 96 + 1 * r.val = r.val; rw [p7]; simp
  | ⟨1, _⟩ => show win0_7.index t 1 * 4096 + 1 * j.val = j.val; rw [p7]; simp
/-- A point's block of window 8: the whole one-hot matrix. -/
theorem b8 (t : Fin cfg0.N) (r : Fin 96) (j : Fin 2048) : iblk m c 8 t (ix2 r j) = (if r.val % 32 = j.val / 64 then 1 else 0 : EReal) := by
  obtain ⟨p0, p1, p2, p3, p4, p5, p6, p7, p8, p9, p10⟩ := places t
  refine Eq.trans ?_ (V_ep m c r j)
  unfold iblk
  rw [View.read_apply]
  show V m c main_v28 _ = V m c main_v28 _
  congr 1
  funext a
  apply Fin.ext
  match a with
  | ⟨0, _⟩ => show win0_8.index t 0 * 96 + 1 * r.val = r.val; rw [p8]; simp
  | ⟨1, _⟩ => show win0_8.index t 1 * 2048 + 1 * j.val = j.val; rw [p8]; simp

/-- The numbers of a point's chunk. -/
theorem blk_at (t : Fin cfg0.N) : blkW (iblk m c 0 t) (iblk m c 1 t) (iblk m c 3 t) (iblk m c 4 t) = (argsK m c).blk (bAt t) (kAt t) := by
  unfold blkW Args.blk
  congr 1
  · funext l h p; exact b0 m c t l _
  · funext l g n; exact b0 m c t l _
  · funext l g n; exact b0 m c t l _
  · funext l h; rw [dtW_apply, b1, b3]
  · funext h; rw [b4]

section
variable (ht : ∀ b r h, (argsK m c).dt b r h + (argsK m c).bias h ≠ ⊤)
include ht

/-- Every point's block is tame. -/
theorem tame_at (t : Fin cfg0.N) : (blkW (iblk m c 0 t) (iblk m c 1 t) (iblk m c 3 t) (iblk m c 4 t)).Tame :=
  blkW_tame _ _ _ _ fun l h => by rw [b1, b3]; exact ht _ _ _

/-- After a first chunk, the state's window holds the state after that chunk. -/
theorem state_first (t : Fin cfg0.N) (h0 : t.val % 64 = 0) (h : Fin 32) (p : Fin 64) (q : Fin 128) :
    (outsAt0 m c t.val t.isLt).2 (ix4 0 h p q) = (argsK m c).state (bAt t) (t.val % 64 + 1) h p q := by
  rw [outsAt0_A m c t h0]
  dsimp only
  rw [out_A_10]
  rw [state_apply_first _ _ _ _ _ _ _ (b7 m c _) (b8 m c _) (tame_at m c ht _), blk_at]
  have e : stateIn k0_pay3 = (argsK m c).state (bAt t) (t.val % 64) := by
    rw [h0]; funext h p q
    show stateIn k0_pay3 h p q = 0
    pointwise [stateIn, k0_pay3]
  have e2 : kAt t = ⟨(t.val % 64) % 64, Nat.mod_lt _ (by decide)⟩ := Fin.ext (by simp only [kAt]; omega)
  rw [Args.state, ← e, e2]

/-- After a later chunk, too, from the state the point before left. -/
theorem state_later (t : Fin cfg0.N) (h0 : ¬ t.val % 64 = 0)
    (hp : ∀ h p q, (outsAt0 m c (t.val - 1) (Nat.lt_of_le_of_lt (Nat.sub_le _ _) t.isLt)).2 (ix4 0 h p q) = (argsK m c).state (bAt t) (t.val % 64) h p q)
    (h : Fin 32) (p : Fin 64) (q : Fin 128) :
    (outsAt0 m c t.val t.isLt).2 (ix4 0 h p q) = (argsK m c).state (bAt t) (t.val % 64 + 1) h p q := by
  rw [outsAt0_B m c t h0]
  dsimp only
  rw [out_B_10]
  rw [state_apply _ _ _ _ _ _ _ (b7 m c _) (b8 m c _) (tame_at m c ht _), blk_at]
  have e : stateIn (outsAt0 m c (t.val - 1) (Nat.lt_of_le_of_lt (Nat.sub_le _ _) t.isLt)).2 = (argsK m c).state (bAt t) (t.val % 64) := by
    funext h p q
    exact hp h p q
  have e2 : kAt t = ⟨(t.val % 64) % 64, Nat.mod_lt _ (by decide)⟩ := Fin.ext (by simp only [kAt]; omega)
  rw [Args.state, ← e, e2]

/-- What the points leave in the state's window: the state after the point's chunk. -/
theorem state_at (n : ℕ) (hn : n < cfg0.N) (h : Fin 32) (p : Fin 64) (q : Fin 128) :
    (outsAt0 m c n hn).2 (ix4 0 h p q) = (argsK m c).state (bAt ⟨n, hn⟩) (n % 64 + 1) h p q := by
  induction n generalizing h p q with
  | zero => exact state_first m c ht ⟨0, hn⟩ rfl h p q
  | succ n ih =>
    by_cases h0 : (n + 1) % 64 = 0
    · exact state_first m c ht ⟨n + 1, hn⟩ h0 h p q
    · refine state_later m c ht ⟨n + 1, hn⟩ h0 (fun h p q => ?_) h p q
      have e : bAt ⟨n + 1, hn⟩ = bAt ⟨n, Nat.lt_of_succ_lt hn⟩ := Fin.ext (by simp only [bAt]; omega)
      have e2 : (n + 1) % 64 = n % 64 + 1 := by omega
      show (outsAt0 m c n _).2 (ix4 0 h p q) = (argsK m c).state (bAt ⟨n + 1, hn⟩) ((n + 1) % 64) h p q
      rw [e, e2]
      exact ih _ h p q

/-- The stores of a point's result, given that it is entered at the state before its chunk. -/
theorem result_of_state (t : Fin cfg0.N) (l : Fin 128) (j : Fin 2048) (hst : FVec Ideal S1x32x64x128 .f32)
    (e : stateIn hst = (argsK m c).state (bAt t) (kAt t).val) :
    View.canon (gPieces (iblk m c 0 t) (iblk m c 1 t) (iblk m c 2 t) (iblk m c 3 t) (iblk m c 4 t) (iblk m c 5 t) (iblk m c 6 t) (iblk m c 7 t) (iblk m c 8 t) hst) (ix2 l j)
      = (argsK m c).result (bAt t) (pos (kAt t) l) j := by
  have ec : chunkOf (pos (kAt t) l) = kAt t := Fin.ext (by simp only [chunkOf, pos]; omega)
  have ei : inChunk (pos (kAt t) l) = l := Fin.ext (by simp only [inChunk, pos]; omega)
  rw [g_apply, Args.result]
  congr 1
  · funext j
    rw [gated_apply _ _ _ _ _ _ _ _ _ (b7 m c _) (b8 m c _) (tame_at m c ht _), blk_at, b5, b2, e, Args.gated, ec, ei]
  · funext j; exact b6 m c t j

/-- The result of a sequence's first point. -/
theorem result_first (t : Fin cfg0.N) (h0 : t.val % 64 = 0) (l : Fin 128) (j : Fin 2048) :
    (outsAt0 m c t.val t.isLt).1 (ix2 l j) = (argsK m c).result (bAt t) (pos (kAt t) l) j := by
  rw [outsAt0_A m c t h0]
  dsimp only
  rw [out_A_9]
  refine result_of_state m c ht t l j _ ?_
  show _ = (argsK m c).state (bAt t) (t.val % 64)
  rw [h0]; funext h p q
  show stateIn k0_pay3 h p q = 0
  pointwise [stateIn, k0_pay3]

/-- The result of a later point. -/
theorem result_later (t : Fin cfg0.N) (h0 : ¬ t.val % 64 = 0) (l : Fin 128) (j : Fin 2048) :
    (outsAt0 m c t.val t.isLt).1 (ix2 l j) = (argsK m c).result (bAt t) (pos (kAt t) l) j := by
  have hn : t.val - 1 < cfg0.N := Nat.lt_of_le_of_lt (Nat.sub_le _ _) t.isLt
  have e : bAt ⟨t.val - 1, hn⟩ = bAt t := Fin.ext (by simp only [bAt]; omega)
  have e2 : (t.val - 1) % 64 + 1 = (kAt t).val := by simp only [kAt]; omega
  have hs : stateIn (outsAt0 m c (t.val - 1) hn).2 = (argsK m c).state (bAt t) (kAt t).val := by
    funext h p q
    have := state_at m c ht (t.val - 1) hn h p q
    rw [e, e2] at this
    exact this
  have key := result_of_state m c ht t l j _ hs
  rw [outsAt0_B m c t h0]
  dsimp only
  generalize (outsAt0 m c (t.val - 1) hn).2 = hst at key ⊢
  rw [out_B_9]
  exact key

/-- What a point leaves in the result's window: its chunk's rows of the result. -/
theorem result_at (t : Fin cfg0.N) (l : Fin 128) (j : Fin 2048) :
    (outsAt0 m c t.val t.isLt).1 (ix2 l j) = (argsK m c).result (bAt t) (pos (kAt t) l) j := by
  by_cases h0 : t.val % 64 = 0
  · exact result_first m c ht t h0 l j
  · exact result_later m c ht t h0 l j
end

section
variable (ht : ∀ b r h, (argsK m c).dt b r h + (argsK m c).bias h ≠ ⊤)
include ht

/-- The result's array after the run. -/
theorem result_array : (dats m 0 c).arrAt 9 cfg0.N = (fun i : S16384x2048.Idx => (argsK m c).result (bOf (i 0)) (lOf (i 0)) (i 1)) := by
  refine (dats m 0 c).arrAt_eq_of_covers 9 _ (by decide +kernel) fun t hf y => ?_
  rw [after0_9]
  obtain ⟨p0, p1, p2, p3, p4, p5, p6, p7, p8, p9, p10⟩ := places t
  have e0 : ((cfg0.win 9).blk t).view.emb y 0 = rowAt t (y 0) :=
    Fin.ext (by show win0_9.index t 0 * 128 + 1 * (y 0).val = t.val * 128 + (y 0).val; rw [p9]; simp)
  have e1 : ((cfg0.win 9).blk t).view.emb y 1 = (y 1 : Fin 2048) :=
    Fin.ext (by show win0_9.index t 1 * 2048 + 1 * (y 1).val = (y 1).val; rw [p9]; simp)
  have key := result_at m c ht t (y 0) (y 1)
  rw [← bOf_rowAt t (y 0), ← lOf_rowAt t (y 0)] at key
  have ex : (cfg0.win 9).xinj (cfg0.grid.coords t) y = ix2 (y 0) (y 1) := by
    funext a; match a with
    | ⟨0, _⟩ => rfl
    | ⟨1, _⟩ => rfl
  refine Eq.trans ?_ (key.trans ?_)
  · exact congrArg (outsAt0 m c t.val t.isLt).1 ex
  · exact congr (congr (congrArg _ (congrArg bOf e0.symm)) (congrArg lOf e0.symm)) e1.symm
/-- The state's array after the run. -/
theorem state_array : (dats m 0 c).arrAt 10 cfg0.N = (fun i : S2x32x64x128.Idx => (argsK m c).state (i 0) 64 (i 1) (i 2) (i 3)) := by
  refine (dats m 0 c).arrAt_eq_of_covers 10 _ (by decide +kernel) fun t hf y => ?_
  rw [after0_10]
  obtain ⟨p0, p1, p2, p3, p4, p5, p6, p7, p8, p9, p10⟩ := places t
  have h63 : t.val % 64 = 63 := (flush0_10 t).mp hf
  have e0 : ((cfg0.win 10).blk t).view.emb y 0 = bAt t :=
    Fin.ext (by
      have h0 : (y 0).val < 1 := (y 0).isLt
      show win0_10.index t 0 * 1 + 1 * (y 0).val = t.val / 64; rw [p10]; simp)
  have e1 : ((cfg0.win 10).blk t).view.emb y 1 = (y 1 : Fin 32) :=
    Fin.ext (by show win0_10.index t 1 * 32 + 1 * (y 1).val = (y 1).val; rw [p10]; simp)
  have e2 : ((cfg0.win 10).blk t).view.emb y 2 = (y 2 : Fin 64) :=
    Fin.ext (by show win0_10.index t 2 * 64 + 1 * (y 2).val = (y 2).val; rw [p10]; simp)
  have e3 : ((cfg0.win 10).blk t).view.emb y 3 = (y 3 : Fin 128) :=
    Fin.ext (by show win0_10.index t 3 * 128 + 1 * (y 3).val = (y 3).val; rw [p10]; simp)
  have key := state_at m c ht t.val t.isLt (y 1) (y 2) (y 3)
  rw [h63] at key
  have ex : (cfg0.win 10).xinj (cfg0.grid.coords t) y = ix4 0 (y 1) (y 2) (y 3) := by
    funext a; match a with
    | ⟨0, _⟩ => exact Subsingleton.elim (α := Fin 1) _ _
    | ⟨1, _⟩ => rfl
    | ⟨2, _⟩ => rfl
    | ⟨3, _⟩ => rfl
  refine Eq.trans ?_ (key.trans ?_)
  · exact congrArg (outsAt0 m c t.val t.isLt).2 ex
  · exact congr (congr (congr (congrFun (congrArg _ e0.symm) 64) e1.symm) e2.symm) e3.symm
end
end Cert.KernelIdeal.Scan
-- ==== Proof.RefStages.lean ====
/-
  The plain program's host operations before its loop, stretch by stretch: each buffer read at an index, over any contents
  the stretch is entered with.
-/
module

public import proofs.«01_k».proof.Proof.Layer
public import proofs.«01_k».proof.Proof.Gen.ReferenceIdeal.Run
public import Idealize.ShloMosaic.Lib.Claim
public import Idealize.ShloMosaic.Lib.KernelVsHost
public import Idealize.ShloMosaic.Lib.WordCmp
public import Idealize.ShloMosaic.Lib.Pipeline.ValueKit

@[expose] public section

set_option maxRecDepth 16384
set_option maxHeartbeats 400000
noncomputable section

namespace Cert.ReferenceIdeal.Scan

open Cert.ReferenceIdeal Cert.ReferenceIdeal.Gen Cert.ReferenceIdeal.Value Cert.Scan Idealize.ShloMosaic Idealize.ShloMosaic.TcCoe Idealize.SL.Sem
open Idealize.ShloMosaic.StableHlo Idealize.ShloMosaic.Pointwise

variable (σ : Valuation τ sig (Elt Ideal))

/-- Head `8g + e`. -/
def hh (g : Fin 4) (e : Fin 8) : Fin 32 := ⟨8 * g.val + e.val, by omega⟩

/-- A step that is a number is its own: the plain program's test for a number that is none never holds. -/
theorem softp_tower (v z : FVec Ideal S2x8192x32 .f32) (hz : z = fun _ => (0 : EReal)) (b : Fin 2) (r : Fin 8192) (h : Fin 32) :
    (select (cmpf .une (subf v z) (subf v z)) (addf v z) (addf (maximumf v z) (Host.log1p (Host.exp (Host.negf (Host.absf (subf v z)))))) : FVec Ideal S2x8192x32 .f32) (ix3 b r h)
      = softp (v (ix3 b r h)) := by
  subst hz
  pointwise
  simp [softp, Ideal.cmp]
  rfl

/-- The heads' inputs. -/
theorem s0_v0 (b : Fin 2) (r : Fin 8192) (j : Fin 2048) : after hostOps0 σ (Proc.devRef .tc main_v0) (ix3 b r j) = σ (Proc.devRef .tc main_arg0) (ix3 b r ⟨j.val, by omega⟩) := by
  simp only [hostOps0, after_cons, after_nil]
  after_results_simp
  pointwise

/-- `B`. -/
theorem s0_v1 (b : Fin 2) (r : Fin 8192) (j : Fin 512) : after hostOps0 σ (Proc.devRef .tc main_v1) (ix3 b r j) = σ (Proc.devRef .tc main_arg0) (ix3 b r ⟨2048 + j.val, by omega⟩) := by
  simp only [hostOps0, after_cons, after_nil]
  after_results_simp
  pointwise

/-- `C`. -/
theorem s0_v2 (b : Fin 2) (r : Fin 8192) (j : Fin 512) : after hostOps0 σ (Proc.devRef .tc main_v2) (ix3 b r j) = σ (Proc.devRef .tc main_arg0) (ix3 b r ⟨2560 + j.val, by omega⟩) := by
  simp only [hostOps0, after_cons, after_nil]
  after_results_simp
  pointwise

/-- The biased steps. -/
theorem s0_v5 (b : Fin 2) (r : Fin 8192) (h : Fin 32) (d a : EReal) (hd : σ (Proc.devRef .tc main_arg1) (ix3 b r h) = d) (ha : σ (Proc.devRef .tc main_arg3) (ix1 h) = a) : after hostOps0 σ (Proc.devRef .tc main_v5) (ix3 b r h) = d + a := by
  simp only [hostOps0, after_cons, after_nil]
  after_results_simp
  pointwise
  rw [hd, ha]

/-- The steps. -/
theorem s1_v6 (b : Fin 2) (r : Fin 8192) (h : Fin 32) : after hostOps0_1 σ (Proc.devRef .tc main_v6) (ix3 b r h) = softp (σ (Proc.devRef .tc main_v5) (ix3 b r h)) := by
  simp only [hostOps0_1, after_cons, after_nil]
  after_results_simp
  refine softp_tower (σ (Proc.devRef .tc main_v5)) (broadcastInDim S2x8192x32 ![] bcast_S_S2x8192x32 (constant S_ FTy.f32 0#32)) ?_ b r h
  funext i
  show Ideal.ofBits .f32 0#32 = 0
  exact Ideal.ofBits_zero .f32

/-- The heads' inputs, by head. -/
theorem s2_v9 (b : Fin 2) (r : Fin 8192) (h : Fin 32) (p : Fin 64) : after hostOps0_2 σ (Proc.devRef .tc main_v9) (ix4 b r h p) = σ (Proc.devRef .tc main_v0) (ix3 b r ⟨64 * h.val + p.val, by omega⟩) := by
  simp only [hostOps0_2, after_cons, after_nil]
  after_results_simp
  pointwise
  congr 3 <;> omega

/-- The state the scan starts from. -/
theorem s2_v12 (i : S2x32x64x128.Idx) : after hostOps0_2 σ (Proc.devRef .tc main_v12) (i) = (0 : EReal) := by
  simp only [hostOps0_2, after_cons, after_nil]
  after_results_simp
  pointwise

/-- The heads' inputs, by chunk. -/
theorem s2_v13 (b : Fin 2) (k : Fin 64) (l : Fin 128) (g : Fin 4) (e : Fin 8) (p : Fin 64) : after hostOps0_2 σ (Proc.devRef .tc main_v13) (ix6 b k l g e p) = σ (Proc.devRef .tc main_v0) (ix3 b (pos k l) ⟨64 * (hh g e).val + p.val, by omega⟩) := by
  simp only [hostOps0_2, after_cons, after_nil]
  after_results_simp
  pointwise [pos, hh]
  congr 3 <;> omega

/-- The steps, by chunk. -/
theorem s2_v14 (b : Fin 2) (k : Fin 64) (l : Fin 128) (g : Fin 4) (e : Fin 8) : after hostOps0_2 σ (Proc.devRef .tc main_v14) (ix5 b k l g e) = σ (Proc.devRef .tc main_v6) (ix3 b (pos k l) (hh g e)) := by
  simp only [hostOps0_2, after_cons, after_nil]
  after_results_simp
  pointwise [pos, hh]
  congr 3 <;> omega

/-- `B`, by chunk. -/
theorem s2_v15 (b : Fin 2) (k : Fin 64) (l : Fin 128) (g : Fin 4) (n : Fin 128) : after hostOps0_2 σ (Proc.devRef .tc main_v15) (ix5 b k l g n) = σ (Proc.devRef .tc main_v1) (ix3 b (pos k l) ⟨128 * g.val + n.val, by omega⟩) := by
  simp only [hostOps0_2, after_cons, after_nil]
  after_results_simp
  pointwise [pos]
  congr 3 <;> omega

/-- `C`, by chunk. -/
theorem s2_v16 (b : Fin 2) (k : Fin 64) (l : Fin 128) (g : Fin 4) (n : Fin 128) : after hostOps0_2 σ (Proc.devRef .tc main_v16) (ix5 b k l g n) = σ (Proc.devRef .tc main_v2) (ix3 b (pos k l) ⟨128 * g.val + n.val, by omega⟩) := by
  simp only [hostOps0_2, after_cons, after_nil]
  after_results_simp
  pointwise [pos]
  congr 3 <;> omega

/-- The steps times their rates, by chunk. -/
theorem s2_v20 (D : Fin 2 → Fin 8192 → Fin 32 → EReal) (hD : ∀ b r h, σ (Proc.devRef .tc main_v6) (ix3 b r h) = D b r h) (aLog : Fin 32 → EReal) (ha : ∀ h, σ (Proc.devRef .tc main_arg4) (ix1 h) = aLog h) (b : Fin 2) (k : Fin 64) (l : Fin 128) (g : Fin 4) (e : Fin 8) : after hostOps0_2 σ (Proc.devRef .tc main_v20) (ix5 b k l g e) = D b (pos k l) (hh g e) * (0 - Ideal.exp (aLog (hh g e))) := by
  simp only [hostOps0_2, after_cons, after_nil]
  after_results_simp
  pointwise [pos, hh]
  rw [← hD, ← ha, zero_sub]
  have e1 : (⟨k.val * 128 + l.val, by omega⟩ : Fin 8192) = ⟨128 * k.val + l.val, by omega⟩ := Fin.ext (by show k.val * 128 + l.val = 128 * k.val + l.val; omega)
  have e2 : (⟨g.val * 8 + e.val, by omega⟩ : Fin 32) = ⟨8 * g.val + e.val, by omega⟩ := Fin.ext (by show g.val * 8 + e.val = 8 * g.val + e.val; omega)
  rw [e1, e2]

end Cert.ReferenceIdeal.Scan
end
-- ==== Proof.Cumsum.lean ====
/-
  The plain program's running sum along the positions of a chunk, read at an index: entry `l` is the sum of the entries up to
  and including `l`.
-/
module

public import proofs.«01_k».proof.Proof.Layer
public import proofs.«01_k».proof.Proof.Gen.ReferenceIdeal.Run
public import Idealize.ShloMosaic.Lib.Claim
public import Idealize.ShloMosaic.Lib.KernelVsHost
public import Idealize.ShloMosaic.Lib.Pipeline.ValueKit

@[expose] public section

set_option maxRecDepth 16384
noncomputable section

namespace Cert.ReferenceIdeal.Scan

open Cert.ReferenceIdeal Cert.ReferenceIdeal.Gen Cert.Scan Idealize.ShloMosaic Idealize.ShloMosaic.Pointwise

/-- A left fold that adds is the start plus the sum. -/
theorem foldl_add {α : Type} (f : α → EReal) : ∀ (L : List α) (v : EReal), L.foldl (fun r n => r + f n) v = v + (L.map f).sum
  | [], v => by simp
  | a :: L, v => by rw [List.foldl_cons, foldl_add f L, List.map_cons, List.sum_cons, add_assoc]

/-- The window of the running sum: all positions of a chunk. -/
abbrev Win : Shape := ⟨5, ![1, 1, 128, 1, 1]⟩

/-- Position `w` of the window. -/
def atWin (w : Fin 128) : Win.Idx := fun a => match a with
  | ⟨0, _⟩ => (0 : Fin 1) | ⟨1, _⟩ => (0 : Fin 1) | ⟨2, _⟩ => w | ⟨3, _⟩ => (0 : Fin 1) | ⟨4, _⟩ => (0 : Fin 1)

/-- Window places and axis places correspond one to one. -/
theorem atWin_bijective : Function.Bijective atWin := by
  refine ⟨fun v w h => congrFun h 2, fun i => ⟨i 2, funext fun a => ?_⟩⟩
  match a with
  | ⟨0, _⟩ => exact Subsingleton.elim (α := Fin 1) _ _
  | ⟨1, _⟩ => exact Subsingleton.elim (α := Fin 1) _ _
  | ⟨2, _⟩ => rfl
  | ⟨3, _⟩ => exact Subsingleton.elim (α := Fin 1) _ _
  | ⟨4, _⟩ => exact Subsingleton.elim (α := Fin 1) _ _

/-- What window position `w` adds to the running sum at `l`: the entry `127 - w` places before `l`, or nothing before the first. -/
def sumTerm (x : FVec Ideal S2x64x128x4x8 .f32) (b : Fin 2) (k : Fin 64) (l : Fin 128) (g : Fin 4) (e : Fin 8) (w : Fin 128) : EReal :=
  if h : 127 ≤ l.val + w.val then x (ix5 b k ⟨l.val + w.val - 127, by omega⟩ g e) else 0

/-- The running sum at an index. -/
theorem cumsum_apply (x : FVec Ideal S2x64x128x4x8 .f32) (v : FVec Ideal S_ .f32) (hv : v (Shape.Idx.first h_S_) = (0 : EReal))
    (b : Fin 2) (k : Fin 64) (l : Fin 128) (g : Fin 4) (e : Fin 8) :
    Host.reduceWindowAdd (F := Ideal) (φ := .f32) ![1, 1, 128, 1, 1] ![1, 1, 1, 1, 1] ![0, 0, 127, 0, 0] ![0, 0, 0, 0, 0] x v
        reduceWindows_S2x64x128x4x8_S2x64x128x4x8_w1s1p0_0_w1s1p0_0_w128s1p127_0_w1s1p0_0_w1s1p0_0 h_S_ (ix5 b k l g e)
      = ∑ s : Fin 128, if s ≤ l then (x (ix5 b k s g e) : EReal) else 0 := by
  unfold Host.reduceWindowAdd
  rw [Ideal.hostReduceWindowAdd_def]
  unfold Ideal.hostReduceWindowAdd Host.reduceWindow
  dsimp only
  rw [foldl_add, hv, zero_add, ← Fin.sum_univ_def]
  have hl := l.isLt
  have hG : ∀ w : Win.Idx, (if hin : ∀ a : Fin 5, (![0, 0, 127, 0, 0] : Fin 5 → Nat) a
      ≤ ((ix5 b k l g e : S2x64x128x4x8.Idx) a).val * (![1, 1, 1, 1, 1] : Fin 5 → Nat) a + (w a).val
      ∧ ((ix5 b k l g e : S2x64x128x4x8.Idx) a).val * (![1, 1, 1, 1, 1] : Fin 5 → Nat) a + (w a).val - (![0, 0, 127, 0, 0] : Fin 5 → Nat) a
        < S2x64x128x4x8.size a then (x (fun a => ⟨_, (hin a).2⟩) : EReal) else 0) = sumTerm x b k l g e (w 2) := fun w => by
    have w0 : (w 0).val = 0 := by have := (w 0).isLt; change (w 0).val < 1 at this; omega
    have w1 : (w 1).val = 0 := by have := (w 1).isLt; change (w 1).val < 1 at this; omega
    have w2 : (w 2).val < 128 := (w 2).isLt
    have w3 : (w 3).val = 0 := by have := (w 3).isLt; change (w 3).val < 1 at this; omega
    have w4 : (w 4).val = 0 := by have := (w 4).isLt; change (w 4).val < 1 at this; omega
    unfold sumTerm
    by_cases h : 127 ≤ l.val + (w 2).val
    · rw [dif_pos h, dif_pos (by
        intro a
        match a with
        | ⟨0, _⟩ => exact ⟨Nat.zero_le _, by show b.val * 1 + (w 0).val - 0 < 2; omega⟩
        | ⟨1, _⟩ => exact ⟨Nat.zero_le _, by show k.val * 1 + (w 1).val - 0 < 64; omega⟩
        | ⟨2, _⟩ => exact ⟨by show 127 ≤ l.val * 1 + (w 2).val; omega, by show l.val * 1 + (w 2).val - 127 < 128; omega⟩
        | ⟨3, _⟩ => exact ⟨Nat.zero_le _, by show g.val * 1 + (w 3).val - 0 < 4; omega⟩
        | ⟨4, _⟩ => exact ⟨Nat.zero_le _, by show e.val * 1 + (w 4).val - 0 < 8; omega⟩)]
      refine congrArg x (funext fun a => Fin.ext ?_)
      match a with
      | ⟨0, _⟩ => show b.val * 1 + (w 0).val - 0 = b.val; omega
      | ⟨1, _⟩ => show k.val * 1 + (w 1).val - 0 = k.val; omega
      | ⟨2, _⟩ => show l.val * 1 + (w 2).val - 127 = l.val + (w 2).val - 127; omega
      | ⟨3, _⟩ => show g.val * 1 + (w 3).val - 0 = g.val; omega
      | ⟨4, _⟩ => show e.val * 1 + (w 4).val - 0 = e.val; omega
    · rw [dif_neg h, dif_neg (fun hin => h (by have := (hin 2).1; change 127 ≤ l.val * 1 + (w 2).val at this; omega))]
  refine (Finset.sum_congr rfl fun n _ => ?_).trans
    ((Fintype.sum_equiv Win.rowMajor.symm (fun n => sumTerm x b k l g e (Win.rowMajor.symm n 2)) (fun w : Win.Idx => sumTerm x b k l g e (w 2)) fun n => rfl).trans
    ((Function.Bijective.sum_comp atWin_bijective (fun w : Win.Idx => sumTerm x b k l g e (w 2))).symm.trans ?_))
  · refine Eq.trans ?_ (hG (Win.rowMajor.symm n))
    split
    · next h =>
      split
      · rfl
      · next h' => exact absurd h h'
    · next h =>
      split
      · next h' => exact absurd h' h
      · rfl
  · refine Fintype.sum_equiv (Equiv.addRight (⟨(l.val + 1) % 128, Nat.mod_lt _ (by norm_num)⟩ : Fin 128)) _ _ fun w => ?_
    have hw := w.isLt
    have hs : (Equiv.addRight (⟨(l.val + 1) % 128, Nat.mod_lt _ (by norm_num)⟩ : Fin 128) w).val = (w.val + (l.val + 1) % 128) % 128 := rfl
    show sumTerm x b k l g e w = _
    unfold sumTerm
    by_cases h : 127 ≤ l.val + w.val
    · rw [dif_pos h, if_pos (by rw [Fin.le_def, hs]; omega)]
      refine congrArg (fun s : Fin 128 => x (ix5 b k s g e)) (Fin.ext ?_)
      show l.val + w.val - 127 = (w.val + (l.val + 1) % 128) % 128
      omega
    · rw [dif_neg h, if_neg (by rw [Fin.le_def, hs]; omega)]

end Cert.ReferenceIdeal.Scan
end
-- ==== Proof.RefPairs.lean ====
/-
  The plain program's host operations before its loop from the running sums on: each buffer read at an index in the words of a chunk,
  over any contents that hold the chunks' inputs.
-/
module

public import proofs.«01_k».proof.Proof.RefStages
public import proofs.«01_k».proof.Proof.Cumsum
public import proofs.«01_k».proof.Proof.Gen.ReferenceIdeal.Run
public import Idealize.ShloMosaic.Lib.Claim
public import Idealize.ShloMosaic.Lib.KernelVsHost
public import Idealize.ShloMosaic.Lib.WordCmp
public import Idealize.ShloMosaic.Lib.Pipeline.ValueKit

@[expose] public section

set_option maxRecDepth 16384
set_option maxHeartbeats 400000
noncomputable section

namespace Cert.ReferenceIdeal.Scan

open Cert.ReferenceIdeal Cert.ReferenceIdeal.Gen Cert.ReferenceIdeal.Value Cert.Scan Idealize.ShloMosaic Idealize.ShloMosaic.TcCoe Idealize.SL.Sem
open Idealize.ShloMosaic.StableHlo Idealize.ShloMosaic.Pointwise

variable (σ : Valuation τ sig (Elt Ideal))

variable (X : Fin 2 → Fin 64 → Blk)

/-- The group of a head named by group and place. -/
theorem grp_hh (g : Fin 4) (e : Fin 8) : grp (hh g e) = g := Fin.ext (by show (8 * g.val + e.val) / 8 = g.val; omega)

/-- The plain program's lower triangle, over any matrix of bits. -/
theorem tril_tower (v : IVec S128x128 1) (l s : Fin 128) :
    (select (cmpi .sge (addi (iotaInDim S128x128 32 0) (broadcastInDim S128x128 ![] bcast_S_S128x128 (constantI S_ 32 0#32))) (iotaInDim S128x128 32 1))
      v (broadcastInDim S128x128 ![] bcast_S_S128x128 (constantI S_ 1 0#1)) : IVec S128x128 1) (ix2 l s)
      = if s ≤ l then v (ix2 l s) else 0#1 := by
  have hl := l.isLt
  have hs := s.isLt
  pointwise
  rw [show IntOp.addi (BitVec.ofNat 32 l.val) 0#32 = BitVec.ofNat 32 l.val from BitVec.add_zero _, WordCmp.cmpi_sge_ofNat (by omega) (by omega)]
  by_cases h : s ≤ l
  · rw [if_pos h, decide_eq_true (by exact h)]; rfl
  · rw [if_neg h, decide_eq_false (by exact h)]; rfl

/-- The plain program's mask of exponents, over any triangle, exponents and fill. -/
theorem where_tower (t : IVec S128x128x1x1 1) (v : FVec Ideal S2x64x128x128x4x8 .f32) (c : FVec Ideal S_ .f32)
    (b : Fin 2) (k : Fin 64) (l s : Fin 128) (g : Fin 4) (e : Fin 8) :
    (select (broadcastInDim S2x64x128x128x4x8 ![2, 3, 4, 5] bcast_S128x128x1x1_S2x64x128x128x4x8_2_3_4_5 t) v
      (broadcastInDim S2x64x128x128x4x8 ![] bcast_S_S2x64x128x128x4x8 (id c)) : FVec Ideal S2x64x128x128x4x8 .f32) (ix6 b k l s g e)
      = if t (ix4 l s 0 0) = 1#1 then v (ix6 b k l s g e) else c ix0 := by
  pointwise
  rfl

/-- The running sums. -/
theorem s3_v21 (h20 : ∀ b k l g e, σ (Proc.devRef .tc main_v20) (ix5 b k l g e) = (X b k).dt l (hh g e) * (X b k).A (hh g e)) (b : Fin 2) (k : Fin 64) (l : Fin 128) (g : Fin 4) (e : Fin 8) : after hostOps0_3 σ (Proc.devRef .tc main_v21) (ix5 b k l g e) = (X b k).acum l (hh g e) := by
  simp only [hostOps0_3, after_cons, after_nil]
  after_results_simp
  refine (cumsum_apply (σ (Proc.devRef .tc main_v20)) (broadcastInDim S_ ![] bcast_S_S_ (constant S_ FTy.f32 0#32)) (Ideal.ofBits_zero .f32) b k l g e).trans ?_
  unfold Blk.acum
  exact Finset.sum_congr rfl fun s _ => by rw [h20]; rfl

/-- Differences of running sums. -/
theorem s4_v26 (h21 : ∀ b k l g e, σ (Proc.devRef .tc main_v21) (ix5 b k l g e) = (X b k).acum l (hh g e)) (b : Fin 2) (k : Fin 64) (l s : Fin 128) (g : Fin 4) (e : Fin 8) : after hostOps0_4 σ (Proc.devRef .tc main_v26) (ix6 b k l s g e) = (X b k).acum l (hh g e) - (X b k).acum s (hh g e) := by
  simp only [hostOps0_4, after_cons, after_nil]
  after_results_simp
  pointwise
  rw [h21, h21]

/-- Ones. -/
theorem s4_v27 (l s : Fin 128) : after hostOps0_4 σ (Proc.devRef .tc main_v27) (ix2 l s) = 1#1 := by
  simp only [hostOps0_4, after_cons, after_nil]
  after_results_simp
  pointwise

/-- The lower triangle. -/
theorem s5_v28 (h27 : ∀ l s, σ (Proc.devRef .tc main_v27) (ix2 l s) = 1#1) (l s : Fin 128) : after hostOps0_5 σ (Proc.devRef .tc main_v28) (ix2 l s) = BitVec.ofBool (decide (s ≤ l)) := by
  simp only [hostOps0_5, after_cons, after_nil]
  after_results_simp
  refine (tril_tower (σ (Proc.devRef .tc main_v27)) l s).trans ?_
  rw [h27]
  by_cases h : s ≤ l <;> simp [h]

/-- The lower triangle, spread. -/
theorem s6_v29 (h28 : ∀ l s, σ (Proc.devRef .tc main_v28) (ix2 l s) = BitVec.ofBool (decide (s ≤ l))) (l s : Fin 128) : after hostOps0_6 σ (Proc.devRef .tc main_v29) (ix4 l s 0 0) = BitVec.ofBool (decide (s ≤ l)) := by
  simp only [hostOps0_6, after_cons, after_nil]
  after_results_simp
  pointwise
  rw [h28]

/-- The masked exponent. -/
theorem s6_cst  : after hostOps0_6 σ (Proc.devRef .tc main_cst_0) (ix0) = (⊥ : EReal) := by
  simp only [hostOps0_6, after_cons, after_nil]
  after_results_simp
  pointwise
  simp [Ideal.ofBits, Ideal.ieee]

/-- The exponents of a chunk, masked above the diagonal. -/
theorem s7_v30 (h26 : ∀ b k l s g e, σ (Proc.devRef .tc main_v26) (ix6 b k l s g e) = (X b k).acum l (hh g e) - (X b k).acum s (hh g e)) (h29 : ∀ l s, σ (Proc.devRef .tc main_v29) (ix4 l s 0 0) = BitVec.ofBool (decide (s ≤ l))) (hc : σ (Proc.devRef .tc main_cst_0) ix0 = (⊥ : EReal)) (b : Fin 2) (k : Fin 64) (l s : Fin 128) (g : Fin 4) (e : Fin 8) : after hostOps0_7 σ (Proc.devRef .tc main_v30) (ix6 b k l s g e) = if s ≤ l then (X b k).acum l (hh g e) - (X b k).acum s (hh g e) else ⊥ := by
  simp only [hostOps0_7, after_cons, after_nil]
  after_results_simp
  refine (where_tower (σ (Proc.devRef .tc main_v29)) (σ (Proc.devRef .tc main_v26)) (σ (Proc.devRef .tc main_cst_0)) b k l s g e).trans ?_
  rw [h26, h29, hc]
  by_cases h : s ≤ l <;> simp [h]

/-- The part of a chunk's output that its own inputs give. -/
theorem s8_v41 (h13 : ∀ b k l g e p, σ (Proc.devRef .tc main_v13) (ix6 b k l g e p) = (X b k).x l (hh g e) p) (h14 : ∀ b k l g e, σ (Proc.devRef .tc main_v14) (ix5 b k l g e) = (X b k).dt l (hh g e)) (h15 : ∀ b k l g n, σ (Proc.devRef .tc main_v15) (ix5 b k l g n) = (X b k).B l g n) (h16 : ∀ b k l g n, σ (Proc.devRef .tc main_v16) (ix5 b k l g n) = (X b k).C l g n) (h30 : ∀ b k l s g e, σ (Proc.devRef .tc main_v30) (ix6 b k l s g e) = if s ≤ l then (X b k).acum l (hh g e) - (X b k).acum s (hh g e) else ⊥) (b : Fin 2) (k : Fin 64) (l : Fin 128) (g : Fin 4) (e : Fin 8) (p : Fin 64) : after hostOps0_8 σ (Proc.devRef .tc main_v41) (ix6 b k l g e p) = ∑ s, (X b k).wgt l s (hh g e) * (X b k).x s (hh g e) p := by
  simp only [hostOps0_8, after_cons, after_nil]
  after_results_simp
  pointwise
  refine Finset.sum_congr (M := EReal) rfl fun s _ => ?_
  rw [h13, h14, h30, mul_comm]
  unfold Blk.wgt Blk.score
  rw [grp_hh]
  refine congrArg (fun t => t * _ * _ * _) (Finset.sum_congr rfl fun n _ => ?_)
  rw [h15, h16, mul_comm]

/-- What a chunk adds to the state. -/
theorem s8_v58_0 (h13 : ∀ b k l g e p, σ (Proc.devRef .tc main_v13) (ix6 b k l g e p) = (X b k).x l (hh g e) p) (h14 : ∀ b k l g e, σ (Proc.devRef .tc main_v14) (ix5 b k l g e) = (X b k).dt l (hh g e)) (h15 : ∀ b k l g n, σ (Proc.devRef .tc main_v15) (ix5 b k l g n) = (X b k).B l g n) (h21 : ∀ b k l g e, σ (Proc.devRef .tc main_v21) (ix5 b k l g e) = (X b k).acum l (hh g e)) (b : Fin 2) (k : Fin 64) (g : Fin 4) (e : Fin 8) (p : Fin 64) (n : Fin 128) : after hostOps0_8 σ (Proc.devRef .tc main_v58_0) (ix6 k b g e p n) = ∑ l, (Ideal.exp ((X b k).acum 127 (hh g e) - (X b k).acum l (hh g e)) * (X b k).dt l (hh g e) * (X b k).x l (hh g e) p) * (X b k).B l (grp (hh g e)) n := by
  simp only [hostOps0_8, after_cons, after_nil]
  after_results_simp
  simp only [id_eq]
  pointwise
  refine Finset.sum_congr (M := EReal) rfl fun l _ => ?_
  rw [h13, h14, h15, h21, h21, grp_hh]

/-- How a chunk lets the state decay. -/
theorem s8_v58_1 (h21 : ∀ b k l g e, σ (Proc.devRef .tc main_v21) (ix5 b k l g e) = (X b k).acum l (hh g e)) (b : Fin 2) (k : Fin 64) (g : Fin 4) (e : Fin 8) : after hostOps0_8 σ (Proc.devRef .tc main_v58_1) (ix4 k b g e) = Ideal.exp ((X b k).acum 127 (hh g e)) := by
  simp only [hostOps0_8, after_cons, after_nil]
  after_results_simp
  simp only [id_eq]
  pointwise
  rw [h21]

/-- The counter starts at zero. -/
theorem s8_v58_2  : after hostOps0_8 σ (Proc.devRef .tc main_v58_2) (ix0) = 0#32 := by
  simp only [hostOps0_8, after_cons, after_nil]
  after_results_simp
  rfl

/-- The state the loop starts from. -/
theorem s8_v58_3 (h12 : ∀ i, σ (Proc.devRef .tc main_v12) i = (0 : EReal)) (b : Fin 2) (g : Fin 4) (e : Fin 8) (p : Fin 64) (n : Fin 128) : after hostOps0_8 σ (Proc.devRef .tc main_v58_3) (ix5 b g e p n) = (0 : EReal) := by
  simp only [hostOps0_8, after_cons, after_nil]
  after_results_simp
  simp only [id_eq]
  pointwise
  exact h12 _

end Cert.ReferenceIdeal.Scan
end
-- ==== Proof.RefPost.lean ====
/-
  The plain program's host operations after its loop: each buffer read at an index, over any contents that hold the chunks' inputs
  and the states before them.
-/
module

public import proofs.«01_k».proof.Proof.RefPairs
public import proofs.«01_k».proof.Proof.Gen.ReferenceIdeal.Run
public import Idealize.ShloMosaic.Lib.Claim
public import Idealize.ShloMosaic.Lib.KernelVsHost
public import Idealize.ShloMosaic.Lib.WordCmp
public import Idealize.ShloMosaic.Lib.Pipeline.ValueKit

@[expose] public section

set_option maxRecDepth 16384
set_option maxHeartbeats 100000
noncomputable section

namespace Cert.ReferenceIdeal.Scan

open Cert.ReferenceIdeal Cert.ReferenceIdeal.Gen Cert.ReferenceIdeal.Value Cert.Scan Idealize.ShloMosaic Idealize.ShloMosaic.TcCoe Idealize.SL.Sem
open Idealize.ShloMosaic.StableHlo Idealize.ShloMosaic.Pointwise

variable (σ : Valuation τ sig (Elt Ideal))

variable (X : Fin 2 → Fin 64 → Blk)

/-- A head is its group's and its place in the group's. -/
theorem hh_div (h : Fin 32) : hh ⟨h.val / 8, by omega⟩ ⟨h.val % 8, by omega⟩ = h := Fin.ext (by show 8 * (h.val / 8) + h.val % 8 = h.val; omega)

/-- A chunk's output with the state named first. -/
theorem out_comm (B : Blk) (H : Fin 32 → Fin 64 → Fin 128 → EReal) (l : Fin 128) (h : Fin 32) (p : Fin 64) :
    B.out H l h p = (∑ s, B.wgt l s h * B.x s h p) + (∑ n, H h p n * B.C l (grp h) n) * Ideal.exp (B.acum l h) := by
  unfold Blk.out
  rw [Finset.sum_congr rfl fun n _ => mul_comm (B.C l (grp h) n) (H h p n)]

/-- The plain program's gate, over any array. -/
theorem silu_tower (z : FVec Ideal S2x8192x2048 .f32) (b : Fin 2) (r : Fin 8192) (j : Fin 2048) :
    (mulf z (Host.divf (broadcastInDim S2x8192x2048 ![] bcast_S_S2x8192x2048 (constant S_ FTy.f32 0x3F800000#32))
      (addf (broadcastInDim S2x8192x2048 ![] bcast_S_S2x8192x2048 (constant S_ FTy.f32 0x3F800000#32)) (Host.exp (Host.negf z)))) : FVec Ideal S2x8192x2048 .f32) (ix3 b r j)
      = z (ix3 b r j) * Ideal.logistic (z (ix3 b r j)) := by
  pointwise
  rfl

/-- The output and its skip, from the buffers they are read off. -/
theorem out_reads (Hs : Fin 2 → Fin 64 → Fin 32 → Fin 64 → Fin 128 → EReal) (x9 : Fin 2 → Fin 8192 → Fin 32 → Fin 64 → EReal) (skip : Fin 32 → EReal)
    (v41 : FVec Ideal S2x64x128x4x8x64 .f32) (v584 : FVec Ideal S64x2x4x8x64x128 .f32) (v16 : FVec Ideal S2x64x128x4x128 .f32)
    (v21 : FVec Ideal S2x64x128x4x8 .f32) (v5 : FVec Ideal S32 .f32) (v9 : FVec Ideal S2x8192x32x64 .f32)
    (h16 : ∀ b k l g n, v16 (ix5 b k l g n) = (X b k).C l g n)
    (h21 : ∀ b k l g e, v21 (ix5 b k l g e) = (X b k).acum l (hh g e))
    (h41 : ∀ b k l g e p, v41 (ix6 b k l g e p) = ∑ s, (X b k).wgt l s (hh g e) * (X b k).x s (hh g e) p)
    (h584 : ∀ k b g e p n, v584 (ix6 k b g e p n) = Hs b k (hh g e) p n)
    (h9 : ∀ b r h p, v9 (ix4 b r h p) = x9 b r h p) (h5 : ∀ h, v5 (ix1 h) = skip h)
    (b : Fin 2) (k : Fin 64) (l : Fin 128) (g : Fin 4) (e : Fin 8) (p : Fin 64) (r : Fin 8192) (h : Fin 32) (eh : hh g e = h) :
    (v41 (ix6 b k l g e p) + (∑ n, v584 (ix6 k b g e p n) * v16 (ix5 b k l g n)) * Ideal.exp (v21 (ix5 b k l g e)) + v5 (ix1 h) * v9 (ix4 b r h p) : EReal)
      = (X b k).out (Hs b k) l h p + skip h * x9 b r h p := by
  subst eh
  rw [out_comm, h41, h21, h5, h9, grp_hh]
  simp only [h584, h16]

/-- The scan's output with its skip. -/
theorem s9_v74 (Hs : Fin 2 → Fin 64 → Fin 32 → Fin 64 → Fin 128 → EReal) (x9 : Fin 2 → Fin 8192 → Fin 32 → Fin 64 → EReal) (skip : Fin 32 → EReal) (h16 : ∀ b k l g n, σ (Proc.devRef .tc main_v16) (ix5 b k l g n) = (X b k).C l g n) (h21 : ∀ b k l g e, σ (Proc.devRef .tc main_v21) (ix5 b k l g e) = (X b k).acum l (hh g e)) (h41 : ∀ b k l g e p, σ (Proc.devRef .tc main_v41) (ix6 b k l g e p) = ∑ s, (X b k).wgt l s (hh g e) * (X b k).x s (hh g e) p) (h584 : ∀ k b g e p n, σ (Proc.devRef .tc main_v58_4) (ix6 k b g e p n) = Hs b k (hh g e) p n) (h9 : ∀ b r h p, σ (Proc.devRef .tc main_v9) (ix4 b r h p) = x9 b r h p) (h5 : ∀ h, σ (Proc.devRef .tc main_arg5) (ix1 h) = skip h) (b : Fin 2) (r : Fin 8192) (j : Fin 2048) : after hostOps0_9 σ (Proc.devRef .tc main_v74) (ix3 b r j) = (X b (chunkOf r)).out (Hs b (chunkOf r)) (inChunk r) (hOf j) (pOf j) + skip (hOf j) * x9 b r (hOf j) (pOf j) := by
  simp only [hostOps0_9, after_cons, after_nil]
  after_results_simp
  pointwise
  exact out_reads X Hs x9 skip _ _ _ _ _ _ h16 h21 h41 h584 h9 h5 b (chunkOf r) (inChunk r) ⟨j.val / 64 / 8, by omega⟩ ⟨j.val / 64 % 8, by omega⟩ (pOf j) r (hOf j) (hh_div (hOf j))

/-- The state after the last chunk. -/
theorem s9_v68 (Hl : Fin 2 → Fin 32 → Fin 64 → Fin 128 → EReal) (h583 : ∀ b g e p n, σ (Proc.devRef .tc main_v58_3) (ix5 b g e p n) = Hl b (hh g e) p n) (b : Fin 2) (h : Fin 32) (p : Fin 64) (n : Fin 128) : after hostOps0_9 σ (Proc.devRef .tc main_v68) (ix4 b h p n) = Hl b h p n := by
  simp only [hostOps0_9, after_cons, after_nil]
  after_results_simp
  pointwise
  rw [h583, hh_div]

/-- The gate. -/
theorem s10_v75 (z : Fin 2 → Fin 8192 → Fin 2048 → EReal) (hz : ∀ b r j, σ (Proc.devRef .tc main_arg2) (ix3 b r j) = z b r j) (b : Fin 2) (r : Fin 8192) (j : Fin 2048) : after hostOps0_10 σ (Proc.devRef .tc main_v75) (ix3 b r j) = z b r j * Ideal.logistic (z b r j) := by
  simp only [hostOps0_10, after_cons, after_nil]
  after_results_simp
  rw [← hz]
  exact silu_tower (σ (Proc.devRef .tc main_arg2)) b r j

/-- The result: gated, and normalised in groups. -/
theorem s11_v93 (P Q : Fin 2 → Fin 8192 → Fin 2048 → EReal) (scale : Fin 2048 → EReal) (hP : ∀ b r j, σ (Proc.devRef .tc main_v74) (ix3 b r j) = P b r j) (hQ : ∀ b r j, σ (Proc.devRef .tc main_v75) (ix3 b r j) = Q b r j) (hs : ∀ j, σ (Proc.devRef .tc main_arg6) (ix1 j) = scale j) (i : Fin 16384) (j : Fin 2048) : after hostOps0_11 σ (Proc.devRef .tc main_v93) (ix2 i j) = rmsAt (fun j => P ⟨i.val / 8192, by omega⟩ ⟨i.val % 8192, by omega⟩ j * Q ⟨i.val / 8192, by omega⟩ ⟨i.val % 8192, by omega⟩ j) scale j := by
  simp only [hostOps0_11, after_cons, after_nil]
  after_results_simp
  pointwise
  have ex : ∀ x : Fin 512, (⟨j.val / 512 * 512 + x.val, by omega⟩ : Fin 2048) = c512 (gColumn j) x :=
    fun x => Fin.ext (by show j.val / 512 * 512 + x.val = 512 * (j.val / 512) + x.val; omega)
  simp only [ex]
  have ej : (⟨j.val / 512 * 512 + j.val % 512, by omega⟩ : Fin 2048) = j := Fin.ext (Nat.div_add_mod' j.val 512)
  simp only [ej, hP, hQ, hs]
  unfold rmsAt
  with_reducible rfl

end Cert.ReferenceIdeal.Scan
end
-- ==== Proof.RefEntry.lean ====
/-
  What the plain program's buffers hold when its loop is entered, in the words of the layer.
-/
module

public import proofs.«01_k».proof.Proof.RefPairs
public import Idealize.ShloMosaic.Lib.Claim
public import Idealize.ShloMosaic.Lib.KernelVsHost
public import Idealize.ShloMosaic.Lib.Pipeline.ValueKit

@[expose] public section

set_option maxRecDepth 16384
noncomputable section

namespace Cert.ReferenceIdeal.Scan

open Cert.ReferenceIdeal Cert.ReferenceIdeal.Gen Cert.ReferenceIdeal.Value Cert.Scan Idealize.ShloMosaic Idealize.ShloMosaic.TcCoe Idealize.SL.Sem
open Idealize.ShloMosaic.StableHlo Idealize.ShloMosaic.Pointwise

variable (σ : Valuation τ sig (Elt Ideal))

/-- The layer's arguments as the plain program's buffers hold them. -/
def argsV : Args where
  xbc b r j := σ (Proc.devRef .tc main_arg0) (ix3 b r j)
  dt b r h := σ (Proc.devRef .tc main_arg1) (ix3 b r h)
  z b r j := σ (Proc.devRef .tc main_arg2) (ix3 b r j)
  bias h := σ (Proc.devRef .tc main_arg3) (ix1 h)
  aLog h := σ (Proc.devRef .tc main_arg4) (ix1 h)
  skip h := σ (Proc.devRef .tc main_arg5) (ix1 h)
  scale j := σ (Proc.devRef .tc main_arg6) (ix1 j)

/-- The contents after the first 1 stretch. -/
def e1 : Valuation τ sig (Elt Ideal) := after hostOps0 σ
/-- The contents after the first 2 stretches. -/
def e2 : Valuation τ sig (Elt Ideal) := after hostOps0_1 (e1 σ)
/-- The contents after the first 3 stretches. -/
def e3 : Valuation τ sig (Elt Ideal) := after hostOps0_2 (e2 σ)
/-- The contents after the first 4 stretches. -/
def e4 : Valuation τ sig (Elt Ideal) := after hostOps0_3 (e3 σ)
/-- The contents after the first 5 stretches. -/
def e5 : Valuation τ sig (Elt Ideal) := after hostOps0_4 (e4 σ)
/-- The contents after the first 6 stretches. -/
def e6 : Valuation τ sig (Elt Ideal) := after hostOps0_5 (e5 σ)
/-- The contents after the first 7 stretches. -/
def e7 : Valuation τ sig (Elt Ideal) := after hostOps0_6 (e6 σ)
/-- The contents after the first 8 stretches. -/
def e8 : Valuation τ sig (Elt Ideal) := after hostOps0_7 (e7 σ)
/-- The contents after the first 9 stretches. -/
def e9 : Valuation τ sig (Elt Ideal) := after hostOps0_8 (e8 σ)

/-- The contents at the loop's entry are those after the ninth stretch. -/
theorem afterL_preI : afterL preI σ = e9 σ := rfl

/-- A buffer that the stretches in between do not write. -/
theorem keep_v0_1_2 : e2 σ (Proc.devRef .tc main_v0) = (e1 σ) (Proc.devRef .tc main_v0) :=
  (after_of_writes_sub hostOps0_1 _ hostOps0_1_writes (by decide))
/-- A buffer that the stretches in between do not write. -/
theorem keep_v1_1_2 : e2 σ (Proc.devRef .tc main_v1) = (e1 σ) (Proc.devRef .tc main_v1) :=
  (after_of_writes_sub hostOps0_1 _ hostOps0_1_writes (by decide))
/-- A buffer that the stretches in between do not write. -/
theorem keep_v2_1_2 : e2 σ (Proc.devRef .tc main_v2) = (e1 σ) (Proc.devRef .tc main_v2) :=
  (after_of_writes_sub hostOps0_1 _ hostOps0_1_writes (by decide))
/-- A buffer that the stretches in between do not write. -/
theorem keep_arg4_0_2 : e2 σ (Proc.devRef .tc main_arg4) = (σ) (Proc.devRef .tc main_arg4) :=
  ((after_of_writes_sub hostOps0_1 _ hostOps0_1_writes (by decide)).trans
    (after_of_writes_sub hostOps0 _ hostOps0_writes (by decide)))
/-- A buffer that the stretches in between do not write. -/
theorem keep_arg2_0_9 : e9 σ (Proc.devRef .tc main_arg2) = (σ) (Proc.devRef .tc main_arg2) :=
  (((((((((after_of_writes_sub hostOps0_8 _ hostOps0_8_writes (by decide)).trans
    (after_of_writes_sub hostOps0_7 _ hostOps0_7_writes (by decide))).trans
    (after_of_writes_sub hostOps0_6 _ hostOps0_6_writes (by decide))).trans
    (after_of_writes_sub hostOps0_5 _ hostOps0_5_writes (by decide))).trans
    (after_of_writes_sub hostOps0_4 _ hostOps0_4_writes (by decide))).trans
    (after_of_writes_sub hostOps0_3 _ hostOps0_3_writes (by decide))).trans
    (after_of_writes_sub hostOps0_2 _ hostOps0_2_writes (by decide))).trans
    (after_of_writes_sub hostOps0_1 _ hostOps0_1_writes (by decide))).trans
    (after_of_writes_sub hostOps0 _ hostOps0_writes (by decide)))
/-- A buffer that the stretches in between do not write. -/
theorem keep_arg5_0_9 : e9 σ (Proc.devRef .tc main_arg5) = (σ) (Proc.devRef .tc main_arg5) :=
  (((((((((after_of_writes_sub hostOps0_8 _ hostOps0_8_writes (by decide)).trans
    (after_of_writes_sub hostOps0_7 _ hostOps0_7_writes (by decide))).trans
    (after_of_writes_sub hostOps0_6 _ hostOps0_6_writes (by decide))).trans
    (after_of_writes_sub hostOps0_5 _ hostOps0_5_writes (by decide))).trans
    (after_of_writes_sub hostOps0_4 _ hostOps0_4_writes (by decide))).trans
    (after_of_writes_sub hostOps0_3 _ hostOps0_3_writes (by decide))).trans
    (after_of_writes_sub hostOps0_2 _ hostOps0_2_writes (by decide))).trans
    (after_of_writes_sub hostOps0_1 _ hostOps0_1_writes (by decide))).trans
    (after_of_writes_sub hostOps0 _ hostOps0_writes (by decide)))
/-- A buffer that the stretches in between do not write. -/
theorem keep_arg6_0_9 : e9 σ (Proc.devRef .tc main_arg6) = (σ) (Proc.devRef .tc main_arg6) :=
  (((((((((after_of_writes_sub hostOps0_8 _ hostOps0_8_writes (by decide)).trans
    (after_of_writes_sub hostOps0_7 _ hostOps0_7_writes (by decide))).trans
    (after_of_writes_sub hostOps0_6 _ hostOps0_6_writes (by decide))).trans
    (after_of_writes_sub hostOps0_5 _ hostOps0_5_writes (by decide))).trans
    (after_of_writes_sub hostOps0_4 _ hostOps0_4_writes (by decide))).trans
    (after_of_writes_sub hostOps0_3 _ hostOps0_3_writes (by decide))).trans
    (after_of_writes_sub hostOps0_2 _ hostOps0_2_writes (by decide))).trans
    (after_of_writes_sub hostOps0_1 _ hostOps0_1_writes (by decide))).trans
    (after_of_writes_sub hostOps0 _ hostOps0_writes (by decide)))
/-- A buffer that the stretches in between do not write. -/
theorem keep_v9_3_9 : e9 σ (Proc.devRef .tc main_v9) = (e3 σ) (Proc.devRef .tc main_v9) :=
  ((((((after_of_writes_sub hostOps0_8 _ hostOps0_8_writes (by decide)).trans
    (after_of_writes_sub hostOps0_7 _ hostOps0_7_writes (by decide))).trans
    (after_of_writes_sub hostOps0_6 _ hostOps0_6_writes (by decide))).trans
    (after_of_writes_sub hostOps0_5 _ hostOps0_5_writes (by decide))).trans
    (after_of_writes_sub hostOps0_4 _ hostOps0_4_writes (by decide))).trans
    (after_of_writes_sub hostOps0_3 _ hostOps0_3_writes (by decide)))
/-- A buffer that the stretches in between do not write. -/
theorem keep_v12_3_8 : e8 σ (Proc.devRef .tc main_v12) = (e3 σ) (Proc.devRef .tc main_v12) :=
  (((((after_of_writes_sub hostOps0_7 _ hostOps0_7_writes (by decide)).trans
    (after_of_writes_sub hostOps0_6 _ hostOps0_6_writes (by decide))).trans
    (after_of_writes_sub hostOps0_5 _ hostOps0_5_writes (by decide))).trans
    (after_of_writes_sub hostOps0_4 _ hostOps0_4_writes (by decide))).trans
    (after_of_writes_sub hostOps0_3 _ hostOps0_3_writes (by decide)))
/-- A buffer that the stretches in between do not write. -/
theorem keep_v13_3_8 : e8 σ (Proc.devRef .tc main_v13) = (e3 σ) (Proc.devRef .tc main_v13) :=
  (((((after_of_writes_sub hostOps0_7 _ hostOps0_7_writes (by decide)).trans
    (after_of_writes_sub hostOps0_6 _ hostOps0_6_writes (by decide))).trans
    (after_of_writes_sub hostOps0_5 _ hostOps0_5_writes (by decide))).trans
    (after_of_writes_sub hostOps0_4 _ hostOps0_4_writes (by decide))).trans
    (after_of_writes_sub hostOps0_3 _ hostOps0_3_writes (by decide)))
/-- A buffer that the stretches in between do not write. -/
theorem keep_v14_3_8 : e8 σ (Proc.devRef .tc main_v14) = (e3 σ) (Proc.devRef .tc main_v14) :=
  (((((after_of_writes_sub hostOps0_7 _ hostOps0_7_writes (by decide)).trans
    (after_of_writes_sub hostOps0_6 _ hostOps0_6_writes (by decide))).trans
    (after_of_writes_sub hostOps0_5 _ hostOps0_5_writes (by decide))).trans
    (after_of_writes_sub hostOps0_4 _ hostOps0_4_writes (by decide))).trans
    (after_of_writes_sub hostOps0_3 _ hostOps0_3_writes (by decide)))
/-- A buffer that the stretches in between do not write. -/
theorem keep_v15_3_8 : e8 σ (Proc.devRef .tc main_v15) = (e3 σ) (Proc.devRef .tc main_v15) :=
  (((((after_of_writes_sub hostOps0_7 _ hostOps0_7_writes (by decide)).trans
    (after_of_writes_sub hostOps0_6 _ hostOps0_6_writes (by decide))).trans
    (after_of_writes_sub hostOps0_5 _ hostOps0_5_writes (by decide))).trans
    (after_of_writes_sub hostOps0_4 _ hostOps0_4_writes (by decide))).trans
    (after_of_writes_sub hostOps0_3 _ hostOps0_3_writes (by decide)))
/-- A buffer that the stretches in between do not write. -/
theorem keep_v16_3_9 : e9 σ (Proc.devRef .tc main_v16) = (e3 σ) (Proc.devRef .tc main_v16) :=
  ((((((after_of_writes_sub hostOps0_8 _ hostOps0_8_writes (by decide)).trans
    (after_of_writes_sub hostOps0_7 _ hostOps0_7_writes (by decide))).trans
    (after_of_writes_sub hostOps0_6 _ hostOps0_6_writes (by decide))).trans
    (after_of_writes_sub hostOps0_5 _ hostOps0_5_writes (by decide))).trans
    (after_of_writes_sub hostOps0_4 _ hostOps0_4_writes (by decide))).trans
    (after_of_writes_sub hostOps0_3 _ hostOps0_3_writes (by decide)))
/-- A buffer that the stretches in between do not write. -/
theorem keep_v21_4_8 : e8 σ (Proc.devRef .tc main_v21) = (e4 σ) (Proc.devRef .tc main_v21) :=
  ((((after_of_writes_sub hostOps0_7 _ hostOps0_7_writes (by decide)).trans
    (after_of_writes_sub hostOps0_6 _ hostOps0_6_writes (by decide))).trans
    (after_of_writes_sub hostOps0_5 _ hostOps0_5_writes (by decide))).trans
    (after_of_writes_sub hostOps0_4 _ hostOps0_4_writes (by decide)))
/-- A buffer that the stretches in between do not write. -/
theorem keep_v21_4_9 : e9 σ (Proc.devRef .tc main_v21) = (e4 σ) (Proc.devRef .tc main_v21) :=
  (((((after_of_writes_sub hostOps0_8 _ hostOps0_8_writes (by decide)).trans
    (after_of_writes_sub hostOps0_7 _ hostOps0_7_writes (by decide))).trans
    (after_of_writes_sub hostOps0_6 _ hostOps0_6_writes (by decide))).trans
    (after_of_writes_sub hostOps0_5 _ hostOps0_5_writes (by decide))).trans
    (after_of_writes_sub hostOps0_4 _ hostOps0_4_writes (by decide)))
/-- A buffer that the stretches in between do not write. -/
theorem keep_v16_3_8 : e8 σ (Proc.devRef .tc main_v16) = (e3 σ) (Proc.devRef .tc main_v16) :=
  (((((after_of_writes_sub hostOps0_7 _ hostOps0_7_writes (by decide)).trans
    (after_of_writes_sub hostOps0_6 _ hostOps0_6_writes (by decide))).trans
    (after_of_writes_sub hostOps0_5 _ hostOps0_5_writes (by decide))).trans
    (after_of_writes_sub hostOps0_4 _ hostOps0_4_writes (by decide))).trans
    (after_of_writes_sub hostOps0_3 _ hostOps0_3_writes (by decide)))
/-- A buffer that the stretches in between do not write. -/
theorem keep_v26_5_7 : e7 σ (Proc.devRef .tc main_v26) = (e5 σ) (Proc.devRef .tc main_v26) :=
  ((after_of_writes_sub hostOps0_6 _ hostOps0_6_writes (by decide)).trans
    (after_of_writes_sub hostOps0_5 _ hostOps0_5_writes (by decide)))

/-- The steps. -/
theorem f_v6 (b : Fin 2) (r : Fin 8192) (h : Fin 32) : e2 σ (Proc.devRef .tc main_v6) (ix3 b r h) = softp ((argsV σ).dt b r h + (argsV σ).bias h) :=
  (s1_v6 (e1 σ) b r h).trans (congrArg softp (s0_v5 σ b r h _ _ rfl rfl))

/-- The heads' inputs, by chunk. -/
theorem f_v13 (b : Fin 2) (k : Fin 64) (l : Fin 128) (g : Fin 4) (e : Fin 8) (p : Fin 64) : e3 σ (Proc.devRef .tc main_v13) (ix6 b k l g e p) = ((argsV σ).blk b k).x l (hh g e) p :=
  (s2_v13 (e2 σ) b k l g e p).trans ((congrFun (keep_v0_1_2 σ) _).trans (s0_v0 σ b (pos k l) ⟨64 * (hh g e).val + p.val, by omega⟩))

/-- The steps, by chunk. -/
theorem f_v14 (b : Fin 2) (k : Fin 64) (l : Fin 128) (g : Fin 4) (e : Fin 8) : e3 σ (Proc.devRef .tc main_v14) (ix5 b k l g e) = ((argsV σ).blk b k).dt l (hh g e) :=
  (s2_v14 (e2 σ) b k l g e).trans (f_v6 σ b (pos k l) (hh g e))

/-- `B`, by chunk. -/
theorem f_v15 (b : Fin 2) (k : Fin 64) (l : Fin 128) (g : Fin 4) (n : Fin 128) : e3 σ (Proc.devRef .tc main_v15) (ix5 b k l g n) = ((argsV σ).blk b k).B l g n :=
  (s2_v15 (e2 σ) b k l g n).trans ((congrFun (keep_v1_1_2 σ) _).trans ((s0_v1 σ b (pos k l) ⟨128 * g.val + n.val, by omega⟩).trans
    (congrArg ((argsV σ).xbc b (pos k l)) (Fin.ext (Nat.add_assoc 2048 (128 * g.val) n.val).symm))))

/-- `C`, by chunk. -/
theorem f_v16 (b : Fin 2) (k : Fin 64) (l : Fin 128) (g : Fin 4) (n : Fin 128) : e3 σ (Proc.devRef .tc main_v16) (ix5 b k l g n) = ((argsV σ).blk b k).C l g n :=
  (s2_v16 (e2 σ) b k l g n).trans ((congrFun (keep_v2_1_2 σ) _).trans ((s0_v2 σ b (pos k l) ⟨128 * g.val + n.val, by omega⟩).trans
    (congrArg ((argsV σ).xbc b (pos k l)) (Fin.ext (Nat.add_assoc 2560 (128 * g.val) n.val).symm))))

/-- The steps times their rates. -/
theorem f_v20 (b : Fin 2) (k : Fin 64) (l : Fin 128) (g : Fin 4) (e : Fin 8) : e3 σ (Proc.devRef .tc main_v20) (ix5 b k l g e) = ((argsV σ).blk b k).dt l (hh g e) * ((argsV σ).blk b k).A (hh g e) :=
  s2_v20 (e2 σ) _ (f_v6 σ) (argsV σ).aLog (fun h => congrFun (keep_arg4_0_2 σ) _) b k l g e

/-- The heads' inputs, by position. -/
theorem f_v9 (b : Fin 2) (r : Fin 8192) (h : Fin 32) (p : Fin 64) : e3 σ (Proc.devRef .tc main_v9) (ix4 b r h p) = (argsV σ).xbc b r ⟨64 * h.val + p.val, by omega⟩ :=
  (s2_v9 (e2 σ) b r h p).trans ((congrFun (keep_v0_1_2 σ) _).trans (s0_v0 σ b r ⟨64 * h.val + p.val, by omega⟩))

/-- The running sums. -/
theorem f_v21 (b : Fin 2) (k : Fin 64) (l : Fin 128) (g : Fin 4) (e : Fin 8) : e4 σ (Proc.devRef .tc main_v21) (ix5 b k l g e) = ((argsV σ).blk b k).acum l (hh g e) :=
  s3_v21 (e3 σ) (argsV σ).blk (f_v20 σ) b k l g e

/-- Differences of running sums. -/
theorem f_v26 (b : Fin 2) (k : Fin 64) (l s : Fin 128) (g : Fin 4) (e : Fin 8) : e5 σ (Proc.devRef .tc main_v26) (ix6 b k l s g e) = ((argsV σ).blk b k).acum l (hh g e) - ((argsV σ).blk b k).acum s (hh g e) :=
  s4_v26 (e4 σ) (argsV σ).blk (f_v21 σ) b k l s g e

/-- The masked exponents. -/
theorem f_v30 (b : Fin 2) (k : Fin 64) (l s : Fin 128) (g : Fin 4) (e : Fin 8) : e8 σ (Proc.devRef .tc main_v30) (ix6 b k l s g e) = if s ≤ l then ((argsV σ).blk b k).acum l (hh g e) - ((argsV σ).blk b k).acum s (hh g e) else ⊥ :=
  s7_v30 (e7 σ) (argsV σ).blk (fun b k l s g e => (congrFun (keep_v26_5_7 σ) _).trans (f_v26 σ b k l s g e))
    (s6_v29 (e6 σ) (s5_v28 (e5 σ) (s4_v27 (e4 σ)))) (s6_cst (e6 σ)) b k l s g e

/-- The part of a chunk's output that its own inputs give. -/
theorem f_v41 (b : Fin 2) (k : Fin 64) (l : Fin 128) (g : Fin 4) (e : Fin 8) (p : Fin 64) : e9 σ (Proc.devRef .tc main_v41) (ix6 b k l g e p) = ∑ s, ((argsV σ).blk b k).wgt l s (hh g e) * ((argsV σ).blk b k).x s (hh g e) p :=
  s8_v41 (e8 σ) (argsV σ).blk (fun b k l g e p => (congrFun (keep_v13_3_8 σ) _).trans (f_v13 σ b k l g e p))
    (fun b k l g e => (congrFun (keep_v14_3_8 σ) _).trans (f_v14 σ b k l g e))
    (fun b k l g n => (congrFun (keep_v15_3_8 σ) _).trans (f_v15 σ b k l g n))
    (fun b k l g n => (congrFun (keep_v16_3_8 σ) _).trans (f_v16 σ b k l g n)) (f_v30 σ) b k l g e p

/-- What a chunk adds to the state. -/
theorem f_v58_0 (b : Fin 2) (k : Fin 64) (g : Fin 4) (e : Fin 8) (p : Fin 64) (n : Fin 128) : e9 σ (Proc.devRef .tc main_v58_0) (ix6 k b g e p n) = ∑ l, (Ideal.exp (((argsV σ).blk b k).acum 127 (hh g e) - ((argsV σ).blk b k).acum l (hh g e)) * ((argsV σ).blk b k).dt l (hh g e) * ((argsV σ).blk b k).x l (hh g e) p) * ((argsV σ).blk b k).B l (grp (hh g e)) n :=
  s8_v58_0 (e8 σ) (argsV σ).blk (fun b k l g e p => (congrFun (keep_v13_3_8 σ) _).trans (f_v13 σ b k l g e p))
    (fun b k l g e => (congrFun (keep_v14_3_8 σ) _).trans (f_v14 σ b k l g e))
    (fun b k l g n => (congrFun (keep_v15_3_8 σ) _).trans (f_v15 σ b k l g n))
    (fun b k l g e => (congrFun (keep_v21_4_8 σ) _).trans (f_v21 σ b k l g e)) b k g e p n

/-- How a chunk lets the state decay. -/
theorem f_v58_1 (b : Fin 2) (k : Fin 64) (g : Fin 4) (e : Fin 8) : e9 σ (Proc.devRef .tc main_v58_1) (ix4 k b g e) = Ideal.exp (((argsV σ).blk b k).acum 127 (hh g e)) :=
  s8_v58_1 (e8 σ) (argsV σ).blk (fun b k l g e => (congrFun (keep_v21_4_8 σ) _).trans (f_v21 σ b k l g e)) b k g e

/-- The state the loop starts from. -/
theorem f_v58_3 (b : Fin 2) (g : Fin 4) (e : Fin 8) (p : Fin 64) (n : Fin 128) : e9 σ (Proc.devRef .tc main_v58_3) (ix5 b g e p n) = (0 : EReal) :=
  s8_v58_3 (e8 σ) (fun i => (congrFun (keep_v12_3_8 σ) i).trans (s2_v12 (e2 σ) i)) b g e p n

end Cert.ReferenceIdeal.Scan
end
-- ==== Proof.RefLoop.lean ====
/-
  The plain program's loop: before trip `k` its state is the layer's state before chunk `k`, and the stack holds the states
  before the chunks already gone through.
-/
module

public import proofs.«01_k».proof.Proof.RefEntry
public import proofs.«01_k».proof.Proof.RefPost
public import Idealize.ShloMosaic.Lib.Claim
public import Idealize.ShloMosaic.Lib.KernelVsHost
public import Idealize.ShloMosaic.Lib.WordCmp
public import Idealize.ShloMosaic.Lib.Pipeline.ValueKit

@[expose] public section

set_option maxRecDepth 16384
noncomputable section

namespace Cert.ReferenceIdeal.Scan

open Cert.ReferenceIdeal Cert.ReferenceIdeal.Gen Cert.ReferenceIdeal.Value Cert.Scan Idealize.ShloMosaic Idealize.ShloMosaic.TcCoe Idealize.SL.Sem
open Idealize.ShloMosaic.StableHlo Idealize.ShloMosaic.Pointwise

/-- The counter's word as a start of a slice. -/
theorem start_toInt (k : Fin 64) : (BitVec.ofNat 32 k.val).toInt = (k.val : Int) := by
  have hk := k.isLt
  rw [BitVec.toInt_eq_toNat_of_lt (by rw [BitVec.toNat_ofNat]; omega), BitVec.toNat_ofNat]
  omega

/-- The slice of one chunk's decays. -/
theorem slice4 (x : FVec Ideal S64x2x4x8 .f32) (st : Fin 4 → Int) (k : Fin 64) (hst : ∀ a, st a = ((![k.val, 0, 0, 0] : Fin 4 → Nat) a : Int))
    (b : Fin 2) (g : Fin 4) (e : Fin 8) :
    Host.dynamicSlice S1x2x4x8 x st sliceFits_S64x2x4x8_S1x2x4x8 (ix4 0 b g e) = x (ix4 k b g e) := by
  have hk := k.isLt
  have hs : S64x2x4x8.Slices (![k.val, 0, 0, 0] : Fin 4 → Nat) S1x2x4x8 := ⟨rfl, fun a => by
    match a with
    | ⟨0, _⟩ => show k.val + 1 ≤ 64; omega
    | ⟨1, _⟩ => show 0 + 2 ≤ 2; omega
    | ⟨2, _⟩ => show 0 + 4 ≤ 4; omega
    | ⟨3, _⟩ => show 0 + 8 ≤ 8; omega⟩
  rw [WordCmp.dynamicSlice_eq_extract S1x2x4x8 x st sliceFits_S64x2x4x8_S1x2x4x8 _ hs hst]
  refine congrArg x (funext fun a => Fin.ext ?_)
  match a with
  | ⟨0, _⟩ => rfl
  | ⟨1, _⟩ => show 0 + b.val = b.val; omega
  | ⟨2, _⟩ => show 0 + g.val = g.val; omega
  | ⟨3, _⟩ => show 0 + e.val = e.val; omega

/-- A trip's slice lies within the stack. -/
theorem fits6 (k : Fin 64) : S64x2x4x8x64x128.Slices (![k.val, 0, 0, 0, 0, 0] : Fin 6 → Nat) S1x2x4x8x64x128 := by
  have hk := k.isLt
  exact ⟨rfl, fun a => by
    match a with
    | ⟨0, _⟩ => show k.val + 1 ≤ 64; omega
    | ⟨1, _⟩ => show 0 + 2 ≤ 2; omega
    | ⟨2, _⟩ => show 0 + 4 ≤ 4; omega
    | ⟨3, _⟩ => show 0 + 8 ≤ 8; omega
    | ⟨4, _⟩ => show 0 + 64 ≤ 64; omega
    | ⟨5, _⟩ => show 0 + 128 ≤ 128; omega⟩

/-- The slice of what one chunk adds. -/
theorem slice6 (x : FVec Ideal S64x2x4x8x64x128 .f32) (st : Fin 6 → Int) (k : Fin 64) (hst : ∀ a, st a = ((![k.val, 0, 0, 0, 0, 0] : Fin 6 → Nat) a : Int))
    (b : Fin 2) (g : Fin 4) (e : Fin 8) (p : Fin 64) (n : Fin 128) :
    Host.dynamicSlice S1x2x4x8x64x128 x st sliceFits_S64x2x4x8x64x128_S1x2x4x8x64x128 (ix6 0 b g e p n) = x (ix6 k b g e p n) := by
  rw [WordCmp.dynamicSlice_eq_extract S1x2x4x8x64x128 x st sliceFits_S64x2x4x8x64x128_S1x2x4x8x64x128 _ (fits6 k) hst]
  refine congrArg x (funext fun a => Fin.ext ?_)
  match a with
  | ⟨0, _⟩ => rfl
  | ⟨1, _⟩ => show 0 + b.val = b.val; omega
  | ⟨2, _⟩ => show 0 + g.val = g.val; omega
  | ⟨3, _⟩ => show 0 + e.val = e.val; omega
  | ⟨4, _⟩ => show 0 + p.val = p.val; omega
  | ⟨5, _⟩ => show 0 + n.val = n.val; omega

/-- The stack after one chunk's state is put in. -/
theorem update6 (x : FVec Ideal S64x2x4x8x64x128 .f32) (u : FVec Ideal S1x2x4x8x64x128 .f32) (st : Fin 6 → Int) (k : Fin 64)
    (hst : ∀ a, st a = ((![k.val, 0, 0, 0, 0, 0] : Fin 6 → Nat) a : Int))
    (j : Fin 64) (b : Fin 2) (g : Fin 4) (e : Fin 8) (p : Fin 64) (n : Fin 128) :
    Host.dynamicUpdateSlice x u st updateFits_S64x2x4x8x64x128_S1x2x4x8x64x128 (ix6 j b g e p n)
      = if j = k then u (ix6 0 b g e p n) else x (ix6 j b g e p n) := by
  rw [WordCmp.dynamicUpdateSlice_eq_update x u st updateFits_S64x2x4x8x64x128_S1x2x4x8x64x128 _ (fits6 k) hst]
  unfold updateSlice
  by_cases h : j = k
  · subst h
    rw [if_pos rfl]
    split
    · next hin =>
      refine congrArg u (funext fun a => Fin.ext ?_)
      match a with
      | ⟨0, _⟩ => show j.val - j.val = 0; omega
      | ⟨1, _⟩ => show b.val - 0 = b.val; omega
      | ⟨2, _⟩ => show g.val - 0 = g.val; omega
      | ⟨3, _⟩ => show e.val - 0 = e.val; omega
      | ⟨4, _⟩ => show p.val - 0 = p.val; omega
      | ⟨5, _⟩ => show n.val - 0 = n.val; omega
    · next hin =>
      refine absurd (fun a => ?_) hin
      match a with
      | ⟨0, _⟩ => exact ⟨Nat.le_refl _, by show j.val < j.val + 1; omega⟩
      | ⟨1, _⟩ => exact ⟨Nat.zero_le _, by show b.val < 0 + 2; omega⟩
      | ⟨2, _⟩ => exact ⟨Nat.zero_le _, by show g.val < 0 + 4; omega⟩
      | ⟨3, _⟩ => exact ⟨Nat.zero_le _, by show e.val < 0 + 8; omega⟩
      | ⟨4, _⟩ => exact ⟨Nat.zero_le _, by show p.val < 0 + 64; omega⟩
      | ⟨5, _⟩ => exact ⟨Nat.zero_le _, by show n.val < 0 + 128; omega⟩
  · rw [if_neg h]
    split
    · next hin =>
      have h0 := hin 0
      change k.val ≤ j.val ∧ j.val < k.val + 1 at h0
      exact absurd (Fin.ext (by omega)) h
    · rfl

/-- The starts of a slice of rank four. -/
theorem starts4 (ctr : IVec S_ 32) (k : Fin 64) (hc : ctr ix0 = BitVec.ofNat 32 k.val) (a : Fin 4) :
    ((![ctr, constantI S_ 32 0#32, constantI S_ 32 0#32, constantI S_ 32 0#32] : Fin 4 → IVec S_ 32) a (Shape.Idx.first h_S_)).toInt
      = ((![k.val, 0, 0, 0] : Fin 4 → Nat) a : Int) := by
  match a with
  | ⟨0, _⟩ => exact (congrArg BitVec.toInt ((congrArg ctr (funext fun i => i.elim0)).trans hc)).trans (start_toInt k)
  | ⟨1, _⟩ => rfl
  | ⟨2, _⟩ => rfl
  | ⟨3, _⟩ => rfl

/-- The starts of a slice of rank six. -/
theorem starts6 (ctr : IVec S_ 32) (k : Fin 64) (hc : ctr ix0 = BitVec.ofNat 32 k.val) (a : Fin 6) :
    ((![ctr, constantI S_ 32 0#32, constantI S_ 32 0#32, constantI S_ 32 0#32, constantI S_ 32 0#32, constantI S_ 32 0#32] : Fin 6 → IVec S_ 32) a
      (Shape.Idx.first h_S_)).toInt = ((![k.val, 0, 0, 0, 0, 0] : Fin 6 → Nat) a : Int) := by
  match a with
  | ⟨0, _⟩ => exact (congrArg BitVec.toInt ((congrArg ctr (funext fun i => i.elim0)).trans hc)).trans (start_toInt k)
  | ⟨1, _⟩ => rfl
  | ⟨2, _⟩ => rfl
  | ⟨3, _⟩ => rfl
  | ⟨4, _⟩ => rfl
  | ⟨5, _⟩ => rfl

/-- One trip's state, from the parts it is computed of. -/
theorem next_tower (v : FVec Ideal S2x4x8x64x128 .f32) (d : FVec Ideal S1x2x4x8 .f32) (w : FVec Ideal S1x2x4x8x64x128 .f32)
    (b : Fin 2) (g : Fin 4) (e : Fin 8) (p : Fin 64) (n : Fin 128) :
    (addf (mulf v (broadcastInDim S2x4x8x64x128 ![0, 1, 2, 3, 4] bcast_S2x4x8x1x1_S2x4x8x64x128_0_1_2_3_4
      (broadcastInDim S2x4x8x1x1 ![0, 1, 2] bcast_S2x4x8_S2x4x8x1x1_0_1_2 (shapeCast S2x4x8 d shapeCasts_S1x2x4x8_S2x4x8))))
      (shapeCast S2x4x8x64x128 w shapeCasts_S1x2x4x8x64x128_S2x4x8x64x128) : FVec Ideal S2x4x8x64x128 .f32) (ix5 b g e p n)
      = (v (ix5 b g e p n) * d (ix4 0 b g e) + w (ix6 0 b g e p n) : EReal) := by
  pointwise

/-- What a trip puts on the stack. -/
theorem stack_tower (v : FVec Ideal S2x4x8x64x128 .f32) (b : Fin 2) (g : Fin 4) (e : Fin 8) (p : Fin 64) (n : Fin 128) :
    (broadcastInDim S1x2x4x8x64x128 ![1, 2, 3, 4, 5] bcast_S2x4x8x64x128_S1x2x4x8x64x128_1_2_3_4_5 v : FVec Ideal S1x2x4x8x64x128 .f32) (ix6 0 b g e p n)
      = v (ix5 b g e p n) := by
  pointwise

variable (σ : Valuation τ sig (Elt Ideal))

/-- The counter after a trip. -/
theorem step_ctr (k : ℕ) (hc : σ (Proc.devRef .tc main_v58_2) ix0 = BitVec.ofNat 32 k) :
    STEP σ (Proc.devRef .tc main_v58_2) ix0 = BitVec.ofNat 32 (k + 1) := by
  rw [STEP_main_v58_2]
  show IntOp.addi (σ (Proc.devRef .tc main_v58_2) ix0) 1#32 = _
  rw [hc, BitVec.ofNat_add]
  rfl

/-- The state after a trip. -/
theorem step_state (k : Fin 64) (hc : σ (Proc.devRef .tc main_v58_2) ix0 = BitVec.ofNat 32 k.val)
    (H D U : EReal) (b : Fin 2) (g : Fin 4) (e : Fin 8) (p : Fin 64) (n : Fin 128)
    (h3 : σ (Proc.devRef .tc main_v58_3) (ix5 b g e p n) = H) (h1 : σ (Proc.devRef .tc main_v58_1) (ix4 k b g e) = D)
    (h0 : σ (Proc.devRef .tc main_v58_0) (ix6 k b g e p n) = U) :
    STEP σ (Proc.devRef .tc main_v58_3) (ix5 b g e p n) = H * D + U := by
  rw [STEP_main_v58_3]
  exact (next_tower (σ (Proc.devRef .tc main_v58_3)) _ _ b g e p n).trans (congrArg₂ (fun s t : EReal => s + t)
    (congrArg₂ (fun s t : EReal => s * t) h3 ((slice4 (σ (Proc.devRef .tc main_v58_1)) _ k (starts4 (σ (Proc.devRef .tc main_v58_2)) k hc) b g e).trans h1))
    ((slice6 (σ (Proc.devRef .tc main_v58_0)) _ k (starts6 (σ (Proc.devRef .tc main_v58_2)) k hc) b g e p n).trans h0))

/-- The stack after a trip. -/
theorem step_stack (k : Fin 64) (hc : σ (Proc.devRef .tc main_v58_2) ix0 = BitVec.ofNat 32 k.val)
    (j : Fin 64) (b : Fin 2) (g : Fin 4) (e : Fin 8) (p : Fin 64) (n : Fin 128) :
    STEP σ (Proc.devRef .tc main_v58_4) (ix6 j b g e p n)
      = if j = k then σ (Proc.devRef .tc main_v58_3) (ix5 b g e p n) else σ (Proc.devRef .tc main_v58_4) (ix6 j b g e p n) := by
  rw [STEP_main_v58_4]
  refine (update6 (σ (Proc.devRef .tc main_v58_4)) _ _ k (starts6 (σ (Proc.devRef .tc main_v58_2)) k hc) j b g e p n).trans ?_
  rw [stack_tower (σ (Proc.devRef .tc main_v58_3))]

/-- What the carried buffers hold before trip `k`. -/
structure Inv (a : Args) (V : Valuation τ sig (Elt Ideal)) (k : ℕ) : Prop where
  ctr : V (Proc.devRef .tc main_v58_2) ix0 = BitVec.ofNat 32 k
  adds : ∀ k b g e p n, V (Proc.devRef .tc main_v58_0) (ix6 k b g e p n)
    = ∑ l, (Ideal.exp ((a.blk b k).acum 127 (hh g e) - (a.blk b k).acum l (hh g e)) * (a.blk b k).dt l (hh g e) * (a.blk b k).x l (hh g e) p) * (a.blk b k).B l (grp (hh g e)) n
  decay : ∀ k b g e, V (Proc.devRef .tc main_v58_1) (ix4 k b g e) = Ideal.exp ((a.blk b k).acum 127 (hh g e))
  state : ∀ b g e p n, V (Proc.devRef .tc main_v58_3) (ix5 b g e p n) = a.state b k (hh g e) p n
  stack : ∀ (j : Fin 64), j.val < k → ∀ b g e p n, V (Proc.devRef .tc main_v58_4) (ix6 j b g e p n) = a.state b j.val (hh g e) p n

/-- One trip goes on. -/
theorem Inv.step (a : Args) (V : Valuation τ sig (Elt Ideal)) (k : Fin 64) (h : Inv a V k.val) : Inv a (STEP V) (k.val + 1) where
  ctr := step_ctr V k.val h.ctr
  adds k' b g e p n := (congrFun (STEP_main_v58_0 V) _).trans (h.adds k' b g e p n)
  decay k' b g e := (congrFun (STEP_main_v58_1 V) _).trans (h.decay k' b g e)
  state b g e p n := by
    rw [step_state V k h.ctr _ _ _ b g e p n (h.state b g e p n) (h.decay k b g e) (h.adds k b g e p n)]
    have hk : (⟨k.val % 64, Nat.mod_lt _ (by decide)⟩ : Fin 64) = k := Fin.ext (Nat.mod_eq_of_lt k.isLt)
    show _ = (a.blk b ⟨k.val % 64, _⟩).next (a.state b k.val) (hh g e) p n
    rw [hk]
    rfl
  stack j hj b g e p n := by
    rw [step_stack V k h.ctr]
    by_cases e' : j = k
    · subst e'
      rw [if_pos rfl]
      exact h.state b g e p n
    · rw [if_neg e']
      exact h.stack j (by have : j.val ≠ k.val := fun q => e' (Fin.ext q); omega) b g e p n

/-- All trips. -/
theorem Inv.iterate (a : Args) (V : Valuation τ sig (Elt Ideal)) (h : Inv a V 0) : ∀ k, k ≤ 64 → Inv a (STEP^[k] V) k
  | 0, _ => h
  | k + 1, hk => by
    rw [Function.iterate_succ_apply']
    exact Inv.step a _ ⟨k, hk⟩ (Inv.iterate a V h k (Nat.le_of_succ_le hk))

/-- The entry satisfies it. -/
theorem inv_entry : Inv (argsV σ) (e9 σ) 0 where
  ctr := s8_v58_2 (e8 σ)
  adds k b g e p n := f_v58_0 σ b k g e p n
  decay k b g e := f_v58_1 σ b k g e
  state b g e p n := f_v58_3 σ b g e p n
  stack j hj := absurd hj (Nat.not_lt_zero _)

end Cert.ReferenceIdeal.Scan
end
-- ==== Proof.RefEnd.lean ====
/-
  The plain program's results: what the loop leaves alone, and the two results in the words of the layer.
-/
module

public import proofs.«01_k».proof.Proof.RefPost
public import proofs.«01_k».proof.Proof.RefLoop

@[expose] public section

set_option maxRecDepth 16384
noncomputable section

namespace Cert.ReferenceIdeal.Scan

open Cert.ReferenceIdeal Cert.ReferenceIdeal.Gen Cert.ReferenceIdeal.Value Cert.Scan Idealize.ShloMosaic Idealize.ShloMosaic.TcCoe Idealize.SL.Sem
open Idealize.ShloMosaic.StableHlo Idealize.ShloMosaic.Pointwise

/-- What the output's stretch writes. -/
abbrev outW : List (Ref sig .tc) := [main_v59, main_v60, main_v61, main_v62, main_v63, main_v64, main_v65, main_v66, main_v67,
  main_v68, main_v69, main_v70, main_v71, main_v72, main_v73, main_v74]
/-- What the gate's stretch writes. -/
abbrev gateW : List (Ref sig .tc) := [main_call7_v0, main_call7_v1, main_call7_cst, main_call7_v2, main_call7_v3, main_call7_cst_0,
  main_call7_v4, main_call7_v5, main_v75]
/-- What the normalisation's stretch writes. -/
abbrev normW : List (Ref sig .tc) := [main_v76, main_v77, main_v78, main_v79, main_cst_3, main_v80, main_v81, main_cst_4, main_v82,
  main_v83, main_cst_5, main_v84, main_v85, main_v86, main_v87, main_v88, main_v89, main_v90, main_v91, main_v92, main_v93]

/-- The output's stretch leaves a buffer it does not write. -/
theorem out_keep (V : Valuation τ sig (Elt Ideal)) (r : Ref sig .tc) (h : r ∉ outW) :
    after hostOps0_9 V (Proc.devRef .tc r) = V (Proc.devRef .tc r) := after_unwritten outW rfl h V
/-- The gate's stretch leaves a buffer it does not write. -/
theorem gate_keep (V : Valuation τ sig (Elt Ideal)) (r : Ref sig .tc) (h : r ∉ gateW) :
    after hostOps0_10 V (Proc.devRef .tc r) = V (Proc.devRef .tc r) := after_unwritten gateW rfl h V
/-- The normalisation's stretch leaves a buffer it does not write. -/
theorem norm_keep (V : Valuation τ sig (Elt Ideal)) (r : Ref sig .tc) (h : r ∉ normW) :
    after hostOps0_11 V (Proc.devRef .tc r) = V (Proc.devRef .tc r) := after_unwritten normW rfl h V

/-- What one trip writes. -/
abbrev tripW : List (Ref sig .tc) := while0Ops0_W ++ (while0Ops0_1_W ++ (while0Ops0_2_W ++ (while0Ops0_3_W ++ (while0Ops0_4_W ++ condOps_W))))

/-- A trip leaves a buffer it does not write. -/
theorem trip_keep (V : Valuation τ sig (Elt Ideal)) (r : Ref sig .tc) (h : r ∉ tripW) :
    afterL bodyI (after condOps V) (Proc.devRef .tc r) = V (Proc.devRef .tc r) := by
  simp only [tripW, List.mem_append, not_or] at h
  obtain ⟨h0, h1, h2, h3, h4, hc⟩ := h
  exact (after_of_writes_sub while0Ops0_4 _ while0Ops0_4_writes h4).trans ((after_of_writes_sub while0Ops0_3 _ while0Ops0_3_writes h3).trans
    ((after_of_writes_sub while0Ops0_2 _ while0Ops0_2_writes h2).trans ((after_of_writes_sub while0Ops0_1 _ while0Ops0_1_writes h1).trans
    ((after_of_writes_sub while0Ops0 _ while0Ops0_writes h0).trans (after_of_writes_sub condOps _ condOps_writes hc)))))

/-- What the stretches before the loop write. -/
abbrev entryW : List (Ref sig .tc) := hostOps0_W ++ (hostOps0_1_W ++ (hostOps0_2_W ++ (hostOps0_3_W ++ (hostOps0_4_W ++ (hostOps0_5_W
  ++ (hostOps0_6_W ++ (hostOps0_7_W ++ hostOps0_8_W)))))))

/-- The stretches before the loop leave a buffer they do not write. -/
theorem entry_keep (V : Valuation τ sig (Elt Ideal)) (r : Ref sig .tc) (h : r ∉ entryW) : e9 V (Proc.devRef .tc r) = V (Proc.devRef .tc r) := by
  simp only [entryW, List.mem_append, not_or] at h
  obtain ⟨h0, h1, h2, h3, h4, h5, h6, h7, h8⟩ := h
  exact (after_of_writes_sub hostOps0_8 _ hostOps0_8_writes h8).trans ((after_of_writes_sub hostOps0_7 _ hostOps0_7_writes h7).trans
    ((after_of_writes_sub hostOps0_6 _ hostOps0_6_writes h6).trans ((after_of_writes_sub hostOps0_5 _ hostOps0_5_writes h5).trans
    ((after_of_writes_sub hostOps0_4 _ hostOps0_4_writes h4).trans ((after_of_writes_sub hostOps0_3 _ hostOps0_3_writes h3).trans
    ((after_of_writes_sub hostOps0_2 _ hostOps0_2_writes h2).trans ((after_of_writes_sub hostOps0_1 _ hostOps0_1_writes h1).trans
    (after_of_writes_sub hostOps0 _ hostOps0_writes h0))))))))

variable (m : (ℓ : Loc nD τ sig) → Buf (Elt Ideal) ℓ) (c : Dev nD)

/-- The loop leaves a buffer that no trip writes. -/
theorem loop_keep (r : Ref sig .tc) (h : r ∉ tripW) :
    ∀ k, atK m k c (Proc.devRef .tc r) = e9 (launchContents m c) (Proc.devRef .tc r)
  | 0 => rfl
  | k + 1 => (trip_keep (atK m k c) r h).trans (loop_keep r h k)

/-- The contents when the loop is left. -/
def left : Valuation τ sig (Elt Ideal) := after condOps (atK m 64 c)

/-- A buffer that no trip writes, when the loop is left. -/
theorem left_keep (r : Ref sig .tc) (h : r ∉ tripW) : left m c (Proc.devRef .tc r) = e9 (launchContents m c) (Proc.devRef .tc r) := by
  have h' := h
  simp only [tripW, List.mem_append, not_or] at h'
  exact (after_of_writes_sub condOps _ condOps_writes h'.2.2.2.2.2).trans (loop_keep m c r h 64)

/-- An argument when the loop is left. -/
theorem left_arg (r : Ref sig .tc) (h : r ∉ tripW) (h' : r ∉ entryW) : left m c (Proc.devRef .tc r) = m (c.tc.loc r) :=
  (left_keep m c r h).trans (entry_keep _ r h')

/-- The program's final contents, stretch by stretch. -/
theorem final_eq : finalContents condOps preI bodyI postI 64 m c = after hostOps0_11 (after hostOps0_10 (after hostOps0_9 (left m c))) := rfl

/-- An argument at the end. -/
theorem final_arg (r : Ref sig .tc) (h : r ∉ tripW ++ (entryW ++ (outW ++ (gateW ++ normW)))) :
    finalContents condOps preI bodyI postI 64 m c (Proc.devRef .tc r) = m (c.tc.loc r) := by
  have apart : ∀ {W W' : List (Ref sig .tc)}, r ∉ W ++ W' → r ∉ W ∧ r ∉ W' :=
    fun q => ⟨fun e => q (List.mem_append_left _ e), fun e => q (List.mem_append_right _ e)⟩
  obtain ⟨h0, h⟩ := apart h
  obtain ⟨h1, h⟩ := apart h
  obtain ⟨h2, h⟩ := apart h
  obtain ⟨h3, h4⟩ := apart h
  exact (norm_keep _ r h4).trans ((gate_keep _ r h3).trans ((out_keep _ r h2).trans (left_arg m c r h0 h1)))

/-- The layer's arguments as the launch holds them. -/
abbrev argsM : Args := argsV (launchContents m c)

/-- What the loop carries when it is left. -/
theorem inv_left : Inv (argsM m c) (STEP^[64] (e9 (launchContents m c))) 64 :=
  Inv.iterate (argsM m c) _ (inv_entry (launchContents m c)) 64 le_rfl

/-- The state the loop carries, when it is left. -/
theorem left_state (b : Fin 2) (g : Fin 4) (e : Fin 8) (p : Fin 64) (n : Fin 128) :
    left m c (Proc.devRef .tc main_v58_3) (ix5 b g e p n) = (argsM m c).state b 64 (hh g e) p n :=
  (congrFun ((after_of_writes_sub condOps _ condOps_writes (by decide)).trans (atK_agree m c 64 main_v58_3 (by decide))) _).trans
    ((inv_left m c).state b g e p n)

/-- The states the loop stacks, when it is left. -/
theorem left_stack (j : Fin 64) (b : Fin 2) (g : Fin 4) (e : Fin 8) (p : Fin 64) (n : Fin 128) :
    left m c (Proc.devRef .tc main_v58_4) (ix6 j b g e p n) = (argsM m c).state b j.val (hh g e) p n :=
  (congrFun ((after_of_writes_sub condOps _ condOps_writes (by decide)).trans (atK_agree m c 64 main_v58_4 (by decide))) _).trans
    ((inv_left m c).stack j j.isLt b g e p n)

/-- The output with the skip. -/
theorem final_v74 (b : Fin 2) (r : Fin 8192) (j : Fin 2048) :
    after hostOps0_9 (left m c) (Proc.devRef .tc main_v74) (ix3 b r j)
      = ((argsM m c).blk b (chunkOf r)).out ((argsM m c).state b (chunkOf r).val) (inChunk r) (hOf j) (pOf j)
        + (argsM m c).skip (hOf j) * ((argsM m c).blk b (chunkOf r)).x (inChunk r) (hOf j) (pOf j) := by
  refine s9_v74 (left m c) (argsM m c).blk (fun b k => (argsM m c).state b k.val) (fun b r h p => ((argsM m c).blk b (chunkOf r)).x (inChunk r) h p)
    (argsM m c).skip ?_ ?_ ?_ (fun k b g e p n => left_stack m c k b g e p n) ?_ ?_ b r j
  · intro b k l g n
    exact (congrFun ((left_keep m c main_v16 (by decide)).trans (keep_v16_3_9 _)) _).trans (f_v16 _ b k l g n)
  · intro b k l g e
    exact (congrFun ((left_keep m c main_v21 (by decide)).trans (keep_v21_4_9 _)) _).trans (f_v21 _ b k l g e)
  · intro b k l g e p
    exact (congrFun (left_keep m c main_v41 (by decide)) _).trans (f_v41 _ b k l g e p)
  · intro b r h p
    refine ((congrFun ((left_keep m c main_v9 (by decide)).trans (keep_v9_3_9 _)) _).trans (f_v9 _ b r h p)).trans ?_
    show _ = (argsM m c).xbc b (pos (chunkOf r) (inChunk r)) _
    rw [pos_split r]
  · intro h
    exact congrFun (left_arg m c main_arg5 (by decide) (by decide)) (ix1 h)

/-- The plain program's first result. -/
theorem final_result (i : Fin 16384) (j : Fin 2048) :
    finalContents condOps preI bodyI postI 64 m c (Proc.devRef .tc main_v93) (ix2 i j)
      = (argsM m c).result ⟨i.val / 8192, by omega⟩ ⟨i.val % 8192, by omega⟩ j := by
  refine (congrFun (congrFun (final_eq m c) _) _).trans ?_
  refine (s11_v93 (after hostOps0_10 (after hostOps0_9 (left m c)))
    (fun b r j => ((argsM m c).blk b (chunkOf r)).out ((argsM m c).state b (chunkOf r).val) (inChunk r) (hOf j) (pOf j)
        + (argsM m c).skip (hOf j) * ((argsM m c).blk b (chunkOf r)).x (inChunk r) (hOf j) (pOf j))
    (fun b r j => (argsM m c).z b r j * Ideal.logistic ((argsM m c).z b r j)) (argsM m c).scale ?_ ?_ ?_ i j).trans ?_
  · intro b r j
    exact (congrFun (gate_keep _ main_v74 (by decide)) _).trans (final_v74 m c b r j)
  · intro b r j
    refine s10_v75 (after hostOps0_9 (left m c)) (argsM m c).z ?_ b r j
    intro b r j
    exact congrFun ((out_keep _ main_arg2 (by decide)).trans (left_arg m c main_arg2 (by decide) (by decide))) _
  · intro j
    exact congrFun ((gate_keep _ main_arg6 (by decide)).trans ((out_keep _ main_arg6 (by decide)).trans
      (left_arg m c main_arg6 (by decide) (by decide)))) _
  · rfl

/-- The plain program's second result. -/
theorem final_state (b : Fin 2) (h : Fin 32) (p : Fin 64) (n : Fin 128) :
    finalContents condOps preI bodyI postI 64 m c (Proc.devRef .tc main_v68) (ix4 b h p n) = (argsM m c).state b 64 h p n := by
  refine (congrFun (congrFun (final_eq m c) _) _).trans ?_
  refine (congrFun ((norm_keep _ main_v68 (by decide)).trans (gate_keep _ main_v68 (by decide))) _).trans ?_
  exact s9_v68 (left m c) ((argsM m c).state · 64) (fun b g e p n => left_state m c b g e p n) b h p n

end Cert.ReferenceIdeal.Scan
end
-- ==== Proof.Equation.lean ====
/-
  The two programs end with the same results: each result is the layer's number of the same arguments.
-/
module

public import proofs.«01_k».proof.Defs
public import proofs.«01_k».proof.Proof.Carry
public import proofs.«01_k».proof.Proof.RefEnd

@[expose] public section

set_option maxRecDepth 16384
noncomputable section

namespace Cert.Proof

open Cert.Scan Idealize.ShloMosaic Idealize.ShloMosaic.TcCoe Idealize.SL.Sem Idealize.ShloMosaic.StableHlo Idealize.ShloMosaic.Pointwise

/-- What the precondition states needs no more than shapes. -/
theorem preFacts : Cert.Pre_steps_below_infinity.Facts where
  bcast_S32_S1x1x32_2 := by decide
  bcast_S1x1x32_S2x8192x32_0_1_2 := by decide
  bcast_S_S2x8192x32 := by decide

/-- A comparison that says one has its left side other than infinity. -/
theorem ne_top_of_olt (x : EReal) (h : Ideal.cmp .olt x (Ideal.ofBits .f32 0x7F800000#32) = 1#1) : x ≠ ⊤ := by
  rintro rfl
  simp [Ideal.cmp] at h

/-- The precondition's comparison at a position and a head. -/
theorem olt_tower [Cert.Pre_steps_below_infinity.Facts] (dt : FVec Ideal Cert.Pre_steps_below_infinity.S2x8192x32 .f32)
    (bias : FVec Ideal Cert.Pre_steps_below_infinity.S32 .f32) (x0 x2 x4 x5 x6) (b : Fin 2) (r : Fin 8192) (e : Fin 32) :
    Cert.Pre_steps_below_infinity.fn (F := Ideal) x0 dt x2 bias x4 x5 x6 (ix3 b r e)
      = Ideal.cmp .olt (dt (ix3 b r e) + bias (ix1 e)) (Ideal.ofBits .f32 0x7F800000#32) := by
  simp only [Cert.Pre_steps_below_infinity.fn]
  pointwise

/-- The precondition at a position and a head. -/
theorem steps_ne_top [Cert.Pre_steps_below_infinity.Facts]
    (m : (ℓ : Loc Cert.KernelIdeal.nD Cert.KernelIdeal.τ Cert.KernelIdeal.sig) → Buf (Elt Ideal) ℓ)
    (h : Cert.Pre_KernelIdeal_steps_below_infinity m) (c : Dev Cert.KernelIdeal.nD) (b : Fin 2) (r : Fin 8192) (e : Fin 32) :
    (Cert.KernelIdeal.Scan.argsK m c).dt b r e + (Cert.KernelIdeal.Scan.argsK m c).bias e ≠ ⊤ :=
  ne_top_of_olt _ ((olt_tower _ _ _ _ _ _ _ b r e).symm.trans (congrFun (h c) (ix3 b r e)))

/-- The plain program runs, and leaves its arguments: its frame. -/
theorem frame_reference : Cert.quiescent_ReferenceIdeal := fun m ρ _ =>
  (θ_run Cert.ReferenceIdeal.defs _ _).mono (fun r h => ⟨fun c =>
      ⟨(h c _ rfl).trans (Cert.ReferenceIdeal.Scan.final_arg m c _ (by decide)), (h c _ rfl).trans (Cert.ReferenceIdeal.Scan.final_arg m c _ (by decide)),
        (h c _ rfl).trans (Cert.ReferenceIdeal.Scan.final_arg m c _ (by decide)), (h c _ rfl).trans (Cert.ReferenceIdeal.Scan.final_arg m c _ (by decide)),
        (h c _ rfl).trans (Cert.ReferenceIdeal.Scan.final_arg m c _ (by decide)), (h c _ rfl).trans (Cert.ReferenceIdeal.Scan.final_arg m c _ (by decide)),
        (h c _ rfl).trans (Cert.ReferenceIdeal.Scan.final_arg m c _ (by decide))⟩,
      sem_eq_zero_of_no_sems (by decide) r.2⟩)
    (Cert.ReferenceIdeal.Value.run_fold (F := Ideal) m ρ)

/-- Memories that agree on the arguments give the layer the same arguments. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3))
    (h4 : m' (c.tc.loc Cert.ReferenceIdeal.main_arg4) = m (c.tc.loc Cert.KernelIdeal.main_arg4))
    (h5 : m' (c.tc.loc Cert.ReferenceIdeal.main_arg5) = m (c.tc.loc Cert.KernelIdeal.main_arg5))
    (h6 : m' (c.tc.loc Cert.ReferenceIdeal.main_arg6) = m (c.tc.loc Cert.KernelIdeal.main_arg6)) :
    Cert.ReferenceIdeal.Scan.argsM m' c = Cert.KernelIdeal.Scan.argsK m c := by
  show Args.mk _ _ _ _ _ _ _ = Args.mk _ _ _ _ _ _ _
  congr 1
  · exact funext fun b => funext fun r => funext fun j => congrFun h0 (ix3 b r j)
  · exact funext fun b => funext fun r => funext fun j => congrFun h1 (ix3 b r j)
  · exact funext fun b => funext fun r => funext fun j => congrFun h2 (ix3 b r j)
  · exact funext fun j => congrFun h3 (ix1 j)
  · exact funext fun j => congrFun h4 (ix1 j)
  · exact funext fun j => congrFun h5 (ix1 j)
  · exact funext fun j => congrFun h6 (ix1 j)

/-- The plain program's first result, as an array. -/
theorem reference_result (m : (ℓ : Loc Cert.ReferenceIdeal.nD Cert.ReferenceIdeal.τ Cert.ReferenceIdeal.sig) → Buf (Elt Ideal) ℓ) (c : Dev Cert.ReferenceIdeal.nD)
    (a : Args) (ha : Cert.ReferenceIdeal.Scan.argsM m c = a) :
    finalContents Cert.ReferenceIdeal.Value.condOps Cert.ReferenceIdeal.Value.preI Cert.ReferenceIdeal.Value.bodyI Cert.ReferenceIdeal.Value.postI 64 m c
      (Proc.devRef .tc Cert.ReferenceIdeal.main_v93)
      = fun i : Cert.KernelIdeal.S16384x2048.Idx => a.result (Cert.KernelIdeal.Scan.bOf (i 0)) (Cert.KernelIdeal.Scan.lOf (i 0)) (i 1) := by
  subst ha
  funext i
  refine (congrArg _ (eq_ix2 i)).trans ?_
  exact Cert.ReferenceIdeal.Scan.final_result m c (i 0) (i 1)

/-- The plain program's second result, as an array. -/
theorem reference_state (m : (ℓ : Loc Cert.ReferenceIdeal.nD Cert.ReferenceIdeal.τ Cert.ReferenceIdeal.sig) → Buf (Elt Ideal) ℓ) (c : Dev Cert.ReferenceIdeal.nD)
    (a : Args) (ha : Cert.ReferenceIdeal.Scan.argsM m c = a) :
    finalContents Cert.ReferenceIdeal.Value.condOps Cert.ReferenceIdeal.Value.preI Cert.ReferenceIdeal.Value.bodyI Cert.ReferenceIdeal.Value.postI 64 m c
      (Proc.devRef .tc Cert.ReferenceIdeal.main_v68)
      = fun i : Cert.KernelIdeal.S2x32x64x128.Idx => a.state (i 0) 64 (i 1) (i 2) (i 3) := by
  subst ha
  funext i
  refine (congrArg _ (eq_ix4 i)).trans ?_
  exact Cert.ReferenceIdeal.Scan.final_state m c (i 0) (i 1) (i 2) (i 3)

/-- The kernel and the plain program end with equal results, element by element, as extended reals. -/
theorem algebraic [Cert.Pre_steps_below_infinity.Facts] : Cert.algebraic_KernelIdeal_ReferenceIdeal_pre_steps_below_infinity := by
  intro m ρ m' ρ' hpre hagree
  have ha : ∀ c, Cert.ReferenceIdeal.Scan.argsM m' c = Cert.KernelIdeal.Scan.argsK m c := fun c => by
    obtain ⟨h0, h1, h2, h3, h4, h5, h6⟩ := hagree c
    exact args_agree m m' c h0 h1 h2 h3 h4 h5 h6
  refine ⟨fun c => (fun i : Cert.KernelIdeal.S16384x2048.Idx => (Cert.KernelIdeal.Scan.argsK m c).result (Cert.KernelIdeal.Scan.bOf (i 0)) (Cert.KernelIdeal.Scan.lOf (i 0)) (i 1)),
    fun c => (fun i : Cert.KernelIdeal.S2x32x64x128.Idx => (Cert.KernelIdeal.Scan.argsK m c).state (i 0) 64 (i 1) (i 2) (i 3)), ?_, ?_⟩
  · refine (θ_run _ _ _).mono (fun r h c => ?_) (Cert.KernelIdeal.Value.run_blocks (F := Ideal) m ρ)
    obtain ⟨h1, h2, h3⟩ := h c
    exact ⟨h1.trans (Cert.KernelIdeal.Scan.result_array m c (steps_ne_top m hpre c)), h2.trans (Cert.KernelIdeal.Scan.state_array m c (steps_ne_top m hpre c)), h3⟩
  · refine (θ_run _ _ _).mono (fun r h c => ?_) (Cert.ReferenceIdeal.Value.run_fold (F := Ideal) m' ρ')
    exact ⟨(h c _ rfl).trans (reference_result m' c _ (ha c)), (h c _ rfl).trans (reference_state m' c _ (ha c)),
      (h c _ rfl).trans (Cert.ReferenceIdeal.Scan.final_arg m' c _ (by decide)), (h c _ rfl).trans (Cert.ReferenceIdeal.Scan.final_arg m' c _ (by decide)),
      (h c _ rfl).trans (Cert.ReferenceIdeal.Scan.final_arg m' c _ (by decide)), (h c _ rfl).trans (Cert.ReferenceIdeal.Scan.final_arg m' c _ (by decide)),
      (h c _ rfl).trans (Cert.ReferenceIdeal.Scan.final_arg m' c _ (by decide)), (h c _ rfl).trans (Cert.ReferenceIdeal.Scan.final_arg m' c _ (by decide)),
      (h c _ rfl).trans (Cert.ReferenceIdeal.Scan.final_arg m' c _ (by decide))⟩

end Cert.Proof
end
-- ==== Proof.Conv.lean ====
/-
  A causal convolution over rows done tile by tile: a buffer of 520 rows holds the 8 rows before a tile of 512 rows and then
  the tile's own, so that a tap is the buffer read some rows higher.
-/
module

public import Idealize.ShloMosaic.Lib.Claim
public import Idealize.ShloMosaic.Lib.KernelVsHost
public import Idealize.ShloMosaic.Lib.WritesUnit
public import Idealize.ShloMosaic.Lib.Pipeline.ValueKit
public import Idealize.ShloMosaic.Lib.Pipeline.ReadBack

@[expose] public section

set_option maxRecDepth 16384

noncomputable section

namespace Cert.Conv

open Idealize.ShloMosaic Idealize.ShloMosaic.TcCoe Idealize.SL.Sem Idealize.ShloMosaic.Pointwise

/-- A matrix of `R` rows and `C` columns. -/
abbrev Mat (R C : ℕ) : Shape := ⟨2, ![R, C]⟩

section
variable {F : FTy → Type} [FloatOps F] {C : ℕ}

/-- The buffer's rows read from row `o` on: the 8 rows before the tile, then the tile's. -/
def padW (H : (Mat 8 C).Idx → Elt F .f32) (G : (Mat 512 C).Idx → Elt F .f32) (o : ℕ) (ho : o ≤ 8) : (Mat 512 C).Idx → Elt F .f32 :=
  fun i => if h : 8 ≤ o + (i 0).val then G (ix2 ⟨o + (i 0).val - 8, by have : (i 0).val < 512 := (i 0).isLt; omega⟩ (i 1))
    else H (ix2 ⟨o + (i 0).val, by omega⟩ (i 1))
/-- The last 8 rows of a tile. -/
def lastRows (G : (Mat 512 C).Idx → Elt F .f32) : (Mat 8 C).Idx → Elt F .f32 :=
  fun i => G (ix2 ⟨504 + (i 0).val, by have : (i 0).val < 8 := (i 0).isLt; omega⟩ (i 1))
/-- The first 8 rows of the buffer. -/
def headOf (X : (Mat 520 C).Idx → Elt F .f32) : (Mat 8 C).Idx → Elt F .f32 :=
  fun i => X (ix2 ⟨(i 0).val, by have : (i 0).val < 8 := (i 0).isLt; omega⟩ (i 1))
/-- Row `k` of a matrix. -/
def rowOf {K : ℕ} (X : (Mat K C).Idx → Elt F .f32) (k : Fin K) : (Mat 1 C).Idx → Elt F .f32 := fun i => X (ix2 k (i 1))

/-- A load of one row. -/
theorem ld_row {K : ℕ} (X : (Mat K C).Idx → Elt F .f32) (k : Fin K) (inb : ∀ a, (![k.val, 0] : Fin 2 → ℕ) a + (![1, C] : Fin 2 → ℕ) a ≤ (Mat K C).size a) :
    View.ld X (Rect.unit (s := Mat K C) ![k.val, 0] ![1, C] inb) = rowOf X k := by
  funext i
  rw [View.ld_apply]
  show X _ = X _
  congr 1
  funext a
  apply Fin.ext
  match a with
  | ⟨0, _⟩ =>
    have h0 : (i 0).val < 1 := (i 0).isLt
    show k.val + 1 * (i 0).val = k.val; omega
  | ⟨1, _⟩ => show 0 + 1 * (i 1).val = (i 1).val; omega

variable {sig : RefSig} {κ : Kind} {sp : Space} (v : View sig κ sp (Mat 520 C) .f32) (f : v.ty.Contents (Elt F))
  (inb8 : ∀ a, (![8, 0] : Fin 2 → ℕ) a + (![512, C] : Fin 2 → ℕ) a ≤ (Mat 520 C).size a) (G : (Mat 512 C).Idx → Elt F .f32)

/-- A load of 512 rows of the buffer, the tile stored from row 8 on. -/
theorem pad_read (o : ℕ) (ho : o ≤ 8) (inbo : ∀ a, (![o, 0] : Fin 2 → ℕ) a + (![512, C] : Fin 2 → ℕ) a ≤ (Mat 520 C).size a) :
    View.readAt (Elt F) v (Rect.unit (s := Mat 520 C) ![o, 0] ![512, C] inbo).toLoadRect
        (v.writes (Elt F) f [(⟨Rect.unit (s := Mat 520 C) ![8, 0] ![512, C] inb8, G⟩ : View.Piece (Elt F) (Mat 520 C) .f32)])
      = padW (headOf (v.read (Elt F) f)) G o ho := by
  funext i
  have hi : (i 0).val < 512 := (i 0).isLt
  rw [View.readAt_eq_ld, View.ld_apply]
  unfold padW
  split_ifs with h
  · refine View.read_writes_cons_rows_of_mem (o := 8) v f inb8 G [] _ (ix2 ⟨o + (i 0).val - 8, by omega⟩ (i 1)) rfl ?_ ?_
    · show o + 1 * (i 0).val = 8 + (o + (i 0).val - 8); omega
    · show 0 + 1 * (i 1).val = (i 1).val; omega
  · refine (View.read_writes_cons_rows_of_not_mem (o := 8) (W := 512) v f inb8 G [] _ rfl rfl ?_).trans ?_
    · left; show o + 1 * (i 0).val < 8; omega
    · rw [View.writes_nil]
      unfold headOf
      congr 1
      funext a
      apply Fin.ext
      match a with
      | ⟨0, _⟩ => show o + 1 * (i 0).val = o + (i 0).val; omega
      | ⟨1, _⟩ => show 0 + 1 * (i 1).val = (i 1).val; omega

/-- A load of the buffer's last 8 rows, the tile stored from row 8 on. -/
theorem pad_tail (inbo : ∀ a, (![512, 0] : Fin 2 → ℕ) a + (![8, C] : Fin 2 → ℕ) a ≤ (Mat 520 C).size a) :
    View.readAt (Elt F) v (Rect.unit (s := Mat 520 C) ![512, 0] ![8, C] inbo).toLoadRect
        (v.writes (Elt F) f [(⟨Rect.unit (s := Mat 520 C) ![8, 0] ![512, C] inb8, G⟩ : View.Piece (Elt F) (Mat 520 C) .f32)])
      = lastRows G := by
  funext i
  have hi : (i 0).val < 8 := (i 0).isLt
  rw [View.readAt_eq_ld, View.ld_apply]
  refine View.read_writes_cons_rows_of_mem (o := 8) v f inb8 G [] _ (ix2 ⟨504 + (i 0).val, by omega⟩ (i 1)) rfl ?_ ?_
  · show 512 + 1 * (i 0).val = 8 + (504 + (i 0).val); omega
  · show 0 + 1 * (i 1).val = (i 1).val; omega

/-- The buffer's first 8 rows, just after they are stored. -/
theorem pad_head (inb0 : ∀ a, (![0, 0] : Fin 2 → ℕ) a + (![8, C] : Fin 2 → ℕ) a ≤ (Mat 520 C).size a) (Z : (Mat 8 C).Idx → Elt F .f32)
    (L : List (View.Piece (Elt F) (Mat 520 C) .f32)) :
    headOf (v.read (Elt F) (v.writes (Elt F) f ((⟨Rect.unit (s := Mat 520 C) ![0, 0] ![8, C] inb0, Z⟩ : View.Piece (Elt F) (Mat 520 C) .f32) :: L))) = Z := by
  funext i
  unfold headOf
  refine (View.read_writes_cons_rows_of_mem (o := 0) v f inb0 Z L _ i rfl ?_ ?_)
  · show (i 0).val = 0 + (i 0).val; omega
  · rfl

/-- A load of the tile's own rows. -/
theorem pad_own (H : (Mat 8 C).Idx → Elt F .f32) (ho : 8 ≤ 8) :
    v.readCov (Val := Elt F) [(⟨Rect.unit (s := Mat 520 C) ![8, 0] ![512, C] inb8, G⟩ : View.Piece (Elt F) (Mat 520 C) .f32)]
        (Rect.unit (s := Mat 520 C) ![8, 0] ![512, C] inb8).toLoadRect
      = padW H G 8 ho := by
  refine (pad_read v v.junk inb8 G 8 ho inb8).trans ?_
  funext i
  unfold padW
  rw [dif_pos (Nat.le_add_right _ _), dif_pos (Nat.le_add_right _ _)]

variable (inb0 : ∀ a, (![0, 0] : Fin 2 → ℕ) a + (![8, C] : Fin 2 → ℕ) a ≤ (Mat 520 C).size a) (Z : (Mat 8 C).Idx → Elt F .f32)

/-- A load of 512 rows of the buffer, rows stored before the tile and the tile from row 8 on. -/
theorem pad_fresh (o : ℕ) (ho : o ≤ 8) (inbo : ∀ a, (![o, 0] : Fin 2 → ℕ) a + (![512, C] : Fin 2 → ℕ) a ≤ (Mat 520 C).size a) :
    v.readCov (Val := Elt F) [(⟨Rect.unit (s := Mat 520 C) ![8, 0] ![512, C] inb8, G⟩ : View.Piece (Elt F) (Mat 520 C) .f32),
        ⟨Rect.unit (s := Mat 520 C) ![0, 0] ![8, C] inb0, Z⟩] (Rect.unit (s := Mat 520 C) ![o, 0] ![512, C] inbo).toLoadRect
      = padW Z G o ho := by
  refine (pad_read v (v.writes (Elt F) v.junk [⟨Rect.unit (s := Mat 520 C) ![0, 0] ![8, C] inb0, Z⟩]) inb8 G o ho inbo).trans ?_
  rw [pad_head]

/-- A load of the buffer's last 8 rows, the same rows stored. -/
theorem pad_fresh_tail (inbo : ∀ a, (![512, 0] : Fin 2 → ℕ) a + (![8, C] : Fin 2 → ℕ) a ≤ (Mat 520 C).size a) :
    v.readCov (Val := Elt F) [(⟨Rect.unit (s := Mat 520 C) ![8, 0] ![512, C] inb8, G⟩ : View.Piece (Elt F) (Mat 520 C) .f32),
        ⟨Rect.unit (s := Mat 520 C) ![0, 0] ![8, C] inb0, Z⟩] (Rect.unit (s := Mat 520 C) ![512, 0] ![8, C] inbo).toLoadRect
      = lastRows G :=
  pad_tail v (v.writes (Elt F) v.junk [⟨Rect.unit (s := Mat 520 C) ![0, 0] ![8, C] inb0, Z⟩]) inb8 G inbo
end

/-- A sequence of 8192 rows preceded by `n` rows of zeros, read at row `p`. -/
def late (n : ℕ) (g : Fin 8192 → EReal) (p : ℕ) : EReal := if h : n ≤ p ∧ p - n < 8192 then g ⟨p - n, h.2⟩ else 0
/-- A number times its logistic. -/
def silu (y : EReal) : EReal := y * Ideal.logistic y

/-- The buffer read from row `o` on at a row of tile `i` (of 16) of a sequence: the sequence, later by `8 - o` rows. -/
theorem padW_late {C : ℕ} (H : (Mat 8 C).Idx → Elt Ideal .f32) (G : (Mat 512 C).Idx → Elt Ideal .f32) (g : Fin 8192 → EReal) (q : Fin C) (i : Fin 16)
    (hG : ∀ r : Fin 512, G (ix2 r q) = g ⟨512 * i.val + r.val, by omega⟩)
    (hH : ∀ k : Fin 8, H (ix2 k q) = if h : 8 ≤ 512 * i.val + k.val then g ⟨512 * i.val + k.val - 8, by omega⟩ else 0)
    (o n : ℕ) (ho : o ≤ 8) (r : Fin 512) (p : ℕ) (hp : p + 8 = 512 * i.val + r.val + o + n) :
    padW (F := Ideal) H G o ho (ix2 r q) = late n g p := by
  unfold padW late
  show (if h : 8 ≤ o + r.val then G (ix2 ⟨o + r.val - 8, _⟩ q) else H (ix2 ⟨o + r.val, _⟩ q)) = _
  split_ifs with h1 h2 h2
  · rw [hG]; congr 1; apply Fin.ext; show 512 * i.val + (o + r.val - 8) = p - n; omega
  · omega
  · rw [hH, dif_pos (by show 8 ≤ 512 * i.val + (o + r.val); omega)]
    congr 1; apply Fin.ext; show 512 * i.val + (o + r.val) - 8 = p - n; omega
  · rw [hH, dif_neg (by show ¬ 8 ≤ 512 * i.val + (o + r.val); omega)]

/-- Two sequences of `n` rows and `C` columns. -/
abbrev Ten (n C : ℕ) : Shape := ⟨3, ![2, n, C]⟩

/-- Sequences with `n` rows of zeros put before them, read from row `k` on. -/
theorem tap (n N C k : ℕ) (hk : k ≤ n) (Z : (Ten n C).Idx → EReal) (hZ : ∀ i, Z i = 0) (g : (Ten 8192 C).Idx → EReal)
    (hc : Shape.Concatenates [Ten n C, Ten 8192 C] (Ten N C) 1) (hs : (Ten N C).Slices ![0, k, 0] (Ten 8192 C)) (b : Fin 2) (l : Fin 8192) (q : Fin C) :
    extractStridedSlice (Ten 8192 C) ![0, k, 0] (concatenate (Ten N C) 1 [⟨Ten n C, Z⟩, ⟨Ten 8192 C, g⟩] hc) hs (ix3 b l q)
      = late n (fun l => g (ix3 b l q)) (k + l.val) := by
  have hl := l.isLt
  unfold late
  refine (concatenate_pair_apply (t := Ten N C) (1 : Fin 3) Z g hc _).trans ?_
  by_cases h : k + l.val < n
  · have h2 : ¬ (n ≤ k + l.val ∧ k + l.val - n < 8192) := by omega
    rw [dif_neg h2]
    exact (dif_pos h).trans (hZ _)
  · have h2 : n ≤ k + l.val ∧ k + l.val - n < 8192 := by omega
    rw [dif_pos h2]
    refine (dif_neg h).trans ?_
    show g _ = g _
    congr 1
    funext a
    apply Fin.ext
    match a with
    | ⟨0, _⟩ => show 0 + b.val = b.val; omega
    | ⟨1, _⟩ => rfl
    | ⟨2, _⟩ => show 0 + q.val = q.val; omega

/-- A number times its logistic, the logistic spelt out. -/
theorem silu_eq (y : EReal) : y * Ideal.div 1 (1 + Ideal.exp (-y)) = silu y := rfl

end Cert.Conv
end
-- ==== Proof.Up.lean ====
/-
  The feed-forward block's first projection: a gate and an up projection, the gate convolved over the rows and passed through
  a silu, and their product. The kernel's tiles of 512 rows by 1408 columns are the plain program's numbers.
-/
module

public import proofs.«01_k».proof.Defs
public import proofs.«01_k».proof.Proof.PointsAt
public import proofs.«01_k».proof.Proof.Conv
public import proofs.«01_k».proof.Proof.Gen.Kernel2Ideal.Value
public import proofs.«01_k».proof.Proof.Gen.Reference2Ideal.Run

@[expose] public section

set_option maxHeartbeats 400000
set_option maxRecDepth 16384

noncomputable section

namespace Cert.Kernel2Ideal.Up

open Cert.Kernel2Ideal Cert.Kernel2Ideal.Gen Idealize.ShloMosaic Idealize.ShloMosaic.TcCoe Idealize.SL.Sem
open Cert.KernelIdeal.Scan (bOf lOf)
open Cert.Conv

section
variable {F : FTy → Type} [FloatOps F]

/-- A point's result, of its blocks and of the 8 rows of gates before its tile. -/
def outW (x0 : Vec F S512x1024 .bf16) (x1 : Vec F S1024x1408 .bf16) (x2 : Vec F S1024x1408 .bf16) (x3 : Vec F S3x1408 .f32) (x4 : Vec F S1x1408 .f32)
    (H : (Mat 8 1408).Idx → Elt F .f32) : Vec F S512x1408 .bf16 :=
  k0_pay2 (k0_pay4 x0 x2) (k0_pay7 x4 (rowOf (K := 3) x3 0) (padW H (k0_pay6 x0 x1) 6 (by decide)))
    (rowOf (K := 3) x3 1) (padW H (k0_pay6 x0 x1) 7 (by decide)) (rowOf (K := 3) x3 2) (padW H (k0_pay6 x0 x1) 8 (by decide))

set_option maxHeartbeats 800000 in
/-- What the first tile of a sequence leaves in the result: no rows come before it, so zeros. -/
theorem out_A (c : Dev nD) (i : grid0.Coords) (arg2 : Memref sig .tc .vmem S512x1024 .bf16) (harg2 : arg2.IsWhole) (arg3 : Memref sig .tc .vmem S1024x1408 .bf16) (harg3 : arg3.IsWhole) (arg4 : Memref sig .tc .vmem S1024x1408 .bf16) (harg4 : arg4.IsWhole) (arg5 : Memref sig .tc .vmem S3x1408 .f32) (harg5 : arg5.IsWhole) (arg6 : Memref sig .tc .vmem S1x1408 .f32) (harg6 : arg6.IsWhole) (arg7 : Memref sig .tc .vmem S512x1408 .bf16) (harg7 : arg7.IsWhole) (arg8 : Memref sig .tc .vmem S520x1408 .f32) (harg8 : arg8.IsWhole) (hc0 : cond0_0 i)
    (x0 : Vec F S512x1024 .bf16) (x1 : Vec F S1024x1408 .bf16) (x2 : Vec F S1024x1408 .bf16) (x3 : Vec F S3x1408 .f32) (x4 : Vec F S1x1408 .f32) :
    out0_A_5 c i arg2 harg2 arg3 harg3 arg4 harg4 arg5 harg5 arg6 harg6 arg7 harg7 arg8 harg8 hc0 x0 x1 x2 x3 x4 = outW x0 x1 x2 x3 x4 k0_pay5 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  have z2 : ∀ a : Fin 2, (![0, 0] : Fin 2 → Nat) a = 0 := by decide
  have l0 := View.ld_unit_lit (Val := Elt F) (S := S512x1024) (off := ![0, 0]) inb_S512x1024_S512x1024_0_0 x0 z2
  have l1 := fun (X : Vec F S1024x1408 .bf16) => View.ld_unit_lit (Val := Elt F) (S := S1024x1408) (off := ![0, 0]) inb_S1024x1408_S1024x1408_0_0 X z2
  refine (View.canon_cons_unit_lit _ _ _ (by decide)).trans ?_
  simp only [View.readAt_eq_ld, harg2.read_unread, harg3.read_unread, harg4.read_unread, harg5.read_unread, harg6.read_unread, l0, l1]
  unfold outW
  refine congr (congr (congr (congr (congr (congrArg k0_pay2 rfl) (congr (congr (congrArg k0_pay7 ?_) ?_) ?_)) ?_) ?_) ?_) ?_
  · exact View.ld_unit_lit _ _ (by decide)
  · exact ld_row (K := 3) x3 0 _
  · exact pad_fresh arg8.view inb_S520x1408_S512x1408_8_0 (k0_pay6 x0 x1) inb_S520x1408_S8x1408_0_0 k0_pay5 6 (by decide) inb_S520x1408_S512x1408_6_0
  · exact ld_row (K := 3) x3 1 _
  · exact pad_fresh arg8.view inb_S520x1408_S512x1408_8_0 (k0_pay6 x0 x1) inb_S520x1408_S8x1408_0_0 k0_pay5 7 (by decide) inb_S520x1408_S512x1408_7_0
  · exact ld_row (K := 3) x3 2 _
  · exact pad_fresh arg8.view inb_S520x1408_S512x1408_8_0 (k0_pay6 x0 x1) inb_S520x1408_S8x1408_0_0 k0_pay5 8 (by decide) inb_S520x1408_S512x1408_8_0

set_option maxHeartbeats 800000 in
/-- What a later tile leaves in the result, from the rows the buffer was entered with. -/
theorem out_B (c : Dev nD) (i : grid0.Coords) (arg2 : Memref sig .tc .vmem S512x1024 .bf16) (harg2 : arg2.IsWhole) (arg3 : Memref sig .tc .vmem S1024x1408 .bf16) (harg3 : arg3.IsWhole) (arg4 : Memref sig .tc .vmem S1024x1408 .bf16) (harg4 : arg4.IsWhole) (arg5 : Memref sig .tc .vmem S3x1408 .f32) (harg5 : arg5.IsWhole) (arg6 : Memref sig .tc .vmem S1x1408 .f32) (harg6 : arg6.IsWhole) (arg7 : Memref sig .tc .vmem S512x1408 .bf16) (harg7 : arg7.IsWhole) (arg8 : Memref sig .tc .vmem S520x1408 .f32) (harg8 : arg8.IsWhole) (hc0 : ¬cond0_0 i)
    (x0 : Vec F S512x1024 .bf16) (x1 : Vec F S1024x1408 .bf16) (x2 : Vec F S1024x1408 .bf16) (x3 : Vec F S3x1408 .f32) (x4 : Vec F S1x1408 .f32) (xs0 : Vec F S520x1408 .f32) :
    out0_B_5 c i arg2 harg2 arg3 harg3 arg4 harg4 arg5 harg5 arg6 harg6 arg7 harg7 arg8 harg8 hc0 x0 x1 x2 x3 x4 xs0 = outW x0 x1 x2 x3 x4 (headOf xs0) := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  sl_unfold_words
  have z2 : ∀ a : Fin 2, (![0, 0] : Fin 2 → Nat) a = 0 := by decide
  have l0 := View.ld_unit_lit (Val := Elt F) (S := S512x1024) (off := ![0, 0]) inb_S512x1024_S512x1024_0_0 x0 z2
  have l1 := fun (X : Vec F S1024x1408 .bf16) => View.ld_unit_lit (Val := Elt F) (S := S1024x1408) (off := ![0, 0]) inb_S1024x1408_S1024x1408_0_0 X z2
  refine (View.canon_cons_unit_lit _ _ _ (by decide)).trans ?_
  simp only [View.readAt_eq_ld, harg2.read_unread, harg3.read_unread, harg4.read_unread, harg5.read_unread, harg6.read_unread, l0, l1]
  have hd : headOf (arg8.view.read (Elt F) (harg8.unread xs0)) = headOf xs0 := congrArg headOf (harg8.read_unread xs0)
  unfold outW
  refine congr (congr (congr (congr (congr (congrArg k0_pay2 rfl) (congr (congr (congrArg k0_pay7 ?_) ?_) ?_)) ?_) ?_) ?_) ?_
  · exact View.ld_unit_lit _ _ (by decide)
  · exact ld_row (K := 3) x3 0 _
  · exact (pad_read arg8.view (harg8.unread xs0) inb_S520x1408_S512x1408_8_0 (k0_pay6 x0 x1) 6 (by decide) inb_S520x1408_S512x1408_6_0).trans (congrArg (fun H => padW H (k0_pay6 x0 x1) 6 (by decide)) hd)
  · exact ld_row (K := 3) x3 1 _
  · exact (pad_read arg8.view (harg8.unread xs0) inb_S520x1408_S512x1408_8_0 (k0_pay6 x0 x1) 7 (by decide) inb_S520x1408_S512x1408_7_0).trans (congrArg (fun H => padW H (k0_pay6 x0 x1) 7 (by decide)) hd)
  · exact ld_row (K := 3) x3 2 _
  · exact pad_own arg8.view inb_S520x1408_S512x1408_8_0 (k0_pay6 x0 x1) (headOf xs0) (by decide)

set_option maxHeartbeats 800000 in
/-- The rows the first tile of a sequence keeps for the next: its last 8 rows of gates. -/
theorem kept_A (c : Dev nD) (i : grid0.Coords) (arg2 : Memref sig .tc .vmem S512x1024 .bf16) (harg2 : arg2.IsWhole) (arg3 : Memref sig .tc .vmem S1024x1408 .bf16) (harg3 : arg3.IsWhole) (arg4 : Memref sig .tc .vmem S1024x1408 .bf16) (harg4 : arg4.IsWhole) (arg5 : Memref sig .tc .vmem S3x1408 .f32) (harg5 : arg5.IsWhole) (arg6 : Memref sig .tc .vmem S1x1408 .f32) (harg6 : arg6.IsWhole) (arg7 : Memref sig .tc .vmem S512x1408 .bf16) (harg7 : arg7.IsWhole) (arg8 : Memref sig .tc .vmem S520x1408 .f32) (harg8 : arg8.IsWhole) (hc0 : cond0_0 i)
    (x0 : Vec F S512x1024 .bf16) (x1 : Vec F S1024x1408 .bf16) (x2 : Vec F S1024x1408 .bf16) (x3 : Vec F S3x1408 .f32) (x4 : Vec F S1x1408 .f32) :
    headOf (sout0_A_0 c i arg2 harg2 arg3 harg3 arg4 harg4 arg5 harg5 arg6 harg6 arg7 harg7 arg8 harg8 hc0 x0 x1 x2 x3 x4) = lastRows (k0_pay6 x0 x1) := by
  unfold sout0_A_0
  unfold kernelRun0_A
  dsimp only
  sl_unfold_words
  have z2 : ∀ a : Fin 2, (![0, 0] : Fin 2 → Nat) a = 0 := by decide
  have l0 := View.ld_unit_lit (Val := Elt F) (S := S512x1024) (off := ![0, 0]) inb_S512x1024_S512x1024_0_0 x0 z2
  have l1 := fun (X : Vec F S1024x1408 .bf16) => View.ld_unit_lit (Val := Elt F) (S := S1024x1408) (off := ![0, 0]) inb_S1024x1408_S1024x1408_0_0 X z2
  simp only [View.readAt_eq_ld, harg2.read_unread, harg3.read_unread, l0, l1]
  refine (pad_head (F := F) _ _ _ _ _).trans ?_
  refine (shapeCast_self _ _).trans ?_
  exact pad_fresh_tail arg8.view inb_S520x1408_S512x1408_8_0 (k0_pay6 x0 x1) inb_S520x1408_S8x1408_0_0 k0_pay5 inb_S520x1408_S8x1408_512_0

set_option maxHeartbeats 800000 in
/-- The rows a later tile keeps for the next, too. -/
theorem kept_B (c : Dev nD) (i : grid0.Coords) (arg2 : Memref sig .tc .vmem S512x1024 .bf16) (harg2 : arg2.IsWhole) (arg3 : Memref sig .tc .vmem S1024x1408 .bf16) (harg3 : arg3.IsWhole) (arg4 : Memref sig .tc .vmem S1024x1408 .bf16) (harg4 : arg4.IsWhole) (arg5 : Memref sig .tc .vmem S3x1408 .f32) (harg5 : arg5.IsWhole) (arg6 : Memref sig .tc .vmem S1x1408 .f32) (harg6 : arg6.IsWhole) (arg7 : Memref sig .tc .vmem S512x1408 .bf16) (harg7 : arg7.IsWhole) (arg8 : Memref sig .tc .vmem S520x1408 .f32) (harg8 : arg8.IsWhole) (hc0 : ¬cond0_0 i)
    (x0 : Vec F S512x1024 .bf16) (x1 : Vec F S1024x1408 .bf16) (x2 : Vec F S1024x1408 .bf16) (x3 : Vec F S3x1408 .f32) (x4 : Vec F S1x1408 .f32) (xs0 : Vec F S520x1408 .f32) :
    headOf (sout0_B_0 c i arg2 harg2 arg3 harg3 arg4 harg4 arg5 harg5 arg6 harg6 arg7 harg7 arg8 harg8 hc0 x0 x1 x2 x3 x4 xs0) = lastRows (k0_pay6 x0 x1) := by
  unfold sout0_B_0
  unfold kernelRun0_B
  dsimp only
  sl_unfold_words
  have z2 : ∀ a : Fin 2, (![0, 0] : Fin 2 → Nat) a = 0 := by decide
  have l0 := View.ld_unit_lit (Val := Elt F) (S := S512x1024) (off := ![0, 0]) inb_S512x1024_S512x1024_0_0 x0 z2
  have l1 := fun (X : Vec F S1024x1408 .bf16) => View.ld_unit_lit (Val := Elt F) (S := S1024x1408) (off := ![0, 0]) inb_S1024x1408_S1024x1408_0_0 X z2
  simp only [View.readAt_eq_ld, harg2.read_unread, harg3.read_unread, l0, l1]
  refine (pad_head (F := F) _ _ _ _ _).trans ?_
  refine (shapeCast_self _ _).trans ?_
  exact pad_tail arg8.view arg8.view.junk inb_S520x1408_S512x1408_8_0 (k0_pay6 x0 x1) inb_S520x1408_S8x1408_512_0

end

/-- A row of a tile times a column of the weights. -/
def dotK (a w : Fin 1024 → EReal) : EReal := ∑ k : Fin 1024, a k * w k
/-- Three taps with their weights and a bias. -/
def taps3 (b w0 t0 w1 t1 w2 t2 : EReal) : EReal := b + w0 * t0 + w1 * t1 + w2 * t2

/-- The gate projection's column. -/
def gcol (q : Fin 2816) : Fin 5632 := ⟨q.val, by omega⟩
/-- The up projection's column. -/
def ucol (q : Fin 2816) : Fin 5632 := ⟨2816 + q.val, by omega⟩

/-- The gates of a sequence in a column. -/
def gate (h : Fin 2 → Fin 8192 → Fin 1024 → EReal) (w : Fin 1024 → Fin 5632 → EReal) (b : Fin 2) (q : Fin 2816) (l : Fin 8192) : EReal :=
  dotK (fun k => h b l k) (fun k => w k (gcol q))
/-- The result at a row and a column. -/
def up (h : Fin 2 → Fin 8192 → Fin 1024 → EReal) (w : Fin 1024 → Fin 5632 → EReal) (cw : Fin 3 → Fin 2816 → EReal) (cb : Fin 2816 → EReal)
    (b : Fin 2) (l : Fin 8192) (q : Fin 2816) : EReal :=
  silu (taps3 (cb q) (cw 0 q) (late 2 (gate h w b q) l.val) (cw 1 q) (late 2 (gate h w b q) (1 + l.val)) (cw 2 q) (late 2 (gate h w b q) (2 + l.val)))
    * dotK (fun k => h b l k) (fun k => w k (ucol q))

/-- The gate tile at an index. -/
theorem gate_apply (x0 : FVec Ideal S512x1024 .bf16) (x1 : FVec Ideal S1024x1408 .bf16) (r : Fin 512) (q : Fin 1408) :
    k0_pay6 (F := Ideal) x0 x1 (ix2 r q) = dotK (fun k => x0 (ix2 r k)) (fun k => x1 (ix2 k q)) := by
  pointwise [k0_pay6, k0_pay3, dotK]
/-- The up tile at an index. -/
theorem up_apply (x0 : FVec Ideal S512x1024 .bf16) (x1 : FVec Ideal S1024x1408 .bf16) (r : Fin 512) (q : Fin 1408) :
    k0_pay4 (F := Ideal) x0 x1 (ix2 r q) = dotK (fun k => x0 (ix2 r k)) (fun k => x1 (ix2 k q)) := by
  pointwise [k0_pay4, k0_pay3, dotK]
/-- The zeros before a sequence. -/
theorem zero_apply (k : Fin 8) (q : Fin 1408) : k0_pay5 (F := Ideal) (ix2 k q) = (0 : EReal) := by
  pointwise [k0_pay5]
/-- The bias and the first tap. -/
theorem first_apply (v24 v26 : FVec Ideal S1x1408 .f32) (v27 : FVec Ideal S512x1408 .f32) (r : Fin 512) (q : Fin 1408) :
    k0_pay7 (F := Ideal) v24 v26 v27 (ix2 r q) = (v24 (ix2 0 q) + v26 (ix2 0 q) * v27 (ix2 r q) : EReal) := by
  pointwise [k0_pay7]
/-- The stored value, of the up tile, the first tap's sum and the other taps. -/
theorem last_apply (v7 v31 : FVec Ideal S512x1408 .f32) (v32 : FVec Ideal S1x1408 .f32) (v33 : FVec Ideal S512x1408 .f32) (v37 : FVec Ideal S1x1408 .f32)
    (v38 : FVec Ideal S512x1408 .f32) (r : Fin 512) (q : Fin 1408) :
    k0_pay2 (F := Ideal) v7 v31 v32 v33 v37 v38 (ix2 r q)
      = silu (v31 (ix2 r q) + v32 (ix2 0 q) * v33 (ix2 r q) + v37 (ix2 0 q) * v38 (ix2 r q) : EReal) * v7 (ix2 r q) := by
  pointwise [k0_pay2, silu]

/-- What a point leaves in the result's block, at a row and a column. -/
theorem outW_apply (x0 : FVec Ideal S512x1024 .bf16) (x1 x2 : FVec Ideal S1024x1408 .bf16) (x3 : FVec Ideal S3x1408 .f32) (x4 : FVec Ideal S1x1408 .f32)
    (H : (Mat 8 1408).Idx → Elt Ideal .f32) (r : Fin 512) (q : Fin 1408) :
    outW (F := Ideal) x0 x1 x2 x3 x4 H (ix2 r q)
      = silu (taps3 (x4 (ix2 0 q)) (x3 (ix2 0 q)) (padW (F := Ideal) H (k0_pay6 (F := Ideal) x0 x1) 6 (by decide) (ix2 r q)) (x3 (ix2 1 q))
          (padW (F := Ideal) H (k0_pay6 (F := Ideal) x0 x1) 7 (by decide) (ix2 r q)) (x3 (ix2 2 q)) (padW (F := Ideal) H (k0_pay6 (F := Ideal) x0 x1) 8 (by decide) (ix2 r q)))
        * dotK (fun k => x0 (ix2 r k)) (fun k => x2 (ix2 k q)) := by
  unfold outW
  rw [last_apply, first_apply, up_apply]
  rfl

/-- Where each window's block lies, at each of the 64 points. -/
theorem places : ∀ t : Fin cfg0.N, win0_0.index t = ![t.val % 32, 0] ∧ win0_1.index t = ![0, t.val / 32] ∧ win0_2.index t = ![0, t.val / 32 + 2]
    ∧ win0_3.index t = ![0, t.val / 32] ∧ win0_4.index t = ![0, t.val / 32] ∧ win0_5.index t = ![t.val % 32, t.val / 32] := by
  decide +kernel

variable (m : (ℓ : Loc nD τ sig) → Buf (Elt Ideal) ℓ) (c : Dev nD)

/-- The flattened input. -/
theorem V_h (r : Fin 16384) (k : Fin 1024) : V m c main_v1 (ix2 r k) = m ((c : Thread nD τ).loc main_arg0) (ix3 (bOf r) (lOf r) k) := by
  simp only [V, hostOps0]
  entry_read
  pointwise [bOf, lOf]
/-- The weights. -/
theorem V_w (k : Fin 1024) (q : Fin 5632) : V m c main_v2 (ix2 k q) = m ((c : Thread nD τ).loc main_arg1) (ix2 k q) := by
  simp only [V, hostOps0]
  entry_read
  pointwise
/-- The taps' weights. -/
theorem V_cw (k : Fin 3) (q : Fin 2816) : V m c main_arg2 (ix2 k q) = m ((c : Thread nD τ).loc main_arg2) (ix2 k q) := by
  simp only [V, hostOps0]
  entry_read
  rfl
/-- The bias. -/
theorem V_cb (q : Fin 2816) : V m c main_v3 (ix2 0 q) = m ((c : Thread nD τ).loc main_arg3) (ix1 q) := by
  simp only [V, hostOps0]
  entry_read
  pointwise

/-- A point's row of the flattened arrays. -/
def rowAt (t : Fin cfg0.N) (l : Fin 512) : Fin 16384 := ⟨t.val % 32 * 512 + l.val, by omega⟩
/-- A point's column. -/
def colAt (t : Fin cfg0.N) (q : Fin 1408) : Fin 2816 := ⟨t.val / 32 * 1408 + q.val, by have : t.val < 64 := t.isLt; omega⟩

/-- A point's block of the input. -/
theorem b0 (t : Fin cfg0.N) (l : Fin 512) (k : Fin 1024) : iblk m c 0 t (ix2 l k) = m ((c : Thread nD τ).loc main_arg0) (ix3 (bOf (rowAt t l)) (lOf (rowAt t l)) k) := by
  obtain ⟨p0, p1, p2, p3, p4, p5⟩ := places t
  refine Eq.trans ?_ (V_h m c (rowAt t l) k)
  unfold iblk
  rw [View.read_apply]
  show V m c main_v1 _ = V m c main_v1 _
  congr 1
  funext a
  apply Fin.ext
  match a with
  | ⟨0, _⟩ => show win0_0.index t 0 * 512 + 1 * l.val = t.val % 32 * 512 + l.val; rw [p0]; simp
  | ⟨1, _⟩ => show win0_0.index t 1 * 1024 + 1 * k.val = k.val; rw [p0]; simp
/-- A point's block of the gate projection. -/
theorem b1 (t : Fin cfg0.N) (k : Fin 1024) (q : Fin 1408) : iblk m c 1 t (ix2 k q) = m ((c : Thread nD τ).loc main_arg1) (ix2 k (gcol (colAt t q))) := by
  obtain ⟨p0, p1, p2, p3, p4, p5⟩ := places t
  refine Eq.trans ?_ (V_w m c k (gcol (colAt t q)))
  unfold iblk
  rw [View.read_apply]
  show V m c main_v2 _ = V m c main_v2 _
  congr 1
  funext a
  apply Fin.ext
  match a with
  | ⟨0, _⟩ => show win0_1.index t 0 * 1024 + 1 * k.val = k.val; rw [p1]; simp
  | ⟨1, _⟩ => show win0_1.index t 1 * 1408 + 1 * q.val = t.val / 32 * 1408 + q.val; rw [p1]; simp
/-- A point's block of the up projection. -/
theorem b2 (t : Fin cfg0.N) (k : Fin 1024) (q : Fin 1408) : iblk m c 2 t (ix2 k q) = m ((c : Thread nD τ).loc main_arg1) (ix2 k (ucol (colAt t q))) := by
  obtain ⟨p0, p1, p2, p3, p4, p5⟩ := places t
  refine Eq.trans ?_ (V_w m c k (ucol (colAt t q)))
  unfold iblk
  rw [View.read_apply]
  show V m c main_v2 _ = V m c main_v2 _
  congr 1
  funext a
  apply Fin.ext
  match a with
  | ⟨0, _⟩ => show win0_2.index t 0 * 1024 + 1 * k.val = k.val; rw [p2]; simp
  | ⟨1, _⟩ => show win0_2.index t 1 * 1408 + 1 * q.val = 2816 + (t.val / 32 * 1408 + q.val); rw [p2]; simp; omega
/-- A point's block of the taps' weights. -/
theorem b3 (t : Fin cfg0.N) (k : Fin 3) (q : Fin 1408) : iblk m c 3 t (ix2 k q) = m ((c : Thread nD τ).loc main_arg2) (ix2 k (colAt t q)) := by
  obtain ⟨p0, p1, p2, p3, p4, p5⟩ := places t
  refine Eq.trans ?_ (V_cw m c k (colAt t q))
  unfold iblk
  rw [View.read_apply]
  show V m c main_arg2 _ = V m c main_arg2 _
  congr 1
  funext a
  apply Fin.ext
  match a with
  | ⟨0, _⟩ => show win0_3.index t 0 * 3 + 1 * k.val = k.val; rw [p3]; simp
  | ⟨1, _⟩ => show win0_3.index t 1 * 1408 + 1 * q.val = t.val / 32 * 1408 + q.val; rw [p3]; simp
/-- A point's block of the bias. -/
theorem b4 (t : Fin cfg0.N) (q : Fin 1408) : iblk m c 4 t (ix2 0 q) = m ((c : Thread nD τ).loc main_arg3) (ix1 (colAt t q)) := by
  obtain ⟨p0, p1, p2, p3, p4, p5⟩ := places t
  refine Eq.trans ?_ (V_cb m c (colAt t q))
  unfold iblk
  rw [View.read_apply]
  show V m c main_v3 _ = V m c main_v3 _
  congr 1
  funext a
  apply Fin.ext
  match a with
  | ⟨0, _⟩ => show win0_4.index t 0 * 1 + 1 * 0 = 0; rw [p4]; simp
  | ⟨1, _⟩ => show win0_4.index t 1 * 1408 + 1 * q.val = t.val / 32 * 1408 + q.val; rw [p4]; simp

/-- The kernel's gates, of its arguments' launch contents. -/
def gateK (b : Fin 2) (q : Fin 2816) (l : Fin 8192) : EReal :=
  gate (fun b l k => m ((c : Thread nD τ).loc main_arg0) (ix3 b l k)) (fun k q => m ((c : Thread nD τ).loc main_arg1) (ix2 k q)) b q l
/-- The kernel's result, of its arguments' launch contents. -/
def result (b : Fin 2) (l : Fin 8192) (q : Fin 2816) : EReal :=
  up (fun b l k => m ((c : Thread nD τ).loc main_arg0) (ix3 b l k)) (fun k q => m ((c : Thread nD τ).loc main_arg1) (ix2 k q))
    (fun k q => m ((c : Thread nD τ).loc main_arg2) (ix2 k q)) (fun q => m ((c : Thread nD τ).loc main_arg3) (ix1 q)) b l q

/-- The sequence of a point. -/
def bAt (t : Fin cfg0.N) : Fin 2 := ⟨t.val % 32 / 16, by omega⟩
/-- The tile of a point, in its sequence. -/
def tileAt (t : Fin cfg0.N) : Fin 16 := ⟨t.val % 16, by omega⟩
/-- The position of a point's row in its sequence. -/
def posAt (t : Fin cfg0.N) (l : Fin 512) : Fin 8192 := ⟨512 * (tileAt t).val + l.val, by omega⟩
/-- The sequence of a point's row. -/
theorem bOf_rowAt (t : Fin cfg0.N) (l : Fin 512) : bOf (rowAt t l) = bAt t := Fin.ext (by simp only [bOf, rowAt, bAt]; omega)
/-- The position of a point's row. -/
theorem lOf_rowAt (t : Fin cfg0.N) (l : Fin 512) : lOf (rowAt t l) = posAt t l := Fin.ext (by simp only [lOf, rowAt, posAt, tileAt]; omega)

/-- A point's gates. -/
theorem gate_at (t : Fin cfg0.N) (l : Fin 512) (q : Fin 1408) :
    k0_pay6 (F := Ideal) (iblk m c 0 t) (iblk m c 1 t) (ix2 l q) = gateK m c (bAt t) (colAt t q) (posAt t l) := by
  rw [gate_apply, ← bOf_rowAt t l, ← lOf_rowAt t l]
  exact congrArg₂ dotK (funext fun k => b0 m c t l k) (funext fun k => b1 m c t k q)

/-- The rows a point keeps for the next: its last 8 rows of gates. -/
theorem kept_at (t : Fin cfg0.N) : headOf (outsAt0 m c t.val t.isLt).2 = lastRows (k0_pay6 (F := Ideal) (iblk m c 0 t) (iblk m c 1 t)) := by
  by_cases h0 : t.val % 16 = 0
  · rw [outsAt0_A m c t h0]
    dsimp only
    rw [kept_A]
  · rw [outsAt0_B m c t h0]
    dsimp only
    rw [kept_B]

/-- The rows before a point's tile: zeros before a sequence, and otherwise the last rows of the tile before. -/
theorem before_at (t : Fin cfg0.N) (h0 : ¬ t.val % 16 = 0) (q : Fin 1408) (k : Fin 8) :
    headOf (outsAt0 m c (t.val - 1) (Nat.lt_of_le_of_lt (Nat.sub_le _ _) t.isLt)).2 (ix2 k q)
      = if h : 8 ≤ 512 * (tileAt t).val + k.val then gateK m c (bAt t) (colAt t q) ⟨512 * (tileAt t).val + k.val - 8, by omega⟩ else 0 := by
  have ht : 1 ≤ (tileAt t).val := by simp only [tileAt]; omega
  rw [dif_pos (by omega), kept_at m c ⟨t.val - 1, Nat.lt_of_le_of_lt (Nat.sub_le _ _) t.isLt⟩]
  refine (gate_at m c _ _ q).trans ?_
  exact congr (congr (congrArg (gateK m c) (Fin.ext (by simp only [bAt]; omega))) (Fin.ext (by simp only [colAt]; show _ * 1408 + q.val = _; omega)))
    (Fin.ext (by simp only [posAt, tileAt]; show 512 * ((t.val - 1) % 16) + (504 + k.val) = _; omega))

/-- A point's store, given the rows before its tile. -/
theorem store_at (t : Fin cfg0.N) (H : (Mat 8 1408).Idx → Elt Ideal .f32) (l : Fin 512) (q : Fin 1408)
    (hH : ∀ k : Fin 8, H (ix2 k q) = if h : 8 ≤ 512 * (tileAt t).val + k.val then gateK m c (bAt t) (colAt t q) ⟨512 * (tileAt t).val + k.val - 8, by omega⟩ else 0) :
    outW (F := Ideal) (iblk m c 0 t) (iblk m c 1 t) (iblk m c 2 t) (iblk m c 3 t) (iblk m c 4 t) H (ix2 l q)
      = result m c (bAt t) (posAt t l) (colAt t q) := by
  have hG := fun r => gate_at m c t r q
  have hp : (posAt t l).val = 512 * (tileAt t).val + l.val := rfl
  have t0 := padW_late H (k0_pay6 (F := Ideal) (iblk m c 0 t) (iblk m c 1 t)) (gateK m c (bAt t) (colAt t q)) q (tileAt t) hG hH 6 2 (by decide) l (posAt t l).val (by omega)
  have t1 := padW_late H (k0_pay6 (F := Ideal) (iblk m c 0 t) (iblk m c 1 t)) (gateK m c (bAt t) (colAt t q)) q (tileAt t) hG hH 7 2 (by decide) l (1 + (posAt t l).val) (by omega)
  have t2 := padW_late H (k0_pay6 (F := Ideal) (iblk m c 0 t) (iblk m c 1 t)) (gateK m c (bAt t) (colAt t q)) q (tileAt t) hG hH 8 2 (by decide) l (2 + (posAt t l).val) (by omega)
  have e0 : ∀ k, iblk m c 0 t (ix2 l k) = m ((c : Thread nD τ).loc main_arg0) (ix3 (bAt t) (posAt t l) k) := fun k => by
    rw [← bOf_rowAt t l, ← lOf_rowAt t l]; exact b0 m c t l k
  refine (outW_apply _ _ _ _ _ H l q).trans ?_
  exact congrArg₂ (fun x y => silu x * y)
    (congr (congr (congr (congr (congr (congr (congrArg taps3 (b4 m c t q)) (b3 m c t 0 q)) t0) (b3 m c t 1 q)) t1) (b3 m c t 2 q)) t2)
    (congrArg₂ dotK (funext e0) (funext fun k => b2 m c t k q))

/-- What a point leaves in the result's window. -/
theorem result_at (t : Fin cfg0.N) (l : Fin 512) (q : Fin 1408) :
    (outsAt0 m c t.val t.isLt).1 (ix2 l q) = result m c (bOf (rowAt t l)) (lOf (rowAt t l)) (colAt t q) := by
  rw [bOf_rowAt, lOf_rowAt]
  by_cases h0 : t.val % 16 = 0
  · rw [outsAt0_A m c t h0]
    dsimp only
    rw [out_A]
    refine store_at m c t _ l q fun k => ?_
    have ht : (tileAt t).val = 0 := h0
    rw [dif_neg (by omega)]
    exact zero_apply k q
  · rw [outsAt0_B m c t h0]
    dsimp only
    rw [out_B]
    exact store_at m c t _ l q fun k => before_at m c t h0 q k

/-- The result's array after the run. -/
theorem result_array : (dats m 0 c).arrAt 5 cfg0.N = (fun i : S16384x2816.Idx => result m c (bOf (i 0)) (lOf (i 0)) (i 1)) := by
  refine (dats m 0 c).arrAt_eq_of_covers 5 _ (by decide +kernel) fun t hf y => ?_
  rw [after0_5]
  obtain ⟨p0, p1, p2, p3, p4, p5⟩ := places t
  have e0 : ((cfg0.win 5).blk t).view.emb y 0 = rowAt t (y 0) :=
    Fin.ext (by show win0_5.index t 0 * 512 + 1 * (y 0).val = t.val % 32 * 512 + (y 0).val; rw [p5]; simp)
  have e1 : ((cfg0.win 5).blk t).view.emb y 1 = colAt t (y 1) :=
    Fin.ext (by show win0_5.index t 1 * 1408 + 1 * (y 1).val = t.val / 32 * 1408 + (y 1).val; rw [p5]; simp)
  have ex : (cfg0.win 5).xinj (cfg0.grid.coords t) y = ix2 (y 0) (y 1) := by
    funext a; match a with
    | ⟨0, _⟩ => rfl
    | ⟨1, _⟩ => rfl
  have key := result_at m c t (y 0) (y 1)
  generalize (outsAt0 m c t.val t.isLt).1 = X at key ⊢
  refine Eq.trans (congrArg X ex) (key.trans ?_)
  exact congr (congr (congrArg _ (congrArg bOf e0.symm)) (congrArg lOf e0.symm)) e1.symm

end Cert.Kernel2Ideal.Up

namespace Cert.Proof

open Idealize.ShloMosaic Idealize.ShloMosaic.TcCoe Idealize.SL.Sem Cert.Kernel2Ideal.Up Cert.Conv
open Cert.KernelIdeal.Scan (bOf lOf)

section
open Cert.Reference2Ideal Cert.Reference2Ideal.Gen

/-- The plain program's gate and up projections together. -/
def gateUpR (x0 : FVec Ideal S2x8192x1024 .f32) (x1 : FVec Ideal S1024x5632 .f32) : FVec Ideal S2x8192x5632 .f32 :=
  Host.dotGeneral dot_S2x8192x1024_S1024x5632_S2x8192x5632_2_0_01_1_n_n none x0 x1
/-- The plain program's gates. -/
def gateR (x0 : FVec Ideal S2x8192x1024 .f32) (x1 : FVec Ideal S1024x5632 .f32) : FVec Ideal S2x8192x2816 .f32 :=
  extractStridedSlice S2x8192x2816 ![0, 0, 0] (gateUpR x0 x1) slices_S2x8192x5632_S2x8192x2816_0_0_0
/-- The plain program's up projection. -/
def upR (x0 : FVec Ideal S2x8192x1024 .f32) (x1 : FVec Ideal S1024x5632 .f32) : FVec Ideal S2x8192x2816 .f32 :=
  extractStridedSlice S2x8192x2816 ![0, 0, 2816] (gateUpR x0 x1) slices_S2x8192x5632_S2x8192x2816_0_0_2816
/-- The plain program's zeros. -/
def zeroR : FVec Ideal S2x2x2816 .f32 := broadcastInDim S2x2x2816 ![] bcast_S_S2x2x2816 (constant S_ .f32 0x00000000#32)
/-- The plain program's gates with zeros before them. -/
def padR (g : FVec Ideal S2x8192x2816 .f32) : FVec Ideal S2x8194x2816 .f32 :=
  concatenate S2x8194x2816 1 [⟨S2x2x2816, zeroR⟩, ⟨S2x8192x2816, g⟩] concatenates_S2x2x2816_S2x8192x2816_S2x8194x2816_d1
/-- The plain program's convolution, of its three taps. -/
def convR (x2 : FVec Ideal S3x2816 .f32) (x3 : FVec Ideal S2816 .f32) (t0 t1 t2 : FVec Ideal S2x8192x2816 .f32) : FVec Ideal S2x8192x2816 .f32 :=
  addf (addf (addf (broadcastInDim S2x8192x2816 ![0, 1, 2] bcast_S1x1x2816_S2x8192x2816_0_1_2 (broadcastInDim S1x1x2816 ![2] bcast_S2816_S1x1x2816_2 x3))
    (mulf (broadcastInDim S2x8192x2816 ![0, 1, 2] bcast_S1x1x2816_S2x8192x2816_0_1_2 (broadcastInDim S1x1x2816 ![2] bcast_S2816_S1x1x2816_2
      (shapeCast S2816 (extractStridedSlice S1x2816 ![0, 0] x2 slices_S3x2816_S1x2816_0_0) shapeCasts_S1x2816_S2816))) t0))
    (mulf (broadcastInDim S2x8192x2816 ![0, 1, 2] bcast_S1x1x2816_S2x8192x2816_0_1_2 (broadcastInDim S1x1x2816 ![2] bcast_S2816_S1x1x2816_2
      (shapeCast S2816 (extractStridedSlice S1x2816 ![1, 0] x2 slices_S3x2816_S1x2816_1_0) shapeCasts_S1x2816_S2816))) t1))
    (mulf (broadcastInDim S2x8192x2816 ![0, 1, 2] bcast_S1x1x2816_S2x8192x2816_0_1_2 (broadcastInDim S1x1x2816 ![2] bcast_S2816_S1x1x2816_2
      (shapeCast S2816 (extractStridedSlice S1x2816 ![2, 0] x2 slices_S3x2816_S1x2816_2_0) shapeCasts_S1x2816_S2816))) t2)
/-- The plain program's silu. -/
def siluR (z : FVec Ideal S2x8192x2816 .f32) : FVec Ideal S2x8192x2816 .f32 :=
  mulf z (Host.divf (broadcastInDim S2x8192x2816 ![] bcast_S_S2x8192x2816 (constant S_ .f32 0x3F800000#32))
    (addf (broadcastInDim S2x8192x2816 ![] bcast_S_S2x8192x2816 (constant S_ .f32 0x3F800000#32)) (Host.exp (Host.negf z))))
/-- The plain program's result. -/
def resultR (x0 : FVec Ideal S2x8192x1024 .f32) (x1 : FVec Ideal S1024x5632 .f32) (x2 : FVec Ideal S3x2816 .f32) (x3 : FVec Ideal S2816 .f32) :
    FVec Ideal S16384x2816 .bf16 :=
  truncf .bf16 (shapeCast S16384x2816 (mulf (siluR (convR x2 x3
    (extractStridedSlice S2x8192x2816 ![0, 0, 0] (padR (gateR x0 x1)) slices_S2x8194x2816_S2x8192x2816_0_0_0)
    (extractStridedSlice S2x8192x2816 ![0, 1, 0] (padR (gateR x0 x1)) slices_S2x8194x2816_S2x8192x2816_0_1_0)
    (extractStridedSlice S2x8192x2816 ![0, 2, 0] (padR (gateR x0 x1)) slices_S2x8194x2816_S2x8192x2816_0_2_0))) (upR x0 x1))
    shapeCasts_S2x8192x2816_S16384x2816) bitsLt_bf16_f32

/-- The plain program's gates at an index. -/
theorem gateR_apply (x0 : FVec Ideal S2x8192x1024 .f32) (x1 : FVec Ideal S1024x5632 .f32) (b : Fin 2) (l : Fin 8192) (q : Fin 2816) :
    gateR x0 x1 (ix3 b l q) = gate (fun b l k => x0 (ix3 b l k)) (fun k q => x1 (ix2 k q)) b q l := by
  pointwise [gateR, gateUpR, gate, dotK, gcol]
/-- The plain program's up projection at an index. -/
theorem upR_apply (x0 : FVec Ideal S2x8192x1024 .f32) (x1 : FVec Ideal S1024x5632 .f32) (b : Fin 2) (l : Fin 8192) (q : Fin 2816) :
    upR x0 x1 (ix3 b l q) = dotK (fun k => x0 (ix3 b l k)) (fun k => x1 (ix2 k (ucol q))) := by
  pointwise [upR, gateUpR, dotK, ucol]
/-- The plain program's zeros are zeros. -/
theorem zeroR_apply (i : S2x2x2816.Idx) : zeroR i = (0 : EReal) := by
  obtain ⟨a, b, d, rfl⟩ : ∃ (a : Fin 2) (b : Fin 2) (d : Fin 2816), i = ix3 a b d := ⟨_, _, _, eq_ix3 i⟩
  pointwise [zeroR]
/-- The plain program's convolution at an index. -/
theorem convR_apply (x2 : FVec Ideal S3x2816 .f32) (x3 : FVec Ideal S2816 .f32) (t0 t1 t2 : FVec Ideal S2x8192x2816 .f32) (b : Fin 2) (l : Fin 8192) (q : Fin 2816) :
    convR x2 x3 t0 t1 t2 (ix3 b l q) = taps3 (x3 (ix1 q)) (x2 (ix2 0 q)) (t0 (ix3 b l q)) (x2 (ix2 1 q)) (t1 (ix3 b l q)) (x2 (ix2 2 q)) (t2 (ix3 b l q)) := by
  pointwise [convR, taps3]
/-- The plain program's silu at an index. -/
theorem siluR_apply (z : FVec Ideal S2x8192x2816 .f32) (b : Fin 2) (l : Fin 8192) (q : Fin 2816) : siluR z (ix3 b l q) = silu (z (ix3 b l q)) := by
  refine Eq.trans ?_ (silu_eq (z (ix3 b l q)))
  pointwise [siluR]
/-- The plain program's last product, flattened. -/
theorem flat_apply (a u : FVec Ideal S2x8192x2816 .f32) (r : Fin 16384) (q : Fin 2816) :
    (truncf .bf16 (shapeCast S16384x2816 (mulf a u) shapeCasts_S2x8192x2816_S16384x2816) bitsLt_bf16_f32 : FVec Ideal S16384x2816 .bf16) (ix2 r q)
      = (a (ix3 (bOf r) (lOf r) q) * u (ix3 (bOf r) (lOf r) q) : EReal) := by
  pointwise [bOf, lOf]

/-- The plain program's result at a row and a column. -/
theorem up_reference (x0 : FVec Ideal S2x8192x1024 .f32) (x1 : FVec Ideal S1024x5632 .f32) (x2 : FVec Ideal S3x2816 .f32) (x3 : FVec Ideal S2816 .f32)
    (r : Fin 16384) (q : Fin 2816) :
    resultR x0 x1 x2 x3 (ix2 r q)
      = up (fun b l k => x0 (ix3 b l k)) (fun k q => x1 (ix2 k q)) (fun k q => x2 (ix2 k q)) (fun q => x3 (ix1 q)) (bOf r) (lOf r) q := by
  unfold resultR
  rw [flat_apply, siluR_apply, convR_apply, upR_apply]
  have eg : (fun l => gateR x0 x1 (ix3 (bOf r) l q)) = gate (fun b l k => x0 (ix3 b l k)) (fun k q => x1 (ix2 k q)) (bOf r) q :=
    funext fun l => gateR_apply x0 x1 (bOf r) l q
  have tk := fun k hk hs => (tap 2 8194 2816 k hk zeroR zeroR_apply (gateR x0 x1) concatenates_S2x2x2816_S2x8192x2816_S2x8194x2816_d1 hs (bOf r) (lOf r) q).trans
    (congrArg (fun g => late 2 g (k + (lOf r).val)) eg)
  have t0 := tk 0 (by decide) slices_S2x8194x2816_S2x8192x2816_0_0_0
  have t1 := tk 1 (by decide) slices_S2x8194x2816_S2x8192x2816_0_1_0
  have t2 := tk 2 (by decide) slices_S2x8194x2816_S2x8192x2816_0_2_0
  rw [Nat.zero_add] at t0
  unfold up
  exact congrArg (fun x => silu x * dotK (fun k => x0 (ix3 (bOf r) (lOf r) k)) (fun k => x1 (ix2 k (ucol q))))
    (congr (congrArg (fun f => f (x2 (ix2 2 q))) (congr (congrArg (fun f => f (x2 (ix2 1 q))) (congrArg (taps3 (x3 (ix1 q)) (x2 (ix2 0 q))) t0)) t1)) t2)

/-- The plain program runs, and leaves its arguments: its frame. -/
theorem frame_up_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The plain program's result as its run states it. -/
theorem up_result (m : (ℓ : Loc nD τ sig) → Buf (Elt Ideal) ℓ) (c : Dev nD) :
    Cert.Reference2Ideal.Value.res_out0 m c = resultR (m ((c : Thread nD τ).loc main_arg0)) (m ((c : Thread nD τ).loc main_arg1))
      (m ((c : Thread nD τ).loc main_arg2)) (m ((c : Thread nD τ).loc main_arg3)) := by
  unfold Cert.Reference2Ideal.Value.res_out0 Cert.Reference2Ideal.Value.res_main_v31
  rfl
end

/-- The kernel and the plain program end with equal results, element by element, as extended reals. -/
theorem algebraic_up : Cert.algebraic_Kernel2Ideal_Reference2Ideal := by
  intro m ρ m' ρ' _ hagree
  refine ⟨fun c => (fun i : Cert.Kernel2Ideal.S16384x2816.Idx => result m c (bOf (i 0)) (lOf (i 0)) (i 1)), ?_, ?_⟩
  · refine (θ_run _ _ _).mono (fun r h c => ?_) (Cert.Kernel2Ideal.Value.run_blocks (F := Ideal) m ρ)
    exact ⟨(h c).1.trans (result_array m c), (h c).2⟩
  · refine (θ_run _ _ _).mono (fun r h c => ?_) (Cert.Reference2Ideal.Value.run (F := Ideal) m' ρ')
    obtain ⟨h0, h1, h2, h3⟩ := hagree c
    refine ⟨((h c).1.trans (up_result m' c)).trans ?_, (h c).2⟩
    funext i
    rw [h0, h1, h2, h3]
    refine (congrArg _ (eq_ix2 i)).trans ?_
    exact up_reference _ _ _ _ (i 0) (i 1)

end Cert.Proof
end
-- ==== Proof.Down.lean ====
/-
  The feed-forward block's second projection, added to its input under a gate: the kernel's blocks of 1024 rows by 512 columns
  are the plain program's numbers.
-/
module

public import proofs.«01_k».proof.Defs
public import proofs.«01_k».proof.Proof.PointsAt
public import proofs.«01_k».proof.Proof.Gen.Kernel3Ideal.Value
public import proofs.«01_k».proof.Proof.Gen.Reference3Ideal.Run

@[expose] public section

set_option maxHeartbeats 400000
set_option maxRecDepth 16384

noncomputable section

namespace Cert.Kernel3Ideal.Down

open Cert.Kernel3Ideal Cert.Kernel3Ideal.Gen Idealize.ShloMosaic Idealize.ShloMosaic.TcCoe Idealize.SL.Sem
open Cert.KernelIdeal.Scan (bOf lOf)

/-- An input plus a gate times the product of a row and a column. -/
def gatedSum (x g : EReal) (a w : Fin 2816 → EReal) : EReal := x + g * ∑ k : Fin 2816, a k * w k

/-- The result at a row and a column: the input plus the gate times the row's product with the column. -/
def down (act : Fin 2 → Fin 8192 → Fin 2816 → EReal) (w : Fin 2816 → Fin 1024 → EReal) (x : Fin 2 → Fin 8192 → Fin 1024 → EReal)
    (g : Fin 2 → Fin 1024 → EReal) (b : Fin 2) (l : Fin 8192) (q : Fin 1024) : EReal :=
  gatedSum (x b l q) (g b q) (fun k => act b l k) (fun k => w k q)

/-- The store's value at a row and a column of the block. -/
theorem pay_apply (v0 : FVec Ideal S1024x2816 .bf16) (v2 : FVec Ideal S2816x512 .bf16) (v5 : FVec Ideal S1024x512 .f32) (v7 : FVec Ideal S1x1x512 .f32)
    (r : Fin 1024) (q : Fin 512) :
    k0_pay1 (F := Ideal) v0 v2 v5 v7 (ix2 r q) = gatedSum (v5 (ix2 r q)) (v7 (ix3 0 0 q)) (fun k => v0 (ix2 r k)) (fun k => v2 (ix2 k q)) := by
  pointwise [k0_pay1, gatedSum]

/-- What the body leaves in the result's block, at a row and a column. -/
theorem out_apply (v0 : FVec Ideal S1024x2816 .bf16) (v2 : FVec Ideal S2816x512 .bf16) (v5 : FVec Ideal S1024x512 .f32) (v7 : FVec Ideal S1x1x512 .f32)
    (r : Fin 1024) (q : Fin 512) :
    out0_4 (F := Ideal) v0 v2 v5 v7 (ix2 r q) = gatedSum (v5 (ix2 r q)) (v7 (ix3 0 0 q)) (fun k => v0 (ix2 r k)) (fun k => v2 (ix2 k q)) := by
  have e : out0_4 (F := Ideal) v0 v2 v5 v7 = k0_pay1 (F := Ideal) v0 v2 v5 v7 := by
    unfold out0_4
    rw [View.canon_cons_unit_lit _ _ _ (by decide), View.ld_unit_lit _ _ (by decide), View.ld_unit_lit _ _ (by decide), View.ld_unit_lit _ _ (by decide), View.ld_unit_lit _ _ (by decide)]
  rw [e, pay_apply]

/-- Where each window's block lies, at each of the 32 points. -/
theorem places : ∀ t : Fin cfg0.N, win0_0.index t = ![t.val / 2, 0] ∧ win0_1.index t = ![0, t.val % 2] ∧ win0_2.index t = ![t.val / 2, t.val % 2]
    ∧ win0_3.index t = ![t.val / 16, 0, t.val % 2] ∧ win0_4.index t = ![t.val / 2, t.val % 2] := by
  decide +kernel

variable (m : (ℓ : Loc nD τ sig) → Buf (Elt Ideal) ℓ) (c : Dev nD)

/-- The flattened activations. -/
theorem V_act (r : Fin 16384) (k : Fin 2816) : V m c main_v1 (ix2 r k) = m ((c : Thread nD τ).loc main_arg0) (ix3 (bOf r) (lOf r) k) := by
  simp only [V, hostOps0]
  entry_read
  pointwise [bOf, lOf]
/-- The weights. -/
theorem V_w (k : Fin 2816) (q : Fin 1024) : V m c main_v2 (ix2 k q) = m ((c : Thread nD τ).loc main_arg1) (ix2 k q) := by
  simp only [V, hostOps0]
  entry_read
  pointwise
/-- The flattened input. -/
theorem V_x (r : Fin 16384) (q : Fin 1024) : V m c main_v3 (ix2 r q) = m ((c : Thread nD τ).loc main_arg2) (ix3 (bOf r) (lOf r) q) := by
  simp only [V, hostOps0]
  entry_read
  pointwise [bOf, lOf]
/-- The gates. -/
theorem V_g (b : Fin 2) (q : Fin 1024) : V m c main_v4 (ix3 b 0 q) = m ((c : Thread nD τ).loc main_arg3) (ix2 b q) := by
  simp only [V, hostOps0]
  entry_read
  pointwise

/-- A point's row of the flattened arrays. -/
def rowAt (t : Fin cfg0.N) (l : Fin 1024) : Fin 16384 := ⟨t.val / 2 * 1024 + l.val, by have : t.val < 32 := t.isLt; omega⟩
/-- A point's column. -/
def colAt (t : Fin cfg0.N) (q : Fin 512) : Fin 1024 := ⟨t.val % 2 * 512 + q.val, by omega⟩

/-- A point's block of the activations. -/
theorem b0 (t : Fin cfg0.N) (l : Fin 1024) (k : Fin 2816) : iblk m c 0 t (ix2 l k) = m ((c : Thread nD τ).loc main_arg0) (ix3 (bOf (rowAt t l)) (lOf (rowAt t l)) k) := by
  obtain ⟨p0, p1, p2, p3, p4⟩ := places t
  refine Eq.trans ?_ (V_act m c (rowAt t l) k)
  unfold iblk
  rw [View.read_apply]
  show V m c main_v1 _ = V m c main_v1 _
  congr 1
  funext a
  apply Fin.ext
  match a with
  | ⟨0, _⟩ => show win0_0.index t 0 * 1024 + 1 * l.val = t.val / 2 * 1024 + l.val; rw [p0]; simp
  | ⟨1, _⟩ => show win0_0.index t 1 * 2816 + 1 * k.val = k.val; rw [p0]; simp
/-- A point's block of the weights. -/
theorem b1 (t : Fin cfg0.N) (k : Fin 2816) (q : Fin 512) : iblk m c 1 t (ix2 k q) = m ((c : Thread nD τ).loc main_arg1) (ix2 k (colAt t q)) := by
  obtain ⟨p0, p1, p2, p3, p4⟩ := places t
  refine Eq.trans ?_ (V_w m c k (colAt t q))
  unfold iblk
  rw [View.read_apply]
  show V m c main_v2 _ = V m c main_v2 _
  congr 1
  funext a
  apply Fin.ext
  match a with
  | ⟨0, _⟩ => show win0_1.index t 0 * 2816 + 1 * k.val = k.val; rw [p1]; simp
  | ⟨1, _⟩ => show win0_1.index t 1 * 512 + 1 * q.val = t.val % 2 * 512 + q.val; rw [p1]; simp
/-- A point's block of the input. -/
theorem b2 (t : Fin cfg0.N) (l : Fin 1024) (q : Fin 512) : iblk m c 2 t (ix2 l q) = m ((c : Thread nD τ).loc main_arg2) (ix3 (bOf (rowAt t l)) (lOf (rowAt t l)) (colAt t q)) := by
  obtain ⟨p0, p1, p2, p3, p4⟩ := places t
  refine Eq.trans ?_ (V_x m c (rowAt t l) (colAt t q))
  unfold iblk
  rw [View.read_apply]
  show V m c main_v3 _ = V m c main_v3 _
  congr 1
  funext a
  apply Fin.ext
  match a with
  | ⟨0, _⟩ => show win0_2.index t 0 * 1024 + 1 * l.val = t.val / 2 * 1024 + l.val; rw [p2]; simp
  | ⟨1, _⟩ => show win0_2.index t 1 * 512 + 1 * q.val = t.val % 2 * 512 + q.val; rw [p2]; simp
/-- A point's block of the gates. -/
theorem b3 (t : Fin cfg0.N) (l : Fin 1024) (q : Fin 512) : iblk m c 3 t (ix3 0 0 q) = m ((c : Thread nD τ).loc main_arg3) (ix2 (bOf (rowAt t l)) (colAt t q)) := by
  obtain ⟨p0, p1, p2, p3, p4⟩ := places t
  refine Eq.trans ?_ (V_g m c (bOf (rowAt t l)) (colAt t q))
  unfold iblk
  rw [View.read_apply]
  show V m c main_v4 _ = V m c main_v4 _
  congr 1
  funext a
  apply Fin.ext
  match a with
  | ⟨0, _⟩ => show win0_3.index t 0 * 1 + 1 * 0 = (t.val / 2 * 1024 + l.val) / 8192; rw [p3]; simp; omega
  | ⟨1, _⟩ => show win0_3.index t 1 * 1 + 1 * 0 = 0; rw [p3]; simp
  | ⟨2, _⟩ => show win0_3.index t 2 * 512 + 1 * q.val = t.val % 2 * 512 + q.val; rw [p3]; simp

/-- The kernel's result, of its arguments' launch contents. -/
def result (b : Fin 2) (l : Fin 8192) (q : Fin 1024) : EReal :=
  down (fun b l k => m ((c : Thread nD τ).loc main_arg0) (ix3 b l k)) (fun k q => m ((c : Thread nD τ).loc main_arg1) (ix2 k q))
    (fun b l q => m ((c : Thread nD τ).loc main_arg2) (ix3 b l q)) (fun b q => m ((c : Thread nD τ).loc main_arg3) (ix2 b q)) b l q

/-- What a point leaves in the result's window. -/
theorem result_at (t : Fin cfg0.N) (l : Fin 1024) (q : Fin 512) :
    out0_4 (iblk m c 0 t) (iblk m c 1 t) (iblk m c 2 t) (iblk m c 3 t) (ix2 l q) = result m c (bOf (rowAt t l)) (lOf (rowAt t l)) (colAt t q) := by
  refine (out_apply _ _ _ _ l q).trans ?_
  exact congr (congr (congr (congrArg gatedSum (b2 m c t l q)) (b3 m c t l q)) (funext fun k => b0 m c t l k)) (funext fun k => b1 m c t k q)

/-- The result's array after the run. -/
theorem result_array : (dats m 0 c).arrAt 4 cfg0.N = (fun i : S16384x1024.Idx => result m c (bOf (i 0)) (lOf (i 0)) (i 1)) := by
  refine (dats m 0 c).arrAt_eq_of_covers 4 _ (by decide +kernel) fun t hf y => ?_
  rw [after0_4]
  obtain ⟨p0, p1, p2, p3, p4⟩ := places t
  have e0 : ((cfg0.win 4).blk t).view.emb y 0 = rowAt t (y 0) :=
    Fin.ext (by show win0_4.index t 0 * 1024 + 1 * (y 0).val = t.val / 2 * 1024 + (y 0).val; rw [p4]; simp)
  have e1 : ((cfg0.win 4).blk t).view.emb y 1 = colAt t (y 1) :=
    Fin.ext (by show win0_4.index t 1 * 512 + 1 * (y 1).val = t.val % 2 * 512 + (y 1).val; rw [p4]; simp)
  have ex : (cfg0.win 4).xinj (cfg0.grid.coords t) y = ix2 (y 0) (y 1) := by
    funext a; match a with
    | ⟨0, _⟩ => rfl
    | ⟨1, _⟩ => rfl
  have key := result_at m c t (y 0) (y 1)
  generalize out0_4 (iblk m c 0 t) (iblk m c 1 t) (iblk m c 2 t) (iblk m c 3 t) = X at key ⊢
  refine Eq.trans (congrArg X ex) (key.trans ?_)
  exact congr (congr (congrArg _ (congrArg bOf e0.symm)) (congrArg lOf e0.symm)) e1.symm

end Cert.Kernel3Ideal.Down

namespace Cert.Proof

open Idealize.ShloMosaic Idealize.ShloMosaic.TcCoe Idealize.SL.Sem Cert.Kernel3Ideal.Down
open Cert.KernelIdeal.Scan (bOf lOf)

section
open Cert.Reference3Ideal Cert.Reference3Ideal.Gen

/-- The plain program's result at a row and a column. -/
theorem down_reference (x0 : FVec Ideal S2x8192x2816 .f32) (x1 : FVec Ideal S2816x1024 .f32) (x2 : FVec Ideal S2x8192x1024 .f32) (x3 : FVec Ideal S2x1024 .f32)
    (r : Fin 16384) (q : Fin 1024) :
    shapeCast S16384x1024 (addf x2 (mulf (broadcastInDim S2x8192x1024 ![0, 1, 2] bcast_S2x1x1024_S2x8192x1024_0_1_2 (broadcastInDim S2x1x1024 ![0, 2] bcast_S2x1024_S2x1x1024_0_2 x3)) (Host.dotGeneral dot_S2x8192x2816_S2816x1024_S2x8192x1024_2_0_01_1_n_n none x0 x1))) shapeCasts_S2x8192x1024_S16384x1024 (ix2 r q)
      = down (fun b l k => x0 (ix3 b l k)) (fun k q => x1 (ix2 k q)) (fun b l q => x2 (ix3 b l q)) (fun b q => x3 (ix2 b q)) (bOf r) (lOf r) q := by
  pointwise [down, gatedSum, bOf, lOf]

/-- The plain program runs, and leaves its arguments: its frame. -/
theorem frame_down_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
end

/-- The kernel and the plain program end with equal results, element by element, as extended reals. -/
theorem algebraic_down : Cert.algebraic_Kernel3Ideal_Reference3Ideal := by
  intro m ρ m' ρ' _ hagree
  refine ⟨fun c => (fun i : Cert.Kernel3Ideal.S16384x1024.Idx => result m c (bOf (i 0)) (lOf (i 0)) (i 1)), ?_, ?_⟩
  · refine (θ_run _ _ _).mono (fun r h c => ?_) (Cert.Kernel3Ideal.Value.run_blocks (F := Ideal) m ρ)
    exact ⟨(h c).1.trans (result_array m c), (h c).2⟩
  · refine (θ_run _ _ _).mono (fun r h c => ?_) (Cert.Reference3Ideal.Value.run (F := Ideal) m' ρ')
    obtain ⟨h0, h1, h2, h3⟩ := hagree c
    refine ⟨(h c).1.trans ?_, (h c).2⟩
    funext i
    rw [h0, h1, h2, h3]
    refine (congrArg _ (eq_ix2 i)).trans ?_
    exact down_reference _ _ _ _ (i 0) (i 1)

end Cert.Proof
end
-- ==== Proof.Merge.lean ====
/-
  The two branches' projections, each under its gate, added: the kernel's blocks of 1024 rows by 512 columns are the plain
  program's numbers.
-/
module

public import proofs.«01_k».proof.Defs
public import proofs.«01_k».proof.Proof.PointsAt
public import proofs.«01_k».proof.Proof.Gen.Kernel4Ideal.Value
public import proofs.«01_k».proof.Proof.Gen.Reference4Ideal.Run

@[expose] public section

set_option maxHeartbeats 400000
set_option maxRecDepth 16384

noncomputable section

namespace Cert.Kernel4Ideal.Merge

open Cert.Kernel4Ideal Cert.Kernel4Ideal.Gen Idealize.ShloMosaic Idealize.ShloMosaic.TcCoe Idealize.SL.Sem
open Cert.KernelIdeal.Scan (bOf lOf)

/-- A gate times the product of a row and a column, plus another gate times the product of another row and column. -/
def gatedPair (g h : EReal) (a w : Fin 1024 → EReal) (y v : Fin 2048 → EReal) : EReal := g * (∑ k : Fin 1024, a k * w k) + h * ∑ k : Fin 2048, y k * v k

/-- A column of the second gates. -/
def second (q : Fin 1024) : Fin 2048 := ⟨1024 + q.val, by omega⟩
/-- A column of the first gates. -/
def first (q : Fin 1024) : Fin 2048 := ⟨q.val, by omega⟩

/-- The result at a row and a column: both branches' products, each times its gate, added. -/
def merge (o : Fin 2 → Fin 8192 → Fin 1024 → EReal) (y : Fin 2 → Fin 8192 → Fin 2048 → EReal) (wa : Fin 1024 → Fin 1024 → EReal)
    (wb : Fin 2048 → Fin 1024 → EReal) (g : Fin 2 → Fin 8192 → Fin 2048 → EReal) (b : Fin 2) (l : Fin 8192) (q : Fin 1024) : EReal :=
  gatedPair (g b l (first q)) (g b l (second q)) (fun k => o b l k) (fun k => wa k q) (fun k => y b l k) (fun k => wb k q)

/-- The store's value at a row and a column of the block. -/
theorem pay_apply (v0 : FVec Ideal S1024x1024 .bf16) (v2 : FVec Ideal S1024x512 .bf16) (v5 : FVec Ideal S1024x2048 .bf16) (v7 : FVec Ideal S2048x512 .bf16)
    (v10 v13 : FVec Ideal S1024x512 .f32) (r : Fin 1024) (q : Fin 512) :
    k0_pay1 (F := Ideal) v0 v2 v5 v7 v10 v13 (ix2 r q)
      = gatedPair (v10 (ix2 r q)) (v13 (ix2 r q)) (fun k => v0 (ix2 r k)) (fun k => v2 (ix2 k q)) (fun k => v5 (ix2 r k)) (fun k => v7 (ix2 k q)) := by
  pointwise [k0_pay1, gatedPair]

/-- What the body leaves in the result's block, at a row and a column. -/
theorem out_apply (v0 : FVec Ideal S1024x1024 .bf16) (v1 : FVec Ideal S1024x2048 .bf16) (v2 : FVec Ideal S1024x512 .bf16) (v3 : FVec Ideal S2048x512 .bf16)
    (v4 v5 : FVec Ideal S1024x512 .f32) (r : Fin 1024) (q : Fin 512) :
    out0_6 (F := Ideal) v0 v1 v2 v3 v4 v5 (ix2 r q)
      = gatedPair (v4 (ix2 r q)) (v5 (ix2 r q)) (fun k => v0 (ix2 r k)) (fun k => v2 (ix2 k q)) (fun k => v1 (ix2 r k)) (fun k => v3 (ix2 k q)) := by
  have e : out0_6 (F := Ideal) v0 v1 v2 v3 v4 v5 = k0_pay1 (F := Ideal) v0 v2 v1 v3 v4 v5 := by
    unfold out0_6
    rw [View.canon_cons_unit_lit _ _ _ (by decide), View.ld_unit_lit _ _ (by decide), View.ld_unit_lit _ _ (by decide), View.ld_unit_lit _ _ (by decide),
      View.ld_unit_lit _ _ (by decide), View.ld_unit_lit _ _ (by decide), View.ld_unit_lit _ _ (by decide)]
  rw [e, pay_apply]

/-- Where each window's block lies, at each of the 32 points. -/
theorem places : ∀ t : Fin cfg0.N, win0_0.index t = ![t.val / 2, 0] ∧ win0_1.index t = ![t.val / 2, 0] ∧ win0_2.index t = ![0, t.val % 2]
    ∧ win0_3.index t = ![0, t.val % 2] ∧ win0_4.index t = ![t.val / 2, t.val % 2] ∧ win0_5.index t = ![t.val / 2, t.val % 2 + 2]
    ∧ win0_6.index t = ![t.val / 2, t.val % 2] := by
  decide +kernel

variable (m : (ℓ : Loc nD τ sig) → Buf (Elt Ideal) ℓ) (c : Dev nD)

/-- The first branch's flattened rows. -/
theorem V_o (r : Fin 16384) (k : Fin 1024) : V m c main_v1 (ix2 r k) = m ((c : Thread nD τ).loc main_arg0) (ix3 (bOf r) (lOf r) k) := by
  simp only [V, hostOps0]
  entry_read
  pointwise [bOf, lOf]
/-- The second branch's flattened rows. -/
theorem V_y (r : Fin 16384) (k : Fin 2048) : V m c main_v3 (ix2 r k) = m ((c : Thread nD τ).loc main_arg1) (ix3 (bOf r) (lOf r) k) := by
  simp only [V, hostOps0]
  entry_read
  pointwise [bOf, lOf]
/-- The first branch's weights. -/
theorem V_wa (k : Fin 1024) (q : Fin 1024) : V m c main_v4 (ix2 k q) = m ((c : Thread nD τ).loc main_arg2) (ix2 k q) := by
  simp only [V, hostOps0]
  entry_read
  pointwise
/-- The second branch's weights. -/
theorem V_wb (k : Fin 2048) (q : Fin 1024) : V m c main_v5 (ix2 k q) = m ((c : Thread nD τ).loc main_arg3) (ix2 k q) := by
  simp only [V, hostOps0]
  entry_read
  pointwise
/-- The flattened gates, both branches'. -/
theorem V_g (r : Fin 16384) (k : Fin 2048) : V m c main_v6 (ix2 r k) = m ((c : Thread nD τ).loc main_arg4) (ix3 (bOf r) (lOf r) k) := by
  simp only [V, hostOps0]
  entry_read
  pointwise [bOf, lOf]

/-- A point's row of the flattened arrays. -/
def rowAt (t : Fin cfg0.N) (l : Fin 1024) : Fin 16384 := ⟨t.val / 2 * 1024 + l.val, by have : t.val < 32 := t.isLt; omega⟩
/-- A point's column. -/
def colAt (t : Fin cfg0.N) (q : Fin 512) : Fin 1024 := ⟨t.val % 2 * 512 + q.val, by omega⟩

/-- A point's block of the first branch's rows. -/
theorem b0 (t : Fin cfg0.N) (l : Fin 1024) (k : Fin 1024) : iblk m c 0 t (ix2 l k) = m ((c : Thread nD τ).loc main_arg0) (ix3 (bOf (rowAt t l)) (lOf (rowAt t l)) k) := by
  obtain ⟨p0, p1, p2, p3, p4, p5, p6⟩ := places t
  refine Eq.trans ?_ (V_o m c (rowAt t l) k)
  unfold iblk
  rw [View.read_apply]
  show V m c main_v1 _ = V m c main_v1 _
  congr 1
  funext a
  apply Fin.ext
  match a with
  | ⟨0, _⟩ => show win0_0.index t 0 * 1024 + 1 * l.val = t.val / 2 * 1024 + l.val; rw [p0]; simp
  | ⟨1, _⟩ => show win0_0.index t 1 * 1024 + 1 * k.val = k.val; rw [p0]; simp
/-- A point's block of the second branch's rows. -/
theorem b1 (t : Fin cfg0.N) (l : Fin 1024) (k : Fin 2048) : iblk m c 1 t (ix2 l k) = m ((c : Thread nD τ).loc main_arg1) (ix3 (bOf (rowAt t l)) (lOf (rowAt t l)) k) := by
  obtain ⟨p0, p1, p2, p3, p4, p5, p6⟩ := places t
  refine Eq.trans ?_ (V_y m c (rowAt t l) k)
  unfold iblk
  rw [View.read_apply]
  show V m c main_v3 _ = V m c main_v3 _
  congr 1
  funext a
  apply Fin.ext
  match a with
  | ⟨0, _⟩ => show win0_1.index t 0 * 1024 + 1 * l.val = t.val / 2 * 1024 + l.val; rw [p1]; simp
  | ⟨1, _⟩ => show win0_1.index t 1 * 2048 + 1 * k.val = k.val; rw [p1]; simp
/-- A point's block of the first branch's weights. -/
theorem b2 (t : Fin cfg0.N) (k : Fin 1024) (q : Fin 512) : iblk m c 2 t (ix2 k q) = m ((c : Thread nD τ).loc main_arg2) (ix2 k (colAt t q)) := by
  obtain ⟨p0, p1, p2, p3, p4, p5, p6⟩ := places t
  refine Eq.trans ?_ (V_wa m c k (colAt t q))
  unfold iblk
  rw [View.read_apply]
  show V m c main_v4 _ = V m c main_v4 _
  congr 1
  funext a
  apply Fin.ext
  match a with
  | ⟨0, _⟩ => show win0_2.index t 0 * 1024 + 1 * k.val = k.val; rw [p2]; simp
  | ⟨1, _⟩ => show win0_2.index t 1 * 512 + 1 * q.val = t.val % 2 * 512 + q.val; rw [p2]; simp
/-- A point's block of the second branch's weights. -/
theorem b3 (t : Fin cfg0.N) (k : Fin 2048) (q : Fin 512) : iblk m c 3 t (ix2 k q) = m ((c : Thread nD τ).loc main_arg3) (ix2 k (colAt t q)) := by
  obtain ⟨p0, p1, p2, p3, p4, p5, p6⟩ := places t
  refine Eq.trans ?_ (V_wb m c k (colAt t q))
  unfold iblk
  rw [View.read_apply]
  show V m c main_v5 _ = V m c main_v5 _
  congr 1
  funext a
  apply Fin.ext
  match a with
  | ⟨0, _⟩ => show win0_3.index t 0 * 2048 + 1 * k.val = k.val; rw [p3]; simp
  | ⟨1, _⟩ => show win0_3.index t 1 * 512 + 1 * q.val = t.val % 2 * 512 + q.val; rw [p3]; simp
/-- A point's block of the first gates. -/
theorem b4 (t : Fin cfg0.N) (l : Fin 1024) (q : Fin 512) : iblk m c 4 t (ix2 l q) = m ((c : Thread nD τ).loc main_arg4) (ix3 (bOf (rowAt t l)) (lOf (rowAt t l)) (first (colAt t q))) := by
  obtain ⟨p0, p1, p2, p3, p4, p5, p6⟩ := places t
  refine Eq.trans ?_ (V_g m c (rowAt t l) (first (colAt t q)))
  unfold iblk
  rw [View.read_apply]
  show V m c main_v6 _ = V m c main_v6 _
  congr 1
  funext a
  apply Fin.ext
  match a with
  | ⟨0, _⟩ => show win0_4.index t 0 * 1024 + 1 * l.val = t.val / 2 * 1024 + l.val; rw [p4]; simp
  | ⟨1, _⟩ => show win0_4.index t 1 * 512 + 1 * q.val = t.val % 2 * 512 + q.val; rw [p4]; simp
/-- A point's block of the second gates. -/
theorem b5 (t : Fin cfg0.N) (l : Fin 1024) (q : Fin 512) : iblk m c 5 t (ix2 l q) = m ((c : Thread nD τ).loc main_arg4) (ix3 (bOf (rowAt t l)) (lOf (rowAt t l)) (second (colAt t q))) := by
  obtain ⟨p0, p1, p2, p3, p4, p5, p6⟩ := places t
  refine Eq.trans ?_ (V_g m c (rowAt t l) (second (colAt t q)))
  unfold iblk
  rw [View.read_apply]
  show V m c main_v6 _ = V m c main_v6 _
  congr 1
  funext a
  apply Fin.ext
  match a with
  | ⟨0, _⟩ => show win0_5.index t 0 * 1024 + 1 * l.val = t.val / 2 * 1024 + l.val; rw [p5]; simp
  | ⟨1, _⟩ => show win0_5.index t 1 * 512 + 1 * q.val = 1024 + (t.val % 2 * 512 + q.val); rw [p5]; simp; omega

/-- The kernel's result, of its arguments' launch contents. -/
def result (b : Fin 2) (l : Fin 8192) (q : Fin 1024) : EReal :=
  merge (fun b l k => m ((c : Thread nD τ).loc main_arg0) (ix3 b l k)) (fun b l k => m ((c : Thread nD τ).loc main_arg1) (ix3 b l k))
    (fun k q => m ((c : Thread nD τ).loc main_arg2) (ix2 k q)) (fun k q => m ((c : Thread nD τ).loc main_arg3) (ix2 k q))
    (fun b l q => m ((c : Thread nD τ).loc main_arg4) (ix3 b l q)) b l q

/-- What a point leaves in the result's window. -/
theorem result_at (t : Fin cfg0.N) (l : Fin 1024) (q : Fin 512) :
    out0_6 (iblk m c 0 t) (iblk m c 1 t) (iblk m c 2 t) (iblk m c 3 t) (iblk m c 4 t) (iblk m c 5 t) (ix2 l q) = result m c (bOf (rowAt t l)) (lOf (rowAt t l)) (colAt t q) := by
  refine (out_apply _ _ _ _ _ _ l q).trans ?_
  exact congr (congr (congr (congr (congr (congrArg gatedPair (b4 m c t l q)) (b5 m c t l q)) (funext fun k => b0 m c t l k)) (funext fun k => b2 m c t k q))
    (funext fun k => b1 m c t l k)) (funext fun k => b3 m c t k q)

/-- The result's array after the run. -/
theorem result_array : (dats m 0 c).arrAt 6 cfg0.N = (fun i : S16384x1024.Idx => result m c (bOf (i 0)) (lOf (i 0)) (i 1)) := by
  refine (dats m 0 c).arrAt_eq_of_covers 6 _ (by decide +kernel) fun t hf y => ?_
  rw [after0_6]
  obtain ⟨p0, p1, p2, p3, p4, p5, p6⟩ := places t
  have e0 : ((cfg0.win 6).blk t).view.emb y 0 = rowAt t (y 0) :=
    Fin.ext (by show win0_6.index t 0 * 1024 + 1 * (y 0).val = t.val / 2 * 1024 + (y 0).val; rw [p6]; simp)
  have e1 : ((cfg0.win 6).blk t).view.emb y 1 = colAt t (y 1) :=
    Fin.ext (by show win0_6.index t 1 * 512 + 1 * (y 1).val = t.val % 2 * 512 + (y 1).val; rw [p6]; simp)
  have ex : (cfg0.win 6).xinj (cfg0.grid.coords t) y = ix2 (y 0) (y 1) := by
    funext a; match a with
    | ⟨0, _⟩ => rfl
    | ⟨1, _⟩ => rfl
  have key := result_at m c t (y 0) (y 1)
  generalize out0_6 (iblk m c 0 t) (iblk m c 1 t) (iblk m c 2 t) (iblk m c 3 t) (iblk m c 4 t) (iblk m c 5 t) = X at key ⊢
  refine Eq.trans (congrArg X ex) (key.trans ?_)
  exact congr (congr (congrArg _ (congrArg bOf e0.symm)) (congrArg lOf e0.symm)) e1.symm

end Cert.Kernel4Ideal.Merge

namespace Cert.Proof

open Idealize.ShloMosaic Idealize.ShloMosaic.TcCoe Idealize.SL.Sem Cert.Kernel4Ideal.Merge
open Cert.KernelIdeal.Scan (bOf lOf)

section
open Cert.Reference4Ideal Cert.Reference4Ideal.Gen

/-- The plain program's result at a row and a column. -/
theorem merge_reference (x0 : FVec Ideal S2x8192x1024 .f32) (x1 : FVec Ideal S2x8192x2048 .f32) (x2 : FVec Ideal S1024x1024 .f32) (x3 : FVec Ideal S2048x1024 .f32)
    (x4 : FVec Ideal S2x8192x2048 .f32) (r : Fin 16384) (q : Fin 1024) :
    truncf .bf16 (shapeCast S16384x1024 (addf (mulf (extractStridedSlice S2x8192x1024 ![0, 0, 0] x4 slices_S2x8192x2048_S2x8192x1024_0_0_0) (Host.dotGeneral dot_S2x8192x1024_S1024x1024_S2x8192x1024_2_0_01_1_n_n none x0 x2)) (mulf (extractStridedSlice S2x8192x1024 ![0, 0, 1024] x4 slices_S2x8192x2048_S2x8192x1024_0_0_1024) (Host.dotGeneral dot_S2x8192x2048_S2048x1024_S2x8192x1024_2_0_01_1_n_n none x1 x3))) shapeCasts_S2x8192x1024_S16384x1024) bitsLt_bf16_f32 (ix2 r q)
      = merge (fun b l k => x0 (ix3 b l k)) (fun b l k => x1 (ix3 b l k)) (fun k q => x2 (ix2 k q)) (fun k q => x3 (ix2 k q)) (fun b l q => x4 (ix3 b l q)) (bOf r) (lOf r) q := by
  pointwise [merge, gatedPair, first, second, bOf, lOf]

/-- The plain program runs, and leaves its arguments: its frame. -/
theorem frame_merge_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)
end

/-- The kernel and the plain program end with equal results, element by element, as extended reals. -/
theorem algebraic_merge : Cert.algebraic_Kernel4Ideal_Reference4Ideal := by
  intro m ρ m' ρ' _ hagree
  refine ⟨fun c => (fun i : Cert.Kernel4Ideal.S16384x1024.Idx => result m c (bOf (i 0)) (lOf (i 0)) (i 1)), ?_, ?_⟩
  · refine (θ_run _ _ _).mono (fun r h c => ?_) (Cert.Kernel4Ideal.Value.run_blocks (F := Ideal) m ρ)
    exact ⟨(h c).1.trans (result_array m c), (h c).2⟩
  · refine (θ_run _ _ _).mono (fun r h c => ?_) (Cert.Reference4Ideal.Value.run (F := Ideal) m' ρ')
    obtain ⟨h0, h1, h2, h3, h4⟩ := hagree c
    refine ⟨(h c).1.trans ?_, (h c).2⟩
    funext i
    rw [h0, h1, h2, h3, h4]
    refine (congrArg _ (eq_ix2 i)).trans ?_
    exact merge_reference _ _ _ _ _ (i 0) (i 1)

end Cert.Proof
end
-- ==== Proof.Xbc.lean ====
/-
  The scan's input projection, convolved over the rows and passed through a silu: the kernel's tiles of 512 rows by 1024
  columns are the plain program's numbers.
-/
module

public import proofs.«01_k».proof.Defs
public import proofs.«01_k».proof.Proof.PointsAt
public import proofs.«01_k».proof.Proof.Conv
public import proofs.«01_k».proof.Proof.Gen.Kernel5Ideal.Value
public import proofs.«01_k».proof.Proof.Gen.Reference5Ideal.Run

@[expose] public section

set_option maxHeartbeats 400000
set_option maxRecDepth 16384

noncomputable section

namespace Cert.Kernel5Ideal.Xbc

open Cert.Kernel5Ideal Cert.Kernel5Ideal.Gen Idealize.ShloMosaic Idealize.ShloMosaic.TcCoe Idealize.SL.Sem
open Cert.KernelIdeal.Scan (bOf lOf)
open Cert.Conv

section
variable {F : FTy → Type} [FloatOps F]

/-- A point's result, of its blocks and of the 8 rows of the projection before its tile. -/
def outW (x0 : Vec F S512x1024 .bf16) (x1 : Vec F S1024x1024 .bf16) (x2 : Vec F S4x1024 .f32) (x3 : Vec F S1x1024 .f32)
    (H : (Mat 8 1024).Idx → Elt F .f32) : Vec F S512x1024 .f32 :=
  k0_pay2 (k0_pay5 x3 (rowOf (K := 4) x2 0) (padW H (k0_pay4 x0 x1) 5 (by decide)))
    (rowOf (K := 4) x2 1) (padW H (k0_pay4 x0 x1) 6 (by decide)) (rowOf (K := 4) x2 2) (padW H (k0_pay4 x0 x1) 7 (by decide))
    (rowOf (K := 4) x2 3) (padW H (k0_pay4 x0 x1) 8 (by decide))

set_option maxHeartbeats 800000 in
/-- What the first tile of a sequence leaves in the result: no rows come before it, so zeros. -/
theorem out_A (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S520x1024 .f32) (harg7 : arg7.IsWhole) (hc0 : cond0_0 i)
    (x0 : Vec F S512x1024 .bf16) (x1 : Vec F S1024x1024 .bf16) (x2 : Vec F S4x1024 .f32) (x3 : Vec F S1x1024 .f32) :
    out0_A_4 c i arg2 harg2 arg3 harg3 arg4 harg4 arg5 harg5 arg6 harg6 arg7 harg7 hc0 x0 x1 x2 x3 = outW x0 x1 x2 x3 k0_pay3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  have z2 : ∀ a : Fin 2, (![0, 0] : Fin 2 → Nat) a = 0 := by decide
  have l0 := View.ld_unit_lit (Val := Elt F) (S := S512x1024) (off := ![0, 0]) inb_S512x1024_S512x1024_0_0 x0 z2
  have l1 := View.ld_unit_lit (Val := Elt F) (S := S1024x1024) (off := ![0, 0]) inb_S1024x1024_S1024x1024_0_0 x1 z2
  refine (View.canon_cons_unit_lit _ _ _ (by decide)).trans ?_
  simp only [View.readAt_eq_ld, harg2.read_unread, harg3.read_unread, harg4.read_unread, harg5.read_unread, l0, l1]
  unfold outW
  refine congr (congr (congr (congr (congr (congr (congrArg k0_pay2 (congr (congr (congrArg k0_pay5 ?_) ?_) ?_)) ?_) ?_) ?_) ?_) ?_) ?_
  · exact View.ld_unit_lit _ _ (by decide)
  · exact ld_row (K := 4) x2 0 _
  · exact pad_fresh arg7.view inb_S520x1024_S512x1024_8_0 (k0_pay4 x0 x1) inb_S520x1024_S8x1024_0_0 k0_pay3 5 (by decide) inb_S520x1024_S512x1024_5_0
  · exact ld_row (K := 4) x2 1 _
  · exact pad_fresh arg7.view inb_S520x1024_S512x1024_8_0 (k0_pay4 x0 x1) inb_S520x1024_S8x1024_0_0 k0_pay3 6 (by decide) inb_S520x1024_S512x1024_6_0
  · exact ld_row (K := 4) x2 2 _
  · exact pad_fresh arg7.view inb_S520x1024_S512x1024_8_0 (k0_pay4 x0 x1) inb_S520x1024_S8x1024_0_0 k0_pay3 7 (by decide) inb_S520x1024_S512x1024_7_0
  · exact ld_row (K := 4) x2 3 _
  · exact pad_fresh arg7.view inb_S520x1024_S512x1024_8_0 (k0_pay4 x0 x1) inb_S520x1024_S8x1024_0_0 k0_pay3 8 (by decide) inb_S520x1024_S512x1024_8_0

set_option maxHeartbeats 800000 in
/-- What a later tile leaves in the result, from the rows the buffer was entered with. -/
theorem out_B (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S520x1024 .f32) (harg7 : arg7.IsWhole) (hc0 : ¬cond0_0 i)
    (x0 : Vec F S512x1024 .bf16) (x1 : Vec F S1024x1024 .bf16) (x2 : Vec F S4x1024 .f32) (x3 : Vec F S1x1024 .f32) (xs0 : Vec F S520x1024 .f32) :
    out0_B_4 c i arg2 harg2 arg3 harg3 arg4 harg4 arg5 harg5 arg6 harg6 arg7 harg7 hc0 x0 x1 x2 x3 xs0 = outW x0 x1 x2 x3 (headOf xs0) := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  have z2 : ∀ a : Fin 2, (![0, 0] : Fin 2 → Nat) a = 0 := by decide
  have l0 := View.ld_unit_lit (Val := Elt F) (S := S512x1024) (off := ![0, 0]) inb_S512x1024_S512x1024_0_0 x0 z2
  have l1 := View.ld_unit_lit (Val := Elt F) (S := S1024x1024) (off := ![0, 0]) inb_S1024x1024_S1024x1024_0_0 x1 z2
  refine (View.canon_cons_unit_lit _ _ _ (by decide)).trans ?_
  simp only [View.readAt_eq_ld, harg2.read_unread, harg3.read_unread, harg4.read_unread, harg5.read_unread, l0, l1]
  have hd : headOf (arg7.view.read (Elt F) (harg7.unread xs0)) = headOf xs0 := congrArg headOf (harg7.read_unread xs0)
  unfold outW
  refine congr (congr (congr (congr (congr (congr (congrArg k0_pay2 (congr (congr (congrArg k0_pay5 ?_) ?_) ?_)) ?_) ?_) ?_) ?_) ?_) ?_
  · exact View.ld_unit_lit _ _ (by decide)
  · exact ld_row (K := 4) x2 0 _
  · exact (pad_read arg7.view (harg7.unread xs0) inb_S520x1024_S512x1024_8_0 (k0_pay4 x0 x1) 5 (by decide) inb_S520x1024_S512x1024_5_0).trans (congrArg (fun H => padW H (k0_pay4 x0 x1) 5 (by decide)) hd)
  · exact ld_row (K := 4) x2 1 _
  · exact (pad_read arg7.view (harg7.unread xs0) inb_S520x1024_S512x1024_8_0 (k0_pay4 x0 x1) 6 (by decide) inb_S520x1024_S512x1024_6_0).trans (congrArg (fun H => padW H (k0_pay4 x0 x1) 6 (by decide)) hd)
  · exact ld_row (K := 4) x2 2 _
  · exact (pad_read arg7.view (harg7.unread xs0) inb_S520x1024_S512x1024_8_0 (k0_pay4 x0 x1) 7 (by decide) inb_S520x1024_S512x1024_7_0).trans (congrArg (fun H => padW H (k0_pay4 x0 x1) 7 (by decide)) hd)
  · exact ld_row (K := 4) x2 3 _
  · exact pad_own arg7.view inb_S520x1024_S512x1024_8_0 (k0_pay4 x0 x1) (headOf xs0) (by decide)

set_option maxHeartbeats 800000 in
/-- The rows the first tile of a sequence keeps for the next: its last 8 rows of the projection. -/
theorem kept_A (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S520x1024 .f32) (harg7 : arg7.IsWhole) (hc0 : cond0_0 i)
    (x0 : Vec F S512x1024 .bf16) (x1 : Vec F S1024x1024 .bf16) (x2 : Vec F S4x1024 .f32) (x3 : Vec F S1x1024 .f32) :
    headOf (sout0_A_0 c i arg2 harg2 arg3 harg3 arg4 harg4 arg5 harg5 arg6 harg6 arg7 harg7 hc0 x0 x1 x2 x3) = lastRows (k0_pay4 x0 x1) := by
  unfold sout0_A_0
  unfold kernelRun0_A
  dsimp only
  sl_unfold_words
  have z2 : ∀ a : Fin 2, (![0, 0] : Fin 2 → Nat) a = 0 := by decide
  have l0 := View.ld_unit_lit (Val := Elt F) (S := S512x1024) (off := ![0, 0]) inb_S512x1024_S512x1024_0_0 x0 z2
  have l1 := View.ld_unit_lit (Val := Elt F) (S := S1024x1024) (off := ![0, 0]) inb_S1024x1024_S1024x1024_0_0 x1 z2
  simp only [View.readAt_eq_ld, harg2.read_unread, harg3.read_unread, l0, l1]
  refine (pad_head (F := F) _ _ _ _ _).trans ?_
  refine (shapeCast_self _ _).trans ?_
  exact pad_fresh_tail arg7.view inb_S520x1024_S512x1024_8_0 (k0_pay4 x0 x1) inb_S520x1024_S8x1024_0_0 k0_pay3 inb_S520x1024_S8x1024_512_0

set_option maxHeartbeats 800000 in
/-- The rows a later tile keeps for the next, too. -/
theorem kept_B (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S520x1024 .f32) (harg7 : arg7.IsWhole) (hc0 : ¬cond0_0 i)
    (x0 : Vec F S512x1024 .bf16) (x1 : Vec F S1024x1024 .bf16) (x2 : Vec F S4x1024 .f32) (x3 : Vec F S1x1024 .f32) (xs0 : Vec F S520x1024 .f32) :
    headOf (sout0_B_0 c i arg2 harg2 arg3 harg3 arg4 harg4 arg5 harg5 arg6 harg6 arg7 harg7 hc0 x0 x1 x2 x3 xs0) = lastRows (k0_pay4 x0 x1) := by
  unfold sout0_B_0
  unfold kernelRun0_B
  dsimp only
  sl_unfold_words
  have z2 : ∀ a : Fin 2, (![0, 0] : Fin 2 → Nat) a = 0 := by decide
  have l0 := View.ld_unit_lit (Val := Elt F) (S := S512x1024) (off := ![0, 0]) inb_S512x1024_S512x1024_0_0 x0 z2
  have l1 := View.ld_unit_lit (Val := Elt F) (S := S1024x1024) (off := ![0, 0]) inb_S1024x1024_S1024x1024_0_0 x1 z2
  simp only [View.readAt_eq_ld, harg2.read_unread, harg3.read_unread, l0, l1]
  refine (pad_head (F := F) _ _ _ _ _).trans ?_
  refine (shapeCast_self _ _).trans ?_
  exact pad_tail arg7.view arg7.view.junk inb_S520x1024_S512x1024_8_0 (k0_pay4 x0 x1) inb_S520x1024_S8x1024_512_0

end

/-- A row of a tile times a column of the weights. -/
def dotK (a w : Fin 1024 → EReal) : EReal := ∑ k : Fin 1024, a k * w k
/-- Four taps with their weights and a bias. -/
def taps4 (b w0 t0 w1 t1 w2 t2 w3 t3 : EReal) : EReal := b + w0 * t0 + w1 * t1 + w2 * t2 + w3 * t3

/-- The projection of a sequence in a column. -/
def proj (h : Fin 2 → Fin 8192 → Fin 1024 → EReal) (w : Fin 1024 → Fin 3072 → EReal) (b : Fin 2) (q : Fin 3072) (l : Fin 8192) : EReal :=
  dotK (fun k => h b l k) (fun k => w k q)
/-- The result at a row and a column. -/
def xbc (h : Fin 2 → Fin 8192 → Fin 1024 → EReal) (w : Fin 1024 → Fin 3072 → EReal) (cw : Fin 4 → Fin 3072 → EReal) (cb : Fin 3072 → EReal)
    (b : Fin 2) (l : Fin 8192) (q : Fin 3072) : EReal :=
  silu (taps4 (cb q) (cw 0 q) (late 3 (proj h w b q) l.val) (cw 1 q) (late 3 (proj h w b q) (1 + l.val)) (cw 2 q) (late 3 (proj h w b q) (2 + l.val))
    (cw 3 q) (late 3 (proj h w b q) (3 + l.val)))

/-- The projection's tile at an index. -/
theorem proj_apply (x0 : FVec Ideal S512x1024 .bf16) (x1 : FVec Ideal S1024x1024 .bf16) (r : Fin 512) (q : Fin 1024) :
    k0_pay4 (F := Ideal) x0 x1 (ix2 r q) = dotK (fun k => x0 (ix2 r k)) (fun k => x1 (ix2 k q)) := by
  pointwise [k0_pay4, dotK]
/-- The zeros before a sequence. -/
theorem zero_apply (k : Fin 8) (q : Fin 1024) : k0_pay3 (F := Ideal) (ix2 k q) = (0 : EReal) := by
  pointwise [k0_pay3]
/-- The bias and the first tap. -/
theorem first_apply (v21 v23 : FVec Ideal S1x1024 .f32) (v24 : FVec Ideal S512x1024 .f32) (r : Fin 512) (q : Fin 1024) :
    k0_pay5 (F := Ideal) v21 v23 v24 (ix2 r q) = (v21 (ix2 0 q) + v23 (ix2 0 q) * v24 (ix2 r q) : EReal) := by
  pointwise [k0_pay5]
/-- The stored value, of the first tap's sum and the other taps. -/
theorem last_apply (v28 : FVec Ideal S512x1024 .f32) (v29 : FVec Ideal S1x1024 .f32) (v30 : FVec Ideal S512x1024 .f32) (v34 : FVec Ideal S1x1024 .f32)
    (v35 : FVec Ideal S512x1024 .f32) (v39 : FVec Ideal S1x1024 .f32) (v40 : FVec Ideal S512x1024 .f32) (r : Fin 512) (q : Fin 1024) :
    k0_pay2 (F := Ideal) v28 v29 v30 v34 v35 v39 v40 (ix2 r q)
      = silu (v28 (ix2 r q) + v29 (ix2 0 q) * v30 (ix2 r q) + v34 (ix2 0 q) * v35 (ix2 r q) + v39 (ix2 0 q) * v40 (ix2 r q) : EReal) := by
  pointwise [k0_pay2, silu]

/-- What a point leaves in the result's block, at a row and a column. -/
theorem outW_apply (x0 : FVec Ideal S512x1024 .bf16) (x1 : FVec Ideal S1024x1024 .bf16) (x2 : FVec Ideal S4x1024 .f32) (x3 : FVec Ideal S1x1024 .f32)
    (H : (Mat 8 1024).Idx → Elt Ideal .f32) (r : Fin 512) (q : Fin 1024) :
    outW (F := Ideal) x0 x1 x2 x3 H (ix2 r q)
      = silu (taps4 (x3 (ix2 0 q)) (x2 (ix2 0 q)) (padW (F := Ideal) H (k0_pay4 (F := Ideal) x0 x1) 5 (by decide) (ix2 r q)) (x2 (ix2 1 q))
          (padW (F := Ideal) H (k0_pay4 (F := Ideal) x0 x1) 6 (by decide) (ix2 r q)) (x2 (ix2 2 q)) (padW (F := Ideal) H (k0_pay4 (F := Ideal) x0 x1) 7 (by decide) (ix2 r q))
          (x2 (ix2 3 q)) (padW (F := Ideal) H (k0_pay4 (F := Ideal) x0 x1) 8 (by decide) (ix2 r q))) := by
  unfold outW
  rw [last_apply, first_apply]
  rfl

/-- Where each window's block lies, at each of the 96 points. -/
theorem places : ∀ t : Fin cfg0.N, win0_0.index t = ![t.val % 32, 0] ∧ win0_1.index t = ![0, t.val / 32] ∧ win0_2.index t = ![0, t.val / 32]
    ∧ win0_3.index t = ![0, t.val / 32] ∧ win0_4.index t = ![t.val % 32, t.val / 32] := by
  decide +kernel

variable (m : (ℓ : Loc nD τ sig) → Buf (Elt Ideal) ℓ) (c : Dev nD)

/-- The flattened input. -/
theorem V_h (r : Fin 16384) (k : Fin 1024) : V m c main_v1 (ix2 r k) = m ((c : Thread nD τ).loc main_arg0) (ix3 (bOf r) (lOf r) k) := by
  simp only [V, hostOps0]
  entry_read
  pointwise [bOf, lOf]
/-- The weights. -/
theorem V_w (k : Fin 1024) (q : Fin 3072) : V m c main_v2 (ix2 k q) = m ((c : Thread nD τ).loc main_arg1) (ix2 k q) := by
  simp only [V, hostOps0]
  entry_read
  pointwise
/-- The taps' weights. -/
theorem V_cw (k : Fin 4) (q : Fin 3072) : V m c main_arg2 (ix2 k q) = m ((c : Thread nD τ).loc main_arg2) (ix2 k q) := by
  simp only [V, hostOps0]
  entry_read
  rfl
/-- The bias. -/
theorem V_cb (q : Fin 3072) : V m c main_v3 (ix2 0 q) = m ((c : Thread nD τ).loc main_arg3) (ix1 q) := by
  simp only [V, hostOps0]
  entry_read
  pointwise

/-- A point's row of the flattened arrays. -/
def rowAt (t : Fin cfg0.N) (l : Fin 512) : Fin 16384 := ⟨t.val % 32 * 512 + l.val, by omega⟩
/-- A point's column. -/
def colAt (t : Fin cfg0.N) (q : Fin 1024) : Fin 3072 := ⟨t.val / 32 * 1024 + q.val, by have : t.val < 96 := t.isLt; omega⟩

/-- A point's block of the input. -/
theorem b0 (t : Fin cfg0.N) (l : Fin 512) (k : Fin 1024) : iblk m c 0 t (ix2 l k) = m ((c : Thread nD τ).loc main_arg0) (ix3 (bOf (rowAt t l)) (lOf (rowAt t l)) k) := by
  obtain ⟨p0, p1, p2, p3, p4⟩ := places t
  refine Eq.trans ?_ (V_h m c (rowAt t l) k)
  unfold iblk
  rw [View.read_apply]
  show V m c main_v1 _ = V m c main_v1 _
  congr 1
  funext a
  apply Fin.ext
  match a with
  | ⟨0, _⟩ => show win0_0.index t 0 * 512 + 1 * l.val = t.val % 32 * 512 + l.val; rw [p0]; simp
  | ⟨1, _⟩ => show win0_0.index t 1 * 1024 + 1 * k.val = k.val; rw [p0]; simp
/-- A point's block of the weights. -/
theorem b1 (t : Fin cfg0.N) (k : Fin 1024) (q : Fin 1024) : iblk m c 1 t (ix2 k q) = m ((c : Thread nD τ).loc main_arg1) (ix2 k (colAt t q)) := by
  obtain ⟨p0, p1, p2, p3, p4⟩ := places t
  refine Eq.trans ?_ (V_w m c k (colAt t q))
  unfold iblk
  rw [View.read_apply]
  show V m c main_v2 _ = V m c main_v2 _
  congr 1
  funext a
  apply Fin.ext
  match a with
  | ⟨0, _⟩ => show win0_1.index t 0 * 1024 + 1 * k.val = k.val; rw [p1]; simp
  | ⟨1, _⟩ => show win0_1.index t 1 * 1024 + 1 * q.val = t.val / 32 * 1024 + q.val; rw [p1]; simp
/-- A point's block of the taps' weights. -/
theorem b2 (t : Fin cfg0.N) (k : Fin 4) (q : Fin 1024) : iblk m c 2 t (ix2 k q) = m ((c : Thread nD τ).loc main_arg2) (ix2 k (colAt t q)) := by
  obtain ⟨p0, p1, p2, p3, p4⟩ := places t
  refine Eq.trans ?_ (V_cw m c k (colAt t q))
  unfold iblk
  rw [View.read_apply]
  show V m c main_arg2 _ = V m c main_arg2 _
  congr 1
  funext a
  apply Fin.ext
  match a with
  | ⟨0, _⟩ => show win0_2.index t 0 * 4 + 1 * k.val = k.val; rw [p2]; simp
  | ⟨1, _⟩ => show win0_2.index t 1 * 1024 + 1 * q.val = t.val / 32 * 1024 + q.val; rw [p2]; simp
/-- A point's block of the bias. -/
theorem b3 (t : Fin cfg0.N) (q : Fin 1024) : iblk m c 3 t (ix2 0 q) = m ((c : Thread nD τ).loc main_arg3) (ix1 (colAt t q)) := by
  obtain ⟨p0, p1, p2, p3, p4⟩ := places t
  refine Eq.trans ?_ (V_cb m c (colAt t q))
  unfold iblk
  rw [View.read_apply]
  show V m c main_v3 _ = V m c main_v3 _
  congr 1
  funext a
  apply Fin.ext
  match a with
  | ⟨0, _⟩ => show win0_3.index t 0 * 1 + 1 * 0 = 0; rw [p3]; simp
  | ⟨1, _⟩ => show win0_3.index t 1 * 1024 + 1 * q.val = t.val / 32 * 1024 + q.val; rw [p3]; simp

/-- The kernel's projection, of its arguments' launch contents. -/
def projK (b : Fin 2) (q : Fin 3072) (l : Fin 8192) : EReal :=
  proj (fun b l k => m ((c : Thread nD τ).loc main_arg0) (ix3 b l k)) (fun k q => m ((c : Thread nD τ).loc main_arg1) (ix2 k q)) b q l
/-- The kernel's result, of its arguments' launch contents. -/
def result (b : Fin 2) (l : Fin 8192) (q : Fin 3072) : EReal :=
  xbc (fun b l k => m ((c : Thread nD τ).loc main_arg0) (ix3 b l k)) (fun k q => m ((c : Thread nD τ).loc main_arg1) (ix2 k q))
    (fun k q => m ((c : Thread nD τ).loc main_arg2) (ix2 k q)) (fun q => m ((c : Thread nD τ).loc main_arg3) (ix1 q)) b l q

/-- The sequence of a point. -/
def bAt (t : Fin cfg0.N) : Fin 2 := ⟨t.val % 32 / 16, by omega⟩
/-- The tile of a point, in its sequence. -/
def tileAt (t : Fin cfg0.N) : Fin 16 := ⟨t.val % 16, by omega⟩
/-- The position of a point's row in its sequence. -/
def posAt (t : Fin cfg0.N) (l : Fin 512) : Fin 8192 := ⟨512 * (tileAt t).val + l.val, by omega⟩
/-- The sequence of a point's row. -/
theorem bOf_rowAt (t : Fin cfg0.N) (l : Fin 512) : bOf (rowAt t l) = bAt t := Fin.ext (by simp only [bOf, rowAt, bAt]; omega)
/-- The position of a point's row. -/
theorem lOf_rowAt (t : Fin cfg0.N) (l : Fin 512) : lOf (rowAt t l) = posAt t l := Fin.ext (by simp only [lOf, rowAt, posAt, tileAt]; omega)

/-- A point's projection. -/
theorem proj_at (t : Fin cfg0.N) (l : Fin 512) (q : Fin 1024) :
    k0_pay4 (F := Ideal) (iblk m c 0 t) (iblk m c 1 t) (ix2 l q) = projK m c (bAt t) (colAt t q) (posAt t l) := by
  rw [proj_apply, ← bOf_rowAt t l, ← lOf_rowAt t l]
  exact congrArg₂ dotK (funext fun k => b0 m c t l k) (funext fun k => b1 m c t k q)

/-- The rows a point keeps for the next: its last 8 rows of the projection. -/
theorem kept_at (t : Fin cfg0.N) : headOf (outsAt0 m c t.val t.isLt).2 = lastRows (k0_pay4 (F := Ideal) (iblk m c 0 t) (iblk m c 1 t)) := by
  by_cases h0 : t.val % 16 = 0
  · rw [outsAt0_A m c t h0]
    dsimp only
    rw [kept_A]
  · rw [outsAt0_B m c t h0]
    dsimp only
    rw [kept_B]

/-- The rows before a point's tile: zeros before a sequence, and otherwise the last rows of the tile before. -/
theorem before_at (t : Fin cfg0.N) (h0 : ¬ t.val % 16 = 0) (q : Fin 1024) (k : Fin 8) :
    headOf (outsAt0 m c (t.val - 1) (Nat.lt_of_le_of_lt (Nat.sub_le _ _) t.isLt)).2 (ix2 k q)
      = if h : 8 ≤ 512 * (tileAt t).val + k.val then projK m c (bAt t) (colAt t q) ⟨512 * (tileAt t).val + k.val - 8, by omega⟩ else 0 := by
  have ht : 1 ≤ (tileAt t).val := by simp only [tileAt]; omega
  rw [dif_pos (by omega), kept_at m c ⟨t.val - 1, Nat.lt_of_le_of_lt (Nat.sub_le _ _) t.isLt⟩]
  refine (proj_at m c _ _ q).trans ?_
  exact congr (congr (congrArg (projK m c) (Fin.ext (by simp only [bAt]; omega))) (Fin.ext (by simp only [colAt]; show _ * 1024 + q.val = _; omega)))
    (Fin.ext (by simp only [posAt, tileAt]; show 512 * ((t.val - 1) % 16) + (504 + k.val) = _; omega))

/-- A point's store, given the rows before its tile. -/
theorem store_at (t : Fin cfg0.N) (H : (Mat 8 1024).Idx → Elt Ideal .f32) (l : Fin 512) (q : Fin 1024)
    (hH : ∀ k : Fin 8, H (ix2 k q) = if h : 8 ≤ 512 * (tileAt t).val + k.val then projK m c (bAt t) (colAt t q) ⟨512 * (tileAt t).val + k.val - 8, by omega⟩ else 0) :
    outW (F := Ideal) (iblk m c 0 t) (iblk m c 1 t) (iblk m c 2 t) (iblk m c 3 t) H (ix2 l q)
      = result m c (bAt t) (posAt t l) (colAt t q) := by
  have hG := fun r => proj_at m c t r q
  have hp : (posAt t l).val = 512 * (tileAt t).val + l.val := rfl
  have t0 := padW_late H (k0_pay4 (F := Ideal) (iblk m c 0 t) (iblk m c 1 t)) (projK m c (bAt t) (colAt t q)) q (tileAt t) hG hH 5 3 (by decide) l ((posAt t l).val) (by omega)
  have t1 := padW_late H (k0_pay4 (F := Ideal) (iblk m c 0 t) (iblk m c 1 t)) (projK m c (bAt t) (colAt t q)) q (tileAt t) hG hH 6 3 (by decide) l (1 + (posAt t l).val) (by omega)
  have t2 := padW_late H (k0_pay4 (F := Ideal) (iblk m c 0 t) (iblk m c 1 t)) (projK m c (bAt t) (colAt t q)) q (tileAt t) hG hH 7 3 (by decide) l (2 + (posAt t l).val) (by omega)
  have t3 := padW_late H (k0_pay4 (F := Ideal) (iblk m c 0 t) (iblk m c 1 t)) (projK m c (bAt t) (colAt t q)) q (tileAt t) hG hH 8 3 (by decide) l (3 + (posAt t l).val) (by omega)
  refine (outW_apply _ _ _ _ H l q).trans ?_
  exact congrArg silu (congr (congr (congr (congr (congr (congr (congr (congr (congrArg taps4 (b3 m c t q)) (b2 m c t 0 q)) t0) (b2 m c t 1 q)) t1)
    (b2 m c t 2 q)) t2) (b2 m c t 3 q)) t3)

/-- What a point leaves in the result's window. -/
theorem result_at (t : Fin cfg0.N) (l : Fin 512) (q : Fin 1024) :
    (outsAt0 m c t.val t.isLt).1 (ix2 l q) = result m c (bOf (rowAt t l)) (lOf (rowAt t l)) (colAt t q) := by
  rw [bOf_rowAt, lOf_rowAt]
  by_cases h0 : t.val % 16 = 0
  · rw [outsAt0_A m c t h0]
    dsimp only
    rw [out_A]
    refine store_at m c t _ l q fun k => ?_
    have ht : (tileAt t).val = 0 := h0
    rw [dif_neg (by omega)]
    exact zero_apply k q
  · rw [outsAt0_B m c t h0]
    dsimp only
    rw [out_B]
    exact store_at m c t _ l q fun k => before_at m c t h0 q k

/-- The result's array after the run. -/
theorem result_array : (dats m 0 c).arrAt 4 cfg0.N = (fun i : S16384x3072.Idx => result m c (bOf (i 0)) (lOf (i 0)) (i 1)) := by
  refine (dats m 0 c).arrAt_eq_of_covers 4 _ (by decide +kernel) fun t hf y => ?_
  rw [after0_4]
  obtain ⟨p0, p1, p2, p3, p4⟩ := places t
  have e0 : ((cfg0.win 4).blk t).view.emb y 0 = rowAt t (y 0) :=
    Fin.ext (by show win0_4.index t 0 * 512 + 1 * (y 0).val = t.val % 32 * 512 + (y 0).val; rw [p4]; simp)
  have e1 : ((cfg0.win 4).blk t).view.emb y 1 = colAt t (y 1) :=
    Fin.ext (by show win0_4.index t 1 * 1024 + 1 * (y 1).val = t.val / 32 * 1024 + (y 1).val; rw [p4]; simp)
  have ex : (cfg0.win 4).xinj (cfg0.grid.coords t) y = ix2 (y 0) (y 1) := by
    funext a; match a with
    | ⟨0, _⟩ => rfl
    | ⟨1, _⟩ => rfl
  have key := result_at m c t (y 0) (y 1)
  generalize (outsAt0 m c t.val t.isLt).1 = X at key ⊢
  refine Eq.trans (congrArg X ex) (key.trans ?_)
  exact congr (congr (congrArg _ (congrArg bOf e0.symm)) (congrArg lOf e0.symm)) e1.symm

end Cert.Kernel5Ideal.Xbc

namespace Cert.Proof

open Idealize.ShloMosaic Idealize.ShloMosaic.TcCoe Idealize.SL.Sem Cert.Kernel5Ideal.Xbc Cert.Conv
open Cert.KernelIdeal.Scan (bOf lOf)

section
open Cert.Reference5Ideal Cert.Reference5Ideal.Gen

/-- The plain program's projection. -/
def projR (x0 : FVec Ideal S2x8192x1024 .f32) (x1 : FVec Ideal S1024x3072 .f32) : FVec Ideal S2x8192x3072 .f32 :=
  Host.dotGeneral dot_S2x8192x1024_S1024x3072_S2x8192x3072_2_0_01_1_n_n none x0 x1
/-- The plain program's zeros. -/
def zero3R : FVec Ideal S2x3x3072 .f32 := broadcastInDim S2x3x3072 ![] bcast_S_S2x3x3072 (constant S_ .f32 0x00000000#32)
/-- The plain program's projection with zeros before it. -/
def pad3R (g : FVec Ideal S2x8192x3072 .f32) : FVec Ideal S2x8195x3072 .f32 :=
  concatenate S2x8195x3072 1 [⟨S2x3x3072, zero3R⟩, ⟨S2x8192x3072, g⟩] concatenates_S2x3x3072_S2x8192x3072_S2x8195x3072_d1
/-- The plain program's convolution, of its four taps. -/
def conv4R (x2 : FVec Ideal S4x3072 .f32) (x3 : FVec Ideal S3072 .f32) (t0 t1 t2 t3 : FVec Ideal S2x8192x3072 .f32) : FVec Ideal S2x8192x3072 .f32 :=
  addf (addf (addf (addf (broadcastInDim S2x8192x3072 ![0, 1, 2] bcast_S1x1x3072_S2x8192x3072_0_1_2 (broadcastInDim S1x1x3072 ![2] bcast_S3072_S1x1x3072_2 x3))
    (mulf (broadcastInDim S2x8192x3072 ![0, 1, 2] bcast_S1x1x3072_S2x8192x3072_0_1_2 (broadcastInDim S1x1x3072 ![2] bcast_S3072_S1x1x3072_2
      (shapeCast S3072 (extractStridedSlice S1x3072 ![0, 0] x2 slices_S4x3072_S1x3072_0_0) shapeCasts_S1x3072_S3072))) t0))
    (mulf (broadcastInDim S2x8192x3072 ![0, 1, 2] bcast_S1x1x3072_S2x8192x3072_0_1_2 (broadcastInDim S1x1x3072 ![2] bcast_S3072_S1x1x3072_2
      (shapeCast S3072 (extractStridedSlice S1x3072 ![1, 0] x2 slices_S4x3072_S1x3072_1_0) shapeCasts_S1x3072_S3072))) t1))
    (mulf (broadcastInDim S2x8192x3072 ![0, 1, 2] bcast_S1x1x3072_S2x8192x3072_0_1_2 (broadcastInDim S1x1x3072 ![2] bcast_S3072_S1x1x3072_2
      (shapeCast S3072 (extractStridedSlice S1x3072 ![2, 0] x2 slices_S4x3072_S1x3072_2_0) shapeCasts_S1x3072_S3072))) t2))
    (mulf (broadcastInDim S2x8192x3072 ![0, 1, 2] bcast_S1x1x3072_S2x8192x3072_0_1_2 (broadcastInDim S1x1x3072 ![2] bcast_S3072_S1x1x3072_2
      (shapeCast S3072 (extractStridedSlice S1x3072 ![3, 0] x2 slices_S4x3072_S1x3072_3_0) shapeCasts_S1x3072_S3072))) t3)
/-- The plain program's silu. -/
def silu3R (z : FVec Ideal S2x8192x3072 .f32) : FVec Ideal S2x8192x3072 .f32 :=
  mulf z (Host.divf (broadcastInDim S2x8192x3072 ![] bcast_S_S2x8192x3072 (constant S_ .f32 0x3F800000#32))
    (addf (broadcastInDim S2x8192x3072 ![] bcast_S_S2x8192x3072 (constant S_ .f32 0x3F800000#32)) (Host.exp (Host.negf z))))
/-- The plain program's result. -/
def xbcR (x0 : FVec Ideal S2x8192x1024 .f32) (x1 : FVec Ideal S1024x3072 .f32) (x2 : FVec Ideal S4x3072 .f32) (x3 : FVec Ideal S3072 .f32) : FVec Ideal S16384x3072 .f32 :=
  shapeCast S16384x3072 (silu3R (conv4R x2 x3
    (extractStridedSlice S2x8192x3072 ![0, 0, 0] (pad3R (projR x0 x1)) slices_S2x8195x3072_S2x8192x3072_0_0_0)
    (extractStridedSlice S2x8192x3072 ![0, 1, 0] (pad3R (projR x0 x1)) slices_S2x8195x3072_S2x8192x3072_0_1_0)
    (extractStridedSlice S2x8192x3072 ![0, 2, 0] (pad3R (projR x0 x1)) slices_S2x8195x3072_S2x8192x3072_0_2_0)
    (extractStridedSlice S2x8192x3072 ![0, 3, 0] (pad3R (projR x0 x1)) slices_S2x8195x3072_S2x8192x3072_0_3_0)))
    shapeCasts_S2x8192x3072_S16384x3072

/-- The plain program's projection at an index. -/
theorem projR_apply (x0 : FVec Ideal S2x8192x1024 .f32) (x1 : FVec Ideal S1024x3072 .f32) (b : Fin 2) (l : Fin 8192) (q : Fin 3072) :
    projR x0 x1 (ix3 b l q) = proj (fun b l k => x0 (ix3 b l k)) (fun k q => x1 (ix2 k q)) b q l := by
  pointwise [projR, proj, dotK]
/-- The plain program's zeros are zeros. -/
theorem zero3R_apply (i : S2x3x3072.Idx) : zero3R i = (0 : EReal) := by
  obtain ⟨a, b, d, rfl⟩ : ∃ (a : Fin 2) (b : Fin 3) (d : Fin 3072), i = ix3 a b d := ⟨_, _, _, eq_ix3 i⟩
  pointwise [zero3R]
/-- The plain program's convolution at an index. -/
theorem conv4R_apply (x2 : FVec Ideal S4x3072 .f32) (x3 : FVec Ideal S3072 .f32) (t0 t1 t2 t3 : FVec Ideal S2x8192x3072 .f32) (b : Fin 2) (l : Fin 8192) (q : Fin 3072) :
    conv4R x2 x3 t0 t1 t2 t3 (ix3 b l q) = taps4 (x3 (ix1 q)) (x2 (ix2 0 q)) (t0 (ix3 b l q)) (x2 (ix2 1 q)) (t1 (ix3 b l q)) (x2 (ix2 2 q)) (t2 (ix3 b l q))
      (x2 (ix2 3 q)) (t3 (ix3 b l q)) := by
  pointwise [conv4R, taps4]
/-- The plain program's silu at an index. -/
theorem silu3R_apply (z : FVec Ideal S2x8192x3072 .f32) (b : Fin 2) (l : Fin 8192) (q : Fin 3072) : silu3R z (ix3 b l q) = silu (z (ix3 b l q)) := by
  refine Eq.trans ?_ (silu_eq (z (ix3 b l q)))
  pointwise [silu3R]
/-- A flattened array at an index. -/
theorem flat3_apply (a : FVec Ideal S2x8192x3072 .f32) (r : Fin 16384) (q : Fin 3072) :
    (shapeCast S16384x3072 a shapeCasts_S2x8192x3072_S16384x3072 : FVec Ideal S16384x3072 .f32) (ix2 r q) = a (ix3 (bOf r) (lOf r) q) := by
  pointwise [bOf, lOf]

/-- The plain program's result at a row and a column. -/
theorem xbc_reference (x0 : FVec Ideal S2x8192x1024 .f32) (x1 : FVec Ideal S1024x3072 .f32) (x2 : FVec Ideal S4x3072 .f32) (x3 : FVec Ideal S3072 .f32) (r : Fin 16384) (q : Fin 3072) :
    xbcR x0 x1 x2 x3 (ix2 r q)
      = xbc (fun b l k => x0 (ix3 b l k)) (fun k q => x1 (ix2 k q)) (fun k q => x2 (ix2 k q)) (fun q => x3 (ix1 q)) (bOf r) (lOf r) q := by
  unfold xbcR
  rw [flat3_apply, silu3R_apply, conv4R_apply]
  have eg : (fun l => projR x0 x1 (ix3 (bOf r) l q)) = proj (fun b l k => x0 (ix3 b l k)) (fun k q => x1 (ix2 k q)) (bOf r) q :=
    funext fun l => projR_apply x0 x1 (bOf r) l q
  have tk := fun k hk hs => (tap 3 8195 3072 k hk zero3R zero3R_apply (projR x0 x1) concatenates_S2x3x3072_S2x8192x3072_S2x8195x3072_d1 hs (bOf r) (lOf r) q).trans
    (congrArg (fun g => late 3 g (k + (lOf r).val)) eg)
  have t0 := tk 0 (by decide) slices_S2x8195x3072_S2x8192x3072_0_0_0
  rw [Nat.zero_add] at t0
  unfold xbc
  exact congrArg silu (congr (congrArg (fun f => f (x2 (ix2 3 q))) (congr (congrArg (fun f => f (x2 (ix2 2 q))) (congr (congrArg (fun f => f (x2 (ix2 1 q)))
    (congrArg (taps4 (x3 (ix1 q)) (x2 (ix2 0 q))) t0)) (tk 1 (by decide) slices_S2x8195x3072_S2x8192x3072_0_1_0)))
    (tk 2 (by decide) slices_S2x8195x3072_S2x8192x3072_0_2_0))) (tk 3 (by decide) slices_S2x8195x3072_S2x8192x3072_0_3_0))

/-- The plain program runs, and leaves its arguments: its frame. -/
theorem frame_xbc_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The plain program's result as its run states it. -/
theorem xbc_result (m : (ℓ : Loc nD τ sig) → Buf (Elt Ideal) ℓ) (c : Dev nD) :
    Cert.Reference5Ideal.Value.res_out0 m c = xbcR (m ((c : Thread nD τ).loc main_arg0)) (m ((c : Thread nD τ).loc main_arg1))
      (m ((c : Thread nD τ).loc main_arg2)) (m ((c : Thread nD τ).loc main_arg3)) := by
  unfold Cert.Reference5Ideal.Value.res_out0 Cert.Reference5Ideal.Value.res_main_v34
  rfl
end

/-- The kernel and the plain program end with equal results, element by element, as extended reals. -/
theorem algebraic_xbc : Cert.algebraic_Kernel5Ideal_Reference5Ideal := by
  intro m ρ m' ρ' _ hagree
  refine ⟨fun c => (fun i : Cert.Kernel5Ideal.S16384x3072.Idx => result m c (bOf (i 0)) (lOf (i 0)) (i 1)), ?_, ?_⟩
  · refine (θ_run _ _ _).mono (fun r h c => ?_) (Cert.Kernel5Ideal.Value.run_blocks (F := Ideal) m ρ)
    exact ⟨(h c).1.trans (result_array m c), (h c).2⟩
  · refine (θ_run _ _ _).mono (fun r h c => ?_) (Cert.Reference5Ideal.Value.run (F := Ideal) m' ρ')
    obtain ⟨h0, h1, h2, h3⟩ := hagree c
    refine ⟨((h c).1.trans (xbc_result m' c)).trans ?_, (h c).2⟩
    funext i
    rw [h0, h1, h2, h3]
    refine (congrArg _ (eq_ix2 i)).trans ?_
    exact xbc_reference _ _ _ _ (i 0) (i 1)

end Cert.Proof
end
-- ==== Proof.Rows.lean ====
/-
  What the further projections share: the product of a row and a column, and an array read at indices with equal coordinates.
-/
module

public import proofs.«01_k».proof.Defs
public import proofs.«01_k».proof.Proof.PointsAt

@[expose] public section

noncomputable section

namespace Cert.Rows

open Idealize.ShloMosaic

/-- The product of a row and a column. -/
def dotOf {K : ℕ} (a w : Fin K → EReal) : EReal := ∑ k : Fin K, a k * w k

/-- The product does not depend on the order of its factors. -/
theorem dotOf_comm {K : ℕ} (a w : Fin K → EReal) : dotOf a w = dotOf w a :=
  Finset.sum_congr rfl fun k _ => mul_comm (a k) (w k)

/-- Products of equal rows and equal columns are equal. -/
theorem dotOf_congr {K : ℕ} {a a' w w' : Fin K → EReal} (ha : ∀ k, a k = a' k) (hw : ∀ k, w k = w' k) : dotOf a w = dotOf a' w' :=
  congr (congrArg dotOf (funext ha)) (funext hw)

/-- An array read at two indices whose coordinates are the same numbers. -/
theorem same {S : Shape} {α : Type} (X : S.Idx → α) {i j : S.Idx} (h : ∀ a, (i a).val = (j a).val) : X i = X j :=
  congrArg X (funext fun a => Fin.ext (h a))

end Cert.Rows
end
-- ==== Proof.Gate.lean ====
/-
  The scan's gate projection: the kernel's blocks of 1024 rows by 512 columns are the plain program's numbers.
-/
module

public import proofs.«01_k».proof.Defs
public import proofs.«01_k».proof.Proof.Rows
public import proofs.«01_k».proof.Proof.Gen.Kernel6Ideal.Value
public import proofs.«01_k».proof.Proof.Gen.Reference6Ideal.Run

@[expose] public section

set_option maxHeartbeats 400000
set_option maxRecDepth 16384

noncomputable section

namespace Cert.Kernel6Ideal.Gate

open Cert.Kernel6Ideal Cert.Kernel6Ideal.Gen Idealize.ShloMosaic Idealize.ShloMosaic.TcCoe Idealize.SL.Sem
open Cert.KernelIdeal.Scan (bOf lOf)
open Cert.Rows

/-- The result at a row and a column: the row's product with the column. -/
def zproj (h : Fin 2 → Fin 8192 → Fin 1024 → EReal) (w : Fin 1024 → Fin 2048 → EReal) (b : Fin 2) (l : Fin 8192) (q : Fin 2048) : EReal :=
  dotOf (fun k => h b l k) (fun k => w k q)

/-- The store's value at a row and a column of the block. -/
theorem pay_apply (v0 : FVec Ideal S1024x1024 .bf16) (v2 : FVec Ideal S1024x512 .bf16) (r : Fin 1024) (q : Fin 512) :
    k0_pay1 (F := Ideal) v0 v2 (ix2 r q) = dotOf (fun k => v0 (ix2 r k)) (fun k => v2 (ix2 k q)) := by
  pointwise [k0_pay1, dotOf]

/-- What the body leaves in the result's block, at a row and a column. -/
theorem out_apply (v0 : FVec Ideal S1024x1024 .bf16) (v2 : FVec Ideal S1024x512 .bf16) (r : Fin 1024) (q : Fin 512) :
    out0_2 (F := Ideal) v0 v2 (ix2 r q) = dotOf (fun k => v0 (ix2 r k)) (fun k => v2 (ix2 k q)) := by
  have e : out0_2 (F := Ideal) v0 v2 = k0_pay1 (F := Ideal) v0 v2 := by
    unfold out0_2
    rw [View.canon_cons_unit_lit _ _ _ (by decide), View.ld_unit_lit _ _ (by decide), View.ld_unit_lit _ _ (by decide)]
  rw [e, pay_apply]

/-- Where each window's block lies, at each of the 64 points. -/
theorem places : ∀ t : Fin cfg0.N, win0_0.index t = ![t.val / 4, 0] ∧ win0_1.index t = ![0, t.val % 4] ∧ win0_2.index t = ![t.val / 4, t.val % 4] := by
  decide +kernel

variable (m : (ℓ : Loc nD τ sig) → Buf (Elt Ideal) ℓ) (c : Dev nD)

/-- The flattened rows. -/
theorem V_h (r : Fin 16384) (k : Fin 1024) : V m c main_v1 (ix2 r k) = m ((c : Thread nD τ).loc main_arg0) (ix3 (bOf r) (lOf r) k) := by
  simp only [V, hostOps0]
  entry_read
  pointwise [bOf, lOf]
/-- The weights. -/
theorem V_w (k : Fin 1024) (q : Fin 2048) : V m c main_v2 (ix2 k q) = m ((c : Thread nD τ).loc main_arg1) (ix2 k q) := by
  simp only [V, hostOps0]
  entry_read
  pointwise

/-- A point's row of the flattened arrays. -/
def rowAt (t : Fin cfg0.N) (l : Fin 1024) : Fin 16384 := ⟨t.val / 4 * 1024 + l.val, by have : t.val < 64 := t.isLt; omega⟩
/-- A point's column. -/
def colAt (t : Fin cfg0.N) (q : Fin 512) : Fin 2048 := ⟨t.val % 4 * 512 + q.val, by omega⟩

/-- A point's block of the rows. -/
theorem b0 (t : Fin cfg0.N) (l k : Fin 1024) : iblk m c 0 t (ix2 l k) = m ((c : Thread nD τ).loc main_arg0) (ix3 (bOf (rowAt t l)) (lOf (rowAt t l)) k) := by
  have p := (places t).1
  refine Eq.trans ?_ (V_h m c (rowAt t l) k)
  unfold iblk
  rw [View.read_apply]
  exact same (V m c main_v1) fun a => match a with
    | ⟨0, _⟩ => by show win0_0.index t 0 * 1024 + 1 * l.val = t.val / 4 * 1024 + l.val; rw [p]; simp
    | ⟨1, _⟩ => by show win0_0.index t 1 * 1024 + 1 * k.val = k.val; rw [p]; simp
/-- A point's block of the weights. -/
theorem b1 (t : Fin cfg0.N) (k : Fin 1024) (q : Fin 512) : iblk m c 1 t (ix2 k q) = m ((c : Thread nD τ).loc main_arg1) (ix2 k (colAt t q)) := by
  have p := (places t).2.1
  refine Eq.trans ?_ (V_w m c k (colAt t q))
  unfold iblk
  rw [View.read_apply]
  exact same (V m c main_v2) fun a => match a with
    | ⟨0, _⟩ => by show win0_1.index t 0 * 1024 + 1 * k.val = k.val; rw [p]; simp
    | ⟨1, _⟩ => by show win0_1.index t 1 * 512 + 1 * q.val = t.val % 4 * 512 + q.val; rw [p]; simp

/-- The kernel's result, of its arguments' launch contents. -/
def result (b : Fin 2) (l : Fin 8192) (q : Fin 2048) : EReal :=
  zproj (fun b l k => m ((c : Thread nD τ).loc main_arg0) (ix3 b l k)) (fun k q => m ((c : Thread nD τ).loc main_arg1) (ix2 k q)) b l q

/-- What a point leaves in the result's window. -/
theorem result_at (t : Fin cfg0.N) (l : Fin 1024) (q : Fin 512) :
    out0_2 (iblk m c 0 t) (iblk m c 1 t) (ix2 l q) = result m c (bOf (rowAt t l)) (lOf (rowAt t l)) (colAt t q) :=
  (out_apply _ _ l q).trans (dotOf_congr (fun k => b0 m c t l k) (fun k => b1 m c t k q))

/-- The result's array after the run. -/
theorem result_array : (dats m 0 c).arrAt 2 cfg0.N = (fun i : S16384x2048.Idx => result m c (bOf (i 0)) (lOf (i 0)) (i 1)) := by
  refine (dats m 0 c).arrAt_eq_of_covers 2 _ (by decide +kernel) fun t hf y => ?_
  rw [after0_2]
  have p := (places t).2.2
  have e0 : ((cfg0.win 2).blk t).view.emb y 0 = rowAt t (y 0) :=
    Fin.ext (by show win0_2.index t 0 * 1024 + 1 * (y 0).val = t.val / 4 * 1024 + (y 0).val; rw [p]; simp)
  have e1 : ((cfg0.win 2).blk t).view.emb y 1 = colAt t (y 1) :=
    Fin.ext (by show win0_2.index t 1 * 512 + 1 * (y 1).val = t.val % 4 * 512 + (y 1).val; rw [p]; simp)
  have ex : (cfg0.win 2).xinj (cfg0.grid.coords t) y = ix2 (y 0) (y 1) := eq_ix2 (n0 := 1024) (n1 := 512) _
  have key := result_at m c t (y 0) (y 1)
  generalize out0_2 (iblk m c 0 t) (iblk m c 1 t) = X at key ⊢
  refine Eq.trans (congrArg X ex) (key.trans ?_)
  exact congr (congr (congrArg _ (congrArg bOf e0.symm)) (congrArg lOf e0.symm)) e1.symm

end Cert.Kernel6Ideal.Gate

namespace Cert.Proof

open Idealize.ShloMosaic Idealize.ShloMosaic.TcCoe Idealize.SL.Sem Cert.Kernel6Ideal.Gate
open Cert.KernelIdeal.Scan (bOf lOf)
open Cert.Rows

section
open Cert.Reference6Ideal Cert.Reference6Ideal.Gen

/-- The plain program's result at a row and a column. -/
theorem zproj_reference (x0 : FVec Ideal S2x8192x1024 .f32) (x1 : FVec Ideal S1024x2048 .f32) (r : Fin 16384) (q : Fin 2048) :
    shapeCast S16384x2048 (Host.dotGeneral dot_S2x8192x1024_S1024x2048_S2x8192x2048_2_0_01_1_n_n none x0 x1) shapeCasts_S2x8192x2048_S16384x2048 (ix2 r q)
      = zproj (fun b l k => x0 (ix3 b l k)) (fun k q => x1 (ix2 k q)) (bOf r) (lOf r) q := by
  pointwise [zproj, dotOf, bOf, lOf]

/-- The plain program runs, and leaves its arguments: its frame. -/
theorem frame_zproj_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)
end

/-- The kernel and the plain program end with equal results, element by element, as extended reals. -/
theorem algebraic_zproj : Cert.algebraic_Kernel6Ideal_Reference6Ideal := by
  intro m ρ m' ρ' _ hagree
  refine ⟨fun c => (fun i : Cert.Kernel6Ideal.S16384x2048.Idx => result m c (bOf (i 0)) (lOf (i 0)) (i 1)), ?_, ?_⟩
  · refine (θ_run _ _ _).mono (fun r h c => ?_) (Cert.Kernel6Ideal.Value.run_blocks (F := Ideal) m ρ)
    exact ⟨(h c).1.trans (result_array m c), (h c).2⟩
  · refine (θ_run _ _ _).mono (fun r h c => ?_) (Cert.Reference6Ideal.Value.run (F := Ideal) m' ρ')
    obtain ⟨h0, h1⟩ := hagree c
    refine ⟨(h c).1.trans ?_, (h c).2⟩
    funext i
    rw [h0, h1]
    refine (congrArg _ (eq_ix2 i)).trans ?_
    exact zproj_reference _ _ (i 0) (i 1)

end Cert.Proof
end
-- ==== Proof.Mix.lean ====
/-
  The two branches' mixing gates, a projection under the logistic function: the kernel's blocks of 1024 rows by 512 columns are
  the plain program's numbers.
-/
module

public import proofs.«01_k».proof.Defs
public import proofs.«01_k».proof.Proof.Rows
public import proofs.«01_k».proof.Proof.Gen.Kernel7Ideal.Value
public import proofs.«01_k».proof.Proof.Gen.Reference7Ideal.Run

@[expose] public section

set_option maxHeartbeats 400000
set_option maxRecDepth 16384

noncomputable section

namespace Cert.Kernel7Ideal.Mix

open Cert.Kernel7Ideal Cert.Kernel7Ideal.Gen Idealize.ShloMosaic Idealize.ShloMosaic.TcCoe Idealize.SL.Sem
open Cert.KernelIdeal.Scan (bOf lOf)
open Cert.Rows

/-- The result at a row and a column: the logistic function of the row's product with the column. -/
def mgate (h : Fin 2 → Fin 8192 → Fin 1024 → EReal) (w : Fin 1024 → Fin 2048 → EReal) (b : Fin 2) (l : Fin 8192) (q : Fin 2048) : EReal :=
  Ideal.logistic (dotOf (fun k => h b l k) (fun k => w k q))

/-- The store's value at a row and a column of the block. -/
theorem pay_apply (v0 : FVec Ideal S1024x1024 .bf16) (v2 : FVec Ideal S1024x512 .bf16) (r : Fin 1024) (q : Fin 512) :
    k0_pay1 (F := Ideal) v0 v2 (ix2 r q) = Ideal.logistic (dotOf (fun k => v0 (ix2 r k)) (fun k => v2 (ix2 k q))) := by
  pointwise [k0_pay1, dotOf]

/-- What the body leaves in the result's block, at a row and a column. -/
theorem out_apply (v0 : FVec Ideal S1024x1024 .bf16) (v2 : FVec Ideal S1024x512 .bf16) (r : Fin 1024) (q : Fin 512) :
    out0_2 (F := Ideal) v0 v2 (ix2 r q) = Ideal.logistic (dotOf (fun k => v0 (ix2 r k)) (fun k => v2 (ix2 k q))) := by
  have e : out0_2 (F := Ideal) v0 v2 = k0_pay1 (F := Ideal) v0 v2 := by
    unfold out0_2
    rw [View.canon_cons_unit_lit _ _ _ (by decide), View.ld_unit_lit _ _ (by decide), View.ld_unit_lit _ _ (by decide)]
  rw [e, pay_apply]

/-- Where each window's block lies, at each of the 64 points. -/
theorem places : ∀ t : Fin cfg0.N, win0_0.index t = ![t.val / 4, 0] ∧ win0_1.index t = ![0, t.val % 4] ∧ win0_2.index t = ![t.val / 4, t.val % 4] := by
  decide +kernel

variable (m : (ℓ : Loc nD τ sig) → Buf (Elt Ideal) ℓ) (c : Dev nD)

/-- The flattened rows. -/
theorem V_h (r : Fin 16384) (k : Fin 1024) : V m c main_v1 (ix2 r k) = m ((c : Thread nD τ).loc main_arg0) (ix3 (bOf r) (lOf r) k) := by
  simp only [V, hostOps0]
  entry_read
  pointwise [bOf, lOf]
/-- The weights. -/
theorem V_w (k : Fin 1024) (q : Fin 2048) : V m c main_v2 (ix2 k q) = m ((c : Thread nD τ).loc main_arg1) (ix2 k q) := by
  simp only [V, hostOps0]
  entry_read
  pointwise

/-- A point's row of the flattened arrays. -/
def rowAt (t : Fin cfg0.N) (l : Fin 1024) : Fin 16384 := ⟨t.val / 4 * 1024 + l.val, by have : t.val < 64 := t.isLt; omega⟩
/-- A point's column. -/
def colAt (t : Fin cfg0.N) (q : Fin 512) : Fin 2048 := ⟨t.val % 4 * 512 + q.val, by omega⟩

/-- A point's block of the rows. -/
theorem b0 (t : Fin cfg0.N) (l k : Fin 1024) : iblk m c 0 t (ix2 l k) = m ((c : Thread nD τ).loc main_arg0) (ix3 (bOf (rowAt t l)) (lOf (rowAt t l)) k) := by
  have p := (places t).1
  refine Eq.trans ?_ (V_h m c (rowAt t l) k)
  unfold iblk
  rw [View.read_apply]
  exact same (V m c main_v1) fun a => match a with
    | ⟨0, _⟩ => by show win0_0.index t 0 * 1024 + 1 * l.val = t.val / 4 * 1024 + l.val; rw [p]; simp
    | ⟨1, _⟩ => by show win0_0.index t 1 * 1024 + 1 * k.val = k.val; rw [p]; simp
/-- A point's block of the weights. -/
theorem b1 (t : Fin cfg0.N) (k : Fin 1024) (q : Fin 512) : iblk m c 1 t (ix2 k q) = m ((c : Thread nD τ).loc main_arg1) (ix2 k (colAt t q)) := by
  have p := (places t).2.1
  refine Eq.trans ?_ (V_w m c k (colAt t q))
  unfold iblk
  rw [View.read_apply]
  exact same (V m c main_v2) fun a => match a with
    | ⟨0, _⟩ => by show win0_1.index t 0 * 1024 + 1 * k.val = k.val; rw [p]; simp
    | ⟨1, _⟩ => by show win0_1.index t 1 * 512 + 1 * q.val = t.val % 4 * 512 + q.val; rw [p]; simp

/-- The kernel's result, of its arguments' launch contents. -/
def result (b : Fin 2) (l : Fin 8192) (q : Fin 2048) : EReal :=
  mgate (fun b l k => m ((c : Thread nD τ).loc main_arg0) (ix3 b l k)) (fun k q => m ((c : Thread nD τ).loc main_arg1) (ix2 k q)) b l q

/-- What a point leaves in the result's window. -/
theorem result_at (t : Fin cfg0.N) (l : Fin 1024) (q : Fin 512) :
    out0_2 (iblk m c 0 t) (iblk m c 1 t) (ix2 l q) = result m c (bOf (rowAt t l)) (lOf (rowAt t l)) (colAt t q) :=
  (out_apply _ _ l q).trans (congrArg Ideal.logistic (dotOf_congr (fun k => b0 m c t l k) (fun k => b1 m c t k q)))

/-- The result's array after the run. -/
theorem result_array : (dats m 0 c).arrAt 2 cfg0.N = (fun i : S16384x2048.Idx => result m c (bOf (i 0)) (lOf (i 0)) (i 1)) := by
  refine (dats m 0 c).arrAt_eq_of_covers 2 _ (by decide +kernel) fun t hf y => ?_
  rw [after0_2]
  have p := (places t).2.2
  have e0 : ((cfg0.win 2).blk t).view.emb y 0 = rowAt t (y 0) :=
    Fin.ext (by show win0_2.index t 0 * 1024 + 1 * (y 0).val = t.val / 4 * 1024 + (y 0).val; rw [p]; simp)
  have e1 : ((cfg0.win 2).blk t).view.emb y 1 = colAt t (y 1) :=
    Fin.ext (by show win0_2.index t 1 * 512 + 1 * (y 1).val = t.val % 4 * 512 + (y 1).val; rw [p]; simp)
  have ex : (cfg0.win 2).xinj (cfg0.grid.coords t) y = ix2 (y 0) (y 1) := eq_ix2 (n0 := 1024) (n1 := 512) _
  have key := result_at m c t (y 0) (y 1)
  generalize out0_2 (iblk m c 0 t) (iblk m c 1 t) = X at key ⊢
  refine Eq.trans (congrArg X ex) (key.trans ?_)
  exact congr (congr (congrArg _ (congrArg bOf e0.symm)) (congrArg lOf e0.symm)) e1.symm

end Cert.Kernel7Ideal.Mix

namespace Cert.Proof

open Idealize.ShloMosaic Idealize.ShloMosaic.TcCoe Idealize.SL.Sem Cert.Kernel7Ideal.Mix
open Cert.KernelIdeal.Scan (bOf lOf)
open Cert.Rows

section
open Cert.Reference7Ideal Cert.Reference7Ideal.Gen

/-- The plain program's result at a row and a column. -/
theorem mgate_reference (x0 : FVec Ideal S2x8192x1024 .f32) (x1 : FVec Ideal S1024x2048 .f32) (r : Fin 16384) (q : Fin 2048) :
    shapeCast S16384x2048 (Host.divf (broadcastInDim S2x8192x2048 ![] bcast_S_S2x8192x2048 (constant S_ .f32 0x3F800000#32)) (addf (broadcastInDim S2x8192x2048 ![] bcast_S_S2x8192x2048 (constant S_ .f32 0x3F800000#32)) (Host.exp (Host.negf (Host.dotGeneral dot_S2x8192x1024_S1024x2048_S2x8192x2048_2_0_01_1_n_n none x0 x1))))) shapeCasts_S2x8192x2048_S16384x2048 (ix2 r q)
      = mgate (fun b l k => x0 (ix3 b l k)) (fun k q => x1 (ix2 k q)) (bOf r) (lOf r) q := by
  pointwise [mgate, dotOf, bOf, lOf]
  rfl

/-- The plain program runs, and leaves its arguments: its frame. -/
theorem frame_mgate_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)
end

/-- The kernel and the plain program end with equal results, element by element, as extended reals. -/
theorem algebraic_mgate : Cert.algebraic_Kernel7Ideal_Reference7Ideal := by
  intro m ρ m' ρ' _ hagree
  refine ⟨fun c => (fun i : Cert.Kernel7Ideal.S16384x2048.Idx => result m c (bOf (i 0)) (lOf (i 0)) (i 1)), ?_, ?_⟩
  · refine (θ_run _ _ _).mono (fun r h c => ?_) (Cert.Kernel7Ideal.Value.run_blocks (F := Ideal) m ρ)
    exact ⟨(h c).1.trans (result_array m c), (h c).2⟩
  · refine (θ_run _ _ _).mono (fun r h c => ?_) (Cert.Reference7Ideal.Value.run (F := Ideal) m' ρ')
    obtain ⟨h0, h1⟩ := hagree c
    refine ⟨(h c).1.trans ?_, (h c).2⟩
    funext i
    rw [h0, h1]
    refine (congrArg _ (eq_ix2 i)).trans ?_
    exact mgate_reference _ _ (i 0) (i 1)

end Cert.Proof
end
-- ==== Proof.Output.lean ====
/-
  The layer's output projection, added to the layer's input under a gate: the kernel's blocks of 1024 rows by 512 columns are
  the plain program's numbers.
-/
module

public import proofs.«01_k».proof.Defs
public import proofs.«01_k».proof.Proof.Rows
public import proofs.«01_k».proof.Proof.Gen.Kernel8Ideal.Value
public import proofs.«01_k».proof.Proof.Gen.Reference8Ideal.Run

@[expose] public section

set_option maxHeartbeats 400000
set_option maxRecDepth 16384

noncomputable section

namespace Cert.Kernel8Ideal.Output

open Cert.Kernel8Ideal Cert.Kernel8Ideal.Gen Idealize.ShloMosaic Idealize.ShloMosaic.TcCoe Idealize.SL.Sem
open Cert.KernelIdeal.Scan (bOf lOf)
open Cert.Rows

/-- The result at a row and a column: the input plus the gate times the row's product with the column. -/
def oproj (act : Fin 2 → Fin 8192 → Fin 1024 → EReal) (w : Fin 1024 → Fin 1024 → EReal) (x : Fin 2 → Fin 8192 → Fin 1024 → EReal)
    (g : Fin 2 → Fin 1024 → EReal) (b : Fin 2) (l : Fin 8192) (q : Fin 1024) : EReal :=
  x b l q + g b q * dotOf (fun k => act b l k) (fun k => w k q)

/-- The store's value at a row and a column of the block. -/
theorem pay_apply (v0 : FVec Ideal S1024x1024 .bf16) (v2 : FVec Ideal S1024x512 .bf16) (v5 : FVec Ideal S1024x512 .f32) (v7 : FVec Ideal S1x1x512 .f32)
    (r : Fin 1024) (q : Fin 512) :
    k0_pay1 (F := Ideal) v0 v2 v5 v7 (ix2 r q) = ((v5 (ix2 r q) : EReal) + v7 (ix3 0 0 q) * dotOf (fun k => v0 (ix2 r k)) (fun k => v2 (ix2 k q)) : EReal) := by
  pointwise [k0_pay1, dotOf]

/-- What the body leaves in the result's block, at a row and a column. -/
theorem out_apply (v0 : FVec Ideal S1024x1024 .bf16) (v2 : FVec Ideal S1024x512 .bf16) (v5 : FVec Ideal S1024x512 .f32) (v7 : FVec Ideal S1x1x512 .f32)
    (r : Fin 1024) (q : Fin 512) :
    out0_4 (F := Ideal) v0 v2 v5 v7 (ix2 r q) = ((v5 (ix2 r q) : EReal) + v7 (ix3 0 0 q) * dotOf (fun k => v0 (ix2 r k)) (fun k => v2 (ix2 k q)) : EReal) := by
  have e : out0_4 (F := Ideal) v0 v2 v5 v7 = k0_pay1 (F := Ideal) v0 v2 v5 v7 := by
    unfold out0_4
    rw [View.canon_cons_unit_lit _ _ _ (by decide), View.ld_unit_lit _ _ (by decide), View.ld_unit_lit _ _ (by decide), View.ld_unit_lit _ _ (by decide), View.ld_unit_lit _ _ (by decide)]
  rw [e, pay_apply]

/-- Where each window's block lies, at each of the 32 points. -/
theorem places : ∀ t : Fin cfg0.N, win0_0.index t = ![t.val / 2, 0] ∧ win0_1.index t = ![0, t.val % 2] ∧ win0_2.index t = ![t.val / 2, t.val % 2]
    ∧ win0_3.index t = ![t.val / 16, 0, t.val % 2] ∧ win0_4.index t = ![t.val / 2, t.val % 2] := by
  decide +kernel

variable (m : (ℓ : Loc nD τ sig) → Buf (Elt Ideal) ℓ) (c : Dev nD)

/-- The flattened activations. -/
theorem V_act (r : Fin 16384) (k : Fin 1024) : V m c main_v1 (ix2 r k) = m ((c : Thread nD τ).loc main_arg0) (ix3 (bOf r) (lOf r) k) := by
  simp only [V, hostOps0]
  entry_read
  pointwise [bOf, lOf]
/-- The weights. -/
theorem V_w (k : Fin 1024) (q : Fin 1024) : V m c main_v2 (ix2 k q) = m ((c : Thread nD τ).loc main_arg1) (ix2 k q) := by
  simp only [V, hostOps0]
  entry_read
  pointwise
/-- The flattened input. -/
theorem V_x (r : Fin 16384) (q : Fin 1024) : V m c main_v3 (ix2 r q) = m ((c : Thread nD τ).loc main_arg2) (ix3 (bOf r) (lOf r) q) := by
  simp only [V, hostOps0]
  entry_read
  pointwise [bOf, lOf]
/-- The gates. -/
theorem V_g (b : Fin 2) (q : Fin 1024) : V m c main_v4 (ix3 b 0 q) = m ((c : Thread nD τ).loc main_arg3) (ix2 b q) := by
  simp only [V, hostOps0]
  entry_read
  pointwise

/-- A point's row of the flattened arrays. -/
def rowAt (t : Fin cfg0.N) (l : Fin 1024) : Fin 16384 := ⟨t.val / 2 * 1024 + l.val, by have : t.val < 32 := t.isLt; omega⟩
/-- A point's column. -/
def colAt (t : Fin cfg0.N) (q : Fin 512) : Fin 1024 := ⟨t.val % 2 * 512 + q.val, by omega⟩

/-- A point's block of the activations. -/
theorem b0 (t : Fin cfg0.N) (l : Fin 1024) (k : Fin 1024) : iblk m c 0 t (ix2 l k) = m ((c : Thread nD τ).loc main_arg0) (ix3 (bOf (rowAt t l)) (lOf (rowAt t l)) k) := by
  obtain ⟨p0, p1, p2, p3, p4⟩ := places t
  refine Eq.trans ?_ (V_act m c (rowAt t l) k)
  unfold iblk
  rw [View.read_apply]
  exact same (V m c main_v1) fun a => match a with
    | ⟨0, _⟩ => by show win0_0.index t 0 * 1024 + 1 * l.val = t.val / 2 * 1024 + l.val; rw [p0]; simp
    | ⟨1, _⟩ => by show win0_0.index t 1 * 1024 + 1 * k.val = k.val; rw [p0]; simp
/-- A point's block of the weights. -/
theorem b1 (t : Fin cfg0.N) (k : Fin 1024) (q : Fin 512) : iblk m c 1 t (ix2 k q) = m ((c : Thread nD τ).loc main_arg1) (ix2 k (colAt t q)) := by
  obtain ⟨p0, p1, p2, p3, p4⟩ := places t
  refine Eq.trans ?_ (V_w m c k (colAt t q))
  unfold iblk
  rw [View.read_apply]
  exact same (V m c main_v2) fun a => match a with
    | ⟨0, _⟩ => by show win0_1.index t 0 * 1024 + 1 * k.val = k.val; rw [p1]; simp
    | ⟨1, _⟩ => by show win0_1.index t 1 * 512 + 1 * q.val = t.val % 2 * 512 + q.val; rw [p1]; simp
/-- A point's block of the input. -/
theorem b2 (t : Fin cfg0.N) (l : Fin 1024) (q : Fin 512) : iblk m c 2 t (ix2 l q) = m ((c : Thread nD τ).loc main_arg2) (ix3 (bOf (rowAt t l)) (lOf (rowAt t l)) (colAt t q)) := by
  obtain ⟨p0, p1, p2, p3, p4⟩ := places t
  refine Eq.trans ?_ (V_x m c (rowAt t l) (colAt t q))
  unfold iblk
  rw [View.read_apply]
  exact same (V m c main_v3) fun a => match a with
    | ⟨0, _⟩ => by show win0_2.index t 0 * 1024 + 1 * l.val = t.val / 2 * 1024 + l.val; rw [p2]; simp
    | ⟨1, _⟩ => by show win0_2.index t 1 * 512 + 1 * q.val = t.val % 2 * 512 + q.val; rw [p2]; simp
/-- A point's block of the gates. -/
theorem b3 (t : Fin cfg0.N) (l : Fin 1024) (q : Fin 512) : iblk m c 3 t (ix3 0 0 q) = m ((c : Thread nD τ).loc main_arg3) (ix2 (bOf (rowAt t l)) (colAt t q)) := by
  obtain ⟨p0, p1, p2, p3, p4⟩ := places t
  refine Eq.trans ?_ (V_g m c (bOf (rowAt t l)) (colAt t q))
  unfold iblk
  rw [View.read_apply]
  exact same (V m c main_v4) fun a => match a with
    | ⟨0, _⟩ => by show win0_3.index t 0 * 1 + 1 * 0 = (t.val / 2 * 1024 + l.val) / 8192; rw [p3]; simp; omega
    | ⟨1, _⟩ => by show win0_3.index t 1 * 1 + 1 * 0 = 0; rw [p3]; simp
    | ⟨2, _⟩ => by show win0_3.index t 2 * 512 + 1 * q.val = t.val % 2 * 512 + q.val; rw [p3]; simp

/-- The kernel's result, of its arguments' launch contents. -/
def result (b : Fin 2) (l : Fin 8192) (q : Fin 1024) : EReal :=
  oproj (fun b l k => m ((c : Thread nD τ).loc main_arg0) (ix3 b l k)) (fun k q => m ((c : Thread nD τ).loc main_arg1) (ix2 k q))
    (fun b l q => m ((c : Thread nD τ).loc main_arg2) (ix3 b l q)) (fun b q => m ((c : Thread nD τ).loc main_arg3) (ix2 b q)) b l q

/-- What a point leaves in the result's window. -/
theorem result_at (t : Fin cfg0.N) (l : Fin 1024) (q : Fin 512) :
    out0_4 (iblk m c 0 t) (iblk m c 1 t) (iblk m c 2 t) (iblk m c 3 t) (ix2 l q) = result m c (bOf (rowAt t l)) (lOf (rowAt t l)) (colAt t q) := by
  refine (out_apply _ _ _ _ l q).trans ?_
  exact congr (congrArg (HAdd.hAdd (α := EReal)) (b2 m c t l q)) (congr (congrArg (HMul.hMul (α := EReal)) (b3 m c t l q)) (dotOf_congr (fun k => b0 m c t l k) (fun k => b1 m c t k q)))

/-- The result's array after the run. -/
theorem result_array : (dats m 0 c).arrAt 4 cfg0.N = (fun i : S16384x1024.Idx => result m c (bOf (i 0)) (lOf (i 0)) (i 1)) := by
  refine (dats m 0 c).arrAt_eq_of_covers 4 _ (by decide +kernel) fun t hf y => ?_
  rw [after0_4]
  obtain ⟨p0, p1, p2, p3, p4⟩ := places t
  have e0 : ((cfg0.win 4).blk t).view.emb y 0 = rowAt t (y 0) :=
    Fin.ext (by show win0_4.index t 0 * 1024 + 1 * (y 0).val = t.val / 2 * 1024 + (y 0).val; rw [p4]; simp)
  have e1 : ((cfg0.win 4).blk t).view.emb y 1 = colAt t (y 1) :=
    Fin.ext (by show win0_4.index t 1 * 512 + 1 * (y 1).val = t.val % 2 * 512 + (y 1).val; rw [p4]; simp)
  have ex : (cfg0.win 4).xinj (cfg0.grid.coords t) y = ix2 (y 0) (y 1) := eq_ix2 (n0 := 1024) (n1 := 512) _
  have key := result_at m c t (y 0) (y 1)
  generalize out0_4 (iblk m c 0 t) (iblk m c 1 t) (iblk m c 2 t) (iblk m c 3 t) = X at key ⊢
  refine Eq.trans (congrArg X ex) (key.trans ?_)
  exact congr (congr (congrArg _ (congrArg bOf e0.symm)) (congrArg lOf e0.symm)) e1.symm

end Cert.Kernel8Ideal.Output

namespace Cert.Proof

open Idealize.ShloMosaic Idealize.ShloMosaic.TcCoe Idealize.SL.Sem Cert.Kernel8Ideal.Output
open Cert.KernelIdeal.Scan (bOf lOf)
open Cert.Rows

section
open Cert.Reference8Ideal Cert.Reference8Ideal.Gen

/-- The plain program's result at a row and a column. -/
theorem oproj_reference (x0 : FVec Ideal S2x8192x1024 .f32) (x1 : FVec Ideal S1024x1024 .f32) (x2 : FVec Ideal S2x8192x1024 .f32) (x3 : FVec Ideal S2x1024 .f32)
    (r : Fin 16384) (q : Fin 1024) :
    shapeCast S16384x1024 (addf x2 (mulf (broadcastInDim S2x8192x1024 ![0, 1, 2] bcast_S2x1x1024_S2x8192x1024_0_1_2 (broadcastInDim S2x1x1024 ![0, 2] bcast_S2x1024_S2x1x1024_0_2 x3)) (Host.dotGeneral dot_S2x8192x1024_S1024x1024_S2x8192x1024_2_0_01_1_n_n none x0 x1))) shapeCasts_S2x8192x1024_S16384x1024 (ix2 r q)
      = oproj (fun b l k => x0 (ix3 b l k)) (fun k q => x1 (ix2 k q)) (fun b l q => x2 (ix3 b l q)) (fun b q => x3 (ix2 b q)) (bOf r) (lOf r) q := by
  pointwise [oproj, dotOf, bOf, lOf]

/-- The plain program runs, and leaves its arguments: its frame. -/
theorem frame_oproj_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)
end

/-- The kernel and the plain program end with equal results, element by element, as extended reals. -/
theorem algebraic_oproj : Cert.algebraic_Kernel8Ideal_Reference8Ideal := by
  intro m ρ m' ρ' _ hagree
  refine ⟨fun c => (fun i : Cert.Kernel8Ideal.S16384x1024.Idx => result m c (bOf (i 0)) (lOf (i 0)) (i 1)), ?_, ?_⟩
  · refine (θ_run _ _ _).mono (fun r h c => ?_) (Cert.Kernel8Ideal.Value.run_blocks (F := Ideal) m ρ)
    exact ⟨(h c).1.trans (result_array m c), (h c).2⟩
  · refine (θ_run _ _ _).mono (fun r h c => ?_) (Cert.Reference8Ideal.Value.run (F := Ideal) m' ρ')
    obtain ⟨h0, h1, h2, h3⟩ := hagree c
    refine ⟨(h c).1.trans ?_, (h c).2⟩
    funext i
    rw [h0, h1, h2, h3]
    refine (congrArg _ (eq_ix2 i)).trans ?_
    exact oproj_reference _ _ _ _ (i 0) (i 1)

end Cert.Proof
end
-- ==== Proof.Window.lean ====
/-
  The window branch's keys and values, a projection laid out a row per column of the weights: the kernel's blocks of 512 such rows
  by 1024 positions are the plain program's numbers.
-/
module

public import proofs.«01_k».proof.Defs
public import proofs.«01_k».proof.Proof.Rows
public import proofs.«01_k».proof.Proof.Gen.Kernel9Ideal.Value
public import proofs.«01_k».proof.Proof.Gen.Reference9Ideal.Run

@[expose] public section

set_option maxHeartbeats 400000
set_option maxRecDepth 16384

noncomputable section

namespace Cert.Kernel9Ideal.Window

open Cert.Kernel9Ideal Cert.Kernel9Ideal.Gen Idealize.ShloMosaic Idealize.ShloMosaic.TcCoe Idealize.SL.Sem
open Cert.KernelIdeal.Scan (bOf lOf)
open Cert.Rows

/-- The result at a column of the weights and a position: the row's product with the column. -/
def wproj (h : Fin 2 → Fin 8192 → Fin 1024 → EReal) (w : Fin 1024 → Fin 512 → EReal) (b : Fin 2) (q : Fin 512) (l : Fin 8192) : EReal :=
  dotOf (fun k => h b l k) (fun k => w k q)

/-- The store's value at a column of the weights and a row of the block. -/
theorem pay_apply (v0 : FVec Ideal S512x1024 .bf16) (v2 : FVec Ideal S1024x1024 .bf16) (q : Fin 512) (l : Fin 1024) :
    k0_pay1 (F := Ideal) v0 v2 (ix3 0 q l) = dotOf (fun k => v0 (ix2 q k)) (fun k => v2 (ix2 l k)) := by
  pointwise [k0_pay1, dotOf]

/-- What the body leaves in the result's block, at a column of the weights and a row. -/
theorem out_apply (v0 : FVec Ideal S512x1024 .bf16) (v2 : FVec Ideal S1024x1024 .bf16) (q : Fin 512) (l : Fin 1024) :
    out0_2 (F := Ideal) v0 v2 (ix3 0 q l) = dotOf (fun k => v2 (ix2 l k)) (fun k => v0 (ix2 q k)) := by
  have e : out0_2 (F := Ideal) v0 v2 = k0_pay1 (F := Ideal) v0 v2 := by
    unfold out0_2
    rw [View.canon_cons_unit_lit _ _ _ (by decide), View.ld_unit_lit _ _ (by decide), View.ld_unit_lit _ _ (by decide)]
  rw [e, pay_apply, dotOf_comm]

/-- Where each window's block lies, at each of the 16 points. -/
theorem places : ∀ t : Fin cfg0.N, win0_0.index t = ![0, 0] ∧ win0_1.index t = ![t.val, 0] ∧ win0_2.index t = ![t.val / 8, 0, t.val % 8] := by
  decide +kernel

variable (m : (ℓ : Loc nD τ sig) → Buf (Elt Ideal) ℓ) (c : Dev nD)

/-- The flattened rows. -/
theorem V_h (r : Fin 16384) (k : Fin 1024) : V m c main_v1 (ix2 r k) = m ((c : Thread nD τ).loc main_arg0) (ix3 (bOf r) (lOf r) k) := by
  simp only [V, hostOps0]
  entry_read
  pointwise [bOf, lOf]
/-- The weights, a row per column. -/
theorem V_w (q : Fin 512) (k : Fin 1024) : V m c main_v3 (ix2 q k) = m ((c : Thread nD τ).loc main_arg1) (ix2 k q) := by
  simp only [V, hostOps0]
  entry_read
  pointwise

/-- A point's row of the flattened array. -/
def rowAt (t : Fin cfg0.N) (l : Fin 1024) : Fin 16384 := ⟨t.val * 1024 + l.val, by have : t.val < 16 := t.isLt; omega⟩

/-- A point's block of the weights: all of them. -/
theorem b0 (t : Fin cfg0.N) (q : Fin 512) (k : Fin 1024) : iblk m c 0 t (ix2 q k) = m ((c : Thread nD τ).loc main_arg1) (ix2 k q) := by
  have p := (places t).1
  refine Eq.trans ?_ (V_w m c q k)
  unfold iblk
  rw [View.read_apply]
  exact same (V m c main_v3) fun a => match a with
    | ⟨0, _⟩ => by show win0_0.index t 0 * 512 + 1 * q.val = q.val; rw [p]; simp
    | ⟨1, _⟩ => by show win0_0.index t 1 * 1024 + 1 * k.val = k.val; rw [p]; simp
/-- A point's block of the rows. -/
theorem b1 (t : Fin cfg0.N) (l k : Fin 1024) : iblk m c 1 t (ix2 l k) = m ((c : Thread nD τ).loc main_arg0) (ix3 (bOf (rowAt t l)) (lOf (rowAt t l)) k) := by
  have p := (places t).2.1
  refine Eq.trans ?_ (V_h m c (rowAt t l) k)
  unfold iblk
  rw [View.read_apply]
  exact same (V m c main_v1) fun a => match a with
    | ⟨0, _⟩ => by show win0_1.index t 0 * 1024 + 1 * l.val = t.val * 1024 + l.val; rw [p]; simp
    | ⟨1, _⟩ => by show win0_1.index t 1 * 1024 + 1 * k.val = k.val; rw [p]; simp

/-- The kernel's result, of its arguments' launch contents. -/
def result (b : Fin 2) (q : Fin 512) (l : Fin 8192) : EReal :=
  wproj (fun b l k => m ((c : Thread nD τ).loc main_arg0) (ix3 b l k)) (fun k q => m ((c : Thread nD τ).loc main_arg1) (ix2 k q)) b q l

/-- What a point leaves in the result's window. -/
theorem result_at (t : Fin cfg0.N) (q : Fin 512) (l : Fin 1024) :
    out0_2 (iblk m c 0 t) (iblk m c 1 t) (ix3 0 q l) = result m c (bOf (rowAt t l)) q (lOf (rowAt t l)) :=
  (out_apply _ _ q l).trans (dotOf_congr (fun k => b1 m c t l k) (fun k => b0 m c t q k))

/-- The result's array after the run. -/
theorem result_array : (dats m 0 c).arrAt 2 cfg0.N = (fun i : S2x512x8192.Idx => result m c (i 0) (i 1) (i 2)) := by
  refine (dats m 0 c).arrAt_eq_of_covers 2 _ (by decide +kernel) fun t hf y => ?_
  rw [after0_2]
  have p := (places t).2.2
  have ht : t.val < 16 := t.isLt
  have hy0 : (y 0).val < 1 := (y 0).isLt
  have hy2 : (y 2).val < 1024 := (y 2).isLt
  have e0 : ((cfg0.win 2).blk t).view.emb y 0 = bOf (rowAt t (y 2)) :=
    Fin.ext (by show win0_2.index t 0 * 1 + 1 * (y 0).val = (t.val * 1024 + (y 2).val) / 8192; rw [p]; simp; omega)
  have e1 : ((cfg0.win 2).blk t).view.emb y 1 = y 1 :=
    Fin.ext (by show win0_2.index t 1 * 512 + 1 * (y 1).val = (y 1).val; rw [p]; simp)
  have e2 : ((cfg0.win 2).blk t).view.emb y 2 = lOf (rowAt t (y 2)) :=
    Fin.ext (by show win0_2.index t 2 * 1024 + 1 * (y 2).val = (t.val * 1024 + (y 2).val) % 8192; rw [p]; simp; omega)
  have ex : (cfg0.win 2).xinj (cfg0.grid.coords t) y = ix3 0 (y 1) (y 2) := by
    funext a; match a with
    | ⟨0, _⟩ => exact Fin.ext (show (y 0).val = 0 by omega)
    | ⟨1, _⟩ => rfl
    | ⟨2, _⟩ => rfl
  have key := result_at m c t (y 1) (y 2)
  generalize out0_2 (iblk m c 0 t) (iblk m c 1 t) = X at key ⊢
  refine Eq.trans (congrArg X ex) (key.trans ?_)
  exact congr (congr (congrArg _ e0.symm) e1.symm) e2.symm

end Cert.Kernel9Ideal.Window

namespace Cert.Proof

open Idealize.ShloMosaic Idealize.ShloMosaic.TcCoe Idealize.SL.Sem Cert.Kernel9Ideal.Window
open Cert.Rows

section
open Cert.Reference9Ideal Cert.Reference9Ideal.Gen

/-- The plain program's result at a column of the weights and a position. -/
theorem wproj_reference (x0 : FVec Ideal S2x8192x1024 .f32) (x1 : FVec Ideal S1024x512 .f32) (b : Fin 2) (q : Fin 512) (l : Fin 8192) :
    transpose S2x512x8192 [0, 2, 1] (Host.dotGeneral dot_S2x8192x1024_S1024x512_S2x8192x512_2_0_01_1_n_n none x0 x1) transposes_S2x8192x512_S2x512x8192_0_2_1 (ix3 b q l)
      = wproj (fun b l k => x0 (ix3 b l k)) (fun k q => x1 (ix2 k q)) b q l := by
  pointwise [wproj, dotOf]

/-- The plain program runs, and leaves its arguments: its frame. -/
theorem frame_wproj_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)
end

/-- The kernel and the plain program end with equal results, element by element, as extended reals. -/
theorem algebraic_wproj : Cert.algebraic_Kernel9Ideal_Reference9Ideal := by
  intro m ρ m' ρ' _ hagree
  refine ⟨fun c => (fun i : Cert.Kernel9Ideal.S2x512x8192.Idx => result m c (i 0) (i 1) (i 2)), ?_, ?_⟩
  · refine (θ_run _ _ _).mono (fun r h c => ?_) (Cert.Kernel9Ideal.Value.run_blocks (F := Ideal) m ρ)
    exact ⟨(h c).1.trans (result_array m c), (h c).2⟩
  · refine (θ_run _ _ _).mono (fun r h c => ?_) (Cert.Reference9Ideal.Value.run (F := Ideal) m' ρ')
    obtain ⟨h0, h1⟩ := hagree c
    refine ⟨(h c).1.trans ?_, (h c).2⟩
    funext i
    rw [h0, h1]
    refine (congrArg _ (eq_ix3 i)).trans ?_
    exact wproj_reference _ _ (i 0) (i 1) (i 2)

end Cert.Proof
end
-- ==== Proof.Keys.lean ====
/-
  The second layer's key and value rows, a projection laid out a row per column of the weights and written into the second half
  of the layers' buffer: the kernel's buffer after the run holds the plain program's numbers.
-/
module

public import proofs.«01_k».proof.Defs
public import proofs.«01_k».proof.Proof.Rows
public import proofs.«01_k».proof.Proof.Gen.Kernel10Ideal.Value
public import proofs.«01_k».proof.Proof.Gen.Reference10Ideal.Run

@[expose] public section

set_option maxHeartbeats 400000
set_option maxRecDepth 16384

noncomputable section

namespace Cert.Kernel10Ideal.Keys

open Cert.Kernel10Ideal Cert.Kernel10Ideal.Gen Idealize.ShloMosaic Idealize.ShloMosaic.TcCoe Idealize.SL.Sem
open Cert.KernelIdeal.Scan (bOf lOf)
open Cert.Rows

section
variable {F : FTy → Type} [FloatOps F]

/-- What a point leaves in the result's block: the one store's value. -/
theorem out_A (c : Dev nD) (i : grid0.Coords) (arg2 : Memref sig .tc .vmem S512x1024 .bf16) (harg2 : arg2.IsWhole) (arg3 : Memref sig .tc .vmem S1024x1024 .bf16) (harg3 : arg3.IsWhole) (arg5 : Memref sig .tc .vmem S1x1x512x1024 .f32) (harg5 : arg5.IsWhole)
    (x0 : Vec F S512x1024 .bf16) (x1 : Vec F S1024x1024 .bf16) :
    out0_A_2 c i arg2 harg2 arg3 harg3 arg5 harg5 x0 x1 = k0_pay1 x0 x1 := by
  unfold out0_A_2
  rw [View.read_writes_eq_canon _ _ _ (cover0_A_2 c i arg2 harg2 arg3 harg3 arg5 harg5 x0 x1)]
  unfold kernelRun0_A
  dsimp only
  sl_unfold_words
  have z2 : ∀ a : Fin 2, (![0, 0] : Fin 2 → Nat) a = 0 := by decide
  have l0 := View.ld_unit_lit (Val := Elt F) (S := S512x1024) (off := ![0, 0]) inb_S512x1024_S512x1024_0_0 x0 z2
  have l1 := View.ld_unit_lit (Val := Elt F) (S := S1024x1024) (off := ![0, 0]) inb_S1024x1024_S1024x1024_0_0 x1 z2
  refine (View.canon_cons_unit_lit _ _ _ (by decide)).trans ?_
  simp only [View.readAt_eq_ld, harg2.read_unread, harg3.read_unread, l0, l1]
end

/-- The buffer after the call at a layer, a sequence, a column of the weights and a position: the second layer holds the row's
product with the column, the first what it held before. -/
def kvrows (h : Fin 2 → Fin 8192 → Fin 1024 → EReal) (w : Fin 1024 → Fin 1024 → EReal) (old : Fin 2 → Fin 2 → Fin 1024 → Fin 8192 → EReal)
    (p b : Fin 2) (q : Fin 1024) (l : Fin 8192) : EReal :=
  if p.val = 1 then dotOf (fun k => h b l k) (fun k => w k q) else old p b q l

/-- The store's value at a column of the weights and a row of the block. -/
theorem pay_apply (v0 : FVec Ideal S512x1024 .bf16) (v2 : FVec Ideal S1024x1024 .bf16) (q : Fin 512) (l : Fin 1024) :
    k0_pay1 (F := Ideal) v0 v2 (ix4 0 0 q l) = dotOf (fun k => v0 (ix2 q k)) (fun k => v2 (ix2 l k)) := by
  pointwise [k0_pay1, dotOf]

/-- Where each window's block lies, at each of the 32 points. -/
theorem places : ∀ t : Fin cfg0.N, win0_0.index t = ![t.val % 2, 0] ∧ win0_1.index t = ![t.val / 2, 0]
    ∧ win0_2.index t = ![1, t.val / 16, t.val % 2, t.val / 2 % 8] := by
  decide +kernel

variable (m : (ℓ : Loc nD τ sig) → Buf (Elt Ideal) ℓ) (c : Dev nD)

/-- The flattened rows. -/
theorem V_h (r : Fin 16384) (k : Fin 1024) : V m c main_v1 (ix2 r k) = m ((c : Thread nD τ).loc main_arg0) (ix3 (bOf r) (lOf r) k) := by
  simp only [V, hostOps0]
  entry_read
  pointwise [bOf, lOf]
/-- The weights, a row per column. -/
theorem V_w (q k : Fin 1024) : V m c main_v3 (ix2 q k) = m ((c : Thread nD τ).loc main_arg1) (ix2 k q) := by
  simp only [V, hostOps0]
  entry_read
  pointwise
/-- The result's buffer before the run: the layers' buffer. -/
theorem V_old : V m c main_v4 = m ((c : Thread nD τ).loc main_arg2) := by
  simp only [V, hostOps0]
  entry_read
  rfl

/-- A point's row of the flattened array. -/
def rowAt (t : Fin cfg0.N) (l : Fin 1024) : Fin 16384 := ⟨t.val / 2 * 1024 + l.val, by have : t.val < 32 := t.isLt; omega⟩
/-- A point's column of the weights. -/
def colAt (t : Fin cfg0.N) (q : Fin 512) : Fin 1024 := ⟨t.val % 2 * 512 + q.val, by omega⟩

/-- A point's block of the weights. -/
theorem b0 (t : Fin cfg0.N) (q : Fin 512) (k : Fin 1024) : iblk m c 0 t (ix2 q k) = m ((c : Thread nD τ).loc main_arg1) (ix2 k (colAt t q)) := by
  have p := (places t).1
  refine Eq.trans ?_ (V_w m c (colAt t q) k)
  unfold iblk
  rw [View.read_apply]
  exact same (V m c main_v3) fun a => match a with
    | ⟨0, _⟩ => by show win0_0.index t 0 * 512 + 1 * q.val = t.val % 2 * 512 + q.val; rw [p]; simp
    | ⟨1, _⟩ => by show win0_0.index t 1 * 1024 + 1 * k.val = k.val; rw [p]; simp
/-- A point's block of the rows. -/
theorem b1 (t : Fin cfg0.N) (l k : Fin 1024) : iblk m c 1 t (ix2 l k) = m ((c : Thread nD τ).loc main_arg0) (ix3 (bOf (rowAt t l)) (lOf (rowAt t l)) k) := by
  have p := (places t).2.1
  refine Eq.trans ?_ (V_h m c (rowAt t l) k)
  unfold iblk
  rw [View.read_apply]
  exact same (V m c main_v1) fun a => match a with
    | ⟨0, _⟩ => by show win0_1.index t 0 * 1024 + 1 * l.val = t.val / 2 * 1024 + l.val; rw [p]; simp
    | ⟨1, _⟩ => by show win0_1.index t 1 * 1024 + 1 * k.val = k.val; rw [p]; simp

/-- The second layer's rows, of the arguments' launch contents. -/
def fresh (b : Fin 2) (q : Fin 1024) (l : Fin 8192) : EReal :=
  dotOf (fun k => m ((c : Thread nD τ).loc main_arg0) (ix3 b l k)) (fun k => m ((c : Thread nD τ).loc main_arg1) (ix2 k q))

/-- The kernel's result, of its arguments' launch contents. -/
def result (p b : Fin 2) (q : Fin 1024) (l : Fin 8192) : EReal :=
  kvrows (fun b l k => m ((c : Thread nD τ).loc main_arg0) (ix3 b l k)) (fun k q => m ((c : Thread nD τ).loc main_arg1) (ix2 k q))
    (fun p b q l => m ((c : Thread nD τ).loc main_arg2) (ix4 p b q l)) p b q l

/-- What a point leaves in the result's window. -/
theorem result_at (t : Fin cfg0.N) (q : Fin 512) (l : Fin 1024) :
    outsAt0 m c t (ix4 0 0 q l) = fresh m c (bOf (rowAt t l)) (colAt t q) (lOf (rowAt t l)) := by
  unfold outsAt0
  rw [out_A]
  refine (pay_apply _ _ q l).trans ((dotOf_comm _ _).trans ?_)
  exact dotOf_congr (fun k => b1 m c t l k) (fun k => b0 m c t q k)

/-- The result's array after the run. -/
theorem written : (dats m 0 c).arrAt 2 cfg0.N
    = (fun i : S2x2x1024x8192.Idx => if (i 0).val = 1 then fresh m c (i 1) (i 2) (i 3) else V m c main_v4 i) := by
  refine (dats m 0 c).arrAt_eq_of_coversWhere 2 (fun i : S2x2x1024x8192.Idx => fresh m c (i 1) (i 2) (i 3)) (fun β => β ⟨0, by decide⟩ = 1) (by decide +kernel)
    (fun t hf y => ?_) (fun j => ?_)
  · rw [after0_2]
    have p := (places t).2.2
    have ht : t.val < 32 := t.isLt
    have hy0 : (y 0).val < 1 := (y 0).isLt
    have hy1 : (y 1).val < 1 := (y 1).isLt
    have hy3 : (y 3).val < 1024 := (y 3).isLt
    have e1 : ((cfg0.win 2).blk t).view.emb y 1 = bOf (rowAt t (y 3)) :=
      Fin.ext (by show win0_2.index t 1 * 1 + 1 * (y 1).val = (t.val / 2 * 1024 + (y 3).val) / 8192; rw [p]; simp; omega)
    have e2 : ((cfg0.win 2).blk t).view.emb y 2 = colAt t (y 2) :=
      Fin.ext (by show win0_2.index t 2 * 512 + 1 * (y 2).val = t.val % 2 * 512 + (y 2).val; rw [p]; simp)
    have e3 : ((cfg0.win 2).blk t).view.emb y 3 = lOf (rowAt t (y 3)) :=
      Fin.ext (by show win0_2.index t 3 * 1024 + 1 * (y 3).val = (t.val / 2 * 1024 + (y 3).val) % 8192; rw [p]; simp; omega)
    have ex : (cfg0.win 2).xinj (cfg0.grid.coords t) y = ix4 0 0 (y 2) (y 3) := by
      funext a; match a with
      | ⟨0, _⟩ => exact Fin.ext (show (y 0).val = 0 by omega)
      | ⟨1, _⟩ => exact Fin.ext (show (y 1).val = 0 by omega)
      | ⟨2, _⟩ => rfl
      | ⟨3, _⟩ => rfl
    have key := result_at m c t (y 2) (y 3)
    generalize outsAt0 m c t = X at key ⊢
    refine Eq.trans (congrArg X ex) (key.trans ?_)
    exact congr (congr (congrArg _ e1.symm) e2.symm) e3.symm
  · show (j 0).val = 1 ↔ (j 0).val / 1 = 1
    rw [Nat.div_one]

/-- The same, by layers, sequences, columns and positions. -/
theorem result_array : (dats m 0 c).arrAt 2 cfg0.N = (fun i : S2x2x1024x8192.Idx => result m c (i 0) (i 1) (i 2) (i 3)) := by
  rw [written]
  funext i
  unfold result kvrows fresh
  rw [V_old]
  exact if_congr Iff.rfl rfl (congrArg _ (eq_ix4 i))

end Cert.Kernel10Ideal.Keys

namespace Cert.Proof

open Idealize.ShloMosaic Idealize.ShloMosaic.TcCoe Idealize.SL.Sem Cert.Kernel10Ideal.Keys
open Cert.KernelIdeal.Scan (bOf lOf)
open Cert.Rows

section
open Cert.Reference10Ideal Cert.Reference10Ideal.Gen

/-- The plain program's result: the first layer's rows are the buffer's. -/
theorem kvrows_first (x0 : FVec Ideal S2x8192x1024 .f32) (x1 : FVec Ideal S1024x1024 .f32) (x2 : FVec Ideal S2x2x1024x8192 .f32) (b : Fin 2) (q : Fin 1024) (l : Fin 8192) :
    concatenate S2x2x1024x8192 0 [⟨S1x2x1024x8192, (broadcastInDim S1x2x1024x8192 ![1, 2, 3] bcast_S2x1024x8192_S1x2x1024x8192_1_2_3 (shapeCast S2x1024x8192 (extractStridedSlice S1x2x1024x8192 ![0, 0, 0, 0] x2 slices_S2x2x1024x8192_S1x2x1024x8192_0_0_0_0) shapeCasts_S1x2x1024x8192_S2x1024x8192))⟩, ⟨S1x2x1024x8192, (broadcastInDim S1x2x1024x8192 ![1, 2, 3] bcast_S2x1024x8192_S1x2x1024x8192_1_2_3 (transpose S2x1024x8192 [0, 2, 1] (Host.dotGeneral dot_S2x8192x1024_S1024x1024_S2x8192x1024_2_0_01_1_n_n none x0 x1) transposes_S2x8192x1024_S2x1024x8192_0_2_1))⟩] concatenates_S1x2x1024x8192_S1x2x1024x8192_S2x2x1024x8192_d0 (ix4 0 b q l) = x2 (ix4 0 b q l) := by
  pointwise

/-- The plain program's result: the second layer's rows are the products. -/
theorem kvrows_second (x0 : FVec Ideal S2x8192x1024 .f32) (x1 : FVec Ideal S1024x1024 .f32) (x2 : FVec Ideal S2x2x1024x8192 .f32) (b : Fin 2) (q : Fin 1024) (l : Fin 8192) :
    concatenate S2x2x1024x8192 0 [⟨S1x2x1024x8192, (broadcastInDim S1x2x1024x8192 ![1, 2, 3] bcast_S2x1024x8192_S1x2x1024x8192_1_2_3 (shapeCast S2x1024x8192 (extractStridedSlice S1x2x1024x8192 ![0, 0, 0, 0] x2 slices_S2x2x1024x8192_S1x2x1024x8192_0_0_0_0) shapeCasts_S1x2x1024x8192_S2x1024x8192))⟩, ⟨S1x2x1024x8192, (broadcastInDim S1x2x1024x8192 ![1, 2, 3] bcast_S2x1024x8192_S1x2x1024x8192_1_2_3 (transpose S2x1024x8192 [0, 2, 1] (Host.dotGeneral dot_S2x8192x1024_S1024x1024_S2x8192x1024_2_0_01_1_n_n none x0 x1) transposes_S2x8192x1024_S2x1024x8192_0_2_1))⟩] concatenates_S1x2x1024x8192_S1x2x1024x8192_S2x2x1024x8192_d0 (ix4 1 b q l) = dotOf (fun k => x0 (ix3 b l k)) (fun k => x1 (ix2 k q)) := by
  pointwise [dotOf]

/-- The plain program's result at a layer, a sequence, a column of the weights and a position. -/
theorem kvrows_reference (x0 : FVec Ideal S2x8192x1024 .f32) (x1 : FVec Ideal S1024x1024 .f32) (x2 : FVec Ideal S2x2x1024x8192 .f32) (p b : Fin 2) (q : Fin 1024) (l : Fin 8192) :
    concatenate S2x2x1024x8192 0 [⟨S1x2x1024x8192, (broadcastInDim S1x2x1024x8192 ![1, 2, 3] bcast_S2x1024x8192_S1x2x1024x8192_1_2_3 (shapeCast S2x1024x8192 (extractStridedSlice S1x2x1024x8192 ![0, 0, 0, 0] x2 slices_S2x2x1024x8192_S1x2x1024x8192_0_0_0_0) shapeCasts_S1x2x1024x8192_S2x1024x8192))⟩, ⟨S1x2x1024x8192, (broadcastInDim S1x2x1024x8192 ![1, 2, 3] bcast_S2x1024x8192_S1x2x1024x8192_1_2_3 (transpose S2x1024x8192 [0, 2, 1] (Host.dotGeneral dot_S2x8192x1024_S1024x1024_S2x8192x1024_2_0_01_1_n_n none x0 x1) transposes_S2x8192x1024_S2x1024x8192_0_2_1))⟩] concatenates_S1x2x1024x8192_S1x2x1024x8192_S2x2x1024x8192_d0 (ix4 p b q l)
      = kvrows (fun b l k => x0 (ix3 b l k)) (fun k q => x1 (ix2 k q)) (fun p b q l => x2 (ix4 p b q l)) p b q l := by
  match p with
  | 0 => exact kvrows_first x0 x1 x2 b q l
  | 1 => exact kvrows_second x0 x1 x2 b q l

/-- The plain program runs, and leaves its arguments: its frame. -/
theorem frame_kvrows_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)
end

/-- The kernel and the plain program end with equal results, element by element, as extended reals. -/
theorem algebraic_kvrows : Cert.algebraic_Kernel10Ideal_Reference10Ideal := by
  intro m ρ m' ρ' _ hagree
  refine ⟨fun c => (fun i : Cert.Kernel10Ideal.S2x2x1024x8192.Idx => result m c (i 0) (i 1) (i 2) (i 3)), ?_, ?_⟩
  · refine (θ_run _ _ _).mono (fun r h c => ?_) (Cert.Kernel10Ideal.Value.run_blocks (F := Ideal) m ρ)
    exact ⟨(h c).1.trans (result_array m c), (h c).2⟩
  · refine (θ_run _ _ _).mono (fun r h c => ?_) (Cert.Reference10Ideal.Value.run (F := Ideal) m' ρ')
    obtain ⟨h0, h1, h2⟩ := hagree c
    refine ⟨(h c).1.trans ?_, (h c).2⟩
    funext i
    rw [h0, h1, h2]
    refine (congrArg _ (eq_ix4 i)).trans ?_
    exact kvrows_reference _ _ _ (i 0) (i 1) (i 2) (i 3)

end Cert.Proof
end
-- ==== Proof.Norm.lean ====
/-
  The last normalization of the rows: the kernel's blocks of 512 rows are the plain program's numbers.
-/
module

public import proofs.«01_k».proof.Defs
public import proofs.«01_k».proof.Proof.Rows
public import proofs.«01_k».proof.Proof.Gen.Kernel11Ideal.Value
public import proofs.«01_k».proof.Proof.Gen.Reference11Ideal.Run

@[expose] public section

set_option maxHeartbeats 400000
set_option maxRecDepth 16384

noncomputable section

namespace Cert.Kernel11Ideal.Norm

open Cert.Kernel11Ideal Cert.Kernel11Ideal.Gen Idealize.ShloMosaic Idealize.ShloMosaic.TcCoe Idealize.SL.Sem
open Cert.KernelIdeal.Scan (bOf lOf)
open Cert.Rows

/-- A number times the reciprocal root of the mean square `s / 1024` plus a small constant, times a gain. -/
def scaled (x s g : EReal) : EReal := x * Ideal.rsqrt (Ideal.div s (Ideal.ofBits FTy.f32 1149239296#32) + Ideal.ofBits FTy.f32 897988541#32) * g

/-- The result at a row and a column. -/
def fnorm (x : Fin 2 → Fin 8192 → Fin 1024 → EReal) (g : Fin 1024 → EReal) (b : Fin 2) (l : Fin 8192) (q : Fin 1024) : EReal :=
  scaled (x b l q) (dotOf (fun k => x b l k) (fun k => x b l k)) (g q)

/-- The store's value at a row and a column of the block. -/
theorem pay_apply (v0 : FVec Ideal S512x1024 .f32) (v2 : FVec Ideal S1x1024 .f32) (r : Fin 512) (q : Fin 1024) :
    k0_pay1 (F := Ideal) v0 v2 (ix2 r q) = scaled (v0 (ix2 r q)) (dotOf (fun k => v0 (ix2 r k)) (fun k => v0 (ix2 r k))) (v2 (ix2 0 q)) := by
  pointwise [k0_pay1, scaled, dotOf]

/-- What the body leaves in the result's block, at a row and a column. -/
theorem out_apply (v0 : FVec Ideal S512x1024 .f32) (v2 : FVec Ideal S1x1024 .f32) (r : Fin 512) (q : Fin 1024) :
    out0_2 (F := Ideal) v0 v2 (ix2 r q) = scaled (v0 (ix2 r q)) (dotOf (fun k => v0 (ix2 r k)) (fun k => v0 (ix2 r k))) (v2 (ix2 0 q)) := by
  have e : out0_2 (F := Ideal) v0 v2 = k0_pay1 (F := Ideal) v0 v2 := by
    unfold out0_2
    rw [View.canon_cons_unit_lit _ _ _ (by decide), View.ld_unit_lit _ _ (by decide), View.ld_unit_lit _ _ (by decide)]
  rw [e, pay_apply]

/-- Where each window's block lies, at each of the 32 points. -/
theorem places : ∀ t : Fin cfg0.N, win0_0.index t = ![t.val, 0] ∧ win0_1.index t = ![0, 0] ∧ win0_2.index t = ![t.val, 0] := by
  decide +kernel

variable (m : (ℓ : Loc nD τ sig) → Buf (Elt Ideal) ℓ) (c : Dev nD)

/-- The flattened rows. -/
theorem V_x (r : Fin 16384) (k : Fin 1024) : V m c main_v0 (ix2 r k) = m ((c : Thread nD τ).loc main_arg0) (ix3 (bOf r) (lOf r) k) := by
  simp only [V, hostOps0]
  entry_read
  pointwise [bOf, lOf]
/-- The gains. -/
theorem V_g (q : Fin 1024) : V m c main_v1 (ix2 0 q) = m ((c : Thread nD τ).loc main_arg1) (ix1 q) := by
  simp only [V, hostOps0]
  entry_read
  pointwise

/-- A point's row of the flattened array. -/
def rowAt (t : Fin cfg0.N) (l : Fin 512) : Fin 16384 := ⟨t.val * 512 + l.val, by have : t.val < 32 := t.isLt; omega⟩

/-- A point's block of the rows. -/
theorem b0 (t : Fin cfg0.N) (l : Fin 512) (k : Fin 1024) : iblk m c 0 t (ix2 l k) = m ((c : Thread nD τ).loc main_arg0) (ix3 (bOf (rowAt t l)) (lOf (rowAt t l)) k) := by
  have p := (places t).1
  refine Eq.trans ?_ (V_x m c (rowAt t l) k)
  unfold iblk
  rw [View.read_apply]
  exact same (V m c main_v0) fun a => match a with
    | ⟨0, _⟩ => by show win0_0.index t 0 * 512 + 1 * l.val = t.val * 512 + l.val; rw [p]; simp
    | ⟨1, _⟩ => by show win0_0.index t 1 * 1024 + 1 * k.val = k.val; rw [p]; simp
/-- A point's block of the gains: all of them. -/
theorem b1 (t : Fin cfg0.N) (q : Fin 1024) : iblk m c 1 t (ix2 0 q) = m ((c : Thread nD τ).loc main_arg1) (ix1 q) := by
  have p := (places t).2.1
  refine Eq.trans ?_ (V_g m c q)
  unfold iblk
  rw [View.read_apply]
  exact same (V m c main_v1) fun a => match a with
    | ⟨0, _⟩ => by show win0_1.index t 0 * 1 + 1 * 0 = 0; rw [p]; simp
    | ⟨1, _⟩ => by show win0_1.index t 1 * 1024 + 1 * q.val = q.val; rw [p]; simp

/-- The kernel's result, of its arguments' launch contents. -/
def result (b : Fin 2) (l : Fin 8192) (q : Fin 1024) : EReal :=
  fnorm (fun b l k => m ((c : Thread nD τ).loc main_arg0) (ix3 b l k)) (fun q => m ((c : Thread nD τ).loc main_arg1) (ix1 q)) b l q

/-- What a point leaves in the result's window. -/
theorem result_at (t : Fin cfg0.N) (l : Fin 512) (q : Fin 1024) :
    out0_2 (iblk m c 0 t) (iblk m c 1 t) (ix2 l q) = result m c (bOf (rowAt t l)) (lOf (rowAt t l)) q :=
  (out_apply _ _ l q).trans
    (congr (congr (congrArg scaled (b0 m c t l q)) (dotOf_congr (fun k => b0 m c t l k) (fun k => b0 m c t l k))) (b1 m c t q))

/-- The result's array after the run. -/
theorem result_array : (dats m 0 c).arrAt 2 cfg0.N = (fun i : S16384x1024.Idx => result m c (bOf (i 0)) (lOf (i 0)) (i 1)) := by
  refine (dats m 0 c).arrAt_eq_of_covers 2 _ (by decide +kernel) fun t hf y => ?_
  rw [after0_2]
  have p := (places t).2.2
  have e0 : ((cfg0.win 2).blk t).view.emb y 0 = rowAt t (y 0) :=
    Fin.ext (by show win0_2.index t 0 * 512 + 1 * (y 0).val = t.val * 512 + (y 0).val; rw [p]; simp)
  have e1 : ((cfg0.win 2).blk t).view.emb y 1 = y 1 :=
    Fin.ext (by show win0_2.index t 1 * 1024 + 1 * (y 1).val = (y 1).val; rw [p]; simp)
  have ex : (cfg0.win 2).xinj (cfg0.grid.coords t) y = ix2 (y 0) (y 1) := eq_ix2 (n0 := 512) (n1 := 1024) _
  have key := result_at m c t (y 0) (y 1)
  generalize out0_2 (iblk m c 0 t) (iblk m c 1 t) = X at key ⊢
  refine Eq.trans (congrArg X ex) (key.trans ?_)
  exact congr (congr (congrArg _ (congrArg bOf e0.symm)) (congrArg lOf e0.symm)) e1.symm

end Cert.Kernel11Ideal.Norm

namespace Cert.Proof

open Idealize.ShloMosaic Idealize.ShloMosaic.TcCoe Idealize.SL.Sem Cert.Kernel11Ideal.Norm
open Cert.KernelIdeal.Scan (bOf lOf)
open Cert.Rows

section
open Cert.Reference11Ideal Cert.Reference11Ideal.Gen

/-- The plain program's result at a row and a column. -/
theorem fnorm_reference (x0 : FVec Ideal S2x8192x1024 .f32) (x1 : FVec Ideal S1024 .f32) (r : Fin 16384) (q : Fin 1024) :
    shapeCast S16384x1024 (mulf (mulf x0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x0 x0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 x1))) shapeCasts_S2x8192x1024_S16384x1024 (ix2 r q)
      = fnorm (fun b l k => x0 (ix3 b l k)) (fun q => x1 (ix1 q)) (bOf r) (lOf r) q := by
  pointwise [fnorm, scaled, dotOf, bOf, lOf]

/-- The plain program runs, and leaves its arguments: its frame. -/
theorem frame_fnorm_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)
end

/-- The kernel and the plain program end with equal results, element by element, as extended reals. -/
theorem algebraic_fnorm : Cert.algebraic_Kernel11Ideal_Reference11Ideal := by
  intro m ρ m' ρ' _ hagree
  refine ⟨fun c => (fun i : Cert.Kernel11Ideal.S16384x1024.Idx => result m c (bOf (i 0)) (lOf (i 0)) (i 1)), ?_, ?_⟩
  · refine (θ_run _ _ _).mono (fun r h c => ?_) (Cert.Kernel11Ideal.Value.run_blocks (F := Ideal) m ρ)
    exact ⟨(h c).1.trans (result_array m c), (h c).2⟩
  · refine (θ_run _ _ _).mono (fun r h c => ?_) (Cert.Reference11Ideal.Value.run (F := Ideal) m' ρ')
    obtain ⟨h0, h1⟩ := hagree c
    refine ⟨(h c).1.trans ?_, (h c).2⟩
    funext i
    rw [h0, h1]
    refine (congrArg _ (eq_ix2 i)).trans ?_
    exact fnorm_reference _ _ (i 0) (i 1)

end Cert.Proof
end
-- ==== Proof.Compress.lean ====
/-
  The compression of the keys (or values) of a block of 32 positions: the kernel's tiles of 512 blocks are the plain program's
  numbers.
-/
module

public import proofs.«01_k».proof.Defs
public import proofs.«01_k».proof.Proof.Rows
public import proofs.«01_k».proof.Proof.Conv
public import proofs.«01_k».proof.Proof.Gen.Kernel12Ideal.Value
public import proofs.«01_k».proof.Proof.Gen.Reference12Ideal.Run

@[expose] public section

set_option maxHeartbeats 400000
set_option maxRecDepth 16384

noncomputable section

namespace Cert.Kernel12Ideal.Compress

open Cert.Kernel12Ideal Cert.Kernel12Ideal.Gen Idealize.ShloMosaic Idealize.ShloMosaic.TcCoe Idealize.SL.Sem
open Cert.Conv (silu)
open Cert.Rows

/-- The sequence of a row of the flattened blocks. -/
def seqOf (r : Fin 2048) : Fin 2 := ⟨r.val / 1024, by omega⟩
/-- The key head of a row. -/
def headOf (r : Fin 2048) : Fin 4 := ⟨r.val / 256 % 4, by omega⟩
/-- The position that a place of a row's block has in its sequence; a place is a position of the block and a feature. -/
def posOf (r j : Fin 2048) : Fin 8192 := ⟨r.val % 256 * 32 + j.val / 64, by omega⟩
/-- The position in the block that a place stands for. -/
def rowIn (j : Fin 2048) : Fin 32 := ⟨j.val / 64, by omega⟩
/-- The feature that a place stands for. -/
def featOf (j : Fin 2048) : Fin 64 := ⟨j.val % 64, by omega⟩

/-- A block with its positions' offsets added, times the first weights, under the silu, times the second weights. -/
def twoLayer (x p : Fin 2048 → EReal) (w : Fin 2048 → Fin 128 → EReal) (v : Fin 128 → EReal) : EReal :=
  dotOf (fun u => silu (dotOf (fun j => x j + p j) (fun j => w j u))) v

/-- The result at a row and a feature. -/
def comp (x : Fin 2 → Fin 8192 → Fin 4 → Fin 64 → EReal) (p : Fin 32 → Fin 64 → EReal) (w : Fin 2048 → Fin 128 → EReal) (v : Fin 128 → Fin 64 → EReal)
    (r : Fin 2048) (q : Fin 64) : EReal :=
  twoLayer (fun j => x (seqOf r) (posOf r j) (headOf r) (featOf j)) (fun j => p (rowIn j) (featOf j)) w (fun u => v u q)

/-- The store's value at a row and a feature of the tile. -/
theorem pay_apply (v0 : FVec Ideal S512x2048 .f32) (v2 : FVec Ideal S1x2048 .f32) (v7 : FVec Ideal S2048x128 .bf16) (v13 : FVec Ideal S128x64 .bf16)
    (r : Fin 512) (q : Fin 64) :
    k0_pay1 (F := Ideal) v0 v2 v7 v13 (ix2 r q)
      = twoLayer (fun j => v0 (ix2 r j)) (fun j => v2 (ix2 0 j)) (fun j u => v7 (ix2 j u)) (fun u => v13 (ix2 u q)) := by
  pointwise [k0_pay1, twoLayer, dotOf, silu]

/-- What the body leaves in the result's tile, at a row and a feature. -/
theorem out_apply (v0 : FVec Ideal S512x2048 .f32) (v2 : FVec Ideal S1x2048 .f32) (v7 : FVec Ideal S2048x128 .bf16) (v13 : FVec Ideal S128x64 .bf16)
    (r : Fin 512) (q : Fin 64) :
    out0_4 (F := Ideal) v0 v2 v7 v13 (ix2 r q)
      = twoLayer (fun j => v0 (ix2 r j)) (fun j => v2 (ix2 0 j)) (fun j u => v7 (ix2 j u)) (fun u => v13 (ix2 u q)) := by
  have e : out0_4 (F := Ideal) v0 v2 v7 v13 = k0_pay1 (F := Ideal) v0 v2 v7 v13 := by
    unfold out0_4
    rw [View.canon_cons_unit_lit _ _ _ (by decide), View.ld_unit_lit _ _ (by decide), View.ld_unit_lit _ _ (by decide), View.ld_unit_lit _ _ (by decide), View.ld_unit_lit _ _ (by decide)]
  rw [e, pay_apply]

/-- Where each window's block lies, at each of the 4 points. -/
theorem places : ∀ t : Fin cfg0.N, win0_0.index t = ![t.val, 0] ∧ win0_1.index t = ![0, 0] ∧ win0_2.index t = ![0, 0] ∧ win0_3.index t = ![0, 0]
    ∧ win0_4.index t = ![t.val, 0] := by
  decide +kernel

variable (m : (ℓ : Loc nD τ sig) → Buf (Elt Ideal) ℓ) (c : Dev nD)

/-- The flattened blocks. -/
theorem V_x (r j : Fin 2048) : V m c main_v2 (ix2 r j) = m ((c : Thread nD τ).loc main_arg0) (ix4 (seqOf r) (posOf r j) (headOf r) (featOf j)) := by
  simp only [V, hostOps0]
  entry_read
  pointwise [seqOf, posOf, headOf, featOf]
/-- The flattened offsets. -/
theorem V_p (j : Fin 2048) : V m c main_v6 (ix2 0 j) = m ((c : Thread nD τ).loc main_arg1) (ix2 (rowIn j) (featOf j)) := by
  simp only [V, hostOps0]
  entry_read
  pointwise [rowIn, featOf]
/-- The first weights. -/
theorem V_w (j : Fin 2048) (u : Fin 128) : V m c main_v4 (ix2 j u) = m ((c : Thread nD τ).loc main_arg2) (ix2 j u) := by
  simp only [V, hostOps0]
  entry_read
  pointwise
/-- The second weights. -/
theorem V_v (u : Fin 128) (q : Fin 64) : V m c main_v5 (ix2 u q) = m ((c : Thread nD τ).loc main_arg3) (ix2 u q) := by
  simp only [V, hostOps0]
  entry_read
  pointwise

/-- A point's row of the flattened blocks. -/
def rowAt (t : Fin cfg0.N) (l : Fin 512) : Fin 2048 := ⟨t.val * 512 + l.val, by have : t.val < 4 := t.isLt; omega⟩

/-- A point's tile of the blocks. -/
theorem b0 (t : Fin cfg0.N) (l : Fin 512) (j : Fin 2048) :
    iblk m c 0 t (ix2 l j) = m ((c : Thread nD τ).loc main_arg0) (ix4 (seqOf (rowAt t l)) (posOf (rowAt t l) j) (headOf (rowAt t l)) (featOf j)) := by
  have p := (places t).1
  refine Eq.trans ?_ (V_x m c (rowAt t l) j)
  unfold iblk
  rw [View.read_apply]
  exact same (V m c main_v2) fun a => match a with
    | ⟨0, _⟩ => by show win0_0.index t 0 * 512 + 1 * l.val = t.val * 512 + l.val; rw [p]; simp
    | ⟨1, _⟩ => by show win0_0.index t 1 * 2048 + 1 * j.val = j.val; rw [p]; simp
/-- A point's offsets: all of them. -/
theorem b1 (t : Fin cfg0.N) (j : Fin 2048) : iblk m c 1 t (ix2 0 j) = m ((c : Thread nD τ).loc main_arg1) (ix2 (rowIn j) (featOf j)) := by
  have p := (places t).2.1
  refine Eq.trans ?_ (V_p m c j)
  unfold iblk
  rw [View.read_apply]
  exact same (V m c main_v6) fun a => match a with
    | ⟨0, _⟩ => by show win0_1.index t 0 * 1 + 1 * 0 = 0; rw [p]; simp
    | ⟨1, _⟩ => by show win0_1.index t 1 * 2048 + 1 * j.val = j.val; rw [p]; simp
/-- A point's first weights: all of them. -/
theorem b2 (t : Fin cfg0.N) (j : Fin 2048) (u : Fin 128) : iblk m c 2 t (ix2 j u) = m ((c : Thread nD τ).loc main_arg2) (ix2 j u) := by
  have p := (places t).2.2.1
  refine Eq.trans ?_ (V_w m c j u)
  unfold iblk
  rw [View.read_apply]
  exact same (V m c main_v4) fun a => match a with
    | ⟨0, _⟩ => by show win0_2.index t 0 * 2048 + 1 * j.val = j.val; rw [p]; simp
    | ⟨1, _⟩ => by show win0_2.index t 1 * 128 + 1 * u.val = u.val; rw [p]; simp
/-- A point's second weights: all of them. -/
theorem b3 (t : Fin cfg0.N) (u : Fin 128) (q : Fin 64) : iblk m c 3 t (ix2 u q) = m ((c : Thread nD τ).loc main_arg3) (ix2 u q) := by
  have p := (places t).2.2.2.1
  refine Eq.trans ?_ (V_v m c u q)
  unfold iblk
  rw [View.read_apply]
  exact same (V m c main_v5) fun a => match a with
    | ⟨0, _⟩ => by show win0_3.index t 0 * 128 + 1 * u.val = u.val; rw [p]; simp
    | ⟨1, _⟩ => by show win0_3.index t 1 * 64 + 1 * q.val = q.val; rw [p]; simp

/-- The kernel's result, of its arguments' launch contents. -/
def result (r : Fin 2048) (q : Fin 64) : EReal :=
  comp (fun b l g d => m ((c : Thread nD τ).loc main_arg0) (ix4 b l g d)) (fun i d => m ((c : Thread nD τ).loc main_arg1) (ix2 i d))
    (fun j u => m ((c : Thread nD τ).loc main_arg2) (ix2 j u)) (fun u q => m ((c : Thread nD τ).loc main_arg3) (ix2 u q)) r q

/-- What a point leaves in the result's window. -/
theorem result_at (t : Fin cfg0.N) (l : Fin 512) (q : Fin 64) :
    out0_4 (iblk m c 0 t) (iblk m c 1 t) (iblk m c 2 t) (iblk m c 3 t) (ix2 l q) = result m c (rowAt t l) q := by
  refine (out_apply _ _ _ _ l q).trans ?_
  exact congr (congr (congr (congrArg twoLayer (funext fun j => b0 m c t l j)) (funext fun j => b1 m c t j)) (funext fun j => funext fun u => b2 m c t j u))
    (funext fun u => b3 m c t u q)

/-- The result's array after the run. -/
theorem result_array : (dats m 0 c).arrAt 4 cfg0.N = (fun i : S2048x64.Idx => result m c (i 0) (i 1)) := by
  refine (dats m 0 c).arrAt_eq_of_covers 4 _ (by decide +kernel) fun t hf y => ?_
  rw [after0_4]
  have p := (places t).2.2.2.2
  have e0 : ((cfg0.win 4).blk t).view.emb y 0 = rowAt t (y 0) :=
    Fin.ext (by show win0_4.index t 0 * 512 + 1 * (y 0).val = t.val * 512 + (y 0).val; rw [p]; simp)
  have e1 : ((cfg0.win 4).blk t).view.emb y 1 = y 1 :=
    Fin.ext (by show win0_4.index t 1 * 64 + 1 * (y 1).val = (y 1).val; rw [p]; simp)
  have ex : (cfg0.win 4).xinj (cfg0.grid.coords t) y = ix2 (y 0) (y 1) := eq_ix2 (n0 := 512) (n1 := 64) _
  have key := result_at m c t (y 0) (y 1)
  generalize out0_4 (iblk m c 0 t) (iblk m c 1 t) (iblk m c 2 t) (iblk m c 3 t) = X at key ⊢
  refine Eq.trans (congrArg X ex) (key.trans ?_)
  exact congr (congrArg _ e0.symm) e1.symm

end Cert.Kernel12Ideal.Compress

namespace Cert.Proof

open Idealize.ShloMosaic Idealize.ShloMosaic.TcCoe Idealize.SL.Sem Cert.Kernel12Ideal.Compress
open Cert.Conv (silu)
open Cert.Rows

section
open Cert.Reference12Ideal Cert.Reference12Ideal.Gen

/-- The plain program's result at a row and a feature. -/
theorem comp_reference (x0 : FVec Ideal S2x8192x4x64 .f32) (x1 : FVec Ideal S32x64 .f32) (x2 : FVec Ideal S2048x128 .f32) (x3 : FVec Ideal S128x64 .f32)
    (r : Fin 2048) (q : Fin 64) :
    shapeCast S2048x64 (transpose S2x4x256x64 [0, 2, 1, 3] (Host.dotGeneral dot_S2x256x4x128_S128x64_S2x256x4x64_3_0_012_1_n_n none (mulf (Host.dotGeneral dot_S2x256x4x2048_S2048x128_S2x256x4x128_3_0_012_1_n_n none (shapeCast S2x256x4x2048 (transpose S2x256x4x32x64 [0, 1, 3, 2, 4] (addf (shapeCast S2x256x32x4x64 x0 shapeCasts_S2x8192x4x64_S2x256x32x4x64) (broadcastInDim S2x256x32x4x64 ![0, 1, 2, 3, 4] bcast_S1x1x32x1x64_S2x256x32x4x64_0_1_2_3_4 (broadcastInDim S1x1x32x1x64 ![2, 4] bcast_S32x64_S1x1x32x1x64_2_4 x1))) transposes_S2x256x32x4x64_S2x256x4x32x64_0_1_3_2_4) shapeCasts_S2x256x4x32x64_S2x256x4x2048) x2) (Host.divf (broadcastInDim S2x256x4x128 ![] bcast_S_S2x256x4x128 (constant S_ .f32 0x3F800000#32)) (addf (broadcastInDim S2x256x4x128 ![] bcast_S_S2x256x4x128 (constant S_ .f32 0x3F800000#32)) (Host.exp (Host.negf (Host.dotGeneral dot_S2x256x4x2048_S2048x128_S2x256x4x128_3_0_012_1_n_n none (shapeCast S2x256x4x2048 (transpose S2x256x4x32x64 [0, 1, 3, 2, 4] (addf (shapeCast S2x256x32x4x64 x0 shapeCasts_S2x8192x4x64_S2x256x32x4x64) (broadcastInDim S2x256x32x4x64 ![0, 1, 2, 3, 4] bcast_S1x1x32x1x64_S2x256x32x4x64_0_1_2_3_4 (broadcastInDim S1x1x32x1x64 ![2, 4] bcast_S32x64_S1x1x32x1x64_2_4 x1))) transposes_S2x256x32x4x64_S2x256x4x32x64_0_1_3_2_4) shapeCasts_S2x256x4x32x64_S2x256x4x2048) x2)))))) x3) transposes_S2x256x4x64_S2x4x256x64_0_2_1_3) shapeCasts_S2x4x256x64_S2048x64 (ix2 r q)
      = comp (fun b l g d => x0 (ix4 b l g d)) (fun i d => x1 (ix2 i d)) (fun j u => x2 (ix2 j u)) (fun u q => x3 (ix2 u q)) r q := by
  pointwise [comp, twoLayer, dotOf, silu, seqOf, posOf, headOf, rowIn, featOf]
  rfl

/-- The plain program runs, and leaves its arguments: its frame. -/
theorem frame_comp_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)
end

/-- The kernel and the plain program end with equal results, element by element, as extended reals. -/
theorem algebraic_comp : Cert.algebraic_Kernel12Ideal_Reference12Ideal := by
  intro m ρ m' ρ' _ hagree
  refine ⟨fun c => (fun i : Cert.Kernel12Ideal.S2048x64.Idx => result m c (i 0) (i 1)), ?_, ?_⟩
  · refine (θ_run _ _ _).mono (fun r h c => ?_) (Cert.Kernel12Ideal.Value.run_blocks (F := Ideal) m ρ)
    exact ⟨(h c).1.trans (result_array m c), (h c).2⟩
  · refine (θ_run _ _ _).mono (fun r h c => ?_) (Cert.Reference12Ideal.Value.run (F := Ideal) m' ρ')
    obtain ⟨h0, h1, h2, h3⟩ := hagree c
    refine ⟨(h c).1.trans ?_, (h c).2⟩
    funext i
    rw [h0, h1, h2, h3]
    refine (congrArg _ (eq_ix2 i)).trans ?_
    exact comp_reference _ _ _ _ (i 0) (i 1)

end Cert.Proof
end
-- ==== Proof.Modulate.lean ====
/-
  The modulated normalization of the rows: the kernel's blocks of 512 rows are the plain program's numbers.
-/
module

public import proofs.«01_k».proof.Defs
public import proofs.«01_k».proof.Proof.Rows
public import proofs.«01_k».proof.Proof.Gen.Kernel13Ideal.Value
public import proofs.«01_k».proof.Proof.Gen.Reference13Ideal.Run

@[expose] public section

set_option maxHeartbeats 400000
set_option maxRecDepth 16384

noncomputable section

namespace Cert.Kernel13Ideal.Modulate

open Cert.Kernel13Ideal Cert.Kernel13Ideal.Gen Idealize.ShloMosaic Idealize.ShloMosaic.TcCoe Idealize.SL.Sem
open Cert.KernelIdeal.Scan (bOf lOf)
open Cert.Rows

/-- A number times the reciprocal root of the mean square `s / 1024` plus a small constant, times a gain. -/
def scaled (x s g : EReal) : EReal := x * Ideal.rsqrt (Ideal.div s (Ideal.ofBits FTy.f32 1149239296#32) + Ideal.ofBits FTy.f32 897988541#32) * g

/-- A number times one plus a scale, plus a shift. -/
def moved (y s h : EReal) : EReal := y * (Ideal.ofBits FTy.f32 1065353216#32 + s) + h

/-- The result at a row and a column. -/
def nmod (x : Fin 2 → Fin 8192 → Fin 1024 → EReal) (g : Fin 1024 → EReal) (sc sh : Fin 2 → Fin 1024 → EReal) (b : Fin 2) (l : Fin 8192) (q : Fin 1024) : EReal :=
  moved (scaled (x b l q) (dotOf (fun k => x b l k) (fun k => x b l k)) (g q)) (sc b q) (sh b q)

/-- The store's value at a row and a column of the block. -/
theorem pay_apply (v0 : FVec Ideal S512x1024 .f32) (v2 : FVec Ideal S1x1024 .f32) (v3 v4 : FVec Ideal S1x1x1024 .f32) (r : Fin 512) (q : Fin 1024) :
    k0_pay1 (F := Ideal) v0 v2 v3 v4 (ix2 r q)
      = moved (scaled (v0 (ix2 r q)) (dotOf (fun k => v0 (ix2 r k)) (fun k => v0 (ix2 r k))) (v2 (ix2 0 q))) (v3 (ix3 0 0 q)) (v4 (ix3 0 0 q)) := by
  pointwise [k0_pay1, moved, scaled, dotOf]

/-- What the body leaves in the result's block, at a row and a column. -/
theorem out_apply (v0 : FVec Ideal S512x1024 .f32) (v2 : FVec Ideal S1x1024 .f32) (v3 v4 : FVec Ideal S1x1x1024 .f32) (r : Fin 512) (q : Fin 1024) :
    out0_4 (F := Ideal) v0 v2 v3 v4 (ix2 r q)
      = moved (scaled (v0 (ix2 r q)) (dotOf (fun k => v0 (ix2 r k)) (fun k => v0 (ix2 r k))) (v2 (ix2 0 q))) (v3 (ix3 0 0 q)) (v4 (ix3 0 0 q)) := by
  have e : out0_4 (F := Ideal) v0 v2 v3 v4 = k0_pay1 (F := Ideal) v0 v2 v3 v4 := by
    unfold out0_4
    rw [View.canon_cons_unit_lit _ _ _ (by decide), View.ld_unit_lit _ _ (by decide), View.ld_unit_lit _ _ (by decide), View.ld_unit_lit _ _ (by decide),
      View.ld_unit_lit _ _ (by decide)]
  rw [e, pay_apply]

/-- Where each window's block lies, at each of the 32 points. -/
theorem places : ∀ t : Fin cfg0.N, win0_0.index t = ![t.val, 0] ∧ win0_1.index t = ![0, 0] ∧ win0_2.index t = ![t.val / 16, 0, 0] ∧ win0_3.index t = ![t.val / 16, 0, 0]
    ∧ win0_4.index t = ![t.val, 0] := by
  decide +kernel

variable (m : (ℓ : Loc nD τ sig) → Buf (Elt Ideal) ℓ) (c : Dev nD)

/-- The flattened rows. -/
theorem V_x (r : Fin 16384) (k : Fin 1024) : V m c main_v0 (ix2 r k) = m ((c : Thread nD τ).loc main_arg0) (ix3 (bOf r) (lOf r) k) := by
  simp only [V, hostOps0]
  entry_read
  pointwise [bOf, lOf]
/-- The gains. -/
theorem V_g (q : Fin 1024) : V m c main_v3 (ix2 0 q) = m ((c : Thread nD τ).loc main_arg1) (ix1 q) := by
  simp only [V, hostOps0]
  entry_read
  pointwise

/-- The scales. -/
theorem V_sc (b : Fin 2) (q : Fin 1024) : V m c main_v1 (ix3 b 0 q) = m ((c : Thread nD τ).loc main_arg2) (ix2 b q) := by
  simp only [V, hostOps0]
  entry_read
  pointwise
/-- The shifts. -/
theorem V_sh (b : Fin 2) (q : Fin 1024) : V m c main_v2 (ix3 b 0 q) = m ((c : Thread nD τ).loc main_arg3) (ix2 b q) := by
  simp only [V, hostOps0]
  entry_read
  pointwise

/-- A point's row of the flattened array. -/
def rowAt (t : Fin cfg0.N) (l : Fin 512) : Fin 16384 := ⟨t.val * 512 + l.val, by have : t.val < 32 := t.isLt; omega⟩

/-- A point's block of the rows. -/
theorem b0 (t : Fin cfg0.N) (l : Fin 512) (k : Fin 1024) : iblk m c 0 t (ix2 l k) = m ((c : Thread nD τ).loc main_arg0) (ix3 (bOf (rowAt t l)) (lOf (rowAt t l)) k) := by
  have p := (places t).1
  refine Eq.trans ?_ (V_x m c (rowAt t l) k)
  unfold iblk
  rw [View.read_apply]
  exact same (V m c main_v0) fun a => match a with
    | ⟨0, _⟩ => by show win0_0.index t 0 * 512 + 1 * l.val = t.val * 512 + l.val; rw [p]; simp
    | ⟨1, _⟩ => by show win0_0.index t 1 * 1024 + 1 * k.val = k.val; rw [p]; simp
/-- A point's block of the gains: all of them. -/
theorem b1 (t : Fin cfg0.N) (q : Fin 1024) : iblk m c 1 t (ix2 0 q) = m ((c : Thread nD τ).loc main_arg1) (ix1 q) := by
  have p := (places t).2.1
  refine Eq.trans ?_ (V_g m c q)
  unfold iblk
  rw [View.read_apply]
  exact same (V m c main_v3) fun a => match a with
    | ⟨0, _⟩ => by show win0_1.index t 0 * 1 + 1 * 0 = 0; rw [p]; simp
    | ⟨1, _⟩ => by show win0_1.index t 1 * 1024 + 1 * q.val = q.val; rw [p]; simp

/-- A point's row is of the point's sequence. -/
theorem seqAt (t : Fin cfg0.N) (l : Fin 512) : (bOf (rowAt t l)).val = t.val / 16 := by
  show (t.val * 512 + l.val) / 8192 = t.val / 16
  omega
/-- A point's block of the scales: its sequence's. -/
theorem b2 (t : Fin cfg0.N) (l : Fin 512) (q : Fin 1024) : iblk m c 2 t (ix3 0 0 q) = m ((c : Thread nD τ).loc main_arg2) (ix2 (bOf (rowAt t l)) q) := by
  have p := (places t).2.2.1
  refine Eq.trans ?_ (V_sc m c (bOf (rowAt t l)) q)
  unfold iblk
  rw [View.read_apply]
  exact same (V m c main_v1) fun a => match a with
    | ⟨0, _⟩ => by show win0_2.index t 0 * 1 + 1 * 0 = (bOf (rowAt t l)).val; rw [p, seqAt]; simp
    | ⟨1, _⟩ => by show win0_2.index t 1 * 1 + 1 * 0 = 0; rw [p]; simp
    | ⟨2, _⟩ => by show win0_2.index t 2 * 1024 + 1 * q.val = q.val; rw [p]; simp
/-- A point's block of the shifts: its sequence's. -/
theorem b3 (t : Fin cfg0.N) (l : Fin 512) (q : Fin 1024) : iblk m c 3 t (ix3 0 0 q) = m ((c : Thread nD τ).loc main_arg3) (ix2 (bOf (rowAt t l)) q) := by
  have p := (places t).2.2.2.1
  refine Eq.trans ?_ (V_sh m c (bOf (rowAt t l)) q)
  unfold iblk
  rw [View.read_apply]
  exact same (V m c main_v2) fun a => match a with
    | ⟨0, _⟩ => by show win0_3.index t 0 * 1 + 1 * 0 = (bOf (rowAt t l)).val; rw [p, seqAt]; simp
    | ⟨1, _⟩ => by show win0_3.index t 1 * 1 + 1 * 0 = 0; rw [p]; simp
    | ⟨2, _⟩ => by show win0_3.index t 2 * 1024 + 1 * q.val = q.val; rw [p]; simp

/-- The kernel's result, of its arguments' launch contents. -/
def result (b : Fin 2) (l : Fin 8192) (q : Fin 1024) : EReal :=
  nmod (fun b l k => m ((c : Thread nD τ).loc main_arg0) (ix3 b l k)) (fun q => m ((c : Thread nD τ).loc main_arg1) (ix1 q))
    (fun b q => m ((c : Thread nD τ).loc main_arg2) (ix2 b q)) (fun b q => m ((c : Thread nD τ).loc main_arg3) (ix2 b q)) b l q

/-- What a point leaves in the result's window. -/
theorem result_at (t : Fin cfg0.N) (l : Fin 512) (q : Fin 1024) :
    out0_4 (iblk m c 0 t) (iblk m c 1 t) (iblk m c 2 t) (iblk m c 3 t) (ix2 l q) = result m c (bOf (rowAt t l)) (lOf (rowAt t l)) q :=
  (out_apply _ _ _ _ l q).trans
    (congr (congr (congrArg moved
      (congr (congr (congrArg scaled (b0 m c t l q)) (dotOf_congr (fun k => b0 m c t l k) (fun k => b0 m c t l k))) (b1 m c t q)))
      (b2 m c t l q)) (b3 m c t l q))

/-- The result's array after the run. -/
theorem result_array : (dats m 0 c).arrAt 4 cfg0.N = (fun i : S16384x1024.Idx => result m c (bOf (i 0)) (lOf (i 0)) (i 1)) := by
  refine (dats m 0 c).arrAt_eq_of_covers 4 _ (by decide +kernel) fun t hf y => ?_
  rw [after0_4]
  have p := (places t).2.2.2.2
  have e0 : ((cfg0.win 4).blk t).view.emb y 0 = rowAt t (y 0) :=
    Fin.ext (by show win0_4.index t 0 * 512 + 1 * (y 0).val = t.val * 512 + (y 0).val; rw [p]; simp)
  have e1 : ((cfg0.win 4).blk t).view.emb y 1 = y 1 :=
    Fin.ext (by show win0_4.index t 1 * 1024 + 1 * (y 1).val = (y 1).val; rw [p]; simp)
  have ex : (cfg0.win 4).xinj (cfg0.grid.coords t) y = ix2 (y 0) (y 1) := eq_ix2 (n0 := 512) (n1 := 1024) _
  have key := result_at m c t (y 0) (y 1)
  generalize out0_4 (iblk m c 0 t) (iblk m c 1 t) (iblk m c 2 t) (iblk m c 3 t) = X at key ⊢
  refine Eq.trans (congrArg X ex) (key.trans ?_)
  exact congr (congr (congrArg _ (congrArg bOf e0.symm)) (congrArg lOf e0.symm)) e1.symm

end Cert.Kernel13Ideal.Modulate

namespace Cert.Proof

open Idealize.ShloMosaic Idealize.ShloMosaic.TcCoe Idealize.SL.Sem Cert.Kernel13Ideal.Modulate
open Cert.KernelIdeal.Scan (bOf lOf)
open Cert.Rows

section
open Cert.Reference13Ideal Cert.Reference13Ideal.Gen

/-- The plain program's result at a row and a column. -/
theorem nmod_reference (x0 : FVec Ideal S2x8192x1024 .f32) (x1 : FVec Ideal S1024 .f32) (x2 x3 : FVec Ideal S2x1024 .f32) (r : Fin 16384) (q : Fin 1024) :
    truncf FTy.bf16 (shapeCast S16384x1024 (addf (mulf (mulf (mulf x0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x0 x0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 x1))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 x2)))) (broadcastInDim S2x8192x1024 ![0, 1, 2] bcast_S2x1x1024_S2x8192x1024_0_1_2 (broadcastInDim S2x1x1024 ![0, 2] bcast_S2x1024_S2x1x1024_0_2 x3))) shapeCasts_S2x8192x1024_S16384x1024) bitsLt_bf16_f32 (ix2 r q)
      = nmod (fun b l k => x0 (ix3 b l k)) (fun q => x1 (ix1 q)) (fun b q => x2 (ix2 b q)) (fun b q => x3 (ix2 b q)) (bOf r) (lOf r) q := by
  pointwise [nmod, moved, scaled, dotOf, bOf, lOf]

/-- The plain program runs, and leaves its arguments: its frame. -/
theorem frame_nmod_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)
end

/-- The kernel and the plain program end with equal results, element by element, as extended reals. -/
theorem algebraic_nmod : Cert.algebraic_Kernel13Ideal_Reference13Ideal := by
  intro m ρ m' ρ' _ hagree
  refine ⟨fun c => (fun i : Cert.Kernel13Ideal.S16384x1024.Idx => result m c (bOf (i 0)) (lOf (i 0)) (i 1)), ?_, ?_⟩
  · refine (θ_run _ _ _).mono (fun r h c => ?_) (Cert.Kernel13Ideal.Value.run_blocks (F := Ideal) m ρ)
    exact ⟨(h c).1.trans (result_array m c), (h c).2⟩
  · refine (θ_run _ _ _).mono (fun r h c => ?_) (Cert.Reference13Ideal.Value.run (F := Ideal) m' ρ')
    obtain ⟨h0, h1, h2, h3⟩ := hagree c
    refine ⟨(h c).1.trans ?_, (h c).2⟩
    funext i
    rw [h0, h1, h2, h3]
    refine (congrArg _ (eq_ix2 i)).trans ?_
    exact nmod_reference _ _ _ _ (i 0) (i 1)

end Cert.Proof
end
-- ==== Proof.ConvRows.lean ====
/-
  The last eight rows of each sequence before the scan's convolution: the kernel's blocks of columns are the plain program's numbers.
-/
module

public import proofs.«01_k».proof.Defs
public import proofs.«01_k».proof.Proof.Rows
public import proofs.«01_k».proof.Proof.Gen.Kernel14Ideal.Value
public import proofs.«01_k».proof.Proof.Gen.Reference14Ideal.Run

@[expose] public section

set_option maxHeartbeats 400000
set_option maxRecDepth 16384

noncomputable section

namespace Cert.Kernel14Ideal.ConvRows

open Cert.Kernel14Ideal Cert.Kernel14Ideal.Gen Idealize.ShloMosaic Idealize.ShloMosaic.TcCoe Idealize.SL.Sem
open Cert.Rows

/-- The sequence that a kept row is of. -/
def seqOf (r : Fin 16) : Fin 2 := ⟨r.val / 8, by omega⟩
/-- The position of a kept row: one of the last eight. -/
def posOf (r : Fin 16) : Fin 8192 := ⟨8184 + r.val % 8, by omega⟩

/-- The result at a row and a column: the row's product with the column. -/
def crow (h : Fin 2 → Fin 8192 → Fin 1024 → EReal) (w : Fin 1024 → Fin 3072 → EReal) (r : Fin 16) (q : Fin 3072) : EReal :=
  dotOf (fun k => h (seqOf r) (posOf r) k) (fun k => w k q)

/-- The store's value at a row and a column of the block. -/
theorem pay_apply (v0 : FVec Ideal S16x1024 .bf16) (v2 : FVec Ideal S1024x1024 .bf16) (r : Fin 16) (q : Fin 1024) :
    k0_pay1 (F := Ideal) v0 v2 (ix2 r q) = dotOf (fun k => v0 (ix2 r k)) (fun k => v2 (ix2 k q)) := by
  pointwise [k0_pay1, dotOf]

/-- What the body leaves in the result's block, at a row and a column. -/
theorem out_apply (v0 : FVec Ideal S16x1024 .bf16) (v2 : FVec Ideal S1024x1024 .bf16) (r : Fin 16) (q : Fin 1024) :
    out0_2 (F := Ideal) v0 v2 (ix2 r q) = dotOf (fun k => v0 (ix2 r k)) (fun k => v2 (ix2 k q)) := by
  have e : out0_2 (F := Ideal) v0 v2 = k0_pay1 (F := Ideal) v0 v2 := by
    unfold out0_2
    rw [View.canon_cons_unit_lit _ _ _ (by decide), View.ld_unit_lit _ _ (by decide), View.ld_unit_lit _ _ (by decide)]
  rw [e, pay_apply]

/-- Where each window's block lies, at each point. -/
theorem places : ∀ t : Fin cfg0.N, win0_0.index t = ![0, 0] ∧ win0_1.index t = ![0, t.val] ∧ win0_2.index t = ![0, t.val] := by
  decide +kernel

variable (m : (ℓ : Loc nD τ sig) → Buf (Elt Ideal) ℓ) (c : Dev nD)

/-- The rows that the call takes. -/
theorem V_h (r : Fin 16) (k : Fin 1024) : V m c main_v2 (ix2 r k) = m ((c : Thread nD τ).loc main_arg0) (ix3 (seqOf r) (posOf r) k) := by
  simp only [V, hostOps0]
  entry_read
  pointwise [seqOf, posOf]
/-- The weights. -/
theorem V_w (k : Fin 1024) (q : Fin 3072) : V m c main_v3 (ix2 k q) = m ((c : Thread nD τ).loc main_arg1) (ix2 k q) := by
  simp only [V, hostOps0]
  entry_read
  pointwise

/-- A point's row of the call's rows. -/
def rowAt (t : Fin cfg0.N) (l : Fin 16) : Fin 16 := ⟨0 * 16 + l.val, by have : t.val < 3 := t.isLt; omega⟩
/-- A point's column. -/
def colAt (t : Fin cfg0.N) (q : Fin 1024) : Fin 3072 := ⟨t.val * 1024 + q.val, by have : t.val < 3 := t.isLt; omega⟩

/-- A point's block of the rows. -/
theorem b0 (t : Fin cfg0.N) (l : Fin 16) (k : Fin 1024) : iblk m c 0 t (ix2 l k) = V m c main_v2 (ix2 (rowAt t l) k) := by
  have p := (places t).1
  unfold iblk
  rw [View.read_apply]
  exact same (V m c main_v2) fun a => match a with
    | ⟨0, _⟩ => by show win0_0.index t 0 * 16 + 1 * l.val = 0 * 16 + l.val; rw [p]; simp
    | ⟨1, _⟩ => by show win0_0.index t 1 * 1024 + 1 * k.val = k.val; rw [p]; simp
/-- A point's block of the weights. -/
theorem b1 (t : Fin cfg0.N) (k : Fin 1024) (q : Fin 1024) : iblk m c 1 t (ix2 k q) = V m c main_v3 (ix2 k (colAt t q)) := by
  have p := (places t).2.1
  unfold iblk
  rw [View.read_apply]
  exact same (V m c main_v3) fun a => match a with
    | ⟨0, _⟩ => by show win0_1.index t 0 * 1024 + 1 * k.val = k.val; rw [p]; simp
    | ⟨1, _⟩ => by show win0_1.index t 1 * 1024 + 1 * q.val = t.val * 1024 + q.val; rw [p]; simp

/-- The kernel's result, of its arguments' launch contents. -/
def result (r : Fin 16) (q : Fin 3072) : EReal :=
  crow (fun b l k => m ((c : Thread nD τ).loc main_arg0) (ix3 b l k)) (fun k q => m ((c : Thread nD τ).loc main_arg1) (ix2 k q)) r q

/-- What a point leaves in the result's window. -/
theorem result_at (t : Fin cfg0.N) (l : Fin 16) (q : Fin 1024) :
    out0_2 (iblk m c 0 t) (iblk m c 1 t) (ix2 l q) = result m c (rowAt t l) (colAt t q) :=
  (out_apply _ _ l q).trans
    (dotOf_congr (fun k => (b0 m c t l k).trans (V_h m c _ k)) (fun k => (b1 m c t k q).trans (V_w m c k _)))

/-- The result's array after the run. -/
theorem result_array : (dats m 0 c).arrAt 2 cfg0.N = (fun i : S16x3072.Idx => result m c (i 0) (i 1)) := by
  refine (dats m 0 c).arrAt_eq_of_covers 2 _ (by decide +kernel) fun t hf y => ?_
  rw [after0_2]
  have p := (places t).2.2
  have e0 : ((cfg0.win 2).blk t).view.emb y 0 = rowAt t (y 0) :=
    Fin.ext (by show win0_2.index t 0 * 16 + 1 * (y 0).val = 0 * 16 + (y 0).val; rw [p]; simp)
  have e1 : ((cfg0.win 2).blk t).view.emb y 1 = colAt t (y 1) :=
    Fin.ext (by show win0_2.index t 1 * 1024 + 1 * (y 1).val = t.val * 1024 + (y 1).val; rw [p]; simp)
  have ex : (cfg0.win 2).xinj (cfg0.grid.coords t) y = ix2 (y 0) (y 1) := eq_ix2 (n0 := 16) (n1 := 1024) _
  have key := result_at m c t (y 0) (y 1)
  generalize out0_2 (iblk m c 0 t) (iblk m c 1 t) = X at key ⊢
  refine Eq.trans (congrArg X ex) (key.trans ?_)
  exact congr (congrArg _ e0.symm) e1.symm

end Cert.Kernel14Ideal.ConvRows

namespace Cert.Proof

open Idealize.ShloMosaic Idealize.ShloMosaic.TcCoe Idealize.SL.Sem Cert.Kernel14Ideal.ConvRows
open Cert.Rows

section
open Cert.Reference14Ideal Cert.Reference14Ideal.Gen

/-- The plain program's result at a row and a column. -/
theorem crow_reference (x0 : FVec Ideal S2x8192x1024 .f32) (x1 : FVec Ideal S1024x3072 .f32) (r : Fin 16) (q : Fin 3072) :
    shapeCast S16x3072 (extractStridedSlice S2x8x3072 ![0, 8184, 0] (Host.dotGeneral dot_S2x8192x1024_S1024x3072_S2x8192x3072_2_0_01_1_n_n none x0 x1) slices_S2x8192x3072_S2x8x3072_0_8184_0) shapeCasts_S2x8x3072_S16x3072 (ix2 r q)
      = crow (fun b l k => x0 (ix3 b l k)) (fun k q => x1 (ix2 k q)) r q := by
  pointwise [crow, dotOf, seqOf, posOf]

/-- The plain program runs, and leaves its arguments: its frame. -/
theorem frame_crow_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)
end

/-- The kernel and the plain program end with equal results, element by element, as extended reals. -/
theorem algebraic_crow : Cert.algebraic_Kernel14Ideal_Reference14Ideal := by
  intro m ρ m' ρ' _ hagree
  refine ⟨fun c => (fun i : Cert.Kernel14Ideal.S16x3072.Idx => result m c (i 0) (i 1)), ?_, ?_⟩
  · refine (θ_run _ _ _).mono (fun r h c => ?_) (Cert.Kernel14Ideal.Value.run_blocks (F := Ideal) m ρ)
    exact ⟨(h c).1.trans (result_array m c), (h c).2⟩
  · refine (θ_run _ _ _).mono (fun r h c => ?_) (Cert.Reference14Ideal.Value.run (F := Ideal) m' ρ')
    obtain ⟨h0, h1⟩ := hagree c
    refine ⟨(h c).1.trans ?_, (h c).2⟩
    funext i
    rw [h0, h1]
    refine (congrArg _ (eq_ix2 i)).trans ?_
    exact crow_reference _ _ (i 0) (i 1)

end Cert.Proof
end
-- ==== Proof.GateRows.lean ====
/-
  The last eight rows of each sequence before the feed-forward part's convolution: the kernel's blocks of columns are the plain
  program's numbers.
-/
module

public import proofs.«01_k».proof.Defs
public import proofs.«01_k».proof.Proof.Rows
public import proofs.«01_k».proof.Proof.Gen.Kernel15Ideal.Value
public import proofs.«01_k».proof.Proof.Gen.Reference15Ideal.Run

@[expose] public section

set_option maxHeartbeats 400000
set_option maxRecDepth 16384

noncomputable section

namespace Cert.Kernel15Ideal.GateRows

open Cert.Kernel15Ideal Cert.Kernel15Ideal.Gen Idealize.ShloMosaic Idealize.ShloMosaic.TcCoe Idealize.SL.Sem
open Cert.Rows

/-- The sequence that a kept row is of. -/
def seqOf (r : Fin 16) : Fin 2 := ⟨r.val / 8, by omega⟩
/-- The position of a kept row: one of the last eight. -/
def posOf (r : Fin 16) : Fin 8192 := ⟨8184 + r.val % 8, by omega⟩

/-- A column of the gate among the columns of the gate and the up path. -/
def gateCol (q : Fin 2816) : Fin 5632 := ⟨q.val, by omega⟩

/-- The result at a row and a column: the row's product with the column. -/
def grow (h : Fin 2 → Fin 8192 → Fin 1024 → EReal) (w : Fin 1024 → Fin 5632 → EReal) (r : Fin 16) (q : Fin 2816) : EReal :=
  dotOf (fun k => h (seqOf r) (posOf r) k) (fun k => w k (gateCol q))

/-- The store's value at a row and a column of the block. -/
theorem pay_apply (v0 : FVec Ideal S16x1024 .bf16) (v2 : FVec Ideal S1024x1408 .bf16) (r : Fin 16) (q : Fin 1408) :
    k0_pay1 (F := Ideal) v0 v2 (ix2 r q) = dotOf (fun k => v0 (ix2 r k)) (fun k => v2 (ix2 k q)) := by
  pointwise [k0_pay1, dotOf]

/-- What the body leaves in the result's block, at a row and a column. -/
theorem out_apply (v0 : FVec Ideal S16x1024 .bf16) (v2 : FVec Ideal S1024x1408 .bf16) (r : Fin 16) (q : Fin 1408) :
    out0_2 (F := Ideal) v0 v2 (ix2 r q) = dotOf (fun k => v0 (ix2 r k)) (fun k => v2 (ix2 k q)) := by
  have e : out0_2 (F := Ideal) v0 v2 = k0_pay1 (F := Ideal) v0 v2 := by
    unfold out0_2
    rw [View.canon_cons_unit_lit _ _ _ (by decide), View.ld_unit_lit _ _ (by decide), View.ld_unit_lit _ _ (by decide)]
  rw [e, pay_apply]

/-- Where each window's block lies, at each point. -/
theorem places : ∀ t : Fin cfg0.N, win0_0.index t = ![0, 0] ∧ win0_1.index t = ![0, t.val] ∧ win0_2.index t = ![0, t.val] := by
  decide +kernel

variable (m : (ℓ : Loc nD τ sig) → Buf (Elt Ideal) ℓ) (c : Dev nD)

/-- The rows that the call takes. -/
theorem V_h (r : Fin 16) (k : Fin 1024) : V m c main_v2 (ix2 r k) = m ((c : Thread nD τ).loc main_arg0) (ix3 (seqOf r) (posOf r) k) := by
  simp only [V, hostOps0]
  entry_read
  pointwise [seqOf, posOf]
/-- The weights. -/
theorem V_w (k : Fin 1024) (q : Fin 2816) : V m c main_v4 (ix2 k q) = m ((c : Thread nD τ).loc main_arg1) (ix2 k (gateCol q)) := by
  simp only [V, hostOps0]
  entry_read
  pointwise [gateCol]

/-- A point's row of the call's rows. -/
def rowAt (t : Fin cfg0.N) (l : Fin 16) : Fin 16 := ⟨0 * 16 + l.val, by have : t.val < 2 := t.isLt; omega⟩
/-- A point's column. -/
def colAt (t : Fin cfg0.N) (q : Fin 1408) : Fin 2816 := ⟨t.val * 1408 + q.val, by have : t.val < 2 := t.isLt; omega⟩

/-- A point's block of the rows. -/
theorem b0 (t : Fin cfg0.N) (l : Fin 16) (k : Fin 1024) : iblk m c 0 t (ix2 l k) = V m c main_v2 (ix2 (rowAt t l) k) := by
  have p := (places t).1
  unfold iblk
  rw [View.read_apply]
  exact same (V m c main_v2) fun a => match a with
    | ⟨0, _⟩ => by show win0_0.index t 0 * 16 + 1 * l.val = 0 * 16 + l.val; rw [p]; simp
    | ⟨1, _⟩ => by show win0_0.index t 1 * 1024 + 1 * k.val = k.val; rw [p]; simp
/-- A point's block of the weights. -/
theorem b1 (t : Fin cfg0.N) (k : Fin 1024) (q : Fin 1408) : iblk m c 1 t (ix2 k q) = V m c main_v4 (ix2 k (colAt t q)) := by
  have p := (places t).2.1
  unfold iblk
  rw [View.read_apply]
  exact same (V m c main_v4) fun a => match a with
    | ⟨0, _⟩ => by show win0_1.index t 0 * 1024 + 1 * k.val = k.val; rw [p]; simp
    | ⟨1, _⟩ => by show win0_1.index t 1 * 1408 + 1 * q.val = t.val * 1408 + q.val; rw [p]; simp

/-- The kernel's result, of its arguments' launch contents. -/
def result (r : Fin 16) (q : Fin 2816) : EReal :=
  grow (fun b l k => m ((c : Thread nD τ).loc main_arg0) (ix3 b l k)) (fun k q => m ((c : Thread nD τ).loc main_arg1) (ix2 k q)) r q

/-- What a point leaves in the result's window. -/
theorem result_at (t : Fin cfg0.N) (l : Fin 16) (q : Fin 1408) :
    out0_2 (iblk m c 0 t) (iblk m c 1 t) (ix2 l q) = result m c (rowAt t l) (colAt t q) :=
  (out_apply _ _ l q).trans
    (dotOf_congr (fun k => (b0 m c t l k).trans (V_h m c _ k)) (fun k => (b1 m c t k q).trans (V_w m c k _)))

/-- The result's array after the run. -/
theorem result_array : (dats m 0 c).arrAt 2 cfg0.N = (fun i : S16x2816.Idx => result m c (i 0) (i 1)) := by
  refine (dats m 0 c).arrAt_eq_of_covers 2 _ (by decide +kernel) fun t hf y => ?_
  rw [after0_2]
  have p := (places t).2.2
  have e0 : ((cfg0.win 2).blk t).view.emb y 0 = rowAt t (y 0) :=
    Fin.ext (by show win0_2.index t 0 * 16 + 1 * (y 0).val = 0 * 16 + (y 0).val; rw [p]; simp)
  have e1 : ((cfg0.win 2).blk t).view.emb y 1 = colAt t (y 1) :=
    Fin.ext (by show win0_2.index t 1 * 1408 + 1 * (y 1).val = t.val * 1408 + (y 1).val; rw [p]; simp)
  have ex : (cfg0.win 2).xinj (cfg0.grid.coords t) y = ix2 (y 0) (y 1) := eq_ix2 (n0 := 16) (n1 := 1408) _
  have key := result_at m c t (y 0) (y 1)
  generalize out0_2 (iblk m c 0 t) (iblk m c 1 t) = X at key ⊢
  refine Eq.trans (congrArg X ex) (key.trans ?_)
  exact congr (congrArg _ e0.symm) e1.symm

end Cert.Kernel15Ideal.GateRows

namespace Cert.Proof

open Idealize.ShloMosaic Idealize.ShloMosaic.TcCoe Idealize.SL.Sem Cert.Kernel15Ideal.GateRows
open Cert.Rows

section
open Cert.Reference15Ideal Cert.Reference15Ideal.Gen

/-- The plain program's result at a row and a column. -/
theorem grow_reference (x0 : FVec Ideal S2x8192x1024 .f32) (x1 : FVec Ideal S1024x5632 .f32) (r : Fin 16) (q : Fin 2816) :
    shapeCast S16x2816 (extractStridedSlice S2x8x2816 ![0, 8184, 0] (extractStridedSlice S2x8192x2816 ![0, 0, 0] (Host.dotGeneral dot_S2x8192x1024_S1024x5632_S2x8192x5632_2_0_01_1_n_n none x0 x1) slices_S2x8192x5632_S2x8192x2816_0_0_0) slices_S2x8192x2816_S2x8x2816_0_8184_0) shapeCasts_S2x8x2816_S16x2816 (ix2 r q)
      = grow (fun b l k => x0 (ix3 b l k)) (fun k q => x1 (ix2 k q)) r q := by
  pointwise [grow, dotOf, seqOf, posOf, gateCol]

/-- The plain program runs, and leaves its arguments: its frame. -/
theorem frame_grow_reference : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)
end

/-- The kernel and the plain program end with equal results, element by element, as extended reals. -/
theorem algebraic_grow : Cert.algebraic_Kernel15Ideal_Reference15Ideal := by
  intro m ρ m' ρ' _ hagree
  refine ⟨fun c => (fun i : Cert.Kernel15Ideal.S16x2816.Idx => result m c (i 0) (i 1)), ?_, ?_⟩
  · refine (θ_run _ _ _).mono (fun r h c => ?_) (Cert.Kernel15Ideal.Value.run_blocks (F := Ideal) m ρ)
    exact ⟨(h c).1.trans (result_array m c), (h c).2⟩
  · refine (θ_run _ _ _).mono (fun r h c => ?_) (Cert.Reference15Ideal.Value.run (F := Ideal) m' ρ')
    obtain ⟨h0, h1⟩ := hagree c
    refine ⟨(h c).1.trans ?_, (h c).2⟩
    funext i
    rw [h0, h1]
    refine (congrArg _ (eq_ix2 i)).trans ?_
    exact grow_reference _ _ (i 0) (i 1)

end Cert.Proof
end
-- ==== Proof.SampleNorm.lean ====
/-
  The last normalization of the sample's rows: the kernel's one block is the plain program's numbers.
-/
module

public import proofs.«01_k».proof.Defs
public import proofs.«01_k».proof.Proof.Rows
public import proofs.«01_k».proof.Proof.Gen.Kernel16Ideal.Value
public import proofs.«01_k».proof.Proof.Gen.Reference16Ideal.Run

@[expose] public section

set_option maxHeartbeats 400000
set_option maxRecDepth 16384

noncomputable section

namespace Cert.Kernel16Ideal.SampleNorm

open Cert.Kernel16Ideal Cert.Kernel16Ideal.Gen Idealize.ShloMosaic Idealize.ShloMosaic.TcCoe Idealize.SL.Sem
open Cert.Rows

/-- A number times the reciprocal root of the mean square `s / 1024` plus a small constant, times a gain. -/
def scaled (x s g : EReal) : EReal := x * Ideal.rsqrt (Ideal.div s (Ideal.ofBits FTy.f32 1149239296#32) + Ideal.ofBits FTy.f32 897988541#32) * g

/-- The result at a row and a column. -/
def snorm (x : Fin 128 → Fin 1 → Fin 1024 → EReal) (g : Fin 1024 → EReal) (r : Fin 128) (q : Fin 1024) : EReal :=
  scaled (x r 0 q) (dotOf (fun k => x r 0 k) (fun k => x r 0 k)) (g q)

/-- The store's value at a row and a column of the block. -/
theorem pay_apply (v0 : FVec Ideal S128x1024 .f32) (v2 : FVec Ideal S1x1024 .f32) (r : Fin 128) (q : Fin 1024) :
    k0_pay1 (F := Ideal) v0 v2 (ix2 r q) = scaled (v0 (ix2 r q)) (dotOf (fun k => v0 (ix2 r k)) (fun k => v0 (ix2 r k))) (v2 (ix2 0 q)) := by
  pointwise [k0_pay1, scaled, dotOf]

/-- What the body leaves in the result's block, at a row and a column. -/
theorem out_apply (v0 : FVec Ideal S128x1024 .f32) (v2 : FVec Ideal S1x1024 .f32) (r : Fin 128) (q : Fin 1024) :
    out0_2 (F := Ideal) v0 v2 (ix2 r q) = scaled (v0 (ix2 r q)) (dotOf (fun k => v0 (ix2 r k)) (fun k => v0 (ix2 r k))) (v2 (ix2 0 q)) := by
  have e : out0_2 (F := Ideal) v0 v2 = k0_pay1 (F := Ideal) v0 v2 := by
    unfold out0_2
    rw [View.canon_cons_unit_lit _ _ _ (by decide), View.ld_unit_lit _ _ (by decide), View.ld_unit_lit _ _ (by decide)]
  rw [e, pay_apply]

/-- Where each window's block lies, at the one point. -/
theorem places : ∀ t : Fin cfg0.N, win0_0.index t = ![0, 0] ∧ win0_1.index t = ![0, 0] ∧ win0_2.index t = ![0, 0] := by
  decide +kernel

variable (m : (ℓ : Loc nD τ sig) → Buf (Elt Ideal) ℓ) (c : Dev nD)

/-- The flattened rows. -/
theorem V_x (r : Fin 128) (k : Fin 1024) : V m c main_v0 (ix2 r k) = m ((c : Thread nD τ).loc main_arg0) (ix3 r 0 k) := by
  simp only [V, hostOps0]
  entry_read
  pointwise
/-- The gains. -/
theorem V_g (q : Fin 1024) : V m c main_v1 (ix2 0 q) = m ((c : Thread nD τ).loc main_arg1) (ix1 q) := by
  simp only [V, hostOps0]
  entry_read
  pointwise

/-- A point's block of the rows. -/
theorem b0 (t : Fin cfg0.N) (l : Fin 128) (k : Fin 1024) : iblk m c 0 t (ix2 l k) = m ((c : Thread nD τ).loc main_arg0) (ix3 l 0 k) := by
  have p := (places t).1
  refine Eq.trans ?_ (V_x m c l k)
  unfold iblk
  rw [View.read_apply]
  exact same (V m c main_v0) fun a => match a with
    | ⟨0, _⟩ => by show win0_0.index t 0 * 128 + 1 * l.val = l.val; rw [p]; simp
    | ⟨1, _⟩ => by show win0_0.index t 1 * 1024 + 1 * k.val = k.val; rw [p]; simp
/-- A point's block of the gains: all of them. -/
theorem b1 (t : Fin cfg0.N) (q : Fin 1024) : iblk m c 1 t (ix2 0 q) = m ((c : Thread nD τ).loc main_arg1) (ix1 q) := by
  have p := (places t).2.1
  refine Eq.trans ?_ (V_g m c q)
  unfold iblk
  rw [View.read_apply]
  exact same (V m c main_v1) fun a => match a with
    | ⟨0, _⟩ => by show win0_1.index t 0 * 1 + 1 * 0 = 0; rw [p]; simp
    | ⟨1, _⟩ => by show win0_1.index t 1 * 1024 + 1 * q.val = q.val; rw [p]; simp

/-- The kernel's result, of its arguments' launch contents. -/
def result (r : Fin 128) (q : Fin 1024) : EReal :=
  snorm (fun b l k => m ((c : Thread nD τ).loc main_arg0) (ix3 b l k)) (fun q => m ((c : Thread nD τ).loc main_arg1) (ix1 q)) r q

/-- What a point leaves in the result's window. -/
theorem result_at (t : Fin cfg0.N) (l : Fin 128) (q : Fin 1024) :
    out0_2 (iblk m c 0 t) (iblk m c 1 t) (ix2 l q) = result m c l q :=
  (out_apply _ _ l q).trans
    (congr (congr (congrArg scaled (b0 m c t l q)) (dotOf_congr (fun k => b0 m c t l k) (fun k => b0 m c t l k))) (b1 m c t q))

/-- The result's array after the run. -/
theorem result_array : (dats m 0 c).arrAt 2 cfg0.N = (fun i : S128x1024.Idx => result m c (i 0) (i 1)) := by
  refine (dats m 0 c).arrAt_eq_of_covers 2 _ (by decide +kernel) fun t hf y => ?_
  rw [after0_2]
  have p := (places t).2.2
  have e0 : ((cfg0.win 2).blk t).view.emb y 0 = y 0 :=
    Fin.ext (by show win0_2.index t 0 * 128 + 1 * (y 0).val = (y 0).val; rw [p]; simp)
  have e1 : ((cfg0.win 2).blk t).view.emb y 1 = y 1 :=
    Fin.ext (by show win0_2.index t 1 * 1024 + 1 * (y 1).val = (y 1).val; rw [p]; simp)
  have ex : (cfg0.win 2).xinj (cfg0.grid.coords t) y = ix2 (y 0) (y 1) := eq_ix2 (n0 := 128) (n1 := 1024) _
  have key := result_at m c t (y 0) (y 1)
  generalize out0_2 (iblk m c 0 t) (iblk m c 1 t) = X at key ⊢
  refine Eq.trans (congrArg X ex) (key.trans ?_)
  exact congr (congrArg _ e0.symm) e1.symm

end Cert.Kernel16Ideal.SampleNorm

namespace Cert.Proof

open Idealize.ShloMosaic Idealize.ShloMosaic.TcCoe Idealize.SL.Sem Cert.Kernel16Ideal.SampleNorm
open Cert.Rows

section
open Cert.Reference16Ideal Cert.Reference16Ideal.Gen

/-- The plain program's result at a row and a column. -/
theorem snorm_reference (x0 : FVec Ideal S128x1x1024 .f32) (x1 : FVec Ideal S1024 .f32) (r : Fin 128) (q : Fin 1024) :
    shapeCast S128x1024 (mulf (mulf x0 (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x0 x0) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 x1))) shapeCasts_S128x1x1024_S128x1024 (ix2 r q)
      = snorm (fun b l k => x0 (ix3 b l k)) (fun q => x1 (ix1 q)) r q := by
  pointwise [snorm, scaled, dotOf]

/-- The plain program runs, and leaves its arguments: its frame. -/
theorem frame_snorm_reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)
end

/-- The kernel and the plain program end with equal results, element by element, as extended reals. -/
theorem algebraic_snorm : Cert.algebraic_Kernel16Ideal_Reference16Ideal := by
  intro m ρ m' ρ' _ hagree
  refine ⟨fun c => (fun i : Cert.Kernel16Ideal.S128x1024.Idx => result m c (i 0) (i 1)), ?_, ?_⟩
  · refine (θ_run _ _ _).mono (fun r h c => ?_) (Cert.Kernel16Ideal.Value.run_blocks (F := Ideal) m ρ)
    exact ⟨(h c).1.trans (result_array m c), (h c).2⟩
  · refine (θ_run _ _ _).mono (fun r h c => ?_) (Cert.Reference16Ideal.Value.run (F := Ideal) m' ρ')
    obtain ⟨h0, h1⟩ := hagree c
    refine ⟨(h c).1.trans ?_, (h c).2⟩
    funext i
    rw [h0, h1]
    refine (congrArg _ (eq_ix2 i)).trans ?_
    exact snorm_reference _ _ (i 0) (i 1)

end Cert.Proof
end
-- ==== Proof.SampleKeys.lean ====
/-
  The sample's key and value rows: the kernel's blocks of 512 columns are the plain program's numbers.
-/
module

public import proofs.«01_k».proof.Defs
public import proofs.«01_k».proof.Proof.Rows
public import proofs.«01_k».proof.Proof.Gen.Kernel17Ideal.Value
public import proofs.«01_k».proof.Proof.Gen.Reference17Ideal.Run

@[expose] public section

set_option maxHeartbeats 400000
set_option maxRecDepth 16384

noncomputable section

namespace Cert.Kernel17Ideal.SampleKeys

open Cert.Kernel17Ideal Cert.Kernel17Ideal.Gen Idealize.ShloMosaic Idealize.ShloMosaic.TcCoe Idealize.SL.Sem
open Cert.Rows

/-- The result at a row and a column: the row's product with the column. -/
def skv (h : Fin 128 → Fin 1 → Fin 1024 → EReal) (w : Fin 1024 → Fin 1536 → EReal) (r : Fin 128) (q : Fin 1536) : EReal :=
  dotOf (fun k => h r 0 k) (fun k => w k q)

/-- The store's value at a row and a column of the block. -/
theorem pay_apply (v0 : FVec Ideal S128x1024 .bf16) (v2 : FVec Ideal S1024x512 .bf16) (r : Fin 128) (q : Fin 512) :
    k0_pay1 (F := Ideal) v0 v2 (ix2 r q) = dotOf (fun k => v0 (ix2 r k)) (fun k => v2 (ix2 k q)) := by
  pointwise [k0_pay1, dotOf]

/-- What the body leaves in the result's block, at a row and a column. -/
theorem out_apply (v0 : FVec Ideal S128x1024 .bf16) (v2 : FVec Ideal S1024x512 .bf16) (r : Fin 128) (q : Fin 512) :
    out0_2 (F := Ideal) v0 v2 (ix2 r q) = dotOf (fun k => v0 (ix2 r k)) (fun k => v2 (ix2 k q)) := by
  have e : out0_2 (F := Ideal) v0 v2 = k0_pay1 (F := Ideal) v0 v2 := by
    unfold out0_2
    rw [View.canon_cons_unit_lit _ _ _ (by decide), View.ld_unit_lit _ _ (by decide), View.ld_unit_lit _ _ (by decide)]
  rw [e, pay_apply]

/-- Where each window's block lies, at each point. -/
theorem places : ∀ t : Fin cfg0.N, win0_0.index t = ![0, 0] ∧ win0_1.index t = ![0, t.val] ∧ win0_2.index t = ![0, t.val] := by
  decide +kernel

variable (m : (ℓ : Loc nD τ sig) → Buf (Elt Ideal) ℓ) (c : Dev nD)

/-- The rows that the call takes. -/
theorem V_h (r : Fin 128) (k : Fin 1024) : V m c main_v1 (ix2 r k) = m ((c : Thread nD τ).loc main_arg0) (ix3 r 0 k) := by
  simp only [V, hostOps0]
  entry_read
  pointwise
/-- The weights. -/
theorem V_w (k : Fin 1024) (q : Fin 1536) : V m c main_v2 (ix2 k q) = m ((c : Thread nD τ).loc main_arg1) (ix2 k q) := by
  simp only [V, hostOps0]
  entry_read
  pointwise

/-- A point's row of the call's rows. -/
def rowAt (t : Fin cfg0.N) (l : Fin 128) : Fin 128 := ⟨0 * 128 + l.val, by have : t.val < 3 := t.isLt; omega⟩
/-- A point's column. -/
def colAt (t : Fin cfg0.N) (q : Fin 512) : Fin 1536 := ⟨t.val * 512 + q.val, by have : t.val < 3 := t.isLt; omega⟩

/-- A point's block of the rows. -/
theorem b0 (t : Fin cfg0.N) (l : Fin 128) (k : Fin 1024) : iblk m c 0 t (ix2 l k) = V m c main_v1 (ix2 (rowAt t l) k) := by
  have p := (places t).1
  unfold iblk
  rw [View.read_apply]
  exact same (V m c main_v1) fun a => match a with
    | ⟨0, _⟩ => by show win0_0.index t 0 * 128 + 1 * l.val = 0 * 128 + l.val; rw [p]; simp
    | ⟨1, _⟩ => by show win0_0.index t 1 * 1024 + 1 * k.val = k.val; rw [p]; simp
/-- A point's block of the weights. -/
theorem b1 (t : Fin cfg0.N) (k : Fin 1024) (q : Fin 512) : iblk m c 1 t (ix2 k q) = V m c main_v2 (ix2 k (colAt t q)) := by
  have p := (places t).2.1
  unfold iblk
  rw [View.read_apply]
  exact same (V m c main_v2) fun a => match a with
    | ⟨0, _⟩ => by show win0_1.index t 0 * 1024 + 1 * k.val = k.val; rw [p]; simp
    | ⟨1, _⟩ => by show win0_1.index t 1 * 512 + 1 * q.val = t.val * 512 + q.val; rw [p]; simp

/-- The kernel's result, of its arguments' launch contents. -/
def result (r : Fin 128) (q : Fin 1536) : EReal :=
  skv (fun b l k => m ((c : Thread nD τ).loc main_arg0) (ix3 b l k)) (fun k q => m ((c : Thread nD τ).loc main_arg1) (ix2 k q)) r q

/-- What a point leaves in the result's window. -/
theorem result_at (t : Fin cfg0.N) (l : Fin 128) (q : Fin 512) :
    out0_2 (iblk m c 0 t) (iblk m c 1 t) (ix2 l q) = result m c (rowAt t l) (colAt t q) :=
  (out_apply _ _ l q).trans
    (dotOf_congr (fun k => (b0 m c t l k).trans (V_h m c _ k)) (fun k => (b1 m c t k q).trans (V_w m c k _)))

/-- The result's array after the run. -/
theorem result_array : (dats m 0 c).arrAt 2 cfg0.N = (fun i : S128x1536.Idx => result m c (i 0) (i 1)) := by
  refine (dats m 0 c).arrAt_eq_of_covers 2 _ (by decide +kernel) fun t hf y => ?_
  rw [after0_2]
  have p := (places t).2.2
  have e0 : ((cfg0.win 2).blk t).view.emb y 0 = rowAt t (y 0) :=
    Fin.ext (by show win0_2.index t 0 * 128 + 1 * (y 0).val = 0 * 128 + (y 0).val; rw [p]; simp)
  have e1 : ((cfg0.win 2).blk t).view.emb y 1 = colAt t (y 1) :=
    Fin.ext (by show win0_2.index t 1 * 512 + 1 * (y 1).val = t.val * 512 + (y 1).val; rw [p]; simp)
  have ex : (cfg0.win 2).xinj (cfg0.grid.coords t) y = ix2 (y 0) (y 1) := eq_ix2 (n0 := 128) (n1 := 512) _
  have key := result_at m c t (y 0) (y 1)
  generalize out0_2 (iblk m c 0 t) (iblk m c 1 t) = X at key ⊢
  refine Eq.trans (congrArg X ex) (key.trans ?_)
  exact congr (congrArg _ e0.symm) e1.symm

end Cert.Kernel17Ideal.SampleKeys

namespace Cert.Proof

open Idealize.ShloMosaic Idealize.ShloMosaic.TcCoe Idealize.SL.Sem Cert.Kernel17Ideal.SampleKeys
open Cert.Rows

section
open Cert.Reference17Ideal Cert.Reference17Ideal.Gen

/-- The plain program's result at a row and a column. -/
theorem skv_reference (x0 : FVec Ideal S128x1x1024 .f32) (x1 : FVec Ideal S1024x1536 .f32) (r : Fin 128) (q : Fin 1536) :
    shapeCast S128x1536 (Host.dotGeneral dot_S128x1x1024_S1024x1536_S128x1x1536_2_0_01_1_n_n none x0 x1) shapeCasts_S128x1x1536_S128x1536 (ix2 r q)
      = skv (fun b l k => x0 (ix3 b l k)) (fun k q => x1 (ix2 k q)) r q := by
  pointwise [skv, dotOf]

/-- The plain program runs, and leaves its arguments: its frame. -/
theorem frame_skv_reference : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)
end

/-- The kernel and the plain program end with equal results, element by element, as extended reals. -/
theorem algebraic_skv : Cert.algebraic_Kernel17Ideal_Reference17Ideal := by
  intro m ρ m' ρ' _ hagree
  refine ⟨fun c => (fun i : Cert.Kernel17Ideal.S128x1536.Idx => result m c (i 0) (i 1)), ?_, ?_⟩
  · refine (θ_run _ _ _).mono (fun r h c => ?_) (Cert.Kernel17Ideal.Value.run_blocks (F := Ideal) m ρ)
    exact ⟨(h c).1.trans (result_array m c), (h c).2⟩
  · refine (θ_run _ _ _).mono (fun r h c => ?_) (Cert.Reference17Ideal.Value.run (F := Ideal) m' ρ')
    obtain ⟨h0, h1⟩ := hagree c
    refine ⟨(h c).1.trans ?_, (h c).2⟩
    funext i
    rw [h0, h1]
    refine (congrArg _ (eq_ix2 i)).trans ?_
    exact skv_reference _ _ (i 0) (i 1)

end Cert.Proof
end
-- ==== Proof.SampleXbc.lean ====
/-
  The sample's projected x/B/C rows: the kernel's blocks of 512 columns are the plain program's numbers.
-/
module

public import proofs.«01_k».proof.Defs
public import proofs.«01_k».proof.Proof.Rows
public import proofs.«01_k».proof.Proof.Gen.Kernel18Ideal.Value
public import proofs.«01_k».proof.Proof.Gen.Reference18Ideal.Run

@[expose] public section

set_option maxHeartbeats 400000
set_option maxRecDepth 16384

noncomputable section

namespace Cert.Kernel18Ideal.SampleXbc

open Cert.Kernel18Ideal Cert.Kernel18Ideal.Gen Idealize.ShloMosaic Idealize.ShloMosaic.TcCoe Idealize.SL.Sem
open Cert.Rows

/-- The result at a row and a column: the row's product with the column. -/
def sxbc (h : Fin 128 → Fin 1 → Fin 1024 → EReal) (w : Fin 1024 → Fin 3072 → EReal) (r : Fin 128) (q : Fin 3072) : EReal :=
  dotOf (fun k => h r 0 k) (fun k => w k q)

/-- The store's value at a row and a column of the block. -/
theorem pay_apply (v0 : FVec Ideal S128x1024 .bf16) (v2 : FVec Ideal S1024x512 .bf16) (r : Fin 128) (q : Fin 512) :
    k0_pay1 (F := Ideal) v0 v2 (ix2 r q) = dotOf (fun k => v0 (ix2 r k)) (fun k => v2 (ix2 k q)) := by
  pointwise [k0_pay1, dotOf]

/-- What the body leaves in the result's block, at a row and a column. -/
theorem out_apply (v0 : FVec Ideal S128x1024 .bf16) (v2 : FVec Ideal S1024x512 .bf16) (r : Fin 128) (q : Fin 512) :
    out0_2 (F := Ideal) v0 v2 (ix2 r q) = dotOf (fun k => v0 (ix2 r k)) (fun k => v2 (ix2 k q)) := by
  have e : out0_2 (F := Ideal) v0 v2 = k0_pay1 (F := Ideal) v0 v2 := by
    unfold out0_2
    rw [View.canon_cons_unit_lit _ _ _ (by decide), View.ld_unit_lit _ _ (by decide), View.ld_unit_lit _ _ (by decide)]
  rw [e, pay_apply]

/-- Where each window's block lies, at each point. -/
theorem places : ∀ t : Fin cfg0.N, win0_0.index t = ![0, 0] ∧ win0_1.index t = ![0, t.val] ∧ win0_2.index t = ![0, t.val] := by
  decide +kernel

variable (m : (ℓ : Loc nD τ sig) → Buf (Elt Ideal) ℓ) (c : Dev nD)

/-- The rows that the call takes. -/
theorem V_h (r : Fin 128) (k : Fin 1024) : V m c main_v1 (ix2 r k) = m ((c : Thread nD τ).loc main_arg0) (ix3 r 0 k) := by
  simp only [V, hostOps0]
  entry_read
  pointwise
/-- The weights. -/
theorem V_w (k : Fin 1024) (q : Fin 3072) : V m c main_v2 (ix2 k q) = m ((c : Thread nD τ).loc main_arg1) (ix2 k q) := by
  simp only [V, hostOps0]
  entry_read
  pointwise

/-- A point's row of the call's rows. -/
def rowAt (t : Fin cfg0.N) (l : Fin 128) : Fin 128 := ⟨0 * 128 + l.val, by have : t.val < 6 := t.isLt; omega⟩
/-- A point's column. -/
def colAt (t : Fin cfg0.N) (q : Fin 512) : Fin 3072 := ⟨t.val * 512 + q.val, by have : t.val < 6 := t.isLt; omega⟩

/-- A point's block of the rows. -/
theorem b0 (t : Fin cfg0.N) (l : Fin 128) (k : Fin 1024) : iblk m c 0 t (ix2 l k) = V m c main_v1 (ix2 (rowAt t l) k) := by
  have p := (places t).1
  unfold iblk
  rw [View.read_apply]
  exact same (V m c main_v1) fun a => match a with
    | ⟨0, _⟩ => by show win0_0.index t 0 * 128 + 1 * l.val = 0 * 128 + l.val; rw [p]; simp
    | ⟨1, _⟩ => by show win0_0.index t 1 * 1024 + 1 * k.val = k.val; rw [p]; simp
/-- A point's block of the weights. -/
theorem b1 (t : Fin cfg0.N) (k : Fin 1024) (q : Fin 512) : iblk m c 1 t (ix2 k q) = V m c main_v2 (ix2 k (colAt t q)) := by
  have p := (places t).2.1
  unfold iblk
  rw [View.read_apply]
  exact same (V m c main_v2) fun a => match a with
    | ⟨0, _⟩ => by show win0_1.index t 0 * 1024 + 1 * k.val = k.val; rw [p]; simp
    | ⟨1, _⟩ => by show win0_1.index t 1 * 512 + 1 * q.val = t.val * 512 + q.val; rw [p]; simp

/-- The kernel's result, of its arguments' launch contents. -/
def result (r : Fin 128) (q : Fin 3072) : EReal :=
  sxbc (fun b l k => m ((c : Thread nD τ).loc main_arg0) (ix3 b l k)) (fun k q => m ((c : Thread nD τ).loc main_arg1) (ix2 k q)) r q

/-- What a point leaves in the result's window. -/
theorem result_at (t : Fin cfg0.N) (l : Fin 128) (q : Fin 512) :
    out0_2 (iblk m c 0 t) (iblk m c 1 t) (ix2 l q) = result m c (rowAt t l) (colAt t q) :=
  (out_apply _ _ l q).trans
    (dotOf_congr (fun k => (b0 m c t l k).trans (V_h m c _ k)) (fun k => (b1 m c t k q).trans (V_w m c k _)))

/-- The result's array after the run. -/
theorem result_array : (dats m 0 c).arrAt 2 cfg0.N = (fun i : S128x3072.Idx => result m c (i 0) (i 1)) := by
  refine (dats m 0 c).arrAt_eq_of_covers 2 _ (by decide +kernel) fun t hf y => ?_
  rw [after0_2]
  have p := (places t).2.2
  have e0 : ((cfg0.win 2).blk t).view.emb y 0 = rowAt t (y 0) :=
    Fin.ext (by show win0_2.index t 0 * 128 + 1 * (y 0).val = 0 * 128 + (y 0).val; rw [p]; simp)
  have e1 : ((cfg0.win 2).blk t).view.emb y 1 = colAt t (y 1) :=
    Fin.ext (by show win0_2.index t 1 * 512 + 1 * (y 1).val = t.val * 512 + (y 1).val; rw [p]; simp)
  have ex : (cfg0.win 2).xinj (cfg0.grid.coords t) y = ix2 (y 0) (y 1) := eq_ix2 (n0 := 128) (n1 := 512) _
  have key := result_at m c t (y 0) (y 1)
  generalize out0_2 (iblk m c 0 t) (iblk m c 1 t) = X at key ⊢
  refine Eq.trans (congrArg X ex) (key.trans ?_)
  exact congr (congrArg _ e0.symm) e1.symm

end Cert.Kernel18Ideal.SampleXbc

namespace Cert.Proof

open Idealize.ShloMosaic Idealize.ShloMosaic.TcCoe Idealize.SL.Sem Cert.Kernel18Ideal.SampleXbc
open Cert.Rows

section
open Cert.Reference18Ideal Cert.Reference18Ideal.Gen

/-- The plain program's result at a row and a column. -/
theorem sxbc_reference (x0 : FVec Ideal S128x1x1024 .f32) (x1 : FVec Ideal S1024x3072 .f32) (r : Fin 128) (q : Fin 3072) :
    shapeCast S128x3072 (Host.dotGeneral dot_S128x1x1024_S1024x3072_S128x1x3072_2_0_01_1_n_n none x0 x1) shapeCasts_S128x1x3072_S128x3072 (ix2 r q)
      = sxbc (fun b l k => x0 (ix3 b l k)) (fun k q => x1 (ix2 k q)) r q := by
  pointwise [sxbc, dotOf]

/-- The plain program runs, and leaves its arguments: its frame. -/
theorem frame_sxbc_reference : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)
end

/-- The kernel and the plain program end with equal results, element by element, as extended reals. -/
theorem algebraic_sxbc : Cert.algebraic_Kernel18Ideal_Reference18Ideal := by
  intro m ρ m' ρ' _ hagree
  refine ⟨fun c => (fun i : Cert.Kernel18Ideal.S128x3072.Idx => result m c (i 0) (i 1)), ?_, ?_⟩
  · refine (θ_run _ _ _).mono (fun r h c => ?_) (Cert.Kernel18Ideal.Value.run_blocks (F := Ideal) m ρ)
    exact ⟨(h c).1.trans (result_array m c), (h c).2⟩
  · refine (θ_run _ _ _).mono (fun r h c => ?_) (Cert.Reference18Ideal.Value.run (F := Ideal) m' ρ')
    obtain ⟨h0, h1⟩ := hagree c
    refine ⟨(h c).1.trans ?_, (h c).2⟩
    funext i
    rw [h0, h1]
    refine (congrArg _ (eq_ix2 i)).trans ?_
    exact sxbc_reference _ _ (i 0) (i 1)

end Cert.Proof
end
-- ==== Proof.SampleUp.lean ====
/-
  The sample's up projection and its convolution step: the kernel's two blocks of 1408 columns are the plain program's numbers, in both
  results, the gated rows and the gate's rows before the convolution.
-/
module

public import proofs.«01_k».proof.Defs
public import proofs.«01_k».proof.Proof.Conv
public import proofs.«01_k».proof.Proof.Rows
public import proofs.«01_k».proof.Proof.Gen.Kernel19Ideal.Value
public import proofs.«01_k».proof.Proof.Gen.Reference19Ideal.Run

@[expose] public section

set_option maxHeartbeats 400000
set_option maxRecDepth 16384

noncomputable section

namespace Cert.Kernel19Ideal.SampleUp

open Cert.Kernel19Ideal Cert.Kernel19Ideal.Gen Idealize.ShloMosaic Idealize.ShloMosaic.TcCoe Idealize.SL.Sem
open Cert.Conv Cert.Rows

/-- A column of the gate among the columns of the gate and the up path. -/
def gateCol (q : Fin 2816) : Fin 5632 := ⟨q.val, by omega⟩
/-- A column of the up path among the columns of the gate and the up path. -/
def upCol (q : Fin 2816) : Fin 5632 := ⟨2816 + q.val, by omega⟩

/-- The convolution at the new position: the bias, two earlier rows and the new one, each by its tap. -/
def taps (b w0 p0 w1 p1 w2 g : EReal) : EReal := b + w0 * p0 + w1 * p1 + w2 * g
/-- A number times its logistic, times another. -/
def gated (y u : EReal) : EReal := y * Ideal.logistic y * u

/-- The gate's row before the convolution, at a column. -/
def graw (h : Fin 128 → Fin 1 → Fin 1024 → EReal) (w : Fin 1024 → Fin 5632 → EReal) (r : Fin 128) (q : Fin 2816) : EReal :=
  dotOf (fun k => h r 0 k) (fun k => w k (gateCol q))
/-- The gated row at a column. -/
def sup (h : Fin 128 → Fin 1 → Fin 1024 → EReal) (w : Fin 1024 → Fin 5632 → EReal) (p : Fin 128 → Fin 2 → Fin 2816 → EReal) (cw : Fin 3 → Fin 2816 → EReal)
    (cb : Fin 2816 → EReal) (r : Fin 128) (q : Fin 2816) : EReal :=
  gated (taps (cb q) (cw 0 q) (p r 0 q) (cw 1 q) (p r 1 q) (cw 2 q) (graw h w r q)) (dotOf (fun k => h r 0 k) (fun k => w k (upCol q)))

/-- The second store's value at a row and a column of the block. -/
theorem gate_apply (v0 : FVec Ideal S128x1024 .bf16) (v2 : FVec Ideal S1024x1408 .bf16) (r : Fin 128) (q : Fin 1408) :
    k0_pay2 (F := Ideal) v0 v2 (ix2 r q) = dotOf (fun k => v0 (ix2 r k)) (fun k => v2 (ix2 k q)) := by
  pointwise [k0_pay2, k0_pay1, dotOf]

/-- The first store's value at a row and a column of the block. -/
theorem act_apply (v0 : FVec Ideal S128x1024 .bf16) (v2 v5 : FVec Ideal S1024x1408 .bf16) (v8 v10 : FVec Ideal S1x1408 .f32) (v11 : FVec Ideal S128x1408 .f32)
    (v17 : FVec Ideal S1x1408 .f32) (v18 : FVec Ideal S128x1408 .f32) (v23 : FVec Ideal S1x1408 .f32) (r : Fin 128) (q : Fin 1408) :
    k0_pay3 (F := Ideal) v0 v2 v5 v8 v10 v11 v17 v18 v23 (ix2 r q)
      = gated (taps (v8 (ix2 0 q)) (v10 (ix2 0 q)) (v11 (ix2 r q)) (v17 (ix2 0 q)) (v18 (ix2 r q)) (v23 (ix2 0 q))
          (dotOf (fun k => v0 (ix2 r k)) (fun k => v2 (ix2 k q)))) (dotOf (fun k => v0 (ix2 r k)) (fun k => v5 (ix2 k q))) := by
  pointwise [k0_pay3, k0_pay2, k0_pay1, gated, taps, dotOf]

section
variable (x0 : Vec Ideal S128x1024 .bf16) (x1 x2 : Vec Ideal S1024x1408 .bf16) (x3 x4 : Vec Ideal S128x1408 .f32) (x5 : Vec Ideal S3x1408 .f32)
  (x6 : Vec Ideal S1x1408 .f32) (r : Fin 128) (q : Fin 1408)

/-- What the body leaves in the second result's block, at a row and a column. -/
theorem out8_apply : out0_8 (F := Ideal) x0 x1 x2 x3 x4 x5 x6 (ix2 r q) = dotOf (fun k => x0 (ix2 r k)) (fun k => x1 (ix2 k q)) := by
  have e : out0_8 (F := Ideal) x0 x1 x2 x3 x4 x5 x6 = k0_pay2 (F := Ideal) x0 x1 := by
    unfold out0_8
    rw [View.canon_cons_unit_lit _ _ _ (by decide), View.ld_unit_lit _ _ (by decide), View.ld_unit_lit _ _ (by decide)]
  rw [e, gate_apply]

/-- What the body leaves in the first result's block, at a row and a column. -/
theorem out7_apply : out0_7 (F := Ideal) x0 x1 x2 x3 x4 x5 x6 (ix2 r q)
      = gated (taps (x6 (ix2 0 q)) (x5 (ix2 0 q)) (x3 (ix2 r q)) (x5 (ix2 1 q)) (x4 (ix2 r q)) (x5 (ix2 2 q))
          (dotOf (fun k => x0 (ix2 r k)) (fun k => x1 (ix2 k q)))) (dotOf (fun k => x0 (ix2 r k)) (fun k => x2 (ix2 k q))) := by
  have z2 : ∀ a : Fin 2, (![0, 0] : Fin 2 → Nat) a = 0 := by decide
  have l0 := View.ld_unit_lit (Val := Elt Ideal) (S := S128x1024) (off := ![0, 0]) inb_S128x1024_S128x1024_0_0 x0 z2
  have l1 := fun (X : Vec Ideal S1024x1408 .bf16) => View.ld_unit_lit (Val := Elt Ideal) (S := S1024x1408) (off := ![0, 0]) inb_S1024x1408_S1024x1408_0_0 X z2
  have l2 := View.ld_unit_lit (Val := Elt Ideal) (S := S1x1408) (off := ![0, 0]) inb_S1x1408_S1x1408_0_0 x6 z2
  have l3 := fun (X : Vec Ideal S128x1408 .f32) => View.ld_unit_lit (Val := Elt Ideal) (S := S128x1408) (off := ![0, 0]) inb_S128x1408_S128x1408_0_0 X z2
  have w0 := ld_row (F := Ideal) (K := 3) x5 0 inb_S3x1408_S1x1408_0_0
  have w1 := ld_row (F := Ideal) (K := 3) x5 1 inb_S3x1408_S1x1408_1_0
  have w2 := ld_row (F := Ideal) (K := 3) x5 2 inb_S3x1408_S1x1408_2_0
  have e : out0_7 (F := Ideal) x0 x1 x2 x3 x4 x5 x6
      = k0_pay3 (F := Ideal) x0 x1 x2 x6 (rowOf (K := 3) x5 0) x3 (rowOf (K := 3) x5 1) x4 (rowOf (K := 3) x5 2) := by
    unfold out0_7
    refine (View.canon_cons_unit_lit _ _ _ (by decide)).trans ?_
    exact congr (congr (congr (congr (congr (congr (congr (congr (congrArg k0_pay3 l0) (l1 x1)) (l1 x2)) l2) w0) (l3 x3)) w1) (l3 x4)) w2
  rw [e, act_apply]
  rfl
end

/-- Where each window's block lies, at each of the two points. -/
theorem places : ∀ t : Fin cfg0.N, win0_0.index t = ![0, 0] ∧ win0_1.index t = ![0, t.val] ∧ win0_2.index t = ![0, t.val + 2] ∧ win0_3.index t = ![0, t.val]
    ∧ win0_4.index t = ![0, t.val] ∧ win0_5.index t = ![0, t.val] ∧ win0_6.index t = ![0, t.val] ∧ win0_7.index t = ![0, t.val] ∧ win0_8.index t = ![0, t.val] := by
  decide +kernel

variable (m : (ℓ : Loc nD τ sig) → Buf (Elt Ideal) ℓ) (c : Dev nD)

/-- The sample's rows. -/
theorem V_h (r : Fin 128) (k : Fin 1024) : V m c main_v1 (ix2 r k) = m ((c : Thread nD τ).loc main_arg0) (ix3 r 0 k) := by
  simp only [V, hostOps0]
  entry_read
  pointwise
/-- The weights. -/
theorem V_w (k : Fin 1024) (q : Fin 5632) : V m c main_v2 (ix2 k q) = m ((c : Thread nD τ).loc main_arg1) (ix2 k q) := by
  simp only [V, hostOps0]
  entry_read
  pointwise
/-- The older of the two earlier rows. -/
theorem V_p0 (r : Fin 128) (q : Fin 2816) : V m c main_v4 (ix2 r q) = m ((c : Thread nD τ).loc main_arg2) (ix3 r 0 q) := by
  simp only [V, hostOps0]
  entry_read
  pointwise
/-- The later of the two earlier rows. -/
theorem V_p1 (r : Fin 128) (q : Fin 2816) : V m c main_v6 (ix2 r q) = m ((c : Thread nD τ).loc main_arg2) (ix3 r 1 q) := by
  simp only [V, hostOps0]
  entry_read
  pointwise
/-- The taps. -/
theorem V_cw (k : Fin 3) (q : Fin 2816) : V m c main_arg3 (ix2 k q) = m ((c : Thread nD τ).loc main_arg3) (ix2 k q) := by
  simp only [V, hostOps0]
  entry_read
  rfl
/-- The bias. -/
theorem V_cb (q : Fin 2816) : V m c main_v7 (ix2 0 q) = m ((c : Thread nD τ).loc main_arg4) (ix1 q) := by
  simp only [V, hostOps0]
  entry_read
  pointwise

/-- A point's column of the results. -/
def colAt (t : Fin cfg0.N) (q : Fin 1408) : Fin 2816 := ⟨t.val * 1408 + q.val, by have : t.val < 2 := t.isLt; omega⟩

/-- A point's block of the rows: all of them. -/
theorem b0 (t : Fin cfg0.N) (l : Fin 128) (k : Fin 1024) : iblk m c 0 t (ix2 l k) = m ((c : Thread nD τ).loc main_arg0) (ix3 l 0 k) := by
  have p := (places t).1
  refine Eq.trans ?_ (V_h m c l k)
  unfold iblk
  rw [View.read_apply]
  exact same (V m c main_v1) fun a => match a with
    | ⟨0, _⟩ => by show win0_0.index t 0 * 128 + 1 * l.val = l.val; rw [p]; simp
    | ⟨1, _⟩ => by show win0_0.index t 1 * 1024 + 1 * k.val = k.val; rw [p]; simp
/-- A point's block of the gate's weights. -/
theorem b1 (t : Fin cfg0.N) (k : Fin 1024) (q : Fin 1408) : iblk m c 1 t (ix2 k q) = m ((c : Thread nD τ).loc main_arg1) (ix2 k (gateCol (colAt t q))) := by
  have p := (places t).2.1
  refine Eq.trans ?_ (V_w m c k (gateCol (colAt t q)))
  unfold iblk
  rw [View.read_apply]
  exact same (V m c main_v2) fun a => match a with
    | ⟨0, _⟩ => by show win0_1.index t 0 * 1024 + 1 * k.val = k.val; rw [p]; simp
    | ⟨1, _⟩ => by show win0_1.index t 1 * 1408 + 1 * q.val = t.val * 1408 + q.val; rw [p]; simp
/-- A point's block of the up path's weights. -/
theorem b2 (t : Fin cfg0.N) (k : Fin 1024) (q : Fin 1408) : iblk m c 2 t (ix2 k q) = m ((c : Thread nD τ).loc main_arg1) (ix2 k (upCol (colAt t q))) := by
  have p := (places t).2.2.1
  refine Eq.trans ?_ (V_w m c k (upCol (colAt t q)))
  unfold iblk
  rw [View.read_apply]
  exact same (V m c main_v2) fun a => match a with
    | ⟨0, _⟩ => by show win0_2.index t 0 * 1024 + 1 * k.val = k.val; rw [p]; simp
    | ⟨1, _⟩ => by
      have e : win0_2.index t 1 = t.val + 2 := by rw [p]; rfl
      show win0_2.index t 1 * 1408 + 1 * q.val = 2816 + (t.val * 1408 + q.val)
      rw [e]; omega
/-- A point's block of the older rows. -/
theorem b3 (t : Fin cfg0.N) (l : Fin 128) (q : Fin 1408) : iblk m c 3 t (ix2 l q) = m ((c : Thread nD τ).loc main_arg2) (ix3 l 0 (colAt t q)) := by
  have p := (places t).2.2.2.1
  refine Eq.trans ?_ (V_p0 m c l (colAt t q))
  unfold iblk
  rw [View.read_apply]
  exact same (V m c main_v4) fun a => match a with
    | ⟨0, _⟩ => by show win0_3.index t 0 * 128 + 1 * l.val = l.val; rw [p]; simp
    | ⟨1, _⟩ => by show win0_3.index t 1 * 1408 + 1 * q.val = t.val * 1408 + q.val; rw [p]; simp
/-- A point's block of the later rows. -/
theorem b4 (t : Fin cfg0.N) (l : Fin 128) (q : Fin 1408) : iblk m c 4 t (ix2 l q) = m ((c : Thread nD τ).loc main_arg2) (ix3 l 1 (colAt t q)) := by
  have p := (places t).2.2.2.2.1
  refine Eq.trans ?_ (V_p1 m c l (colAt t q))
  unfold iblk
  rw [View.read_apply]
  exact same (V m c main_v6) fun a => match a with
    | ⟨0, _⟩ => by show win0_4.index t 0 * 128 + 1 * l.val = l.val; rw [p]; simp
    | ⟨1, _⟩ => by show win0_4.index t 1 * 1408 + 1 * q.val = t.val * 1408 + q.val; rw [p]; simp
/-- A point's block of the taps. -/
theorem b5 (t : Fin cfg0.N) (k : Fin 3) (q : Fin 1408) : iblk m c 5 t (ix2 k q) = m ((c : Thread nD τ).loc main_arg3) (ix2 k (colAt t q)) := by
  have p := (places t).2.2.2.2.2.1
  refine Eq.trans ?_ (V_cw m c k (colAt t q))
  unfold iblk
  rw [View.read_apply]
  exact same (V m c main_arg3) fun a => match a with
    | ⟨0, _⟩ => by show win0_5.index t 0 * 3 + 1 * k.val = k.val; rw [p]; simp
    | ⟨1, _⟩ => by show win0_5.index t 1 * 1408 + 1 * q.val = t.val * 1408 + q.val; rw [p]; simp
/-- A point's block of the bias. -/
theorem b6 (t : Fin cfg0.N) (q : Fin 1408) : iblk m c 6 t (ix2 0 q) = m ((c : Thread nD τ).loc main_arg4) (ix1 (colAt t q)) := by
  have p := (places t).2.2.2.2.2.2.1
  refine Eq.trans ?_ (V_cb m c (colAt t q))
  unfold iblk
  rw [View.read_apply]
  exact same (V m c main_v7) fun a => match a with
    | ⟨0, _⟩ => by show win0_6.index t 0 * 1 + 1 * 0 = 0; rw [p]; simp
    | ⟨1, _⟩ => by show win0_6.index t 1 * 1408 + 1 * q.val = t.val * 1408 + q.val; rw [p]; simp

/-- The kernel's second result, of its arguments' launch contents. -/
def result1 (r : Fin 128) (q : Fin 2816) : EReal :=
  graw (fun b l k => m ((c : Thread nD τ).loc main_arg0) (ix3 b l k)) (fun k q => m ((c : Thread nD τ).loc main_arg1) (ix2 k q)) r q
/-- The kernel's first result, of its arguments' launch contents. -/
def result0 (r : Fin 128) (q : Fin 2816) : EReal :=
  sup (fun b l k => m ((c : Thread nD τ).loc main_arg0) (ix3 b l k)) (fun k q => m ((c : Thread nD τ).loc main_arg1) (ix2 k q))
    (fun b l q => m ((c : Thread nD τ).loc main_arg2) (ix3 b l q)) (fun k q => m ((c : Thread nD τ).loc main_arg3) (ix2 k q))
    (fun q => m ((c : Thread nD τ).loc main_arg4) (ix1 q)) r q

/-- A point's product for the gate. -/
theorem gate_at (t : Fin cfg0.N) (l : Fin 128) (q : Fin 1408) :
    dotOf (fun k => iblk m c 0 t (ix2 l k)) (fun k => iblk m c 1 t (ix2 k q)) = result1 m c l (colAt t q) :=
  dotOf_congr (fun k => b0 m c t l k) (fun k => b1 m c t k q)

/-- What a point leaves in the second result's window. -/
theorem result1_at (t : Fin cfg0.N) (l : Fin 128) (q : Fin 1408) :
    out0_8 (iblk m c 0 t) (iblk m c 1 t) (iblk m c 2 t) (iblk m c 3 t) (iblk m c 4 t) (iblk m c 5 t) (iblk m c 6 t) (ix2 l q) = result1 m c l (colAt t q) :=
  (out8_apply _ _ _ _ _ _ _ l q).trans (gate_at m c t l q)

/-- What a point leaves in the first result's window. -/
theorem result0_at (t : Fin cfg0.N) (l : Fin 128) (q : Fin 1408) :
    out0_7 (iblk m c 0 t) (iblk m c 1 t) (iblk m c 2 t) (iblk m c 3 t) (iblk m c 4 t) (iblk m c 5 t) (iblk m c 6 t) (ix2 l q) = result0 m c l (colAt t q) := by
  refine (out7_apply _ _ _ _ _ _ _ l q).trans ?_
  rw [gate_at, b3, b4, b5, b5, b5, b6]
  exact congrArg _ (dotOf_congr (fun k => b0 m c t l k) (fun k => b2 m c t k q))

/-- The second result's array after the run. -/
theorem result1_array : (dats m 0 c).arrAt 8 cfg0.N = (fun i : S128x2816.Idx => result1 m c (i 0) (i 1)) := by
  refine (dats m 0 c).arrAt_eq_of_covers 8 _ (by decide +kernel) fun t hf y => ?_
  rw [after0_8]
  have p := (places t).2.2.2.2.2.2.2.2
  have e0 : ((cfg0.win 8).blk t).view.emb y 0 = y 0 :=
    Fin.ext (by show win0_8.index t 0 * 128 + 1 * (y 0).val = (y 0).val; rw [p]; simp)
  have e1 : ((cfg0.win 8).blk t).view.emb y 1 = colAt t (y 1) :=
    Fin.ext (by show win0_8.index t 1 * 1408 + 1 * (y 1).val = t.val * 1408 + (y 1).val; rw [p]; simp)
  have ex : (cfg0.win 8).xinj (cfg0.grid.coords t) y = ix2 (y 0) (y 1) := eq_ix2 (n0 := 128) (n1 := 1408) _
  have key := result1_at m c t (y 0) (y 1)
  generalize out0_8 (iblk m c 0 t) (iblk m c 1 t) (iblk m c 2 t) (iblk m c 3 t) (iblk m c 4 t) (iblk m c 5 t) (iblk m c 6 t) = X at key ⊢
  refine Eq.trans (congrArg X ex) (key.trans ?_)
  exact congr (congrArg _ e0.symm) e1.symm

/-- The first result's array after the run. -/
theorem result0_array : (dats m 0 c).arrAt 7 cfg0.N = (fun i : S128x2816.Idx => result0 m c (i 0) (i 1)) := by
  refine (dats m 0 c).arrAt_eq_of_covers 7 _ (by decide +kernel) fun t hf y => ?_
  rw [after0_7]
  have p := (places t).2.2.2.2.2.2.2.1
  have e0 : ((cfg0.win 7).blk t).view.emb y 0 = y 0 :=
    Fin.ext (by show win0_7.index t 0 * 128 + 1 * (y 0).val = (y 0).val; rw [p]; simp)
  have e1 : ((cfg0.win 7).blk t).view.emb y 1 = colAt t (y 1) :=
    Fin.ext (by show win0_7.index t 1 * 1408 + 1 * (y 1).val = t.val * 1408 + (y 1).val; rw [p]; simp)
  have ex : (cfg0.win 7).xinj (cfg0.grid.coords t) y = ix2 (y 0) (y 1) := eq_ix2 (n0 := 128) (n1 := 1408) _
  have key := result0_at m c t (y 0) (y 1)
  generalize out0_7 (iblk m c 0 t) (iblk m c 1 t) (iblk m c 2 t) (iblk m c 3 t) (iblk m c 4 t) (iblk m c 5 t) (iblk m c 6 t) = X at key ⊢
  refine Eq.trans (congrArg X ex) (key.trans ?_)
  exact congr (congrArg _ e0.symm) e1.symm

end Cert.Kernel19Ideal.SampleUp

namespace Cert.Proof

open Idealize.ShloMosaic Idealize.ShloMosaic.TcCoe Idealize.SL.Sem Cert.Kernel19Ideal.SampleUp
open Cert.Rows

section
open Cert.Reference19Ideal Cert.Reference19Ideal.Gen

/-- The plain program's second result at a row and a column. -/
theorem graw_reference (x0 : FVec Ideal S128x1x1024 .f32) (x1 : FVec Ideal S1024x5632 .f32) (r : Fin 128) (q : Fin 2816) :
    shapeCast S128x2816 (extractStridedSlice S128x1x2816 ![0, 0, 0] (Host.dotGeneral dot_S128x1x1024_S1024x5632_S128x1x5632_2_0_01_1_n_n none x0 x1) slices_S128x1x5632_S128x1x2816_0_0_0) shapeCasts_S128x1x2816_S128x2816 (ix2 r q)
      = graw (fun b l k => x0 (ix3 b l k)) (fun k q => x1 (ix2 k q)) r q := by
  pointwise [graw, gateCol, dotOf]

set_option maxHeartbeats 4000000 in
/-- The plain program's first result at a row and a column. -/
theorem sup_reference (m : (ℓ : Loc nD τ sig) → Buf (Elt Ideal) ℓ) (c : Dev nD) (r : Fin 128) (q : Fin 2816) :
    Cert.Reference19Ideal.Value.res_out0 m c (ix2 r q)
      = sup (fun b l k => m ((c : Thread nD τ).loc main_arg0) (ix3 b l k)) (fun k q => m ((c : Thread nD τ).loc main_arg1) (ix2 k q))
          (fun b l q => m ((c : Thread nD τ).loc main_arg2) (ix3 b l q)) (fun k q => m ((c : Thread nD τ).loc main_arg3) (ix2 k q))
          (fun q => m ((c : Thread nD τ).loc main_arg4) (ix1 q)) r q := by
  unfold Cert.Reference19Ideal.Value.res_out0 Cert.Reference19Ideal.Value.res_main_v30
  generalize m ((c : Thread nD τ).loc main_arg0) = x0
  generalize m ((c : Thread nD τ).loc main_arg1) = x1
  generalize m ((c : Thread nD τ).loc main_arg2) = x2
  generalize m ((c : Thread nD τ).loc main_arg3) = x3
  generalize m ((c : Thread nD τ).loc main_arg4) = x4
  pointwise [sup, graw, gated, taps, gateCol, upCol, dotOf]
  rfl

/-- The plain program runs, and leaves its arguments: its frame. -/
theorem frame_sup_reference : Cert.quiescent_Reference19Ideal := fun m ρ _ =>
  (θ_run Cert.Reference19Ideal.defs _ _).mono (fun r h => ⟨fun c => (h c).2.2, sem_eq_zero_of_no_sems (by decide) r.2⟩)
    (Cert.Reference19Ideal.Value.run (F := Ideal) m ρ)
end

/-- The kernel and the plain program end with equal results, element by element, as extended reals. -/
theorem algebraic_sup : Cert.algebraic_Kernel19Ideal_Reference19Ideal := by
  intro m ρ m' ρ' _ hagree
  refine ⟨fun c => (fun i : Cert.Kernel19Ideal.S128x2816.Idx => result0 m c (i 0) (i 1)),
    fun c => (fun i : Cert.Kernel19Ideal.S128x2816.Idx => result1 m c (i 0) (i 1)), ?_, ?_⟩
  · refine (θ_run _ _ _).mono (fun r h c => ?_) (Cert.Kernel19Ideal.Value.run_blocks (F := Ideal) m ρ)
    exact ⟨(h c).1.trans (result0_array m c), (h c).2.1.trans (result1_array m c), (h c).2.2⟩
  · refine (θ_run _ _ _).mono (fun r h c => ?_) (Cert.Reference19Ideal.Value.run (F := Ideal) m' ρ')
    obtain ⟨h0, h1, h2, h3, h4⟩ := hagree c
    refine ⟨(h c).1.trans ?_, (h c).2.1.trans ?_, (h c).2.2⟩
    · funext i
      refine (congrArg _ (eq_ix2 i)).trans ((sup_reference m' c (i 0) (i 1)).trans ?_)
      rw [h0, h1, h2, h3, h4]
      rfl
    · funext i
      rw [h0, h1]
      refine (congrArg _ (eq_ix2 i)).trans ?_
      exact graw_reference _ _ (i 0) (i 1)

end Cert.Proof
end
-- ==== Proof.Small.lean ====
/-
  The small projection, of the scan's steps and the branches' gates: the kernel's blocks of 1024 rows are the plain program's numbers.
-/
module

public import proofs.«01_k».proof.Defs
public import proofs.«01_k».proof.Proof.Rows
public import proofs.«01_k».proof.Proof.Gen.Kernel20Ideal.Value
public import proofs.«01_k».proof.Proof.Gen.Reference20Ideal.Run

@[expose] public section

set_option maxHeartbeats 400000
set_option maxRecDepth 16384

noncomputable section

namespace Cert.Kernel20Ideal.Small

open Cert.Kernel20Ideal Cert.Kernel20Ideal.Gen Idealize.ShloMosaic Idealize.ShloMosaic.TcCoe Idealize.SL.Sem
open Cert.KernelIdeal.Scan (bOf lOf)
open Cert.Rows

/-- The result at a row and a column: the row's product with the column. -/
def smproj (h : Fin 2 → Fin 8192 → Fin 1024 → EReal) (w : Fin 1024 → Fin 256 → EReal) (r : Fin 16384) (q : Fin 256) : EReal :=
  dotOf (fun k => h (bOf r) (lOf r) k) (fun k => w k q)

/-- The store's value at a row and a column of the block. -/
theorem pay_apply (v0 : FVec Ideal S1024x1024 .bf16) (v2 : FVec Ideal S1024x256 .bf16) (r : Fin 1024) (q : Fin 256) :
    k0_pay1 (F := Ideal) v0 v2 (ix2 r q) = dotOf (fun k => v0 (ix2 r k)) (fun k => v2 (ix2 k q)) := by
  pointwise [k0_pay1, dotOf]

/-- What the body leaves in the result's block, at a row and a column. -/
theorem out_apply (v0 : FVec Ideal S1024x1024 .bf16) (v2 : FVec Ideal S1024x256 .bf16) (r : Fin 1024) (q : Fin 256) :
    out0_2 (F := Ideal) v0 v2 (ix2 r q) = dotOf (fun k => v0 (ix2 r k)) (fun k => v2 (ix2 k q)) := by
  have e : out0_2 (F := Ideal) v0 v2 = k0_pay1 (F := Ideal) v0 v2 := by
    unfold out0_2
    rw [View.canon_cons_unit_lit _ _ _ (by decide), View.ld_unit_lit _ _ (by decide), View.ld_unit_lit _ _ (by decide)]
  rw [e, pay_apply]

/-- Where each window's block lies, at each point. -/
theorem places : ∀ t : Fin cfg0.N, win0_0.index t = ![t.val, 0] ∧ win0_1.index t = ![0, 0] ∧ win0_2.index t = ![t.val, 0] := by
  decide +kernel

variable (m : (ℓ : Loc nD τ sig) → Buf (Elt Ideal) ℓ) (c : Dev nD)

/-- The rows that the call takes. -/
theorem V_h (r : Fin 16384) (k : Fin 1024) : V m c main_v1 (ix2 r k) = m ((c : Thread nD τ).loc main_arg0) (ix3 (bOf r) (lOf r) k) := by
  simp only [V, hostOps0]
  entry_read
  pointwise [bOf, lOf]
/-- The weights. -/
theorem V_w (k : Fin 1024) (q : Fin 256) : V m c main_v2 (ix2 k q) = m ((c : Thread nD τ).loc main_arg1) (ix2 k q) := by
  simp only [V, hostOps0]
  entry_read
  pointwise

/-- A point's row of the call's rows. -/
def rowAt (t : Fin cfg0.N) (l : Fin 1024) : Fin 16384 := ⟨t.val * 1024 + l.val, by have : t.val < 16 := t.isLt; omega⟩
/-- A point's column. -/
def colAt (t : Fin cfg0.N) (q : Fin 256) : Fin 256 := ⟨0 * 256 + q.val, by have : t.val < 16 := t.isLt; omega⟩

/-- A point's block of the rows. -/
theorem b0 (t : Fin cfg0.N) (l : Fin 1024) (k : Fin 1024) : iblk m c 0 t (ix2 l k) = V m c main_v1 (ix2 (rowAt t l) k) := by
  have p := (places t).1
  unfold iblk
  rw [View.read_apply]
  exact same (V m c main_v1) fun a => match a with
    | ⟨0, _⟩ => by show win0_0.index t 0 * 1024 + 1 * l.val = t.val * 1024 + l.val; rw [p]; simp
    | ⟨1, _⟩ => by show win0_0.index t 1 * 1024 + 1 * k.val = k.val; rw [p]; simp
/-- A point's block of the weights. -/
theorem b1 (t : Fin cfg0.N) (k : Fin 1024) (q : Fin 256) : iblk m c 1 t (ix2 k q) = V m c main_v2 (ix2 k (colAt t q)) := by
  have p := (places t).2.1
  unfold iblk
  rw [View.read_apply]
  exact same (V m c main_v2) fun a => match a with
    | ⟨0, _⟩ => by show win0_1.index t 0 * 1024 + 1 * k.val = k.val; rw [p]; simp
    | ⟨1, _⟩ => by show win0_1.index t 1 * 256 + 1 * q.val = 0 * 256 + q.val; rw [p]; simp

/-- The kernel's result, of its arguments' launch contents. -/
def result (r : Fin 16384) (q : Fin 256) : EReal :=
  smproj (fun b l k => m ((c : Thread nD τ).loc main_arg0) (ix3 b l k)) (fun k q => m ((c : Thread nD τ).loc main_arg1) (ix2 k q)) r q

/-- What a point leaves in the result's window. -/
theorem result_at (t : Fin cfg0.N) (l : Fin 1024) (q : Fin 256) :
    out0_2 (iblk m c 0 t) (iblk m c 1 t) (ix2 l q) = result m c (rowAt t l) (colAt t q) :=
  (out_apply _ _ l q).trans
    (dotOf_congr (fun k => (b0 m c t l k).trans (V_h m c _ k)) (fun k => (b1 m c t k q).trans (V_w m c k _)))

/-- The result's array after the run. -/
theorem result_array : (dats m 0 c).arrAt 2 cfg0.N = (fun i : S16384x256.Idx => result m c (i 0) (i 1)) := by
  refine (dats m 0 c).arrAt_eq_of_covers 2 _ (by decide +kernel) fun t hf y => ?_
  rw [after0_2]
  have p := (places t).2.2
  have e0 : ((cfg0.win 2).blk t).view.emb y 0 = rowAt t (y 0) :=
    Fin.ext (by show win0_2.index t 0 * 1024 + 1 * (y 0).val = t.val * 1024 + (y 0).val; rw [p]; simp)
  have e1 : ((cfg0.win 2).blk t).view.emb y 1 = colAt t (y 1) :=
    Fin.ext (by show win0_2.index t 1 * 256 + 1 * (y 1).val = 0 * 256 + (y 1).val; rw [p]; simp)
  have ex : (cfg0.win 2).xinj (cfg0.grid.coords t) y = ix2 (y 0) (y 1) := eq_ix2 (n0 := 1024) (n1 := 256) _
  have key := result_at m c t (y 0) (y 1)
  generalize out0_2 (iblk m c 0 t) (iblk m c 1 t) = X at key ⊢
  refine Eq.trans (congrArg X ex) (key.trans ?_)
  exact congr (congrArg _ e0.symm) e1.symm

end Cert.Kernel20Ideal.Small

namespace Cert.Proof

open Idealize.ShloMosaic Idealize.ShloMosaic.TcCoe Idealize.SL.Sem Cert.Kernel20Ideal.Small
open Cert.KernelIdeal.Scan (bOf lOf)
open Cert.Rows

section
open Cert.Reference20Ideal Cert.Reference20Ideal.Gen

/-- The plain program's result at a row and a column. -/
theorem smproj_reference (x0 : FVec Ideal S2x8192x1024 .f32) (x1 : FVec Ideal S1024x256 .f32) (r : Fin 16384) (q : Fin 256) :
    shapeCast S16384x256 (Host.dotGeneral dot_S2x8192x1024_S1024x256_S2x8192x256_2_0_01_1_n_n none x0 x1) shapeCasts_S2x8192x256_S16384x256 (ix2 r q)
      = smproj (fun b l k => x0 (ix3 b l k)) (fun k q => x1 (ix2 k q)) r q := by
  pointwise [smproj, dotOf, bOf, lOf]

/-- The plain program runs, and leaves its arguments: its frame. -/
theorem frame_smproj_reference : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)
end

/-- The kernel and the plain program end with equal results, element by element, as extended reals. -/
theorem algebraic_smproj : Cert.algebraic_Kernel20Ideal_Reference20Ideal := by
  intro m ρ m' ρ' _ hagree
  refine ⟨fun c => (fun i : Cert.Kernel20Ideal.S16384x256.Idx => result m c (i 0) (i 1)), ?_, ?_⟩
  · refine (θ_run _ _ _).mono (fun r h c => ?_) (Cert.Kernel20Ideal.Value.run_blocks (F := Ideal) m ρ)
    exact ⟨(h c).1.trans (result_array m c), (h c).2⟩
  · refine (θ_run _ _ _).mono (fun r h c => ?_) (Cert.Reference20Ideal.Value.run (F := Ideal) m' ρ')
    obtain ⟨h0, h1⟩ := hagree c
    refine ⟨(h c).1.trans ?_, (h c).2⟩
    funext i
    rw [h0, h1]
    refine (congrArg _ (eq_ix2 i)).trans ?_
    exact smproj_reference _ _ (i 0) (i 1)

end Cert.Proof
end
-- ==== Proof.lean ====
/-
  The proof of what the statement claims. The kernel's two forms run by their generated frames; the plain program's frame and the
  equality of the results are Proof/Equation.lean's, and for each of the nineteen other calls those of its own module: Proof/Up.lean,
  Down, Merge, Xbc, Gate, Mix, Output, Window, Keys, Norm, Compress, Modulate, ConvRows, GateRows,
  SampleNorm, SampleKeys, SampleXbc, SampleUp and Small.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Equation
public import proofs.«01_k».proof.Proof.Up
public import proofs.«01_k».proof.Proof.Down
public import proofs.«01_k».proof.Proof.Merge
public import proofs.«01_k».proof.Proof.Xbc
public import proofs.«01_k».proof.Proof.Gate
public import proofs.«01_k».proof.Proof.Mix
public import proofs.«01_k».proof.Proof.Output
public import proofs.«01_k».proof.Proof.Window
public import proofs.«01_k».proof.Proof.Keys
public import proofs.«01_k».proof.Proof.Norm
public import proofs.«01_k».proof.Proof.Compress
public import proofs.«01_k».proof.Proof.Modulate
public import proofs.«01_k».proof.Proof.ConvRows
public import proofs.«01_k».proof.Proof.GateRows
public import proofs.«01_k».proof.Proof.SampleNorm
public import proofs.«01_k».proof.Proof.SampleKeys
public import proofs.«01_k».proof.Proof.SampleXbc
public import proofs.«01_k».proof.Proof.SampleUp
public import proofs.«01_k».proof.Proof.Small

@[expose] public section

noncomputable section

namespace Cert.Proof

open Idealize.ShloMosaic

/-- All the claims: the frames, the exchange of the mask for minus infinity, and the equal results, for the scan and for the nineteen
other calls. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  preFacts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ, fun m ρ _ => Cert.Kernel2Ideal.Gen.frame m ρ, frame_up_reference,
  fun m ρ _ => Cert.Kernel3.Gen.frame m ρ, fun m ρ _ => Cert.Kernel3Ideal.Gen.frame m ρ, frame_down_reference,
  fun m ρ _ => Cert.Kernel4.Gen.frame m ρ, fun m ρ _ => Cert.Kernel4Ideal.Gen.frame m ρ, frame_merge_reference,
  fun m ρ _ => Cert.Kernel5.Gen.frame m ρ, fun m ρ _ => Cert.Kernel5Ideal.Gen.frame m ρ, frame_xbc_reference,
  fun m ρ _ => Cert.Kernel6.Gen.frame m ρ, fun m ρ _ => Cert.Kernel6Ideal.Gen.frame m ρ, frame_zproj_reference,
  fun m ρ _ => Cert.Kernel7.Gen.frame m ρ, fun m ρ _ => Cert.Kernel7Ideal.Gen.frame m ρ, frame_mgate_reference,
  fun m ρ _ => Cert.Kernel8.Gen.frame m ρ, fun m ρ _ => Cert.Kernel8Ideal.Gen.frame m ρ, frame_oproj_reference,
  fun m ρ _ => Cert.Kernel9.Gen.frame m ρ, fun m ρ _ => Cert.Kernel9Ideal.Gen.frame m ρ, frame_wproj_reference,
  fun m ρ _ => Cert.Kernel10.Gen.frame m ρ, fun m ρ _ => Cert.Kernel10Ideal.Gen.frame m ρ, frame_kvrows_reference,
  fun m ρ _ => Cert.Kernel11.Gen.frame m ρ, fun m ρ _ => Cert.Kernel11Ideal.Gen.frame m ρ, frame_fnorm_reference,
  fun m ρ _ => Cert.Kernel12.Gen.frame m ρ, fun m ρ _ => Cert.Kernel12Ideal.Gen.frame m ρ, frame_comp_reference,
  fun m ρ _ => Cert.Kernel13.Gen.frame m ρ, fun m ρ _ => Cert.Kernel13Ideal.Gen.frame m ρ, frame_nmod_reference,
  fun m ρ _ => Cert.Kernel14.Gen.frame m ρ, fun m ρ _ => Cert.Kernel14Ideal.Gen.frame m ρ, frame_crow_reference,
  fun m ρ _ => Cert.Kernel15.Gen.frame m ρ, fun m ρ _ => Cert.Kernel15Ideal.Gen.frame m ρ, frame_grow_reference,
  fun m ρ _ => Cert.Kernel16.Gen.frame m ρ, fun m ρ _ => Cert.Kernel16Ideal.Gen.frame m ρ, frame_snorm_reference,
  fun m ρ _ => Cert.Kernel17.Gen.frame m ρ, fun m ρ _ => Cert.Kernel17Ideal.Gen.frame m ρ, frame_skv_reference,
  fun m ρ _ => Cert.Kernel18.Gen.frame m ρ, fun m ρ _ => Cert.Kernel18Ideal.Gen.frame m ρ, frame_sxbc_reference,
  fun m ρ _ => Cert.Kernel19.Gen.frame m ρ, fun m ρ _ => Cert.Kernel19Ideal.Gen.frame m ρ, frame_sup_reference,
  fun m ρ _ => Cert.Kernel20.Gen.frame m ρ, fun m ρ _ => Cert.Kernel20Ideal.Gen.frame m ρ, frame_smproj_reference,
  IdealRules.named_const.statement Cert.KernelIdeal.κ "mask" .f32 0xF149F2CA#32 ⊥ rfl,
  (haveI := preFacts; algebraic),
  trivial, algebraic_up,
  trivial, algebraic_down,
  trivial, algebraic_merge,
  trivial, algebraic_xbc,
  trivial, algebraic_zproj,
  trivial, algebraic_mgate,
  trivial, algebraic_oproj,
  trivial, algebraic_wproj,
  trivial, algebraic_kvrows,
  trivial, algebraic_fnorm,
  trivial, algebraic_comp,
  trivial, algebraic_nmod,
  trivial, algebraic_crow,
  trivial, algebraic_grow,
  trivial, algebraic_snorm,
  trivial, algebraic_skv,
  trivial, algebraic_sxbc,
  trivial, algebraic_sup,
  trivial, algebraic_smproj⟩

end Cert.Proof

end
